-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ends_fit [hPre_ends_fit : Cert.Pre_ends_fit.Facts] (m : (ℓ : Loc Cert.KernelIdeal.nD Cert.KernelIdeal.τ Cert.KernelIdeal.sig) → Buf (Elt Ideal) ℓ) : Prop :=
  ∀ c : Dev Cert.KernelIdeal.nD,
    (Cert.Pre_ends_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ends_fit [hPre_ends_fit : Cert.Pre_ends_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ends_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ends_fit [hKernelIdeal : Cert.KernelIdeal.Facts] [hPre_ends_fit : Cert.Pre_ends_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ends_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ends_fit [hReferenceIdeal : Cert.ReferenceIdeal.Facts] [hPre_ends_fit : Cert.Pre_ends_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ends_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S1x384x2x256 Cert.KernelIdeal.S1x384x1x256
  ∧ IdealRules.bf16_pair.Statement Cert.KernelIdeal.S768x256 Cert.KernelIdeal.S384x256

def algebraic_KernelIdeal_ReferenceIdeal_pre_ends_fit [hKernelIdeal : Cert.KernelIdeal.Facts] [hReferenceIdeal : Cert.ReferenceIdeal.Facts] [hPre_ends_fit : Cert.Pre_ends_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ends_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v21_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ends_fit : Cert.Pre_ends_fit.Facts),
    quiescent_Kernel (hKernel := hKernel)
    ∧ quiescent_KernelIdeal (hKernelIdeal := hKernelIdeal)
    ∧ quiescent_KernelIdeal_pre_ends_fit (hKernelIdeal := hKernelIdeal) (hPre_ends_fit := hPre_ends_fit)
    ∧ quiescent_ReferenceIdeal (hReferenceIdeal := hReferenceIdeal)
    ∧ quiescent_ReferenceIdeal_pre_ends_fit (hReferenceIdeal := hReferenceIdeal) (hPre_ends_fit := hPre_ends_fit)
    ∧ preserves_Kernel_KernelIdeal
    ∧ algebraic_KernelIdeal_ReferenceIdeal_pre_ends_fit (hKernelIdeal := hKernelIdeal) (hReferenceIdeal := hReferenceIdeal) (hPre_ends_fit := hPre_ends_fit)
-- ==== Pre_ends_fit.lean ====
abbrev S5x384x4096 : Shape := ⟨3, ![5, 384, 4096]⟩
abbrev S5x384x4x256 : Shape := ⟨4, ![5, 384, 4, 256]⟩
abbrev S5x384x32 : Shape := ⟨3, ![5, 384, 32]⟩
abbrev S32 : Shape := ⟨1, ![32]⟩
abbrev S5x32x128x256 : Shape := ⟨4, ![5, 32, 128, 256]⟩
abbrev S5x32x128 : Shape := ⟨3, ![5, 32, 128]⟩
abbrev S5 : Shape := ⟨1, ![5]⟩
abbrev S_ : Shape := ⟨0, ![]⟩

class Facts : Prop where
  bcast_S_S5 : S_.BroadcastsInDim S5 (![] : Fin 0 → Fin S5.rank)

variable [Facts]

def fn {F : FTy → Type} [FloatOps F] (main_arg0 : FVec F S5x384x4096 .bf16) (main_arg1 : FVec F S5x384x4x256 .bf16) (main_arg2 : FVec F S5x384x32 .f32) (main_arg3 : FVec F S32 .f32) (main_arg4 : FVec F S5x32x128x256 .fp8e4m3) (main_arg5 : FVec F S5x32x128 .f32) (main_arg6 : FVec F S5x32x128x256 .f32) (main_arg7 : IVec S5 32) : IVec S5 1 :=
  let main_c : IVec S_ 32 := constantI S_ 32 2147483520#32
  let main_v0 : IVec S5 32 := broadcastInDim S5 ![] bcast_S_S5 main_c
  let main_v1 : IVec S5 1 := cmpi .sle main_arg7 main_v0
  main_v1
-- ==== Kernel.lean ====
abbrev S5x384x4096 : Shape := ⟨3, ![5, 384, 4096]⟩
abbrev S5x384x4x256 : Shape := ⟨4, ![5, 384, 4, 256]⟩
abbrev S5x384x32 : Shape := ⟨3, ![5, 384, 32]⟩
abbrev S32 : Shape := ⟨1, ![32]⟩
abbrev S5x32x128x256 : Shape := ⟨4, ![5, 32, 128, 256]⟩
abbrev S5x32x128 : Shape := ⟨3, ![5, 32, 128]⟩
abbrev S5 : Shape := ⟨1, ![5]⟩
abbrev S1x32 : Shape := ⟨2, ![1, 32]⟩
abbrev S20x384x1024 : Shape := ⟨3, ![20, 384, 1024]⟩
abbrev S20x8x128x256 : Shape := ⟨4, ![20, 8, 128, 256]⟩
abbrev S4x384x256 : Shape := ⟨3, ![4, 384, 256]⟩
abbrev S4x384x8 : Shape := ⟨3, ![4, 384, 8]⟩
abbrev S4x1x8 : Shape := ⟨3, ![4, 1, 8]⟩
abbrev S3 : Shape := ⟨1, ![3]⟩
abbrev S20 : Shape := ⟨1, ![20]⟩
abbrev S_ : Shape := ⟨0, ![]⟩
abbrev S1 : Shape := ⟨1, ![1]⟩
abbrev S1x384x32 : Shape := ⟨3, ![1, 384, 32]⟩
abbrev S384x32 : Shape := ⟨2, ![384, 32]⟩
abbrev S1x384x4x256 : Shape := ⟨4, ![1, 384, 4, 256]⟩
abbrev S384x4x256 : Shape := ⟨3, ![384, 4, 256]⟩
abbrev S1x8x128x256 : Shape := ⟨4, ![1, 8, 128, 256]⟩
abbrev S8x128x256 : Shape := ⟨3, ![8, 128, 256]⟩
abbrev S1x384x1024 : Shape := ⟨3, ![1, 384, 1024]⟩
abbrev S384x1024 : Shape := ⟨2, ![384, 1024]⟩
abbrev S128x128 : Shape := ⟨2, ![128, 128]⟩
abbrev S8x32 : Shape := ⟨2, ![8, 32]⟩
abbrev S384x8 : Shape := ⟨2, ![384, 8]⟩
abbrev S1x384x8 : Shape := ⟨3, ![1, 384, 8]⟩
abbrev S1x8 : Shape := ⟨2, ![1, 8]⟩
abbrev S1x1x8 : Shape := ⟨3, ![1, 1, 8]⟩
abbrev S5x384x2x256 : Shape := ⟨4, ![5, 384, 2, 256]⟩
abbrev S1x384x1x256 : Shape := ⟨4, ![1, 384, 1, 256]⟩
abbrev S1x384x2x256 : Shape := ⟨4, ![1, 384, 2, 256]⟩
abbrev S384x256 : Shape := ⟨2, ![384, 256]⟩
abbrev S1x384x256 : Shape := ⟨3, ![1, 384, 256]⟩
abbrev S1x1x128x256 : Shape := ⟨4, ![1, 1, 128, 256]⟩
abbrev S128x256 : Shape := ⟨2, ![128, 256]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S1x1x1 : Shape := ⟨3, ![1, 1, 1]⟩
abbrev S1x1 : Shape := ⟨2, ![1, 1]⟩
abbrev S1x2x128x256 : Shape := ⟨4, ![1, 2, 128, 256]⟩
abbrev S2x128x256 : Shape := ⟨3, ![2, 128, 256]⟩
abbrev S256x256 : Shape := ⟨2, ![256, 256]⟩
abbrev S1x128x256 : Shape := ⟨3, ![1, 128, 256]⟩
abbrev S1x128x1 : Shape := ⟨3, ![1, 128, 1]⟩
abbrev S1x128x128 : Shape := ⟨3, ![1, 128, 128]⟩

abbrev nBuf : Space → Nat
  | .hbm => 12
  | .vmem => 12
  | .smem => 1
  | _ => 0

abbrev bufTy : (tb : Table) → Fin (tcTables nBuf tb) → BufTy
  | .hbm, ⟨0, _⟩ => ⟨S5x384x4096, .bf16⟩
  | .hbm, ⟨1, _⟩ => ⟨S5x384x4x256, .bf16⟩
  | .hbm, ⟨2, _⟩ => ⟨S5x384x32, .f32⟩
  | .hbm, ⟨3, _⟩ => ⟨S32, .f32⟩
  | .hbm, ⟨4, _⟩ => ⟨S5x32x128x256, .fp8e4m3⟩
  | .hbm, ⟨5, _⟩ => ⟨S5x32x128, .f32⟩
  | .hbm, ⟨6, _⟩ => ⟨S5x32x128x256, .f32⟩
  | .hbm, ⟨7, _⟩ => ⟨S5, .i32⟩
  | .hbm, ⟨8, _⟩ => ⟨S1x32, .f32⟩
  | .hbm, ⟨9, _⟩ => ⟨S5x384x4096, .bf16⟩
  | .hbm, ⟨10, _⟩ => ⟨S5x32x128x256, .fp8e4m3⟩
  | .hbm, ⟨11, _⟩ => ⟨S5x32x128, .f32⟩
  | .local _ .vmem, ⟨0, _⟩ => ⟨S20x384x1024, .bf16⟩
  | .local _ .vmem, ⟨1, _⟩ => ⟨S20x8x128x256, .f32⟩
  | .local _ .vmem, ⟨2, _⟩ => ⟨S20x8x128x256, .fp8e4m3⟩
  | .local _ .vmem, ⟨3, _⟩ => ⟨S20x8x128x256, .fp8e4m3⟩
  | .local _ .vmem, ⟨4, _⟩ => ⟨S5x384x4x256, .bf16⟩
  | .local _ .vmem, ⟨5, _⟩ => ⟨S4x384x256, .bf16⟩
  | .local _ .vmem, ⟨6, _⟩ => ⟨S5x384x32, .f32⟩
  | .local _ .vmem, ⟨7, _⟩ => ⟨S4x384x8, .f32⟩
  | .local _ .vmem, ⟨8, _⟩ => ⟨S4x1x8, .f32⟩
  | .local _ .vmem, ⟨9, _⟩ => ⟨S1x32, .f32⟩
  | .local _ .vmem, ⟨10, _⟩ => ⟨S5x32x128, .f32⟩
  | .local _ .vmem, ⟨11, _⟩ => ⟨S5x32x128, .f32⟩
  | .local _ .smem, ⟨0, _⟩ => ⟨S5, .i32⟩
  | _, _ => ⟨S5x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.smem, 0, rfl⟩

abbrev nD : Nat := 1
abbrev τ : Topo := Topo.v7x

variable {F : FTy → Type} [BitOps F]

abbrev grid0 : Pipeline.Grid := .none

@[reducible] def k0_t1_loop : Scf.Loop 32 :=
  let c0_i32_112 : BitVec 32 := 0#32
  let c20_i32 : BitVec 32 := 20#32
  let v99 : BitVec 32 := Scalar.addi c0_i32_112 c20_i32
  let c1_i32_113 : BitVec 32 := 1#32
  ⟨c0_i32_112, v99, c1_i32_113⟩
def k0_cond1 (k0_t1 : Fin k0_t1_loop.trips) : BitVec 1 :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c0_i32_146 : BitVec 32 := 0#32
  let v140 : BitVec 1 := Scalar.cmpi .eq v139 c0_i32_146
  let v141 : BitVec 32 := Scalar.extui v140
  let c0_i32_147 : BitVec 32 := 0#32
  let v142 : BitVec 1 := Scalar.cmpi .ne v141 c0_i32_147
  v142

def k0_off1 (k0_t1 : Fin k0_t1_loop.trips) : Fin 1 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  ![v129.toNat]
def k0_off2 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c0_i32_201 : BitVec 32 := 0#32
  let c0_i32_202 : BitVec 32 := 0#32
  ![v129.toNat, 0, 0]
def k0_off3 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c0_i32_205 : BitVec 32 := 0#32
  let c0_i32_206 : BitVec 32 := 0#32
  let c0_i32_207 : BitVec 32 := 0#32
  ![v129.toNat, 0, 0, 0]
def k0_cond2 (k0_t1 : Fin k0_t1_loop.trips) : BitVec 1 :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c1_i32_211 : BitVec 32 := 1#32
  let v251 : BitVec 32 := Scalar.addi v129 c1_i32_211
  let c5_i32 : BitVec 32 := 5#32
  let v252 : BitVec 1 := Scalar.cmpi .slt v251 c5_i32
  let v253 : BitVec 32 := Scalar.extui v252
  let c0_i32_212 : BitVec 32 := 0#32
  let v254 : BitVec 1 := Scalar.cmpi .ne v253 c0_i32_212
  v254

def k0_off4 (k0_t1 : Fin k0_t1_loop.trips) : Fin 1 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c1_i32_692 : BitVec 32 := 1#32
  let v1398 : BitVec 32 := Scalar.addi v129 c1_i32_692
  ![v1398.toNat]
def k0_off5 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c1_i32_692 : BitVec 32 := 1#32
  let v1398 : BitVec 32 := Scalar.addi v129 c1_i32_692
  let c0_i32_693 : BitVec 32 := 0#32
  let c0_i32_694 : BitVec 32 := 0#32
  ![v1398.toNat, 0, 0]
def k0_off6 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c1_i32_692 : BitVec 32 := 1#32
  let v1398 : BitVec 32 := Scalar.addi v129 c1_i32_692
  let c0_i32_697 : BitVec 32 := 0#32
  let c0_i32_698 : BitVec 32 := 0#32
  let c0_i32_699 : BitVec 32 := 0#32
  ![v1398.toNat, 0, 0, 0]
def k0_off7 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v259 : Index := Scalar.indexCast v129
  let c0_214 : Index := 0#32
  let c0_215 : Index := 0#32
  ![v259.toNat, 0, 0]
def k0_off8 (k0_t1 : Fin k0_t1_loop.trips) : Fin 1 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v1324 : Index := Scalar.indexCast v129
  ![v1324.toNat]
def k0_off9 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v1363 : Index := Scalar.indexCast v129
  let c0_671 : Index := 0#32
  let c0_673 : Index := 0#32
  ![v1363.toNat, 0, 0, 0]
def k0_off10 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v1381 : Index := Scalar.indexCast v129
  let c0_681 : Index := 0#32
  let c0_683 : Index := 0#32
  ![v1381.toNat, 0, 2, 0]
def k0_cond3 (k0_t1 : Fin k0_t1_loop.trips) : BitVec 1 :=
  let c0_i32_112 : BitVec 32 := 0#32
  let c1_i32_113 : BitVec 32 := 1#32
  let arg29 : BitVec 32 := Scf.iv c0_i32_112 c1_i32_113 k0_t1
  let c4_i32_148 : BitVec 32 := 4#32
  let v143 : BitVec 32 := Scalar.addi arg29 c4_i32_148
  let c20_i32_149 : BitVec 32 := 20#32
  let v144 : BitVec 1 := Scalar.cmpi .slt v143 c20_i32_149
  let v145 : BitVec 32 := Scalar.extui v144
  let c0_i32_150 : BitVec 32 := 0#32
  let v146 : BitVec 1 := Scalar.cmpi .ne v145 c0_i32_150
  v146

def k0_off11 (k0_t1 : Fin k0_t1_loop.trips) : Fin 1 → Nat :=
  let c0_i32_112 : BitVec 32 := 0#32
  let c1_i32_113 : BitVec 32 := 1#32
  let arg29 : BitVec 32 := Scf.iv c0_i32_112 c1_i32_113 k0_t1
  let c4_i32_201 : BitVec 32 := 4#32
  let v239 : BitVec 32 := Scalar.addi arg29 c4_i32_201
  ![v239.toNat]
def k0_off12 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c4_i32_201 : BitVec 32 := 4#32
  let v239 : BitVec 32 := Scalar.addi arg29 c4_i32_201
  let c0_i32_218 : BitVec 32 := 0#32
  let c0_i32_219 : BitVec 32 := 0#32
  let c0_i32_220 : BitVec 32 := 0#32
  ![v239.toNat, 0, 0, 0]
def k0_off13 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c4_i32_201 : BitVec 32 := 4#32
  let v239 : BitVec 32 := Scalar.addi arg29 c4_i32_201
  let c0_i32_203 : BitVec 32 := 0#32
  let v241 : BitVec 1 := Scalar.cmpi .sgt v239 c0_i32_203
  let v242 : BitVec 32 := Scalar.extui v241
  let c0_i32_204 : BitVec 32 := 0#32
  let v243 : BitVec 1 := Scalar.cmpi .slt v239 c0_i32_204
  let v244 : BitVec 32 := Scalar.extui v243
  let v245 : BitVec 32 := Scalar.subi v242 v244
  let c4_i32_202 : BitVec 32 := 4#32
  let c0_i32_205 : BitVec 32 := 0#32
  let v246 : BitVec 1 := Scalar.cmpi .sgt c4_i32_202 c0_i32_205
  let v247 : BitVec 32 := Scalar.extui v246
  let c0_i32_206 : BitVec 32 := 0#32
  let v248 : BitVec 1 := Scalar.cmpi .slt c4_i32_202 c0_i32_206
  let v249 : BitVec 32 := Scalar.extui v248
  let v250 : BitVec 32 := Scalar.subi v247 v249
  let v251 : BitVec 1 := Scalar.cmpi .ne v245 v250
  let v252 : BitVec 32 := Scalar.remsi v239 c4_i32_202
  let c0_i32_207 : BitVec 32 := 0#32
  let v253 : BitVec 1 := Scalar.cmpi .ne v252 c0_i32_207
  let v254 : BitVec 1 := Scalar.andi v251 v253
  let v240 : BitVec 32 := Scalar.divsi v239 c4_i32_202
  let c1_i32_208 : BitVec 32 := 1#32
  let v255 : BitVec 32 := Scalar.subi v240 c1_i32_208
  let v256 : BitVec 32 := Scalar.select v254 v255 v240
  let c4_i32_209 : BitVec 32 := 4#32
  let c0_i32_210 : BitVec 32 := 0#32
  let v257 : BitVec 1 := Scalar.cmpi .eq c4_i32_209 c0_i32_210
  let c1_i32_211 : BitVec 32 := 1#32
  let v258 : BitVec 32 := Scalar.select v257 c1_i32_211 c4_i32_209
  let v259 : BitVec 32 := Scalar.remsi v239 v258
  let c0_i32_213 : BitVec 32 := 0#32
  let v261 : BitVec 1 := Scalar.cmpi .slt v259 c0_i32_213
  let c0_i32_214 : BitVec 32 := 0#32
  let v262 : BitVec 1 := Scalar.cmpi .slt v258 c0_i32_214
  let v263 : BitVec 1 := Scalar.xori v261 v262
  let c0_i32_212 : BitVec 32 := 0#32
  let v260 : BitVec 1 := Scalar.cmpi .ne v259 c0_i32_212
  let v264 : BitVec 1 := Scalar.andi v263 v260
  let v265 : BitVec 32 := Scalar.addi v259 v258
  let v266 : BitVec 32 := Scalar.select v264 v265 v259
  let c8_i32_215 : BitVec 32 := 8#32
  let v267 : BitVec 32 := Scalar.muli v266 c8_i32_215
  let c0_i32_221 : BitVec 32 := 0#32
  let c0_i32_222 : BitVec 32 := 0#32
  ![v256.toNat, v267.toNat, 0, 0]
def k0_off14 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_201 : BitVec 32 := 4#32
  let v239 : BitVec 32 := Scalar.addi arg29 c4_i32_201
  let c0_i32_228 : BitVec 32 := 0#32
  let c0_i32_229 : BitVec 32 := 0#32
  ![v239.toNat, 0, 0]
def k0_off15 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_201 : BitVec 32 := 4#32
  let v239 : BitVec 32 := Scalar.addi arg29 c4_i32_201
  let c0_i32_203 : BitVec 32 := 0#32
  let v241 : BitVec 1 := Scalar.cmpi .sgt v239 c0_i32_203
  let v242 : BitVec 32 := Scalar.extui v241
  let c0_i32_204 : BitVec 32 := 0#32
  let v243 : BitVec 1 := Scalar.cmpi .slt v239 c0_i32_204
  let v244 : BitVec 32 := Scalar.extui v243
  let v245 : BitVec 32 := Scalar.subi v242 v244
  let c4_i32_202 : BitVec 32 := 4#32
  let c0_i32_205 : BitVec 32 := 0#32
  let v246 : BitVec 1 := Scalar.cmpi .sgt c4_i32_202 c0_i32_205
  let v247 : BitVec 32 := Scalar.extui v246
  let c0_i32_206 : BitVec 32 := 0#32
  let v248 : BitVec 1 := Scalar.cmpi .slt c4_i32_202 c0_i32_206
  let v249 : BitVec 32 := Scalar.extui v248
  let v250 : BitVec 32 := Scalar.subi v247 v249
  let v251 : BitVec 1 := Scalar.cmpi .ne v245 v250
  let v252 : BitVec 32 := Scalar.remsi v239 c4_i32_202
  let c0_i32_207 : BitVec 32 := 0#32
  let v253 : BitVec 1 := Scalar.cmpi .ne v252 c0_i32_207
  let v254 : BitVec 1 := Scalar.andi v251 v253
  let v240 : BitVec 32 := Scalar.divsi v239 c4_i32_202
  let c1_i32_208 : BitVec 32 := 1#32
  let v255 : BitVec 32 := Scalar.subi v240 c1_i32_208
  let v256 : BitVec 32 := Scalar.select v254 v255 v240
  let c0_i32_230 : BitVec 32 := 0#32
  let c4_i32_209 : BitVec 32 := 4#32
  let c0_i32_210 : BitVec 32 := 0#32
  let v257 : BitVec 1 := Scalar.cmpi .eq c4_i32_209 c0_i32_210
  let c1_i32_211 : BitVec 32 := 1#32
  let v258 : BitVec 32 := Scalar.select v257 c1_i32_211 c4_i32_209
  let v259 : BitVec 32 := Scalar.remsi v239 v258
  let c0_i32_213 : BitVec 32 := 0#32
  let v261 : BitVec 1 := Scalar.cmpi .slt v259 c0_i32_213
  let c0_i32_214 : BitVec 32 := 0#32
  let v262 : BitVec 1 := Scalar.cmpi .slt v258 c0_i32_214
  let v263 : BitVec 1 := Scalar.xori v261 v262
  let c0_i32_212 : BitVec 32 := 0#32
  let v260 : BitVec 1 := Scalar.cmpi .ne v259 c0_i32_212
  let v264 : BitVec 1 := Scalar.andi v263 v260
  let v265 : BitVec 32 := Scalar.addi v259 v258
  let v266 : BitVec 32 := Scalar.select v264 v265 v259
  let c1024_i32_217 : BitVec 32 := 1024#32
  let v269 : BitVec 32 := Scalar.muli v266 c1024_i32_217
  ![v256.toNat, 0, v269.toNat]
def k0_off16 (k0_t1 : Fin k0_t1_loop.trips) : Fin 1 → Nat :=
  let c0_i32_112 : BitVec 32 := 0#32
  let c1_i32_113 : BitVec 32 := 1#32
  let arg29 : BitVec 32 := Scf.iv c0_i32_112 c1_i32_113 k0_t1
  ![arg29.toNat]
def k0_off17 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c0_i32_167 : BitVec 32 := 0#32
  let c0_i32_168 : BitVec 32 := 0#32
  let c0_i32_169 : BitVec 32 := 0#32
  ![arg29.toNat, 0, 0, 0]
def k0_off18 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c0_i32_152 : BitVec 32 := 0#32
  let v148 : BitVec 1 := Scalar.cmpi .sgt arg29 c0_i32_152
  let v149 : BitVec 32 := Scalar.extui v148
  let c0_i32_153 : BitVec 32 := 0#32
  let v150 : BitVec 1 := Scalar.cmpi .slt arg29 c0_i32_153
  let v151 : BitVec 32 := Scalar.extui v150
  let v152 : BitVec 32 := Scalar.subi v149 v151
  let c4_i32_151 : BitVec 32 := 4#32
  let c0_i32_154 : BitVec 32 := 0#32
  let v153 : BitVec 1 := Scalar.cmpi .sgt c4_i32_151 c0_i32_154
  let v154 : BitVec 32 := Scalar.extui v153
  let c0_i32_155 : BitVec 32 := 0#32
  let v155 : BitVec 1 := Scalar.cmpi .slt c4_i32_151 c0_i32_155
  let v156 : BitVec 32 := Scalar.extui v155
  let v157 : BitVec 32 := Scalar.subi v154 v156
  let v158 : BitVec 1 := Scalar.cmpi .ne v152 v157
  let v159 : BitVec 32 := Scalar.remsi arg29 c4_i32_151
  let c0_i32_156 : BitVec 32 := 0#32
  let v160 : BitVec 1 := Scalar.cmpi .ne v159 c0_i32_156
  let v161 : BitVec 1 := Scalar.andi v158 v160
  let v147 : BitVec 32 := Scalar.divsi arg29 c4_i32_151
  let c1_i32_157 : BitVec 32 := 1#32
  let v162 : BitVec 32 := Scalar.subi v147 c1_i32_157
  let v163 : BitVec 32 := Scalar.select v161 v162 v147
  let c4_i32_158 : BitVec 32 := 4#32
  let c0_i32_159 : BitVec 32 := 0#32
  let v164 : BitVec 1 := Scalar.cmpi .eq c4_i32_158 c0_i32_159
  let c1_i32_160 : BitVec 32 := 1#32
  let v165 : BitVec 32 := Scalar.select v164 c1_i32_160 c4_i32_158
  let v166 : BitVec 32 := Scalar.remsi arg29 v165
  let c0_i32_162 : BitVec 32 := 0#32
  let v168 : BitVec 1 := Scalar.cmpi .slt v166 c0_i32_162
  let c0_i32_163 : BitVec 32 := 0#32
  let v169 : BitVec 1 := Scalar.cmpi .slt v165 c0_i32_163
  let v170 : BitVec 1 := Scalar.xori v168 v169
  let c0_i32_161 : BitVec 32 := 0#32
  let v167 : BitVec 1 := Scalar.cmpi .ne v166 c0_i32_161
  let v171 : BitVec 1 := Scalar.andi v170 v167
  let v172 : BitVec 32 := Scalar.addi v166 v165
  let v173 : BitVec 32 := Scalar.select v171 v172 v166
  let c8_i32_164 : BitVec 32 := 8#32
  let v174 : BitVec 32 := Scalar.muli v173 c8_i32_164
  let c0_i32_170 : BitVec 32 := 0#32
  let c0_i32_171 : BitVec 32 := 0#32
  ![v163.toNat, v174.toNat, 0, 0]
def k0_off19 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c0_i32_177 : BitVec 32 := 0#32
  let c0_i32_178 : BitVec 32 := 0#32
  ![arg29.toNat, 0, 0]
def k0_off20 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c0_i32_152 : BitVec 32 := 0#32
  let v148 : BitVec 1 := Scalar.cmpi .sgt arg29 c0_i32_152
  let v149 : BitVec 32 := Scalar.extui v148
  let c0_i32_153 : BitVec 32 := 0#32
  let v150 : BitVec 1 := Scalar.cmpi .slt arg29 c0_i32_153
  let v151 : BitVec 32 := Scalar.extui v150
  let v152 : BitVec 32 := Scalar.subi v149 v151
  let c4_i32_151 : BitVec 32 := 4#32
  let c0_i32_154 : BitVec 32 := 0#32
  let v153 : BitVec 1 := Scalar.cmpi .sgt c4_i32_151 c0_i32_154
  let v154 : BitVec 32 := Scalar.extui v153
  let c0_i32_155 : BitVec 32 := 0#32
  let v155 : BitVec 1 := Scalar.cmpi .slt c4_i32_151 c0_i32_155
  let v156 : BitVec 32 := Scalar.extui v155
  let v157 : BitVec 32 := Scalar.subi v154 v156
  let v158 : BitVec 1 := Scalar.cmpi .ne v152 v157
  let v159 : BitVec 32 := Scalar.remsi arg29 c4_i32_151
  let c0_i32_156 : BitVec 32 := 0#32
  let v160 : BitVec 1 := Scalar.cmpi .ne v159 c0_i32_156
  let v161 : BitVec 1 := Scalar.andi v158 v160
  let v147 : BitVec 32 := Scalar.divsi arg29 c4_i32_151
  let c1_i32_157 : BitVec 32 := 1#32
  let v162 : BitVec 32 := Scalar.subi v147 c1_i32_157
  let v163 : BitVec 32 := Scalar.select v161 v162 v147
  let c0_i32_179 : BitVec 32 := 0#32
  let c4_i32_158 : BitVec 32 := 4#32
  let c0_i32_159 : BitVec 32 := 0#32
  let v164 : BitVec 1 := Scalar.cmpi .eq c4_i32_158 c0_i32_159
  let c1_i32_160 : BitVec 32 := 1#32
  let v165 : BitVec 32 := Scalar.select v164 c1_i32_160 c4_i32_158
  let v166 : BitVec 32 := Scalar.remsi arg29 v165
  let c0_i32_162 : BitVec 32 := 0#32
  let v168 : BitVec 1 := Scalar.cmpi .slt v166 c0_i32_162
  let c0_i32_163 : BitVec 32 := 0#32
  let v169 : BitVec 1 := Scalar.cmpi .slt v165 c0_i32_163
  let v170 : BitVec 1 := Scalar.xori v168 v169
  let c0_i32_161 : BitVec 32 := 0#32
  let v167 : BitVec 1 := Scalar.cmpi .ne v166 c0_i32_161
  let v171 : BitVec 1 := Scalar.andi v170 v167
  let v172 : BitVec 32 := Scalar.addi v166 v165
  let v173 : BitVec 32 := Scalar.select v171 v172 v166
  let c1024_i32_166 : BitVec 32 := 1024#32
  let v176 : BitVec 32 := Scalar.muli v173 c1024_i32_166
  ![v163.toNat, 0, v176.toNat]
def k0_cond4 (k0_t1 : Fin k0_t1_loop.trips) : BitVec 1 :=
  let c0_i32_112 : BitVec 32 := 0#32
  let c1_i32_113 : BitVec 32 := 1#32
  let arg29 : BitVec 32 := Scf.iv c0_i32_112 c1_i32_113 k0_t1
  let c0_i32_180 : BitVec 32 := 0#32
  let v195 : BitVec 1 := Scalar.cmpi .sgt arg29 c0_i32_180
  let v196 : BitVec 32 := Scalar.extui v195
  let c0_i32_181 : BitVec 32 := 0#32
  let v197 : BitVec 1 := Scalar.cmpi .ne v196 c0_i32_181
  v197

def k0_off21 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c1_i32_201 : BitVec 32 := 1#32
  let v239 : BitVec 32 := Scalar.subi arg29 c1_i32_201
  let c0_i32_203 : BitVec 32 := 0#32
  let v241 : BitVec 1 := Scalar.cmpi .sgt v239 c0_i32_203
  let v242 : BitVec 32 := Scalar.extui v241
  let c0_i32_204 : BitVec 32 := 0#32
  let v243 : BitVec 1 := Scalar.cmpi .slt v239 c0_i32_204
  let v244 : BitVec 32 := Scalar.extui v243
  let v245 : BitVec 32 := Scalar.subi v242 v244
  let c4_i32_202 : BitVec 32 := 4#32
  let c0_i32_205 : BitVec 32 := 0#32
  let v246 : BitVec 1 := Scalar.cmpi .sgt c4_i32_202 c0_i32_205
  let v247 : BitVec 32 := Scalar.extui v246
  let c0_i32_206 : BitVec 32 := 0#32
  let v248 : BitVec 1 := Scalar.cmpi .slt c4_i32_202 c0_i32_206
  let v249 : BitVec 32 := Scalar.extui v248
  let v250 : BitVec 32 := Scalar.subi v247 v249
  let v251 : BitVec 1 := Scalar.cmpi .ne v245 v250
  let v252 : BitVec 32 := Scalar.remsi v239 c4_i32_202
  let c0_i32_207 : BitVec 32 := 0#32
  let v253 : BitVec 1 := Scalar.cmpi .ne v252 c0_i32_207
  let v254 : BitVec 1 := Scalar.andi v251 v253
  let v240 : BitVec 32 := Scalar.divsi v239 c4_i32_202
  let c1_i32_208 : BitVec 32 := 1#32
  let v255 : BitVec 32 := Scalar.subi v240 c1_i32_208
  let v256 : BitVec 32 := Scalar.select v254 v255 v240
  let c0_i32_217 : BitVec 32 := 0#32
  let c4_i32_209 : BitVec 32 := 4#32
  let c0_i32_210 : BitVec 32 := 0#32
  let v257 : BitVec 1 := Scalar.cmpi .eq c4_i32_209 c0_i32_210
  let c1_i32_211 : BitVec 32 := 1#32
  let v258 : BitVec 32 := Scalar.select v257 c1_i32_211 c4_i32_209
  let v259 : BitVec 32 := Scalar.remsi v239 v258
  let c0_i32_213 : BitVec 32 := 0#32
  let v261 : BitVec 1 := Scalar.cmpi .slt v259 c0_i32_213
  let c0_i32_214 : BitVec 32 := 0#32
  let v262 : BitVec 1 := Scalar.cmpi .slt v258 c0_i32_214
  let v263 : BitVec 1 := Scalar.xori v261 v262
  let c0_i32_212 : BitVec 32 := 0#32
  let v260 : BitVec 1 := Scalar.cmpi .ne v259 c0_i32_212
  let v264 : BitVec 1 := Scalar.andi v263 v260
  let v265 : BitVec 32 := Scalar.addi v259 v258
  let v266 : BitVec 32 := Scalar.select v264 v265 v259
  let c1024_i32_215 : BitVec 32 := 1024#32
  let v267 : BitVec 32 := Scalar.muli v266 c1024_i32_215
  ![v256.toNat, 0, v267.toNat]
def k0_off22 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c1_i32_201 : BitVec 32 := 1#32
  let v239 : BitVec 32 := Scalar.subi arg29 c1_i32_201
  let c0_i32_218 : BitVec 32 := 0#32
  let c0_i32_219 : BitVec 32 := 0#32
  ![v239.toNat, 0, 0]
def k0_off23 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c1_i32_201 : BitVec 32 := 1#32
  let v239 : BitVec 32 := Scalar.subi arg29 c1_i32_201
  let c0_i32_203 : BitVec 32 := 0#32
  let v241 : BitVec 1 := Scalar.cmpi .sgt v239 c0_i32_203
  let v242 : BitVec 32 := Scalar.extui v241
  let c0_i32_204 : BitVec 32 := 0#32
  let v243 : BitVec 1 := Scalar.cmpi .slt v239 c0_i32_204
  let v244 : BitVec 32 := Scalar.extui v243
  let v245 : BitVec 32 := Scalar.subi v242 v244
  let c4_i32_202 : BitVec 32 := 4#32
  let c0_i32_205 : BitVec 32 := 0#32
  let v246 : BitVec 1 := Scalar.cmpi .sgt c4_i32_202 c0_i32_205
  let v247 : BitVec 32 := Scalar.extui v246
  let c0_i32_206 : BitVec 32 := 0#32
  let v248 : BitVec 1 := Scalar.cmpi .slt c4_i32_202 c0_i32_206
  let v249 : BitVec 32 := Scalar.extui v248
  let v250 : BitVec 32 := Scalar.subi v247 v249
  let v251 : BitVec 1 := Scalar.cmpi .ne v245 v250
  let v252 : BitVec 32 := Scalar.remsi v239 c4_i32_202
  let c0_i32_207 : BitVec 32 := 0#32
  let v253 : BitVec 1 := Scalar.cmpi .ne v252 c0_i32_207
  let v254 : BitVec 1 := Scalar.andi v251 v253
  let v240 : BitVec 32 := Scalar.divsi v239 c4_i32_202
  let c1_i32_208 : BitVec 32 := 1#32
  let v255 : BitVec 32 := Scalar.subi v240 c1_i32_208
  let v256 : BitVec 32 := Scalar.select v254 v255 v240
  let c4_i32_209 : BitVec 32 := 4#32
  let c0_i32_210 : BitVec 32 := 0#32
  let v257 : BitVec 1 := Scalar.cmpi .eq c4_i32_209 c0_i32_210
  let c1_i32_211 : BitVec 32 := 1#32
  let v258 : BitVec 32 := Scalar.select v257 c1_i32_211 c4_i32_209
  let v259 : BitVec 32 := Scalar.remsi v239 v258
  let c0_i32_213 : BitVec 32 := 0#32
  let v261 : BitVec 1 := Scalar.cmpi .slt v259 c0_i32_213
  let c0_i32_214 : BitVec 32 := 0#32
  let v262 : BitVec 1 := Scalar.cmpi .slt v258 c0_i32_214
  let v263 : BitVec 1 := Scalar.xori v261 v262
  let c0_i32_212 : BitVec 32 := 0#32
  let v260 : BitVec 1 := Scalar.cmpi .ne v259 c0_i32_212
  let v264 : BitVec 1 := Scalar.andi v263 v260
  let v265 : BitVec 32 := Scalar.addi v259 v258
  let v266 : BitVec 32 := Scalar.select v264 v265 v259
  let c8_i32_216 : BitVec 32 := 8#32
  let v268 : BitVec 32 := Scalar.muli v266 c8_i32_216
  let c0_i32_220 : BitVec 32 := 0#32
  let c0_i32_221 : BitVec 32 := 0#32
  ![v256.toNat, v268.toNat, 0, 0]
def k0_off24 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let c1_i32_201 : BitVec 32 := 1#32
  let v239 : BitVec 32 := Scalar.subi arg29 c1_i32_201
  let c0_i32_222 : BitVec 32 := 0#32
  let c0_i32_223 : BitVec 32 := 0#32
  let c0_i32_224 : BitVec 32 := 0#32
  ![v239.toNat, 0, 0, 0]
def k0_off25 (k0_t1 : Fin k0_t1_loop.trips) : Fin 1 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v198 : Index := Scalar.indexCast v129
  ![v198.toNat]
def k0_off26 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v239 : Index := Scalar.indexCast arg29
  let c0 : Index := 0#32
  let c0_201 : Index := 0#32
  let c0_202 : Index := 0#32
  ![v239.toNat, 0, 0, 0]
def k0_off27 (k0_t1 : Fin k0_t1_loop.trips) (c0_i32_204 : BitVec 32) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v244 : Index := Scalar.indexCast v129
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c8_i32_203 : BitVec 32 := 8#32
  let v242 : BitVec 32 := Scalar.muli v139 c8_i32_203
  let v243 : BitVec 32 := Scalar.addi v242 c0_i32_204
  let v245 : Index := Scalar.indexCast v243
  let c0_205 : Index := 0#32
  ![v244.toNat, v245.toNat, 0]
def k0_off28 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v254 : Index := Scalar.indexCast v139
  let c0_207 : Index := 0#32
  let c0_208 : Index := 0#32
  ![v254.toNat, 0, 0]
def k0_off29 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v309 : Index := Scalar.indexCast arg29
  let c1 : Index := 1#32
  let c0_229 : Index := 0#32
  let c0_230 : Index := 0#32
  ![v309.toNat, 1, 0, 0]
def k0_off30 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v324 : Index := Scalar.indexCast v139
  let c0_236 : Index := 0#32
  let c1_237 : Index := 1#32
  ![v324.toNat, 0, 1]
def k0_off31 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v379 : Index := Scalar.indexCast arg29
  let c0_258 : Index := 0#32
  let c0_259 : Index := 0#32
  let c0_260 : Index := 0#32
  ![v379.toNat, 0, 0, 0]
def k0_off32 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v383 : Index := Scalar.indexCast v139
  let c0_261 : Index := 0#32
  let c0_262 : Index := 0#32
  ![v383.toNat, 0, 0]
def k0_off33 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v393 : Index := Scalar.indexCast v139
  let c0_267 : Index := 0#32
  let c0_268 : Index := 0#32
  ![v393.toNat, 0, 0]
def k0_off34 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v401 : Index := Scalar.indexCast arg29
  let c0_269 : Index := 0#32
  let c0_270 : Index := 0#32
  ![v401.toNat, 0, 0]
def k0_off35 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v417 : Index := Scalar.indexCast v139
  let c0_276 : Index := 0#32
  let c1_277 : Index := 1#32
  ![v417.toNat, 0, 1]
def k0_off36 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v425 : Index := Scalar.indexCast arg29
  let c0_278 : Index := 0#32
  let c128 : Index := 128#32
  ![v425.toNat, 0, 128]
def k0_off37 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v439 : Index := Scalar.indexCast v139
  let c128_284 : Index := 128#32
  let c0_285 : Index := 0#32
  ![v439.toNat, 128, 0]
def k0_off38 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v449 : Index := Scalar.indexCast v139
  let c128_290 : Index := 128#32
  let c0_291 : Index := 0#32
  ![v449.toNat, 128, 0]
def k0_off39 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v457 : Index := Scalar.indexCast arg29
  let c128_292 : Index := 128#32
  let c0_293 : Index := 0#32
  ![v457.toNat, 128, 0]
def k0_off40 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v473 : Index := Scalar.indexCast v139
  let c128_299 : Index := 128#32
  let c1_300 : Index := 1#32
  ![v473.toNat, 128, 1]
def k0_off41 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v481 : Index := Scalar.indexCast arg29
  let c128_301 : Index := 128#32
  let c128_302 : Index := 128#32
  ![v481.toNat, 128, 128]
def k0_off42 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v495 : Index := Scalar.indexCast v139
  let c256 : Index := 256#32
  let c0_308 : Index := 0#32
  ![v495.toNat, 256, 0]
def k0_off43 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v505 : Index := Scalar.indexCast v139
  let c256_313 : Index := 256#32
  let c0_314 : Index := 0#32
  ![v505.toNat, 256, 0]
def k0_off44 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v513 : Index := Scalar.indexCast arg29
  let c256_315 : Index := 256#32
  let c0_316 : Index := 0#32
  ![v513.toNat, 256, 0]
def k0_off45 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v529 : Index := Scalar.indexCast v139
  let c256_322 : Index := 256#32
  let c1_323 : Index := 1#32
  ![v529.toNat, 256, 1]
def k0_off46 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v537 : Index := Scalar.indexCast arg29
  let c256_324 : Index := 256#32
  let c128_325 : Index := 128#32
  ![v537.toNat, 256, 128]
def k0_off47 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v547 : Index := Scalar.indexCast arg29
  let c2 : Index := 2#32
  let c0_328 : Index := 0#32
  let c0_329 : Index := 0#32
  ![v547.toNat, 2, 0, 0]
def k0_off48 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v562 : Index := Scalar.indexCast v139
  let c0_335 : Index := 0#32
  let c2_336 : Index := 2#32
  ![v562.toNat, 0, 2]
def k0_off49 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v617 : Index := Scalar.indexCast arg29
  let c3 : Index := 3#32
  let c0_357 : Index := 0#32
  let c0_358 : Index := 0#32
  ![v617.toNat, 3, 0, 0]
def k0_off50 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v632 : Index := Scalar.indexCast v139
  let c0_364 : Index := 0#32
  let c3_365 : Index := 3#32
  ![v632.toNat, 0, 3]
def k0_off51 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v687 : Index := Scalar.indexCast arg29
  let c2_386 : Index := 2#32
  let c0_387 : Index := 0#32
  let c0_388 : Index := 0#32
  ![v687.toNat, 2, 0, 0]
def k0_off52 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v701 : Index := Scalar.indexCast v139
  let c0_395 : Index := 0#32
  let c2_396 : Index := 2#32
  ![v701.toNat, 0, 2]
def k0_off53 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v709 : Index := Scalar.indexCast arg29
  let c0_397 : Index := 0#32
  let c256_398 : Index := 256#32
  ![v709.toNat, 0, 256]
def k0_off54 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v725 : Index := Scalar.indexCast v139
  let c0_404 : Index := 0#32
  let c3_405 : Index := 3#32
  ![v725.toNat, 0, 3]
def k0_off55 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v733 : Index := Scalar.indexCast arg29
  let c0_406 : Index := 0#32
  let c384 : Index := 384#32
  ![v733.toNat, 0, 384]
def k0_off56 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v757 : Index := Scalar.indexCast v139
  let c128_418 : Index := 128#32
  let c2_419 : Index := 2#32
  ![v757.toNat, 128, 2]
def k0_off57 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v765 : Index := Scalar.indexCast arg29
  let c128_420 : Index := 128#32
  let c256_421 : Index := 256#32
  ![v765.toNat, 128, 256]
def k0_off58 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v781 : Index := Scalar.indexCast v139
  let c128_427 : Index := 128#32
  let c3_428 : Index := 3#32
  ![v781.toNat, 128, 3]
def k0_off59 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v789 : Index := Scalar.indexCast arg29
  let c128_429 : Index := 128#32
  let c384_430 : Index := 384#32
  ![v789.toNat, 128, 384]
def k0_off60 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v813 : Index := Scalar.indexCast v139
  let c256_442 : Index := 256#32
  let c2_443 : Index := 2#32
  ![v813.toNat, 256, 2]
def k0_off61 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v821 : Index := Scalar.indexCast arg29
  let c256_444 : Index := 256#32
  let c256_445 : Index := 256#32
  ![v821.toNat, 256, 256]
def k0_off62 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v837 : Index := Scalar.indexCast v139
  let c256_451 : Index := 256#32
  let c3_452 : Index := 3#32
  ![v837.toNat, 256, 3]
def k0_off63 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v845 : Index := Scalar.indexCast arg29
  let c256_453 : Index := 256#32
  let c384_454 : Index := 384#32
  ![v845.toNat, 256, 384]
def k0_off64 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v855 : Index := Scalar.indexCast arg29
  let c4 : Index := 4#32
  let c0_457 : Index := 0#32
  let c0_458 : Index := 0#32
  ![v855.toNat, 4, 0, 0]
def k0_off65 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v870 : Index := Scalar.indexCast v139
  let c0_464 : Index := 0#32
  let c4_465 : Index := 4#32
  ![v870.toNat, 0, 4]
def k0_off66 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v925 : Index := Scalar.indexCast arg29
  let c5 : Index := 5#32
  let c0_486 : Index := 0#32
  let c0_487 : Index := 0#32
  ![v925.toNat, 5, 0, 0]
def k0_off67 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v940 : Index := Scalar.indexCast v139
  let c0_492 : Index := 0#32
  let c5_493 : Index := 5#32
  ![v940.toNat, 0, 5]
def k0_off68 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v995 : Index := Scalar.indexCast arg29
  let c4_514 : Index := 4#32
  let c0_515 : Index := 0#32
  let c0_516 : Index := 0#32
  ![v995.toNat, 4, 0, 0]
def k0_off69 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1009 : Index := Scalar.indexCast v139
  let c0_523 : Index := 0#32
  let c4_524 : Index := 4#32
  ![v1009.toNat, 0, 4]
def k0_off70 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1017 : Index := Scalar.indexCast arg29
  let c0_525 : Index := 0#32
  let c512 : Index := 512#32
  ![v1017.toNat, 0, 512]
def k0_off71 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1033 : Index := Scalar.indexCast v139
  let c0_531 : Index := 0#32
  let c5_532 : Index := 5#32
  ![v1033.toNat, 0, 5]
def k0_off72 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1041 : Index := Scalar.indexCast arg29
  let c0_533 : Index := 0#32
  let c640 : Index := 640#32
  ![v1041.toNat, 0, 640]
def k0_off73 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1065 : Index := Scalar.indexCast v139
  let c128_545 : Index := 128#32
  let c4_546 : Index := 4#32
  ![v1065.toNat, 128, 4]
def k0_off74 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1073 : Index := Scalar.indexCast arg29
  let c128_547 : Index := 128#32
  let c512_548 : Index := 512#32
  ![v1073.toNat, 128, 512]
def k0_off75 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1089 : Index := Scalar.indexCast v139
  let c128_554 : Index := 128#32
  let c5_555 : Index := 5#32
  ![v1089.toNat, 128, 5]
def k0_off76 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1097 : Index := Scalar.indexCast arg29
  let c128_556 : Index := 128#32
  let c640_557 : Index := 640#32
  ![v1097.toNat, 128, 640]
def k0_off77 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1121 : Index := Scalar.indexCast v139
  let c256_569 : Index := 256#32
  let c4_570 : Index := 4#32
  ![v1121.toNat, 256, 4]
def k0_off78 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1129 : Index := Scalar.indexCast arg29
  let c256_571 : Index := 256#32
  let c512_572 : Index := 512#32
  ![v1129.toNat, 256, 512]
def k0_off79 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1145 : Index := Scalar.indexCast v139
  let c256_578 : Index := 256#32
  let c5_579 : Index := 5#32
  ![v1145.toNat, 256, 5]
def k0_off80 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1153 : Index := Scalar.indexCast arg29
  let c256_580 : Index := 256#32
  let c640_581 : Index := 640#32
  ![v1153.toNat, 256, 640]
def k0_off81 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v1163 : Index := Scalar.indexCast arg29
  let c6 : Index := 6#32
  let c0_584 : Index := 0#32
  let c0_585 : Index := 0#32
  ![v1163.toNat, 6, 0, 0]
def k0_off82 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1178 : Index := Scalar.indexCast v139
  let c0_590 : Index := 0#32
  let c6_591 : Index := 6#32
  ![v1178.toNat, 0, 6]
def k0_off83 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v1233 : Index := Scalar.indexCast arg29
  let c7 : Index := 7#32
  let c0_612 : Index := 0#32
  let c0_613 : Index := 0#32
  ![v1233.toNat, 7, 0, 0]
def k0_off84 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1248 : Index := Scalar.indexCast v139
  let c0_618 : Index := 0#32
  let c7_619 : Index := 7#32
  ![v1248.toNat, 0, 7]
def k0_off85 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v1303 : Index := Scalar.indexCast arg29
  let c6_640 : Index := 6#32
  let c0_641 : Index := 0#32
  let c0_642 : Index := 0#32
  ![v1303.toNat, 6, 0, 0]
def k0_off86 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1317 : Index := Scalar.indexCast v139
  let c0_649 : Index := 0#32
  let c6_650 : Index := 6#32
  ![v1317.toNat, 0, 6]
def k0_off87 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1325 : Index := Scalar.indexCast arg29
  let c0_651 : Index := 0#32
  let c768 : Index := 768#32
  ![v1325.toNat, 0, 768]
def k0_off88 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1341 : Index := Scalar.indexCast v139
  let c0_657 : Index := 0#32
  let c7_658 : Index := 7#32
  ![v1341.toNat, 0, 7]
def k0_off89 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1349 : Index := Scalar.indexCast arg29
  let c0_659 : Index := 0#32
  let c896 : Index := 896#32
  ![v1349.toNat, 0, 896]
def k0_off90 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1373 : Index := Scalar.indexCast v139
  let c128_671 : Index := 128#32
  let c6_672 : Index := 6#32
  ![v1373.toNat, 128, 6]
def k0_off91 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1381 : Index := Scalar.indexCast arg29
  let c128_673 : Index := 128#32
  let c768_674 : Index := 768#32
  ![v1381.toNat, 128, 768]
def k0_off92 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1397 : Index := Scalar.indexCast v139
  let c128_680 : Index := 128#32
  let c7_681 : Index := 7#32
  ![v1397.toNat, 128, 7]
def k0_off93 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1405 : Index := Scalar.indexCast arg29
  let c128_682 : Index := 128#32
  let c896_683 : Index := 896#32
  ![v1405.toNat, 128, 896]
def k0_off94 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1429 : Index := Scalar.indexCast v139
  let c256_695 : Index := 256#32
  let c6_696 : Index := 6#32
  ![v1429.toNat, 256, 6]
def k0_off95 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1437 : Index := Scalar.indexCast arg29
  let c256_697 : Index := 256#32
  let c768_698 : Index := 768#32
  ![v1437.toNat, 256, 768]
def k0_off96 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1453 : Index := Scalar.indexCast v139
  let c256_704 : Index := 256#32
  let c7_705 : Index := 7#32
  ![v1453.toNat, 256, 7]
def k0_off97 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1461 : Index := Scalar.indexCast arg29
  let c256_706 : Index := 256#32
  let c896_707 : Index := 896#32
  ![v1461.toNat, 256, 896]
def k0_off98 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v239 : Index := Scalar.indexCast arg29
  let c0 : Index := 0#32
  let c0_201 : Index := 0#32
  let c0_202 : Index := 0#32
  ![v239.toNat, 0, 0, 0]
def k0_off99 (k0_t1 : Fin k0_t1_loop.trips) (c0_i32_217 : BitVec 32) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v280 : Index := Scalar.indexCast v129
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c8_i32_216 : BitVec 32 := 8#32
  let v278 : BitVec 32 := Scalar.muli v139 c8_i32_216
  let v279 : BitVec 32 := Scalar.addi v278 c0_i32_217
  let v281 : Index := Scalar.indexCast v279
  let c0_218 : Index := 0#32
  ![v280.toNat, v281.toNat, 0]
def k0_off100 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v285 : Index := Scalar.indexCast arg29
  let c1 : Index := 1#32
  let c0_219 : Index := 0#32
  let c0_220 : Index := 0#32
  ![v285.toNat, 1, 0, 0]
def k0_off101 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v331 : Index := Scalar.indexCast arg29
  let c0_238 : Index := 0#32
  let c0_239 : Index := 0#32
  let c0_240 : Index := 0#32
  ![v331.toNat, 0, 0, 0]
def k0_off102 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v335 : Index := Scalar.indexCast v139
  let c0_241 : Index := 0#32
  let c0_242 : Index := 0#32
  ![v335.toNat, 0, 0]
def k0_off103 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v345 : Index := Scalar.indexCast v139
  let c0_247 : Index := 0#32
  let c0_248 : Index := 0#32
  ![v345.toNat, 0, 0]
def k0_off104 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v353 : Index := Scalar.indexCast arg29
  let c0_249 : Index := 0#32
  let c0_250 : Index := 0#32
  ![v353.toNat, 0, 0]
def k0_off105 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v369 : Index := Scalar.indexCast v139
  let c0_256 : Index := 0#32
  let c1_257 : Index := 1#32
  ![v369.toNat, 0, 1]
def k0_off106 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v377 : Index := Scalar.indexCast arg29
  let c0_258 : Index := 0#32
  let c128 : Index := 128#32
  ![v377.toNat, 0, 128]
def k0_off107 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v387 : Index := Scalar.indexCast arg29
  let c2 : Index := 2#32
  let c0_261 : Index := 0#32
  let c0_262 : Index := 0#32
  ![v387.toNat, 2, 0, 0]
def k0_off108 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v433 : Index := Scalar.indexCast arg29
  let c3 : Index := 3#32
  let c0_280 : Index := 0#32
  let c0_281 : Index := 0#32
  ![v433.toNat, 3, 0, 0]
def k0_off109 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v479 : Index := Scalar.indexCast arg29
  let c2_299 : Index := 2#32
  let c0_300 : Index := 0#32
  let c0_301 : Index := 0#32
  ![v479.toNat, 2, 0, 0]
def k0_off110 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v493 : Index := Scalar.indexCast v139
  let c0_308 : Index := 0#32
  let c2_309 : Index := 2#32
  ![v493.toNat, 0, 2]
def k0_off111 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v501 : Index := Scalar.indexCast arg29
  let c0_310 : Index := 0#32
  let c256 : Index := 256#32
  ![v501.toNat, 0, 256]
def k0_off112 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v517 : Index := Scalar.indexCast v139
  let c0_316 : Index := 0#32
  let c3_317 : Index := 3#32
  ![v517.toNat, 0, 3]
def k0_off113 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v525 : Index := Scalar.indexCast arg29
  let c0_318 : Index := 0#32
  let c384 : Index := 384#32
  ![v525.toNat, 0, 384]
def k0_off114 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v535 : Index := Scalar.indexCast arg29
  let c4 : Index := 4#32
  let c0_321 : Index := 0#32
  let c0_322 : Index := 0#32
  ![v535.toNat, 4, 0, 0]
def k0_off115 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v581 : Index := Scalar.indexCast arg29
  let c5 : Index := 5#32
  let c0_340 : Index := 0#32
  let c0_341 : Index := 0#32
  ![v581.toNat, 5, 0, 0]
def k0_off116 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v627 : Index := Scalar.indexCast arg29
  let c4_358 : Index := 4#32
  let c0_359 : Index := 0#32
  let c0_360 : Index := 0#32
  ![v627.toNat, 4, 0, 0]
def k0_off117 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v641 : Index := Scalar.indexCast v139
  let c0_367 : Index := 0#32
  let c4_368 : Index := 4#32
  ![v641.toNat, 0, 4]
def k0_off118 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v649 : Index := Scalar.indexCast arg29
  let c0_369 : Index := 0#32
  let c512 : Index := 512#32
  ![v649.toNat, 0, 512]
def k0_off119 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v665 : Index := Scalar.indexCast v139
  let c0_375 : Index := 0#32
  let c5_376 : Index := 5#32
  ![v665.toNat, 0, 5]
def k0_off120 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v673 : Index := Scalar.indexCast arg29
  let c0_377 : Index := 0#32
  let c640 : Index := 640#32
  ![v673.toNat, 0, 640]
def k0_off121 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v683 : Index := Scalar.indexCast arg29
  let c6 : Index := 6#32
  let c0_380 : Index := 0#32
  let c0_381 : Index := 0#32
  ![v683.toNat, 6, 0, 0]
def k0_off122 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v729 : Index := Scalar.indexCast arg29
  let c7 : Index := 7#32
  let c0_398 : Index := 0#32
  let c0_399 : Index := 0#32
  ![v729.toNat, 7, 0, 0]
def k0_off123 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v775 : Index := Scalar.indexCast arg29
  let c6_416 : Index := 6#32
  let c0_417 : Index := 0#32
  let c0_418 : Index := 0#32
  ![v775.toNat, 6, 0, 0]
def k0_off124 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v789 : Index := Scalar.indexCast v139
  let c0_425 : Index := 0#32
  let c6_426 : Index := 6#32
  ![v789.toNat, 0, 6]
def k0_off125 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v797 : Index := Scalar.indexCast arg29
  let c0_427 : Index := 0#32
  let c768 : Index := 768#32
  ![v797.toNat, 0, 768]
def k0_off126 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v813 : Index := Scalar.indexCast v139
  let c0_433 : Index := 0#32
  let c7_434 : Index := 7#32
  ![v813.toNat, 0, 7]
def k0_off127 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v821 : Index := Scalar.indexCast arg29
  let c0_435 : Index := 0#32
  let c896 : Index := 896#32
  ![v821.toNat, 0, 896]
def k0_off128 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v239 : Index := Scalar.indexCast arg29
  let c0 : Index := 0#32
  let c0_201 : Index := 0#32
  let c0_202 : Index := 0#32
  ![v239.toNat, 0, 0, 0]
def k0_off129 (k0_t1 : Fin k0_t1_loop.trips) (c0_i32_217 : BitVec 32) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v280 : Index := Scalar.indexCast v129
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c8_i32_216 : BitVec 32 := 8#32
  let v278 : BitVec 32 := Scalar.muli v139 c8_i32_216
  let v279 : BitVec 32 := Scalar.addi v278 c0_i32_217
  let v281 : Index := Scalar.indexCast v279
  let c0_218 : Index := 0#32
  ![v280.toNat, v281.toNat, 0]
def k0_off130 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v285 : Index := Scalar.indexCast arg29
  let c1 : Index := 1#32
  let c0_219 : Index := 0#32
  let c0_220 : Index := 0#32
  ![v285.toNat, 1, 0, 0]
def k0_off131 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v331 : Index := Scalar.indexCast arg29
  let c0_238 : Index := 0#32
  let c0_239 : Index := 0#32
  let c0_240 : Index := 0#32
  ![v331.toNat, 0, 0, 0]
def k0_off132 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v335 : Index := Scalar.indexCast v139
  let c0_241 : Index := 0#32
  let c0_242 : Index := 0#32
  ![v335.toNat, 0, 0]
def k0_off133 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v345 : Index := Scalar.indexCast v139
  let c0_247 : Index := 0#32
  let c0_248 : Index := 0#32
  ![v345.toNat, 0, 0]
def k0_off134 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v353 : Index := Scalar.indexCast arg29
  let c0_249 : Index := 0#32
  let c0_250 : Index := 0#32
  ![v353.toNat, 0, 0]
def k0_off135 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v369 : Index := Scalar.indexCast v139
  let c0_256 : Index := 0#32
  let c1_257 : Index := 1#32
  ![v369.toNat, 0, 1]
def k0_off136 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v377 : Index := Scalar.indexCast arg29
  let c0_258 : Index := 0#32
  let c128 : Index := 128#32
  ![v377.toNat, 0, 128]
def k0_off137 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v391 : Index := Scalar.indexCast v139
  let c128_264 : Index := 128#32
  let c0_265 : Index := 0#32
  ![v391.toNat, 128, 0]
def k0_off138 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v401 : Index := Scalar.indexCast v139
  let c128_270 : Index := 128#32
  let c0_271 : Index := 0#32
  ![v401.toNat, 128, 0]
def k0_off139 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v409 : Index := Scalar.indexCast arg29
  let c128_272 : Index := 128#32
  let c0_273 : Index := 0#32
  ![v409.toNat, 128, 0]
def k0_off140 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v425 : Index := Scalar.indexCast v139
  let c128_279 : Index := 128#32
  let c1_280 : Index := 1#32
  ![v425.toNat, 128, 1]
def k0_off141 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v433 : Index := Scalar.indexCast arg29
  let c128_281 : Index := 128#32
  let c128_282 : Index := 128#32
  ![v433.toNat, 128, 128]
def k0_off142 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v443 : Index := Scalar.indexCast arg29
  let c2 : Index := 2#32
  let c0_285 : Index := 0#32
  let c0_286 : Index := 0#32
  ![v443.toNat, 2, 0, 0]
def k0_off143 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v489 : Index := Scalar.indexCast arg29
  let c3 : Index := 3#32
  let c0_304 : Index := 0#32
  let c0_305 : Index := 0#32
  ![v489.toNat, 3, 0, 0]
def k0_off144 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v535 : Index := Scalar.indexCast arg29
  let c2_323 : Index := 2#32
  let c0_324 : Index := 0#32
  let c0_325 : Index := 0#32
  ![v535.toNat, 2, 0, 0]
def k0_off145 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v549 : Index := Scalar.indexCast v139
  let c0_332 : Index := 0#32
  let c2_333 : Index := 2#32
  ![v549.toNat, 0, 2]
def k0_off146 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v557 : Index := Scalar.indexCast arg29
  let c0_334 : Index := 0#32
  let c256 : Index := 256#32
  ![v557.toNat, 0, 256]
def k0_off147 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v573 : Index := Scalar.indexCast v139
  let c0_340 : Index := 0#32
  let c3_341 : Index := 3#32
  ![v573.toNat, 0, 3]
def k0_off148 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v581 : Index := Scalar.indexCast arg29
  let c0_342 : Index := 0#32
  let c384 : Index := 384#32
  ![v581.toNat, 0, 384]
def k0_off149 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v605 : Index := Scalar.indexCast v139
  let c128_354 : Index := 128#32
  let c2_355 : Index := 2#32
  ![v605.toNat, 128, 2]
def k0_off150 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v613 : Index := Scalar.indexCast arg29
  let c128_356 : Index := 128#32
  let c256_357 : Index := 256#32
  ![v613.toNat, 128, 256]
def k0_off151 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v629 : Index := Scalar.indexCast v139
  let c128_363 : Index := 128#32
  let c3_364 : Index := 3#32
  ![v629.toNat, 128, 3]
def k0_off152 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v637 : Index := Scalar.indexCast arg29
  let c128_365 : Index := 128#32
  let c384_366 : Index := 384#32
  ![v637.toNat, 128, 384]
def k0_off153 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v647 : Index := Scalar.indexCast arg29
  let c4 : Index := 4#32
  let c0_369 : Index := 0#32
  let c0_370 : Index := 0#32
  ![v647.toNat, 4, 0, 0]
def k0_off154 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v693 : Index := Scalar.indexCast arg29
  let c5 : Index := 5#32
  let c0_388 : Index := 0#32
  let c0_389 : Index := 0#32
  ![v693.toNat, 5, 0, 0]
def k0_off155 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v739 : Index := Scalar.indexCast arg29
  let c4_406 : Index := 4#32
  let c0_407 : Index := 0#32
  let c0_408 : Index := 0#32
  ![v739.toNat, 4, 0, 0]
def k0_off156 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v753 : Index := Scalar.indexCast v139
  let c0_415 : Index := 0#32
  let c4_416 : Index := 4#32
  ![v753.toNat, 0, 4]
def k0_off157 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v761 : Index := Scalar.indexCast arg29
  let c0_417 : Index := 0#32
  let c512 : Index := 512#32
  ![v761.toNat, 0, 512]
def k0_off158 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v777 : Index := Scalar.indexCast v139
  let c0_423 : Index := 0#32
  let c5_424 : Index := 5#32
  ![v777.toNat, 0, 5]
def k0_off159 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v785 : Index := Scalar.indexCast arg29
  let c0_425 : Index := 0#32
  let c640 : Index := 640#32
  ![v785.toNat, 0, 640]
def k0_off160 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v809 : Index := Scalar.indexCast v139
  let c128_437 : Index := 128#32
  let c4_438 : Index := 4#32
  ![v809.toNat, 128, 4]
def k0_off161 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v817 : Index := Scalar.indexCast arg29
  let c128_439 : Index := 128#32
  let c512_440 : Index := 512#32
  ![v817.toNat, 128, 512]
def k0_off162 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v833 : Index := Scalar.indexCast v139
  let c128_446 : Index := 128#32
  let c5_447 : Index := 5#32
  ![v833.toNat, 128, 5]
def k0_off163 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v841 : Index := Scalar.indexCast arg29
  let c128_448 : Index := 128#32
  let c640_449 : Index := 640#32
  ![v841.toNat, 128, 640]
def k0_off164 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v851 : Index := Scalar.indexCast arg29
  let c6 : Index := 6#32
  let c0_452 : Index := 0#32
  let c0_453 : Index := 0#32
  ![v851.toNat, 6, 0, 0]
def k0_off165 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v897 : Index := Scalar.indexCast arg29
  let c7 : Index := 7#32
  let c0_470 : Index := 0#32
  let c0_471 : Index := 0#32
  ![v897.toNat, 7, 0, 0]
def k0_off166 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v943 : Index := Scalar.indexCast arg29
  let c6_488 : Index := 6#32
  let c0_489 : Index := 0#32
  let c0_490 : Index := 0#32
  ![v943.toNat, 6, 0, 0]
def k0_off167 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v957 : Index := Scalar.indexCast v139
  let c0_497 : Index := 0#32
  let c6_498 : Index := 6#32
  ![v957.toNat, 0, 6]
def k0_off168 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v965 : Index := Scalar.indexCast arg29
  let c0_499 : Index := 0#32
  let c768 : Index := 768#32
  ![v965.toNat, 0, 768]
def k0_off169 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v981 : Index := Scalar.indexCast v139
  let c0_505 : Index := 0#32
  let c7_506 : Index := 7#32
  ![v981.toNat, 0, 7]
def k0_off170 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v989 : Index := Scalar.indexCast arg29
  let c0_507 : Index := 0#32
  let c896 : Index := 896#32
  ![v989.toNat, 0, 896]
def k0_off171 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1013 : Index := Scalar.indexCast v139
  let c128_519 : Index := 128#32
  let c6_520 : Index := 6#32
  ![v1013.toNat, 128, 6]
def k0_off172 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1021 : Index := Scalar.indexCast arg29
  let c128_521 : Index := 128#32
  let c768_522 : Index := 768#32
  ![v1021.toNat, 128, 768]
def k0_off173 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1037 : Index := Scalar.indexCast v139
  let c128_528 : Index := 128#32
  let c7_529 : Index := 7#32
  ![v1037.toNat, 128, 7]
def k0_off174 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1045 : Index := Scalar.indexCast arg29
  let c128_530 : Index := 128#32
  let c896_531 : Index := 896#32
  ![v1045.toNat, 128, 896]
def k0_off175 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v239 : Index := Scalar.indexCast arg29
  let c0 : Index := 0#32
  let c0_201 : Index := 0#32
  let c0_202 : Index := 0#32
  ![v239.toNat, 0, 0, 0]
def k0_off176 (k0_t1 : Fin k0_t1_loop.trips) (c0_i32_217 : BitVec 32) : Fin 3 → Nat :=
  let c0_i32_112 : BitVec 32 := 0#32
  let c1_i32_113 : BitVec 32 := 1#32
  let arg29 : BitVec 32 := Scf.iv c0_i32_112 c1_i32_113 k0_t1
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let v280 : Index := Scalar.indexCast v129
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c8_i32_216 : BitVec 32 := 8#32
  let v278 : BitVec 32 := Scalar.muli v139 c8_i32_216
  let v279 : BitVec 32 := Scalar.addi v278 c0_i32_217
  let v281 : Index := Scalar.indexCast v279
  let c0_218 : Index := 0#32
  ![v280.toNat, v281.toNat, 0]
def k0_off177 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v285 : Index := Scalar.indexCast arg29
  let c1 : Index := 1#32
  let c0_219 : Index := 0#32
  let c0_220 : Index := 0#32
  ![v285.toNat, 1, 0, 0]
def k0_off178 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v331 : Index := Scalar.indexCast arg29
  let c0_238 : Index := 0#32
  let c0_239 : Index := 0#32
  let c0_240 : Index := 0#32
  ![v331.toNat, 0, 0, 0]
def k0_off179 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v335 : Index := Scalar.indexCast v139
  let c0_241 : Index := 0#32
  let c0_242 : Index := 0#32
  ![v335.toNat, 0, 0]
def k0_off180 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v345 : Index := Scalar.indexCast v139
  let c0_247 : Index := 0#32
  let c0_248 : Index := 0#32
  ![v345.toNat, 0, 0]
def k0_off181 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v353 : Index := Scalar.indexCast arg29
  let c0_249 : Index := 0#32
  let c0_250 : Index := 0#32
  ![v353.toNat, 0, 0]
def k0_off182 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v369 : Index := Scalar.indexCast v139
  let c0_256 : Index := 0#32
  let c1_257 : Index := 1#32
  ![v369.toNat, 0, 1]
def k0_off183 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v377 : Index := Scalar.indexCast arg29
  let c0_258 : Index := 0#32
  let c128 : Index := 128#32
  ![v377.toNat, 0, 128]
def k0_off184 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v391 : Index := Scalar.indexCast v139
  let c128_264 : Index := 128#32
  let c0_265 : Index := 0#32
  ![v391.toNat, 128, 0]
def k0_off185 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v401 : Index := Scalar.indexCast v139
  let c128_270 : Index := 128#32
  let c0_271 : Index := 0#32
  ![v401.toNat, 128, 0]
def k0_off186 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v409 : Index := Scalar.indexCast arg29
  let c128_272 : Index := 128#32
  let c0_273 : Index := 0#32
  ![v409.toNat, 128, 0]
def k0_off187 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v425 : Index := Scalar.indexCast v139
  let c128_279 : Index := 128#32
  let c1_280 : Index := 1#32
  ![v425.toNat, 128, 1]
def k0_off188 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v433 : Index := Scalar.indexCast arg29
  let c128_281 : Index := 128#32
  let c128_282 : Index := 128#32
  ![v433.toNat, 128, 128]
def k0_off189 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v447 : Index := Scalar.indexCast v139
  let c256 : Index := 256#32
  let c0_288 : Index := 0#32
  ![v447.toNat, 256, 0]
def k0_off190 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v457 : Index := Scalar.indexCast v139
  let c256_293 : Index := 256#32
  let c0_294 : Index := 0#32
  ![v457.toNat, 256, 0]
def k0_off191 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v465 : Index := Scalar.indexCast arg29
  let c256_295 : Index := 256#32
  let c0_296 : Index := 0#32
  ![v465.toNat, 256, 0]
def k0_off192 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v481 : Index := Scalar.indexCast v139
  let c256_302 : Index := 256#32
  let c1_303 : Index := 1#32
  ![v481.toNat, 256, 1]
def k0_off193 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v489 : Index := Scalar.indexCast arg29
  let c256_304 : Index := 256#32
  let c128_305 : Index := 128#32
  ![v489.toNat, 256, 128]
def k0_off194 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v499 : Index := Scalar.indexCast arg29
  let c2 : Index := 2#32
  let c0_308 : Index := 0#32
  let c0_309 : Index := 0#32
  ![v499.toNat, 2, 0, 0]
def k0_off195 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v545 : Index := Scalar.indexCast arg29
  let c3 : Index := 3#32
  let c0_327 : Index := 0#32
  let c0_328 : Index := 0#32
  ![v545.toNat, 3, 0, 0]
def k0_off196 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v591 : Index := Scalar.indexCast arg29
  let c2_346 : Index := 2#32
  let c0_347 : Index := 0#32
  let c0_348 : Index := 0#32
  ![v591.toNat, 2, 0, 0]
def k0_off197 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v605 : Index := Scalar.indexCast v139
  let c0_355 : Index := 0#32
  let c2_356 : Index := 2#32
  ![v605.toNat, 0, 2]
def k0_off198 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v613 : Index := Scalar.indexCast arg29
  let c0_357 : Index := 0#32
  let c256_358 : Index := 256#32
  ![v613.toNat, 0, 256]
def k0_off199 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v629 : Index := Scalar.indexCast v139
  let c0_364 : Index := 0#32
  let c3_365 : Index := 3#32
  ![v629.toNat, 0, 3]
def k0_off200 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v637 : Index := Scalar.indexCast arg29
  let c0_366 : Index := 0#32
  let c384 : Index := 384#32
  ![v637.toNat, 0, 384]
def k0_off201 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v661 : Index := Scalar.indexCast v139
  let c128_378 : Index := 128#32
  let c2_379 : Index := 2#32
  ![v661.toNat, 128, 2]
def k0_off202 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v669 : Index := Scalar.indexCast arg29
  let c128_380 : Index := 128#32
  let c256_381 : Index := 256#32
  ![v669.toNat, 128, 256]
def k0_off203 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v685 : Index := Scalar.indexCast v139
  let c128_387 : Index := 128#32
  let c3_388 : Index := 3#32
  ![v685.toNat, 128, 3]
def k0_off204 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v693 : Index := Scalar.indexCast arg29
  let c128_389 : Index := 128#32
  let c384_390 : Index := 384#32
  ![v693.toNat, 128, 384]
def k0_off205 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v717 : Index := Scalar.indexCast v139
  let c256_402 : Index := 256#32
  let c2_403 : Index := 2#32
  ![v717.toNat, 256, 2]
def k0_off206 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v725 : Index := Scalar.indexCast arg29
  let c256_404 : Index := 256#32
  let c256_405 : Index := 256#32
  ![v725.toNat, 256, 256]
def k0_off207 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v741 : Index := Scalar.indexCast v139
  let c256_411 : Index := 256#32
  let c3_412 : Index := 3#32
  ![v741.toNat, 256, 3]
def k0_off208 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v749 : Index := Scalar.indexCast arg29
  let c256_413 : Index := 256#32
  let c384_414 : Index := 384#32
  ![v749.toNat, 256, 384]
def k0_off209 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v759 : Index := Scalar.indexCast arg29
  let c4 : Index := 4#32
  let c0_417 : Index := 0#32
  let c0_418 : Index := 0#32
  ![v759.toNat, 4, 0, 0]
def k0_off210 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v805 : Index := Scalar.indexCast arg29
  let c5 : Index := 5#32
  let c0_436 : Index := 0#32
  let c0_437 : Index := 0#32
  ![v805.toNat, 5, 0, 0]
def k0_off211 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v851 : Index := Scalar.indexCast arg29
  let c4_454 : Index := 4#32
  let c0_455 : Index := 0#32
  let c0_456 : Index := 0#32
  ![v851.toNat, 4, 0, 0]
def k0_off212 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v865 : Index := Scalar.indexCast v139
  let c0_463 : Index := 0#32
  let c4_464 : Index := 4#32
  ![v865.toNat, 0, 4]
def k0_off213 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v873 : Index := Scalar.indexCast arg29
  let c0_465 : Index := 0#32
  let c512 : Index := 512#32
  ![v873.toNat, 0, 512]
def k0_off214 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v889 : Index := Scalar.indexCast v139
  let c0_471 : Index := 0#32
  let c5_472 : Index := 5#32
  ![v889.toNat, 0, 5]
def k0_off215 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v897 : Index := Scalar.indexCast arg29
  let c0_473 : Index := 0#32
  let c640 : Index := 640#32
  ![v897.toNat, 0, 640]
def k0_off216 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v921 : Index := Scalar.indexCast v139
  let c128_485 : Index := 128#32
  let c4_486 : Index := 4#32
  ![v921.toNat, 128, 4]
def k0_off217 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v929 : Index := Scalar.indexCast arg29
  let c128_487 : Index := 128#32
  let c512_488 : Index := 512#32
  ![v929.toNat, 128, 512]
def k0_off218 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v945 : Index := Scalar.indexCast v139
  let c128_494 : Index := 128#32
  let c5_495 : Index := 5#32
  ![v945.toNat, 128, 5]
def k0_off219 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v953 : Index := Scalar.indexCast arg29
  let c128_496 : Index := 128#32
  let c640_497 : Index := 640#32
  ![v953.toNat, 128, 640]
def k0_off220 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v977 : Index := Scalar.indexCast v139
  let c256_509 : Index := 256#32
  let c4_510 : Index := 4#32
  ![v977.toNat, 256, 4]
def k0_off221 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v985 : Index := Scalar.indexCast arg29
  let c256_511 : Index := 256#32
  let c512_512 : Index := 512#32
  ![v985.toNat, 256, 512]
def k0_off222 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1001 : Index := Scalar.indexCast v139
  let c256_518 : Index := 256#32
  let c5_519 : Index := 5#32
  ![v1001.toNat, 256, 5]
def k0_off223 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1009 : Index := Scalar.indexCast arg29
  let c256_520 : Index := 256#32
  let c640_521 : Index := 640#32
  ![v1009.toNat, 256, 640]
def k0_off224 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v1019 : Index := Scalar.indexCast arg29
  let c6 : Index := 6#32
  let c0_524 : Index := 0#32
  let c0_525 : Index := 0#32
  ![v1019.toNat, 6, 0, 0]
def k0_off225 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v1065 : Index := Scalar.indexCast arg29
  let c7 : Index := 7#32
  let c0_542 : Index := 0#32
  let c0_543 : Index := 0#32
  ![v1065.toNat, 7, 0, 0]
def k0_off226 (k0_t1 : Fin k0_t1_loop.trips) : Fin 4 → Nat :=
  let c0_i32_112 : BitVec 32 := 0#32
  let c1_i32_113 : BitVec 32 := 1#32
  let arg29 : BitVec 32 := Scf.iv c0_i32_112 c1_i32_113 k0_t1
  let v1111 : Index := Scalar.indexCast arg29
  let c6_560 : Index := 6#32
  let c0_561 : Index := 0#32
  let c0_562 : Index := 0#32
  ![v1111.toNat, 6, 0, 0]
def k0_off227 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1125 : Index := Scalar.indexCast v139
  let c0_569 : Index := 0#32
  let c6_570 : Index := 6#32
  ![v1125.toNat, 0, 6]
def k0_off228 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1133 : Index := Scalar.indexCast arg29
  let c0_571 : Index := 0#32
  let c768 : Index := 768#32
  ![v1133.toNat, 0, 768]
def k0_off229 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1149 : Index := Scalar.indexCast v139
  let c0_577 : Index := 0#32
  let c7_578 : Index := 7#32
  ![v1149.toNat, 0, 7]
def k0_off230 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1157 : Index := Scalar.indexCast arg29
  let c0_579 : Index := 0#32
  let c896 : Index := 896#32
  ![v1157.toNat, 0, 896]
def k0_off231 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1181 : Index := Scalar.indexCast v139
  let c128_591 : Index := 128#32
  let c6_592 : Index := 6#32
  ![v1181.toNat, 128, 6]
def k0_off232 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1189 : Index := Scalar.indexCast arg29
  let c128_593 : Index := 128#32
  let c768_594 : Index := 768#32
  ![v1189.toNat, 128, 768]
def k0_off233 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1205 : Index := Scalar.indexCast v139
  let c128_600 : Index := 128#32
  let c7_601 : Index := 7#32
  ![v1205.toNat, 128, 7]
def k0_off234 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1213 : Index := Scalar.indexCast arg29
  let c128_602 : Index := 128#32
  let c896_603 : Index := 896#32
  ![v1213.toNat, 128, 896]
def k0_off235 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1237 : Index := Scalar.indexCast v139
  let c256_615 : Index := 256#32
  let c6_616 : Index := 6#32
  ![v1237.toNat, 256, 6]
def k0_off236 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1245 : Index := Scalar.indexCast arg29
  let c256_617 : Index := 256#32
  let c768_618 : Index := 768#32
  ![v1245.toNat, 256, 768]
def k0_off237 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let v1261 : Index := Scalar.indexCast v139
  let c256_624 : Index := 256#32
  let c7_625 : Index := 7#32
  ![v1261.toNat, 256, 7]
def k0_off238 (k0_t1 : Fin k0_t1_loop.trips) : Fin 3 → Nat :=
  let c0_i32_112 : BitVec 32 := 0#32
  let c1_i32_113 : BitVec 32 := 1#32
  let arg29 : BitVec 32 := Scf.iv c0_i32_112 c1_i32_113 k0_t1
  let v1269 : Index := Scalar.indexCast arg29
  let c256_626 : Index := 256#32
  let c896_627 : Index := 896#32
  ![v1269.toNat, 256, 896]
@[reducible] def k0_t2_loop : Scf.Loop 32 :=
  let c0_i32_129 : BitVec 32 := 0#32
  let c20_i32_130 : BitVec 32 := 20#32
  let v112 : BitVec 32 := Scalar.addi c0_i32_129 c20_i32_130
  let c1_i32_131 : BitVec 32 := 1#32
  ⟨c0_i32_129, v112, c1_i32_131⟩
def k0_off239 (k0_t2 : Fin k0_t2_loop.trips) : Fin 3 → Nat :=
  let c0_i32_129 : BitVec 32 := 0#32
  let c1_i32_131 : BitVec 32 := 1#32
  let arg29 : BitVec 32 := Scf.iv c0_i32_129 c1_i32_131 k0_t2
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c0_i32_148 : BitVec 32 := 0#32
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c1024_i32_146 : BitVec 32 := 1024#32
  let v140 : BitVec 32 := Scalar.muli v139 c1024_i32_146
  ![v129.toNat, 0, v140.toNat]
def k0_off240 (k0_t2 : Fin k0_t2_loop.trips) : Fin 3 → Nat :=
  let c0_i32_129 : BitVec 32 := 0#32
  let c1_i32_131 : BitVec 32 := 1#32
  let arg29 : BitVec 32 := Scf.iv c0_i32_129 c1_i32_131 k0_t2
  let c0_i32_149 : BitVec 32 := 0#32
  let c0_i32_150 : BitVec 32 := 0#32
  ![arg29.toNat, 0, 0]
def k0_off241 (k0_t2 : Fin k0_t2_loop.trips) : Fin 4 → Nat :=
  let c0_i32_129 : BitVec 32 := 0#32
  let c1_i32_131 : BitVec 32 := 1#32
  let arg29 : BitVec 32 := Scf.iv c0_i32_129 c1_i32_131 k0_t2
  let c0_i32_134 : BitVec 32 := 0#32
  let v114 : BitVec 1 := Scalar.cmpi .sgt arg29 c0_i32_134
  let v115 : BitVec 32 := Scalar.extui v114
  let c0_i32_135 : BitVec 32 := 0#32
  let v116 : BitVec 1 := Scalar.cmpi .slt arg29 c0_i32_135
  let v117 : BitVec 32 := Scalar.extui v116
  let v118 : BitVec 32 := Scalar.subi v115 v117
  let c4_i32_133 : BitVec 32 := 4#32
  let c0_i32_136 : BitVec 32 := 0#32
  let v119 : BitVec 1 := Scalar.cmpi .sgt c4_i32_133 c0_i32_136
  let v120 : BitVec 32 := Scalar.extui v119
  let c0_i32_137 : BitVec 32 := 0#32
  let v121 : BitVec 1 := Scalar.cmpi .slt c4_i32_133 c0_i32_137
  let v122 : BitVec 32 := Scalar.extui v121
  let v123 : BitVec 32 := Scalar.subi v120 v122
  let v124 : BitVec 1 := Scalar.cmpi .ne v118 v123
  let v125 : BitVec 32 := Scalar.remsi arg29 c4_i32_133
  let c0_i32_138 : BitVec 32 := 0#32
  let v126 : BitVec 1 := Scalar.cmpi .ne v125 c0_i32_138
  let v127 : BitVec 1 := Scalar.andi v124 v126
  let v113 : BitVec 32 := Scalar.divsi arg29 c4_i32_133
  let c1_i32_139 : BitVec 32 := 1#32
  let v128 : BitVec 32 := Scalar.subi v113 c1_i32_139
  let v129 : BitVec 32 := Scalar.select v127 v128 v113
  let c4_i32_140 : BitVec 32 := 4#32
  let c0_i32_141 : BitVec 32 := 0#32
  let v130 : BitVec 1 := Scalar.cmpi .eq c4_i32_140 c0_i32_141
  let c1_i32_142 : BitVec 32 := 1#32
  let v131 : BitVec 32 := Scalar.select v130 c1_i32_142 c4_i32_140
  let v132 : BitVec 32 := Scalar.remsi arg29 v131
  let c0_i32_144 : BitVec 32 := 0#32
  let v134 : BitVec 1 := Scalar.cmpi .slt v132 c0_i32_144
  let c0_i32_145 : BitVec 32 := 0#32
  let v135 : BitVec 1 := Scalar.cmpi .slt v131 c0_i32_145
  let v136 : BitVec 1 := Scalar.xori v134 v135
  let c0_i32_143 : BitVec 32 := 0#32
  let v133 : BitVec 1 := Scalar.cmpi .ne v132 c0_i32_143
  let v137 : BitVec 1 := Scalar.andi v136 v133
  let v138 : BitVec 32 := Scalar.addi v132 v131
  let v139 : BitVec 32 := Scalar.select v137 v138 v132
  let c8_i32_147 : BitVec 32 := 8#32
  let v141 : BitVec 32 := Scalar.muli v139 c8_i32_147
  let c0_i32_151 : BitVec 32 := 0#32
  let c0_i32_152 : BitVec 32 := 0#32
  ![v129.toNat, v141.toNat, 0, 0]
def k0_off242 (k0_t2 : Fin k0_t2_loop.trips) : Fin 4 → Nat :=
  let c0_i32_129 : BitVec 32 := 0#32
  let c1_i32_131 : BitVec 32 := 1#32
  let arg29 : BitVec 32 := Scf.iv c0_i32_129 c1_i32_131 k0_t2
  let c0_i32_153 : BitVec 32 := 0#32
  let c0_i32_154 : BitVec 32 := 0#32
  let c0_i32_155 : BitVec 32 := 0#32
  ![arg29.toNat, 0, 0, 0]
-- ==== KernelIdeal.lean ====
abbrev S768x256 : Shape := ⟨2, ![768, 256]⟩
variable {F : FTy → Type} [FloatOps F]
-- ==== ReferenceIdeal.lean ====
abbrev S5x384x4096 : Shape := ⟨3, ![5, 384, 4096]⟩
abbrev S5x384x4x256 : Shape := ⟨4, ![5, 384, 4, 256]⟩
abbrev S5x384x32 : Shape := ⟨3, ![5, 384, 32]⟩
abbrev S32 : Shape := ⟨1, ![32]⟩
abbrev S5x32x128x256 : Shape := ⟨4, ![5, 32, 128, 256]⟩
abbrev S5x32x128 : Shape := ⟨3, ![5, 32, 128]⟩
abbrev S5 : Shape := ⟨1, ![5]⟩
abbrev S1x1x32 : Shape := ⟨3, ![1, 1, 32]⟩
abbrev S_ : Shape := ⟨0, ![]⟩
abbrev S384 : Shape := ⟨1, ![384]⟩
abbrev S1x384 : Shape := ⟨2, ![1, 384]⟩
abbrev S5x1 : Shape := ⟨2, ![5, 1]⟩
abbrev S5x384 : Shape := ⟨2, ![5, 384]⟩
abbrev S5x384x1 : Shape := ⟨3, ![5, 384, 1]⟩
abbrev S5x1x32 : Shape := ⟨3, ![5, 1, 32]⟩
abbrev S5x32 : Shape := ⟨2, ![5, 32]⟩
abbrev S5x32x1x1 : Shape := ⟨4, ![5, 32, 1, 1]⟩
abbrev S5x32x128x1 : Shape := ⟨4, ![5, 32, 128, 1]⟩
abbrev S5x4x8x128x256 : Shape := ⟨5, ![5, 4, 8, 128, 256]⟩
abbrev S5x4x8x128x384 : Shape := ⟨5, ![5, 4, 8, 128, 384]⟩
abbrev S5x384x4x8x128 : Shape := ⟨5, ![5, 384, 4, 8, 128]⟩
abbrev S5x1x4x8x128 : Shape := ⟨5, ![5, 1, 4, 8, 128]⟩
abbrev S5x384x4x8x1 : Shape := ⟨5, ![5, 384, 4, 8, 1]⟩

abbrev nBuf : Space → Nat
  | .hbm => 56
  | .vmem => 7
  | .smem => 0
  | _ => 0

abbrev bufTy : (tb : Table) → Fin (tcTables nBuf tb) → BufTy
  | .hbm, ⟨0, _⟩ => ⟨S5x384x4096, .bf16⟩
  | .hbm, ⟨1, _⟩ => ⟨S5x384x4x256, .bf16⟩
  | .hbm, ⟨2, _⟩ => ⟨S5x384x32, .f32⟩
  | .hbm, ⟨3, _⟩ => ⟨S32, .f32⟩
  | .hbm, ⟨4, _⟩ => ⟨S5x32x128x256, .fp8e4m3⟩
  | .hbm, ⟨5, _⟩ => ⟨S5x32x128, .f32⟩
  | .hbm, ⟨6, _⟩ => ⟨S5x32x128x256, .f32⟩
  | .hbm, ⟨7, _⟩ => ⟨S5, .i32⟩
  | .hbm, ⟨8, _⟩ => ⟨S32, .f32⟩
  | .hbm, ⟨9, _⟩ => ⟨S32, .f32⟩
  | .hbm, ⟨10, _⟩ => ⟨S1x1x32, .f32⟩
  | .hbm, ⟨11, _⟩ => ⟨S5x384x32, .f32⟩
  | .hbm, ⟨12, _⟩ => ⟨S5x384x32, .f32⟩
  | .hbm, ⟨13, _⟩ => ⟨S_, .f32⟩
  | .hbm, ⟨14, _⟩ => ⟨S_, .f32⟩
  | .hbm, ⟨15, _⟩ => ⟨S5x384x32, .f32⟩
  | .hbm, ⟨16, _⟩ => ⟨S5x384x32, .f32⟩
  | .hbm, ⟨17, _⟩ => ⟨S384, .i32⟩
  | .hbm, ⟨18, _⟩ => ⟨S1x384, .i32⟩
  | .hbm, ⟨19, _⟩ => ⟨S5x1, .i32⟩
  | .hbm, ⟨20, _⟩ => ⟨S5x384, .i32⟩
  | .hbm, ⟨21, _⟩ => ⟨S5x384, .i32⟩
  | .hbm, ⟨22, _⟩ => ⟨S5x384, .i1⟩
  | .hbm, ⟨23, _⟩ => ⟨S5x384x1, .i1⟩
  | .hbm, ⟨24, _⟩ => ⟨S_, .f32⟩
  | .hbm, ⟨25, _⟩ => ⟨S_, .f32⟩
  | .hbm, ⟨26, _⟩ => ⟨S5x384x32, .i1⟩
  | .hbm, ⟨27, _⟩ => ⟨S5x384x32, .f32⟩
  | .hbm, ⟨28, _⟩ => ⟨S5x384x32, .f32⟩
  | .hbm, ⟨29, _⟩ => ⟨S_, .i32⟩
  | .hbm, ⟨30, _⟩ => ⟨S5, .i32⟩
  | .hbm, ⟨31, _⟩ => ⟨S5, .i1⟩
  | .hbm, ⟨32, _⟩ => ⟨S5x1, .i1⟩
  | .hbm, ⟨33, _⟩ => ⟨S5x1x32, .f32⟩
  | .hbm, ⟨34, _⟩ => ⟨S5x32, .f32⟩
  | .hbm, ⟨35, _⟩ => ⟨S_, .f32⟩
  | .hbm, ⟨36, _⟩ => ⟨S_, .f32⟩
  | .hbm, ⟨37, _⟩ => ⟨S5x32, .i1⟩
  | .hbm, ⟨38, _⟩ => ⟨S5x32, .f32⟩
  | .hbm, ⟨39, _⟩ => ⟨S5x32, .f32⟩
  | .hbm, ⟨40, _⟩ => ⟨S5x32x128x256, .bf16⟩
  | .hbm, ⟨41, _⟩ => ⟨S5x32x128x256, .fp8e4m3⟩
  | .hbm, ⟨42, _⟩ => ⟨S5x32x128, .f32⟩
  | .hbm, ⟨43, _⟩ => ⟨S5x4x8x128x256, .bf16⟩
  | .hbm, ⟨44, _⟩ => ⟨S5x4x8x128x384, .f32⟩
  | .hbm, ⟨45, _⟩ => ⟨S5x384x4x8x128, .f32⟩
  | .hbm, ⟨46, _⟩ => ⟨S5x1x4x8x128, .f32⟩
  | .hbm, ⟨47, _⟩ => ⟨S5x384x4x8x128, .f32⟩
  | .hbm, ⟨48, _⟩ => ⟨S5x384x4x8x128, .f32⟩
  | .hbm, ⟨49, _⟩ => ⟨S5x384x4x8x1, .f32⟩
  | .hbm, ⟨50, _⟩ => ⟨S5x384x4x8x128, .f32⟩
  | .hbm, ⟨51, _⟩ => ⟨S5x384x4x8x128, .f32⟩
  | .hbm, ⟨52, _⟩ => ⟨S5x384x4096, .f32⟩
  | .hbm, ⟨53, _⟩ => ⟨S5x384x4096, .f32⟩
  | .hbm, ⟨54, _⟩ => ⟨S5x384x4096, .f32⟩
  | .hbm, ⟨55, _⟩ => ⟨S5x384x4096, .bf16⟩
  | .local _ .vmem, ⟨0, _⟩ => ⟨S5x32x128x256, .fp8e4m3⟩
  | .local _ .vmem, ⟨1, _⟩ => ⟨S5x32x128, .f32⟩
  | .local _ .vmem, ⟨2, _⟩ => ⟨S5x32x128x256, .f32⟩
  | .local _ .vmem, ⟨3, _⟩ => ⟨S5x32, .f32⟩
  | .local _ .vmem, ⟨4, _⟩ => ⟨S5x32x128x256, .bf16⟩
  | .local _ .vmem, ⟨5, _⟩ => ⟨S5x32x128x256, .fp8e4m3⟩
  | .local _ .vmem, ⟨6, _⟩ => ⟨S5x32x128, .f32⟩
  | _, _ => ⟨S5x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x32x128x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x32x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x32x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x32x128x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BranchIdeal.lean ====
module

public import proofs.«01_k».proof.Proof.Gen.KernelIdeal.Loops

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]

/-! # The four branches of a trip as sequences of two kinds of step

A trip's branch is printed as one long list of loads and stores.  It is a sequence of *head* steps
(quantise one head of the state) and *pair* steps (correct two heads of one token block of `y`).
Here the steps are written once, over their offsets, and each branch is shown to be their sequence. -/

/-- A buffer in HBM, and one in VMEM. -/
abbrev MH (s : Shape) (e : EltTy) := Memref sig .tc .hbm s e
abbrev MV (s : Shape) (e : EltTy) := Memref sig .tc .vmem s e
/-- One program of this kernel. -/
abbrev KProg (α : Type) : Type 1 := Prog (TpuEff nD τ sig (Elt F) Λ₀ .tc) α

/-- The codes of a state head that takes no carry. -/
def qPay (h : Vec F S1x1x128x256 .f32) : Vec F S1x1x128x256 .fp8e4m3 := k0_pay248 h
/-- The scales of a state head that takes no carry. -/
def sPay (v98 : IVec S128x128 1) (h : Vec F S1x1x128x256 .f32) : Vec F S1x1x128 .f32 := k0_pay250 (k0_pay249 v98 h)
/-- The codes of a state head with the carried state added. -/
def qPayC (v98 : IVec S128x128 1) (h : Vec F S1x1x128x256 .f32) (sc : Vec F S1x1x128 .f32) (fd : Vec F S1x1x1 .f32)
    (co : Vec F S1x1x128x256 .fp8e4m3) : Vec F S1x1x128x256 .fp8e4m3 :=
  k0_pay146 (k0_pay140 v98 h sc fd co) (k0_pay142 v98 h sc fd co) (k0_pay143 v98 h sc fd co) k0_pay144
/-- The scales of a state head with the carried state added. -/
def sPayC (v98 : IVec S128x128 1) (h : Vec F S1x1x128x256 .f32) (sc : Vec F S1x1x128 .f32) (fd : Vec F S1x1x1 .f32)
    (co : Vec F S1x1x128x256 .fp8e4m3) : Vec F S1x1x128 .f32 :=
  k0_pay147 v98 (k0_pay142 v98 h sc fd co) (k0_pay143 v98 h sc fd co) k0_pay144
/-- The corrected block of the pair's first head. -/
def yPayA (co : Vec F S1x2x128x256 .fp8e4m3) (cg : Vec F S1x128x256 .bf16) (sc : Vec F S1x1x128 .f32)
    (w : Vec F S1x128x1 .f32) (y : Vec F S1x128x128 .bf16) : Vec F S1x128x128 .bf16 :=
  k0_pay258 (k0_pay257 co cg sc w y)
/-- The corrected block of the pair's second head. -/
def yPayB (co : Vec F S1x2x128x256 .fp8e4m3) (cg : Vec F S1x128x256 .bf16) (sc : Vec F S1x1x128 .f32)
    (w : Vec F S1x128x1 .f32) (y : Vec F S1x128x128 .bf16) : Vec F S1x128x128 .bf16 :=
  k0_pay259 (k0_pay256 co cg) sc w y

/-- Quantise one head of the state, no carry. -/
def headN (a12 : Memref sig .tc .vmem S20x8x128x256 .f32) (a14 : Memref sig .tc .vmem S20x8x128x256 .fp8e4m3)
    (a22 : Memref sig .tc .vmem S5x32x128 .f32) (v98 : IVec S128x128 1)
    (oH : Fin 4 → ℕ) (hH : ∀ a, oH a + S1x1x128x256.size a ≤ S20x8x128x256.size a)
    (oS : Fin 3 → ℕ) (hS : ∀ a, oS a + S1x1x128.size a ≤ S5x32x128.size a)
    (xH : (a14.access (Rect.unit (s := S20x8x128x256) oH S1x1x128x256.size hH)).Stores Finset.univ)
    (xS : (a22.access (Rect.unit (s := S5x32x128) oS S1x1x128.size hS)).Stores Finset.univ) : KProg (F := F) Unit := do
  let h : Vec F S1x1x128x256 .f32 ← Prog.lift (.load a12 (Rect.unit (s := S20x8x128x256) oH S1x1x128x256.size hH).toLoadRect (View.loadsAt_vmem h_S1x1x128x256))
  let _ : Vec F S1x1x128x256 .fp8e4m3 ← Prog.lift (.load a14 (Rect.unit (s := S20x8x128x256) oH S1x1x128x256.size hH).toLoadRect (View.loadsAt_vmem h_S1x1x128x256))
  Prog.lift (.store a14 (Rect.unit (s := S20x8x128x256) oH S1x1x128x256.size hH) (qPay h) Finset.univ xH (.inl rfl))
  let _ : Vec F S1x1x128 .f32 ← Prog.lift (.load a22 (Rect.unit (s := S5x32x128) oS S1x1x128.size hS).toLoadRect (View.loadsAt_vmem h_S1x1x128))
  Prog.lift (.store a22 (Rect.unit (s := S5x32x128) oS S1x1x128.size hS) (sPay v98 h) Finset.univ xS (.inl rfl))

/-- Quantise one head of the state, the carried state added. -/
def headC (a12 : Memref sig .tc .vmem S20x8x128x256 .f32) (a13 a14 : Memref sig .tc .vmem S20x8x128x256 .fp8e4m3)
    (a19 : Memref sig .tc .vmem S4x1x8 .f32) (a21 a22 : Memref sig .tc .vmem S5x32x128 .f32) (v98 : IVec S128x128 1)
    (oH : Fin 4 → ℕ) (hH : ∀ a, oH a + S1x1x128x256.size a ≤ S20x8x128x256.size a)
    (oS : Fin 3 → ℕ) (hS : ∀ a, oS a + S1x1x128.size a ≤ S5x32x128.size a)
    (oF : Fin 3 → ℕ) (hF : ∀ a, oF a + S1x1x1.size a ≤ S4x1x8.size a)
    (xH : (a14.access (Rect.unit (s := S20x8x128x256) oH S1x1x128x256.size hH)).Stores Finset.univ)
    (xS : (a22.access (Rect.unit (s := S5x32x128) oS S1x1x128.size hS)).Stores Finset.univ) : KProg (F := F) Unit := do
  let h : Vec F S1x1x128x256 .f32 ← Prog.lift (.load a12 (Rect.unit (s := S20x8x128x256) oH S1x1x128x256.size hH).toLoadRect (View.loadsAt_vmem h_S1x1x128x256))
  let sc : Vec F S1x1x128 .f32 ← Prog.lift (.load a21 (Rect.unit (s := S5x32x128) oS S1x1x128.size hS).toLoadRect (View.loadsAt_vmem h_S1x1x128))
  let fd : Vec F S1x1x1 .f32 ← Prog.lift (.load a19 (Rect.unit (s := S4x1x8) oF S1x1x1.size hF).toLoadRect (View.loadsAt_vmem h_S1x1x1))
  let co : Vec F S1x1x128x256 .fp8e4m3 ← Prog.lift (.load a13 (Rect.unit (s := S20x8x128x256) oH S1x1x128x256.size hH).toLoadRect (View.loadsAt_vmem h_S1x1x128x256))
  let _ : Vec F S1x1x128x256 .fp8e4m3 ← Prog.lift (.load a14 (Rect.unit (s := S20x8x128x256) oH S1x1x128x256.size hH).toLoadRect (View.loadsAt_vmem h_S1x1x128x256))
  Prog.lift (.store a14 (Rect.unit (s := S20x8x128x256) oH S1x1x128x256.size hH) (qPayC v98 h sc fd co) Finset.univ xH (.inl rfl))
  let _ : Vec F S1x1x128 .f32 ← Prog.lift (.load a22 (Rect.unit (s := S5x32x128) oS S1x1x128.size hS).toLoadRect (View.loadsAt_vmem h_S1x1x128))
  Prog.lift (.store a22 (Rect.unit (s := S5x32x128) oS S1x1x128.size hS) (sPayC v98 h sc fd co) Finset.univ xS (.inl rfl))

/-- Correct one token block of `y` for one pair of heads. -/
def yPair (a11 : Memref sig .tc .vmem S20x384x1024 .bf16) (a13 : Memref sig .tc .vmem S20x8x128x256 .fp8e4m3)
    (a16 : Memref sig .tc .vmem S4x384x256 .bf16) (a18 : Memref sig .tc .vmem S4x384x8 .f32) (a21 : Memref sig .tc .vmem S5x32x128 .f32)
    (oC : Fin 4 → ℕ) (hC : ∀ a, oC a + S1x2x128x256.size a ≤ S20x8x128x256.size a)
    (oG : Fin 3 → ℕ) (hG : ∀ a, oG a + S1x128x256.size a ≤ S4x384x256.size a)
    (oS : Fin 3 → ℕ) (hS : ∀ a, oS a + S1x1x128.size a ≤ S5x32x128.size a)
    (oW : Fin 3 → ℕ) (hW : ∀ a, oW a + S1x128x1.size a ≤ S4x384x8.size a)
    (oY : Fin 3 → ℕ) (hY : ∀ a, oY a + S1x128x128.size a ≤ S20x384x1024.size a)
    (oS' : Fin 3 → ℕ) (hS' : ∀ a, oS' a + S1x1x128.size a ≤ S5x32x128.size a)
    (oW' : Fin 3 → ℕ) (hW' : ∀ a, oW' a + S1x128x1.size a ≤ S4x384x8.size a)
    (oY' : Fin 3 → ℕ) (hY' : ∀ a, oY' a + S1x128x128.size a ≤ S20x384x1024.size a)
    (xY : (a11.access (Rect.unit (s := S20x384x1024) oY S1x128x128.size hY)).Stores Finset.univ)
    (xY' : (a11.access (Rect.unit (s := S20x384x1024) oY' S1x128x128.size hY')).Stores Finset.univ) : KProg (F := F) Unit := do
  let co : Vec F S1x2x128x256 .fp8e4m3 ← Prog.lift (.load a13 (Rect.unit (s := S20x8x128x256) oC S1x2x128x256.size hC).toLoadRect (View.loadsAt_vmem h_S1x2x128x256))
  let cg : Vec F S1x128x256 .bf16 ← Prog.lift (.load a16 (Rect.unit (s := S4x384x256) oG S1x128x256.size hG).toLoadRect (View.loadsAt_vmem h_S1x128x256))
  let sc : Vec F S1x1x128 .f32 ← Prog.lift (.load a21 (Rect.unit (s := S5x32x128) oS S1x1x128.size hS).toLoadRect (View.loadsAt_vmem h_S1x1x128))
  let w : Vec F S1x128x1 .f32 ← Prog.lift (.load a18 (Rect.unit (s := S4x384x8) oW S1x128x1.size hW).toLoadRect (View.loadsAt_vmem h_S1x128x1))
  let y : Vec F S1x128x128 .bf16 ← Prog.lift (.load a11 (Rect.unit (s := S20x384x1024) oY S1x128x128.size hY).toLoadRect (View.loadsAt_vmem h_S1x128x128))
  let _ : Vec F S1x128x128 .bf16 ← Prog.lift (.load a11 (Rect.unit (s := S20x384x1024) oY S1x128x128.size hY).toLoadRect (View.loadsAt_vmem h_S1x128x128))
  Prog.lift (.store a11 (Rect.unit (s := S20x384x1024) oY S1x128x128.size hY) (yPayA co cg sc w y) Finset.univ xY (.inl rfl))
  let sc' : Vec F S1x1x128 .f32 ← Prog.lift (.load a21 (Rect.unit (s := S5x32x128) oS' S1x1x128.size hS').toLoadRect (View.loadsAt_vmem h_S1x1x128))
  let w' : Vec F S1x128x1 .f32 ← Prog.lift (.load a18 (Rect.unit (s := S4x384x8) oW' S1x128x1.size hW').toLoadRect (View.loadsAt_vmem h_S1x128x1))
  let y' : Vec F S1x128x128 .bf16 ← Prog.lift (.load a11 (Rect.unit (s := S20x384x1024) oY' S1x128x128.size hY').toLoadRect (View.loadsAt_vmem h_S1x128x128))
  let _ : Vec F S1x128x128 .bf16 ← Prog.lift (.load a11 (Rect.unit (s := S20x384x1024) oY' S1x128x128.size hY').toLoadRect (View.loadsAt_vmem h_S1x128x128))
  Prog.lift (.store a11 (Rect.unit (s := S20x384x1024) oY' S1x128x128.size hY') (yPayB co cg sc' w' y') Finset.univ xY' (.inl rfl))

/-- Branch C of a trip, as printed. -/
def branchC
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) : KProg (F := F) PUnit := do
    let ⟨v265, v270, v278, v279⟩ : Σ' (v265 : FVec F S128x256 .f32) (v270 : IVec S128x1 1) (v278 : FVec F S128x1 .f32), FVec F S128x1 .f32 ← k0_part31 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139
    let ⟨v311, cst_234, v319⟩ : Σ' (v311 : FVec F S128x256 .f32) (cst_234 : F .f32), FVec F S128x128 .f32 ← k0_part32 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v265 v270 v278 v279
    let ⟨v350, v360⟩ : Σ' (v350 : FVec F S128x1 .f32), FVec F S128x256 .fp8e4m3 ← k0_part33 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139 v311 cst_234 v319
    let ⟨v386, v400⟩ : Σ' (v386 : FVec F S128x256 .f32), FVec F S128x128 .f32 ← k0_part34 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v350 v360
    let v442 : FVec F S128x256 .f32 ← k0_part35 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v386 v400
    let v485 : FVec F S128x128 .f32 ← k0_part36 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v442
    let ⟨v498, v524⟩ : Σ' (v498 : FVec F S128x256 .f32), BitVec 32 ← k0_part37 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v485
    let ⟨v549, v561, v564⟩ : Σ' (v549 : FVec F S128x256 .f32) (v561 : FVec F S128x1 .f32), FVec F S1x1 .f32 ← k0_part38 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v498 v524
    let v608 : FVec F S128 .f32 ← k0_part39 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v549 v561 v564
    let ⟨v643, v646, v648, cst_371⟩ : Σ' (v643 : FVec F S128x256 .f32) (v646 : FVec F S128x1 .f32) (v648 : IVec S128x1 1), F .f32 ← k0_part40 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v608
    let v689 : FVec F S2x128x256 .fp8e4m3 ← k0_part41 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v643 v646 v648 cst_371
    let ⟨v730, v731⟩ : Σ' (v730 : FVec F S128x128 .f32), FVec F S128x128 .f32 ← k0_part42 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v689
    let ⟨v750, v770⟩ : Σ' (v750 : FVec F S128x256 .f32), FVec F S128x128 .bf16 ← k0_part43 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v730 v731
    let ⟨v806, v811⟩ : Σ' (v806 : FVec F S128x256 .f32), Vec F S1x1x128 .f32 ← k0_part44 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v750 v770
    k0_part45 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v806 v811
    let ⟨v881, v886, v894, v895⟩ : Σ' (v881 : FVec F S128x256 .f32) (v886 : IVec S128x1 1) (v894 : FVec F S128x1 .f32), FVec F S128x1 .f32 ← k0_part46 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139
    let ⟨v927, cst_490, v935⟩ : Σ' (v927 : FVec F S128x256 .f32) (cst_490 : F .f32), FVec F S128x128 .f32 ← k0_part47 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v881 v886 v894 v895
    let ⟨v966, v976⟩ : Σ' (v966 : FVec F S128x1 .f32), FVec F S128x256 .fp8e4m3 ← k0_part48 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139 v927 cst_490 v935
    let ⟨v1002, v1016⟩ : Σ' (v1002 : FVec F S128x256 .f32), FVec F S128x128 .f32 ← k0_part49 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v966 v976
    let v1058 : FVec F S128x256 .f32 ← k0_part50 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1002 v1016
    let v1101 : FVec F S128x128 .f32 ← k0_part51 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1058
    let ⟨v1114, v1140⟩ : Σ' (v1114 : FVec F S128x256 .f32), BitVec 32 ← k0_part52 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1101
    let ⟨v1165, v1177, v1180⟩ : Σ' (v1165 : FVec F S128x256 .f32) (v1177 : FVec F S128x1 .f32), FVec F S1x1 .f32 ← k0_part53 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v1114 v1140
    let v1224 : FVec F S128 .f32 ← k0_part54 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v1165 v1177 v1180
    let ⟨v1259, v1262, v1264, cst_625⟩ : Σ' (v1259 : FVec F S128x256 .f32) (v1262 : FVec F S128x1 .f32) (v1264 : IVec S128x1 1), F .f32 ← k0_part55 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v1224
    let v1305 : FVec F S2x128x256 .fp8e4m3 ← k0_part56 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v1259 v1262 v1264 cst_625
    let ⟨v1346, v1347⟩ : Σ' (v1346 : FVec F S128x128 .f32), FVec F S128x128 .f32 ← k0_part57 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1305
    let ⟨v1366, v1386⟩ : Σ' (v1366 : FVec F S128x256 .f32), FVec F S128x128 .bf16 ← k0_part58 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1346 v1347
    let ⟨v1422, v1427⟩ : Σ' (v1422 : FVec F S128x256 .f32), Vec F S1x1x128 .f32 ← k0_part59 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1366 v1386
    k0_part60 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1422 v1427
    pure ⟨⟩

/-- Branch C of a trip, as steps. -/
def stepsC
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) : KProg (F := F) PUnit := do
    headC arg12 arg13 arg14 arg19 arg21 arg22 (k0_pay1 v96 v97) (k0_off26 k0_t1) (k0_off26_inb k0_t1) (k0_off27 k0_t1 0#32) (k0_off27_inb k0_t1 0) (k0_off28 k0_t1) (k0_off28_inb k0_t1) (View.stores_vmem h_S1x1x128x256 (q14.storeExact_slice rfl _ (k0_off26_packedfp8e4m3 k0_t1)) (fun _ => rfl)) (View.stores_vmem_bits_univ h_S1x1x128 rfl)
    headC arg12 arg13 arg14 arg19 arg21 arg22 (k0_pay1 v96 v97) (k0_off29 k0_t1) (k0_off29_inb k0_t1) (k0_off27 k0_t1 1#32) (k0_off27_inb k0_t1 1) (k0_off30 k0_t1) (k0_off30_inb k0_t1) (View.stores_vmem h_S1x1x128x256 (q14.storeExact_slice rfl _ (k0_off29_packedfp8e4m3 k0_t1)) (fun _ => rfl)) (View.stores_vmem_bits_univ h_S1x1x128 rfl)
    yPair arg11 arg13 arg16 arg18 arg21 (k0_off31 k0_t1) (k0_off31_inb k0_t1) (k0_off32 k0_t1) (k0_off32_inb k0_t1) (k0_off27 k0_t1 0#32) (k0_off27_inb k0_t1 0) (k0_off33 k0_t1) (k0_off33_inb k0_t1) (k0_off34 k0_t1) (k0_off34_inb k0_t1) (k0_off27 k0_t1 1#32) (k0_off27_inb k0_t1 1) (k0_off35 k0_t1) (k0_off35_inb k0_t1) (k0_off36 k0_t1) (k0_off36_inb k0_t1) (View.stores_vmem h_S1x128x128 (q11.storeExact_slice rfl _ (k0_off34_packedbf16 k0_t1)) (fun _ => rfl)) (View.stores_vmem h_S1x128x128 (q11.storeExact_slice rfl _ (k0_off36_packedbf16 k0_t1)) (fun _ => rfl))
    yPair arg11 arg13 arg16 arg18 arg21 (k0_off31 k0_t1) (k0_off31_inb k0_t1) (k0_off37 k0_t1) (k0_off37_inb k0_t1) (k0_off27 k0_t1 0#32) (k0_off27_inb k0_t1 0) (k0_off38 k0_t1) (k0_off38_inb k0_t1) (k0_off39 k0_t1) (k0_off39_inb k0_t1) (k0_off27 k0_t1 1#32) (k0_off27_inb k0_t1 1) (k0_off40 k0_t1) (k0_off40_inb k0_t1) (k0_off41 k0_t1) (k0_off41_inb k0_t1) (View.stores_vmem h_S1x128x128 (q11.storeExact_slice rfl _ (k0_off39_packedbf16 k0_t1)) (fun _ => rfl)) (View.stores_vmem h_S1x128x128 (q11.storeExact_slice rfl _ (k0_off41_packedbf16 k0_t1)) (fun _ => rfl))
    yPair arg11 arg13 arg16 arg18 arg21 (k0_off31 k0_t1) (k0_off31_inb k0_t1) (k0_off42 k0_t1) (k0_off42_inb k0_t1) (k0_off27 k0_t1 0#32) (k0_off27_inb k0_t1 0) (k0_off43 k0_t1) (k0_off43_inb k0_t1) (k0_off44 k0_t1) (k0_off44_inb k0_t1) (k0_off27 k0_t1 1#32) (k0_off27_inb k0_t1 1) (k0_off45 k0_t1) (k0_off45_inb k0_t1) (k0_off46 k0_t1) (k0_off46_inb k0_t1) (View.stores_vmem h_S1x128x128 (q11.storeExact_slice rfl _ (k0_off44_packedbf16 k0_t1)) (fun _ => rfl)) (View.stores_vmem h_S1x128x128 (q11.storeExact_slice rfl _ (k0_off46_packedbf16 k0_t1)) (fun _ => rfl))
    headC arg12 arg13 arg14 arg19 arg21 arg22 (k0_pay1 v96 v97) (k0_off47 k0_t1) (k0_off47_inb k0_t1) (k0_off27 k0_t1 2#32) (k0_off27_inb k0_t1 2) (k0_off48 k0_t1) (k0_off48_inb k0_t1) (View.stores_vmem h_S1x1x128x256 (q14.storeExact_slice rfl _ (k0_off47_packedfp8e4m3 k0_t1)) (fun _ => rfl)) (View.stores_vmem_bits_univ h_S1x1x128 rfl)
    headC arg12 arg13 arg14 arg19 arg21 arg22 (k0_pay1 v96 v97) (k0_off49 k0_t1) (k0_off49_inb k0_t1) (k0_off27 k0_t1 3#32) (k0_off27_inb k0_t1 3) (k0_off50 k0_t1) (k0_off50_inb k0_t1) (View.stores_vmem h_S1x1x128x256 (q14.storeExact_slice rfl _ (k0_off49_packedfp8e4m3 k0_t1)) (fun _ => rfl)) (View.stores_vmem_bits_univ h_S1x1x128 rfl)
    yPair arg11 arg13 arg16 arg18 arg21 (k0_off51 k0_t1) (k0_off51_inb k0_t1) (k0_off32 k0_t1) (k0_off32_inb k0_t1) (k0_off27 k0_t1 2#32) (k0_off27_inb k0_t1 2) (k0_off52 k0_t1) (k0_off52_inb k0_t1) (k0_off53 k0_t1) (k0_off53_inb k0_t1) (k0_off27 k0_t1 3#32) (k0_off27_inb k0_t1 3) (k0_off54 k0_t1) (k0_off54_inb k0_t1) (k0_off55 k0_t1) (k0_off55_inb k0_t1) (View.stores_vmem h_S1x128x128 (q11.storeExact_slice rfl _ (k0_off53_packedbf16 k0_t1)) (fun _ => rfl)) (View.stores_vmem h_S1x128x128 (q11.storeExact_slice rfl _ (k0_off55_packedbf16 k0_t1)) (fun _ => rfl))
    yPair arg11 arg13 arg16 arg18 arg21 (k0_off51 k0_t1) (k0_off51_inb k0_t1) (k0_off37 k0_t1) (k0_off37_inb k0_t1) (k0_off27 k0_t1 2#32) (k0_off27_inb k0_t1 2) (k0_off56 k0_t1) (k0_off56_inb k0_t1) (k0_off57 k0_t1) (k0_off57_inb k0_t1) (k0_off27 k0_t1 3#32) (k0_off27_inb k0_t1 3) (k0_off58 k0_t1) (k0_off58_inb k0_t1) (k0_off59 k0_t1) (k0_off59_inb k0_t1) (View.stores_vmem h_S1x128x128 (q11.storeExact_slice rfl _ (k0_off57_packedbf16 k0_t1)) (fun _ => rfl)) (View.stores_vmem h_S1x128x128 (q11.storeExact_slice rfl _ (k0_off59_packedbf16 k0_t1)) (fun _ => rfl))
    yPair arg11 arg13 arg16 arg18 arg21 (k0_off51 k0_t1) (k0_off51_inb k0_t1) (k0_off42 k0_t1) (k0_off42_inb k0_t1) (k0_off27 k0_t1 2#32) (k0_off27_inb k0_t1 2) (k0_off60 k0_t1) (k0_off60_inb k0_t1) (k0_off61 k0_t1) (k0_off61_inb k0_t1) (k0_off27 k0_t1 3#32) (k0_off27_inb k0_t1 3) (k0_off62 k0_t1) (k0_off62_inb k0_t1) (k0_off63 k0_t1) (k0_off63_inb k0_t1) (View.stores_vmem h_S1x128x128 (q11.storeExact_slice rfl _ (k0_off61_packedbf16 k0_t1)) (fun _ => rfl)) (View.stores_vmem h_S1x128x128 (q11.storeExact_slice rfl _ (k0_off63_packedbf16 k0_t1)) (fun _ => rfl))
    headC arg12 arg13 arg14 arg19 arg21 arg22 (k0_pay1 v96 v97) (k0_off64 k0_t1) (k0_off64_inb k0_t1) (k0_off27 k0_t1 4#32) (k0_off27_inb k0_t1 4) (k0_off65 k0_t1) (k0_off65_inb k0_t1) (View.stores_vmem h_S1x1x128x256 (q14.storeExact_slice rfl _ (k0_off64_packedfp8e4m3 k0_t1)) (fun _ => rfl)) (View.stores_vmem_bits_univ h_S1x1x128 rfl)
    headC arg12 arg13 arg14 arg19 arg21 arg22 (k0_pay1 v96 v97) (k0_off66 k0_t1) (k0_off66_inb k0_t1) (k0_off27 k0_t1 5#32) (k0_off27_inb k0_t1 5) (k0_off67 k0_t1) (k0_off67_inb k0_t1) (View.stores_vmem h_S1x1x128x256 (q14.storeExact_slice rfl _ (k0_off66_packedfp8e4m3 k0_t1)) (fun _ => rfl)) (View.stores_vmem_bits_univ h_S1x1x128 rfl)
    yPair arg11 arg13 arg16 arg18 arg21 (k0_off68 k0_t1) (k0_off68_inb k0_t1) (k0_off32 k0_t1) (k0_off32_inb k0_t1) (k0_off27 k0_t1 4#32) (k0_off27_inb k0_t1 4) (k0_off69 k0_t1) (k0_off69_inb k0_t1) (k0_off70 k0_t1) (k0_off70_inb k0_t1) (k0_off27 k0_t1 5#32) (k0_off27_inb k0_t1 5) (k0_off71 k0_t1) (k0_off71_inb k0_t1) (k0_off72 k0_t1) (k0_off72_inb k0_t1) (View.stores_vmem h_S1x128x128 (q11.storeExact_slice rfl _ (k0_off70_packedbf16 k0_t1)) (fun _ => rfl)) (View.stores_vmem h_S1x128x128 (q11.storeExact_slice rfl _ (k0_off72_packedbf16 k0_t1)) (fun _ => rfl))
    yPair arg11 arg13 arg16 arg18 arg21 (k0_off68 k0_t1) (k0_off68_inb k0_t1) (k0_off37 k0_t1) (k0_off37_inb k0_t1) (k0_off27 k0_t1 4#32) (k0_off27_inb k0_t1 4) (k0_off73 k0_t1) (k0_off73_inb k0_t1) (k0_off74 k0_t1) (k0_off74_inb k0_t1) (k0_off27 k0_t1 5#32) (k0_off27_inb k0_t1 5) (k0_off75 k0_t1) (k0_off75_inb k0_t1) (k0_off76 k0_t1) (k0_off76_inb k0_t1) (View.stores_vmem h_S1x128x128 (q11.storeExact_slice rfl _ (k0_off74_packedbf16 k0_t1)) (fun _ => rfl)) (View.stores_vmem h_S1x128x128 (q11.storeExact_slice rfl _ (k0_off76_packedbf16 k0_t1)) (fun _ => rfl))
    yPair arg11 arg13 arg16 arg18 arg21 (k0_off68 k0_t1) (k0_off68_inb k0_t1) (k0_off42 k0_t1) (k0_off42_inb k0_t1) (k0_off27 k0_t1 4#32) (k0_off27_inb k0_t1 4) (k0_off77 k0_t1) (k0_off77_inb k0_t1) (k0_off78 k0_t1) (k0_off78_inb k0_t1) (k0_off27 k0_t1 5#32) (k0_off27_inb k0_t1 5) (k0_off79 k0_t1) (k0_off79_inb k0_t1) (k0_off80 k0_t1) (k0_off80_inb k0_t1) (View.stores_vmem h_S1x128x128 (q11.storeExact_slice rfl _ (k0_off78_packedbf16 k0_t1)) (fun _ => rfl)) (View.stores_vmem h_S1x128x128 (q11.storeExact_slice rfl _ (k0_off80_packedbf16 k0_t1)) (fun _ => rfl))
    headC arg12 arg13 arg14 arg19 arg21 arg22 (k0_pay1 v96 v97) (k0_off81 k0_t1) (k0_off81_inb k0_t1) (k0_off27 k0_t1 6#32) (k0_off27_inb k0_t1 6) (k0_off82 k0_t1) (k0_off82_inb k0_t1) (View.stores_vmem h_S1x1x128x256 (q14.storeExact_slice rfl _ (k0_off81_packedfp8e4m3 k0_t1)) (fun _ => rfl)) (View.stores_vmem_bits_univ h_S1x1x128 rfl)
    headC arg12 arg13 arg14 arg19 arg21 arg22 (k0_pay1 v96 v97) (k0_off83 k0_t1) (k0_off83_inb k0_t1) (k0_off27 k0_t1 7#32) (k0_off27_inb k0_t1 7) (k0_off84 k0_t1) (k0_off84_inb k0_t1) (View.stores_vmem h_S1x1x128x256 (q14.storeExact_slice rfl _ (k0_off83_packedfp8e4m3 k0_t1)) (fun _ => rfl)) (View.stores_vmem_bits_univ h_S1x1x128 rfl)
    yPair arg11 arg13 arg16 arg18 arg21 (k0_off85 k0_t1) (k0_off85_inb k0_t1) (k0_off32 k0_t1) (k0_off32_inb k0_t1) (k0_off27 k0_t1 6#32) (k0_off27_inb k0_t1 6) (k0_off86 k0_t1) (k0_off86_inb k0_t1) (k0_off87 k0_t1) (k0_off87_inb k0_t1) (k0_off27 k0_t1 7#32) (k0_off27_inb k0_t1 7) (k0_off88 k0_t1) (k0_off88_inb k0_t1) (k0_off89 k0_t1) (k0_off89_inb k0_t1) (View.stores_vmem h_S1x128x128 (q11.storeExact_slice rfl _ (k0_off87_packedbf16 k0_t1)) (fun _ => rfl)) (View.stores_vmem h_S1x128x128 (q11.storeExact_slice rfl _ (k0_off89_packedbf16 k0_t1)) (fun _ => rfl))
    yPair arg11 arg13 arg16 arg18 arg21 (k0_off85 k0_t1) (k0_off85_inb k0_t1) (k0_off37 k0_t1) (k0_off37_inb k0_t1) (k0_off27 k0_t1 6#32) (k0_off27_inb k0_t1 6) (k0_off90 k0_t1) (k0_off90_inb k0_t1) (k0_off91 k0_t1) (k0_off91_inb k0_t1) (k0_off27 k0_t1 7#32) (k0_off27_inb k0_t1 7) (k0_off92 k0_t1) (k0_off92_inb k0_t1) (k0_off93 k0_t1) (k0_off93_inb k0_t1) (View.stores_vmem h_S1x128x128 (q11.storeExact_slice rfl _ (k0_off91_packedbf16 k0_t1)) (fun _ => rfl)) (View.stores_vmem h_S1x128x128 (q11.storeExact_slice rfl _ (k0_off93_packedbf16 k0_t1)) (fun _ => rfl))
    yPair arg11 arg13 arg16 arg18 arg21 (k0_off85 k0_t1) (k0_off85_inb k0_t1) (k0_off42 k0_t1) (k0_off42_inb k0_t1) (k0_off27 k0_t1 6#32) (k0_off27_inb k0_t1 6) (k0_off94 k0_t1) (k0_off94_inb k0_t1) (k0_off95 k0_t1) (k0_off95_inb k0_t1) (k0_off27 k0_t1 7#32) (k0_off27_inb k0_t1 7) (k0_off96 k0_t1) (k0_off96_inb k0_t1) (k0_off97 k0_t1) (k0_off97_inb k0_t1) (View.stores_vmem h_S1x128x128 (q11.storeExact_slice rfl _ (k0_off95_packedbf16 k0_t1)) (fun _ => rfl)) (View.stores_vmem h_S1x128x128 (q11.storeExact_slice rfl _ (k0_off97_packedbf16 k0_t1)) (fun _ => rfl))
    pure ⟨⟩

set_option maxRecDepth 65536 in
theorem branchC_eq
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) :
    branchC (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 = stepsC arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 := rfl

/-- Branch 1 of a trip, as printed. -/
def branch1
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) : KProg (F := F) PUnit := do
    let ⟨v277, v278, c0_i32_217⟩ : Σ' (v277 : FVec F S1x128 .f32) (v278 : BitVec 32), BitVec 32 ← k0_part61 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139
    let ⟨cst_233, v319⟩ : Σ' (cst_233 : F .f32), FVec F S128x128 .f32 ← k0_part62 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v277 v278 c0_i32_217
    let ⟨v338, v358⟩ : Σ' (v338 : FVec F S128x256 .f32), FVec F S128x128 .bf16 ← k0_part63 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 cst_233 v319
    let ⟨v389, v394, v400, cst_267⟩ : Σ' (v389 : FVec F S128x256 .f32) (v394 : IVec S128x1 1) (v400 : FVec F S128x1 .f32), F .f32 ← k0_part64 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v338 v358
    let ⟨v435, v438, v440, cst_284⟩ : Σ' (v435 : FVec F S128x256 .f32) (v438 : FVec F S128x1 .f32) (v440 : IVec S128x1 1), F .f32 ← k0_part65 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v389 v394 v400 cst_267
    let v481 : FVec F S2x128x256 .fp8e4m3 ← k0_part66 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v435 v438 v440 cst_284
    let ⟨v522, v523⟩ : Σ' (v522 : FVec F S128x128 .f32), FVec F S128x128 .f32 ← k0_part67 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v481
    let ⟨v552, v562⟩ : Σ' (v552 : FVec F S128x1 .f32), FVec F S128x256 .fp8e4m3 ← k0_part68 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v522 v523
    let ⟨v598, v603, cst_350, v604⟩ : Σ' (v598 : FVec F S128x1 .f32) (v603 : FVec F S128x256 .f32) (cst_350 : F .f32), FVec F S128x256 .f32 ← k0_part69 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v552 v562
    let ⟨v634, v640, v643⟩ : Σ' (v634 : FVec F S128x256 .f32) (v640 : FVec F S1x128 .f32), FVec F S128x1 .f32 ← k0_part70 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v598 v603 cst_350 v604
    let v685 : FVec F S128x256 .f32 ← k0_part71 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v634 v640 v643
    let v721 : FVec F S1x128 .f32 ← k0_part72 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v685
    let ⟨v767, c8_i32_414⟩ : Σ' (v767 : FVec F S1x128 .f32), BitVec 32 ← k0_part73 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v721
    let ⟨v782, v807⟩ : Σ' (v782 : FVec F S128x256 .f32), BitVec 32 ← k0_part74 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v767 c8_i32_414
    let v811 : Vec F S1x1x128 .f32 ← Prog.lift (.load arg21 (Rect.unit (s := S5x32x128) (k0_off99 k0_t1 7#32) S1x1x128.size (k0_off99_inb k0_t1 7)).toLoadRect (View.loadsAt_vmem h_S1x1x128))
    let v814 : Vec F S1x128x1 .f32 ← Prog.lift (.load arg18 (Rect.unit (s := S4x384x8) (k0_off126 k0_t1) S1x128x1.size (k0_off126_inb k0_t1)).toLoadRect (View.loadsAt_vmem h_S1x128x1))
    let v822 : Vec F S1x128x128 .bf16 ← Prog.lift (.load arg11 (Rect.unit (s := S20x384x1024) (k0_off127 k0_t1) S1x128x128.size (k0_off127_inb k0_t1)).toLoadRect (View.loadsAt_vmem h_S1x128x128))
    let v828 : Vec F S1x128x128 .bf16 ← Prog.lift (.load arg11 (Rect.unit (s := S20x384x1024) (k0_off127 k0_t1) S1x128x128.size (k0_off127_inb k0_t1)).toLoadRect (View.loadsAt_vmem h_S1x128x128))
    Prog.lift (.store arg11 (Rect.unit (s := S20x384x1024) (k0_off127 k0_t1) S1x128x128.size (k0_off127_inb k0_t1)) (k0_pay2 v782 v811 v814 v822) Finset.univ (View.stores_vmem h_S1x128x128 (q11.storeExact_slice rfl _ (k0_off127_packedbf16 k0_t1)) (fun _ => rfl)) (.inl rfl))
    pure ⟨⟩

/-- Branch 1 of a trip, as steps. -/
def steps1
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) : KProg (F := F) PUnit := do
    headN arg12 arg14 arg22 (k0_pay1 v96 v97) (k0_off98 k0_t1) (k0_off98_inb k0_t1) (k0_off99 k0_t1 0#32) (k0_off99_inb k0_t1 0) (View.stores_vmem h_S1x1x128x256 (q14.storeExact_slice rfl _ (k0_off98_packedfp8e4m3 k0_t1)) (fun _ => rfl)) (View.stores_vmem_bits_univ h_S1x1x128 rfl)
    headN arg12 arg14 arg22 (k0_pay1 v96 v97) (k0_off100 k0_t1) (k0_off100_inb k0_t1) (k0_off99 k0_t1 1#32) (k0_off99_inb k0_t1 1) (View.stores_vmem h_S1x1x128x256 (q14.storeExact_slice rfl _ (k0_off100_packedfp8e4m3 k0_t1)) (fun _ => rfl)) (View.stores_vmem_bits_univ h_S1x1x128 rfl)
    yPair arg11 arg13 arg16 arg18 arg21 (k0_off101 k0_t1) (k0_off101_inb k0_t1) (k0_off102 k0_t1) (k0_off102_inb k0_t1) (k0_off99 k0_t1 0#32) (k0_off99_inb k0_t1 0) (k0_off103 k0_t1) (k0_off103_inb k0_t1) (k0_off104 k0_t1) (k0_off104_inb k0_t1) (k0_off99 k0_t1 1#32) (k0_off99_inb k0_t1 1) (k0_off105 k0_t1) (k0_off105_inb k0_t1) (k0_off106 k0_t1) (k0_off106_inb k0_t1) (View.stores_vmem h_S1x128x128 (q11.storeExact_slice rfl _ (k0_off104_packedbf16 k0_t1)) (fun _ => rfl)) (View.stores_vmem h_S1x128x128 (q11.storeExact_slice rfl _ (k0_off106_packedbf16 k0_t1)) (fun _ => rfl))
    headN arg12 arg14 arg22 (k0_pay1 v96 v97) (k0_off107 k0_t1) (k0_off107_inb k0_t1) (k0_off99 k0_t1 2#32) (k0_off99_inb k0_t1 2) (View.stores_vmem h_S1x1x128x256 (q14.storeExact_slice rfl _ (k0_off107_packedfp8e4m3 k0_t1)) (fun _ => rfl)) (View.stores_vmem_bits_univ h_S1x1x128 rfl)
    headN arg12 arg14 arg22 (k0_pay1 v96 v97) (k0_off108 k0_t1) (k0_off108_inb k0_t1) (k0_off99 k0_t1 3#32) (k0_off99_inb k0_t1 3) (View.stores_vmem h_S1x1x128x256 (q14.storeExact_slice rfl _ (k0_off108_packedfp8e4m3 k0_t1)) (fun _ => rfl)) (View.stores_vmem_bits_univ h_S1x1x128 rfl)
    yPair arg11 arg13 arg16 arg18 arg21 (k0_off109 k0_t1) (k0_off109_inb k0_t1) (k0_off102 k0_t1) (k0_off102_inb k0_t1) (k0_off99 k0_t1 2#32) (k0_off99_inb k0_t1 2) (k0_off110 k0_t1) (k0_off110_inb k0_t1) (k0_off111 k0_t1) (k0_off111_inb k0_t1) (k0_off99 k0_t1 3#32) (k0_off99_inb k0_t1 3) (k0_off112 k0_t1) (k0_off112_inb k0_t1) (k0_off113 k0_t1) (k0_off113_inb k0_t1) (View.stores_vmem h_S1x128x128 (q11.storeExact_slice rfl _ (k0_off111_packedbf16 k0_t1)) (fun _ => rfl)) (View.stores_vmem h_S1x128x128 (q11.storeExact_slice rfl _ (k0_off113_packedbf16 k0_t1)) (fun _ => rfl))
    headN arg12 arg14 arg22 (k0_pay1 v96 v97) (k0_off114 k0_t1) (k0_off114_inb k0_t1) (k0_off99 k0_t1 4#32) (k0_off99_inb k0_t1 4) (View.stores_vmem h_S1x1x128x256 (q14.storeExact_slice rfl _ (k0_off114_packedfp8e4m3 k0_t1)) (fun _ => rfl)) (View.stores_vmem_bits_univ h_S1x1x128 rfl)
    headN arg12 arg14 arg22 (k0_pay1 v96 v97) (k0_off115 k0_t1) (k0_off115_inb k0_t1) (k0_off99 k0_t1 5#32) (k0_off99_inb k0_t1 5) (View.stores_vmem h_S1x1x128x256 (q14.storeExact_slice rfl _ (k0_off115_packedfp8e4m3 k0_t1)) (fun _ => rfl)) (View.stores_vmem_bits_univ h_S1x1x128 rfl)
    yPair arg11 arg13 arg16 arg18 arg21 (k0_off116 k0_t1) (k0_off116_inb k0_t1) (k0_off102 k0_t1) (k0_off102_inb k0_t1) (k0_off99 k0_t1 4#32) (k0_off99_inb k0_t1 4) (k0_off117 k0_t1) (k0_off117_inb k0_t1) (k0_off118 k0_t1) (k0_off118_inb k0_t1) (k0_off99 k0_t1 5#32) (k0_off99_inb k0_t1 5) (k0_off119 k0_t1) (k0_off119_inb k0_t1) (k0_off120 k0_t1) (k0_off120_inb k0_t1) (View.stores_vmem h_S1x128x128 (q11.storeExact_slice rfl _ (k0_off118_packedbf16 k0_t1)) (fun _ => rfl)) (View.stores_vmem h_S1x128x128 (q11.storeExact_slice rfl _ (k0_off120_packedbf16 k0_t1)) (fun _ => rfl))
    headN arg12 arg14 arg22 (k0_pay1 v96 v97) (k0_off121 k0_t1) (k0_off121_inb k0_t1) (k0_off99 k0_t1 6#32) (k0_off99_inb k0_t1 6) (View.stores_vmem h_S1x1x128x256 (q14.storeExact_slice rfl _ (k0_off121_packedfp8e4m3 k0_t1)) (fun _ => rfl)) (View.stores_vmem_bits_univ h_S1x1x128 rfl)
    headN arg12 arg14 arg22 (k0_pay1 v96 v97) (k0_off122 k0_t1) (k0_off122_inb k0_t1) (k0_off99 k0_t1 7#32) (k0_off99_inb k0_t1 7) (View.stores_vmem h_S1x1x128x256 (q14.storeExact_slice rfl _ (k0_off122_packedfp8e4m3 k0_t1)) (fun _ => rfl)) (View.stores_vmem_bits_univ h_S1x1x128 rfl)
    yPair arg11 arg13 arg16 arg18 arg21 (k0_off123 k0_t1) (k0_off123_inb k0_t1) (k0_off102 k0_t1) (k0_off102_inb k0_t1) (k0_off99 k0_t1 6#32) (k0_off99_inb k0_t1 6) (k0_off124 k0_t1) (k0_off124_inb k0_t1) (k0_off125 k0_t1) (k0_off125_inb k0_t1) (k0_off99 k0_t1 7#32) (k0_off99_inb k0_t1 7) (k0_off126 k0_t1) (k0_off126_inb k0_t1) (k0_off127 k0_t1) (k0_off127_inb k0_t1) (View.stores_vmem h_S1x128x128 (q11.storeExact_slice rfl _ (k0_off125_packedbf16 k0_t1)) (fun _ => rfl)) (View.stores_vmem h_S1x128x128 (q11.storeExact_slice rfl _ (k0_off127_packedbf16 k0_t1)) (fun _ => rfl))
    pure ⟨⟩

set_option maxRecDepth 65536 in
theorem branch1_eq
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) :
    branch1 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 = steps1 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 := rfl

/-- Branch 2 of a trip, as printed. -/
def branch2
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) : KProg (F := F) PUnit := do
    let ⟨v277, v278, c0_i32_217⟩ : Σ' (v277 : FVec F S1x128 .f32) (v278 : BitVec 32), BitVec 32 ← k0_part75 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139
    let ⟨cst_233, v319⟩ : Σ' (cst_233 : F .f32), FVec F S128x128 .f32 ← k0_part76 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v277 v278 c0_i32_217
    let ⟨v338, v358⟩ : Σ' (v338 : FVec F S128x256 .f32), FVec F S128x128 .bf16 ← k0_part77 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 cst_233 v319
    let ⟨v394, v399⟩ : Σ' (v394 : FVec F S128x256 .f32), Vec F S1x1x128 .f32 ← k0_part78 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v338 v358
    k0_part79 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v394 v399
    let ⟨v481, v482, c2_i32_302⟩ : Σ' (v481 : FVec F S1x128 .f32) (v482 : BitVec 32), BitVec 32 ← k0_part80 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139
    let ⟨cst_318, v523⟩ : Σ' (cst_318 : F .f32), FVec F S128x128 .f32 ← k0_part81 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v481 v482 c2_i32_302
    let ⟨v542, v562⟩ : Σ' (v542 : FVec F S128x256 .f32), FVec F S128x128 .bf16 ← k0_part82 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 cst_318 v523
    let ⟨v598, v603⟩ : Σ' (v598 : FVec F S128x256 .f32), Vec F S1x1x128 .f32 ← k0_part83 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v542 v562
    k0_part84 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v598 v603
    let ⟨v685, v686, c4_i32_386⟩ : Σ' (v685 : FVec F S1x128 .f32) (v686 : BitVec 32), BitVec 32 ← k0_part85 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139
    let ⟨cst_402, v727⟩ : Σ' (cst_402 : F .f32), FVec F S128x128 .f32 ← k0_part86 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v685 v686 c4_i32_386
    let ⟨v746, v766⟩ : Σ' (v746 : FVec F S128x256 .f32), FVec F S128x128 .bf16 ← k0_part87 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 cst_402 v727
    let ⟨v802, v807⟩ : Σ' (v802 : FVec F S128x256 .f32), Vec F S1x1x128 .f32 ← k0_part88 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v746 v766
    k0_part89 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v802 v807
    let ⟨v889, v890, c6_i32⟩ : Σ' (v889 : FVec F S1x128 .f32) (v890 : BitVec 32), BitVec 32 ← k0_part90 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139
    let ⟨cst_484, v931⟩ : Σ' (cst_484 : F .f32), FVec F S128x128 .f32 ← k0_part91 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v889 v890 c6_i32
    let ⟨v950, v970⟩ : Σ' (v950 : FVec F S128x256 .f32), FVec F S128x128 .bf16 ← k0_part92 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 cst_484 v931
    let ⟨v1006, v1011⟩ : Σ' (v1006 : FVec F S128x256 .f32), Vec F S1x1x128 .f32 ← k0_part93 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v950 v970
    k0_part94 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1006 v1011
    pure ⟨⟩

/-- Branch 2 of a trip, as steps. -/
def steps2
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) : KProg (F := F) PUnit := do
    headN arg12 arg14 arg22 (k0_pay1 v96 v97) (k0_off128 k0_t1) (k0_off128_inb k0_t1) (k0_off129 k0_t1 0#32) (k0_off129_inb k0_t1 0) (View.stores_vmem h_S1x1x128x256 (q14.storeExact_slice rfl _ (k0_off128_packedfp8e4m3 k0_t1)) (fun _ => rfl)) (View.stores_vmem_bits_univ h_S1x1x128 rfl)
    headN arg12 arg14 arg22 (k0_pay1 v96 v97) (k0_off130 k0_t1) (k0_off130_inb k0_t1) (k0_off129 k0_t1 1#32) (k0_off129_inb k0_t1 1) (View.stores_vmem h_S1x1x128x256 (q14.storeExact_slice rfl _ (k0_off130_packedfp8e4m3 k0_t1)) (fun _ => rfl)) (View.stores_vmem_bits_univ h_S1x1x128 rfl)
    yPair arg11 arg13 arg16 arg18 arg21 (k0_off131 k0_t1) (k0_off131_inb k0_t1) (k0_off132 k0_t1) (k0_off132_inb k0_t1) (k0_off129 k0_t1 0#32) (k0_off129_inb k0_t1 0) (k0_off133 k0_t1) (k0_off133_inb k0_t1) (k0_off134 k0_t1) (k0_off134_inb k0_t1) (k0_off129 k0_t1 1#32) (k0_off129_inb k0_t1 1) (k0_off135 k0_t1) (k0_off135_inb k0_t1) (k0_off136 k0_t1) (k0_off136_inb k0_t1) (View.stores_vmem h_S1x128x128 (q11.storeExact_slice rfl _ (k0_off134_packedbf16 k0_t1)) (fun _ => rfl)) (View.stores_vmem h_S1x128x128 (q11.storeExact_slice rfl _ (k0_off136_packedbf16 k0_t1)) (fun _ => rfl))
    yPair arg11 arg13 arg16 arg18 arg21 (k0_off131 k0_t1) (k0_off131_inb k0_t1) (k0_off137 k0_t1) (k0_off137_inb k0_t1) (k0_off129 k0_t1 0#32) (k0_off129_inb k0_t1 0) (k0_off138 k0_t1) (k0_off138_inb k0_t1) (k0_off139 k0_t1) (k0_off139_inb k0_t1) (k0_off129 k0_t1 1#32) (k0_off129_inb k0_t1 1) (k0_off140 k0_t1) (k0_off140_inb k0_t1) (k0_off141 k0_t1) (k0_off141_inb k0_t1) (View.stores_vmem h_S1x128x128 (q11.storeExact_slice rfl _ (k0_off139_packedbf16 k0_t1)) (fun _ => rfl)) (View.stores_vmem h_S1x128x128 (q11.storeExact_slice rfl _ (k0_off141_packedbf16 k0_t1)) (fun _ => rfl))
    headN arg12 arg14 arg22 (k0_pay1 v96 v97) (k0_off142 k0_t1) (k0_off142_inb k0_t1) (k0_off129 k0_t1 2#32) (k0_off129_inb k0_t1 2) (View.stores_vmem h_S1x1x128x256 (q14.storeExact_slice rfl _ (k0_off142_packedfp8e4m3 k0_t1)) (fun _ => rfl)) (View.stores_vmem_bits_univ h_S1x1x128 rfl)
    headN arg12 arg14 arg22 (k0_pay1 v96 v97) (k0_off143 k0_t1) (k0_off143_inb k0_t1) (k0_off129 k0_t1 3#32) (k0_off129_inb k0_t1 3) (View.stores_vmem h_S1x1x128x256 (q14.storeExact_slice rfl _ (k0_off143_packedfp8e4m3 k0_t1)) (fun _ => rfl)) (View.stores_vmem_bits_univ h_S1x1x128 rfl)
    yPair arg11 arg13 arg16 arg18 arg21 (k0_off144 k0_t1) (k0_off144_inb k0_t1) (k0_off132 k0_t1) (k0_off132_inb k0_t1) (k0_off129 k0_t1 2#32) (k0_off129_inb k0_t1 2) (k0_off145 k0_t1) (k0_off145_inb k0_t1) (k0_off146 k0_t1) (k0_off146_inb k0_t1) (k0_off129 k0_t1 3#32) (k0_off129_inb k0_t1 3) (k0_off147 k0_t1) (k0_off147_inb k0_t1) (k0_off148 k0_t1) (k0_off148_inb k0_t1) (View.stores_vmem h_S1x128x128 (q11.storeExact_slice rfl _ (k0_off146_packedbf16 k0_t1)) (fun _ => rfl)) (View.stores_vmem h_S1x128x128 (q11.storeExact_slice rfl _ (k0_off148_packedbf16 k0_t1)) (fun _ => rfl))
    yPair arg11 arg13 arg16 arg18 arg21 (k0_off144 k0_t1) (k0_off144_inb k0_t1) (k0_off137 k0_t1) (k0_off137_inb k0_t1) (k0_off129 k0_t1 2#32) (k0_off129_inb k0_t1 2) (k0_off149 k0_t1) (k0_off149_inb k0_t1) (k0_off150 k0_t1) (k0_off150_inb k0_t1) (k0_off129 k0_t1 3#32) (k0_off129_inb k0_t1 3) (k0_off151 k0_t1) (k0_off151_inb k0_t1) (k0_off152 k0_t1) (k0_off152_inb k0_t1) (View.stores_vmem h_S1x128x128 (q11.storeExact_slice rfl _ (k0_off150_packedbf16 k0_t1)) (fun _ => rfl)) (View.stores_vmem h_S1x128x128 (q11.storeExact_slice rfl _ (k0_off152_packedbf16 k0_t1)) (fun _ => rfl))
    headN arg12 arg14 arg22 (k0_pay1 v96 v97) (k0_off153 k0_t1) (k0_off153_inb k0_t1) (k0_off129 k0_t1 4#32) (k0_off129_inb k0_t1 4) (View.stores_vmem h_S1x1x128x256 (q14.storeExact_slice rfl _ (k0_off153_packedfp8e4m3 k0_t1)) (fun _ => rfl)) (View.stores_vmem_bits_univ h_S1x1x128 rfl)
    headN arg12 arg14 arg22 (k0_pay1 v96 v97) (k0_off154 k0_t1) (k0_off154_inb k0_t1) (k0_off129 k0_t1 5#32) (k0_off129_inb k0_t1 5) (View.stores_vmem h_S1x1x128x256 (q14.storeExact_slice rfl _ (k0_off154_packedfp8e4m3 k0_t1)) (fun _ => rfl)) (View.stores_vmem_bits_univ h_S1x1x128 rfl)
    yPair arg11 arg13 arg16 arg18 arg21 (k0_off155 k0_t1) (k0_off155_inb k0_t1) (k0_off132 k0_t1) (k0_off132_inb k0_t1) (k0_off129 k0_t1 4#32) (k0_off129_inb k0_t1 4) (k0_off156 k0_t1) (k0_off156_inb k0_t1) (k0_off157 k0_t1) (k0_off157_inb k0_t1) (k0_off129 k0_t1 5#32) (k0_off129_inb k0_t1 5) (k0_off158 k0_t1) (k0_off158_inb k0_t1) (k0_off159 k0_t1) (k0_off159_inb k0_t1) (View.stores_vmem h_S1x128x128 (q11.storeExact_slice rfl _ (k0_off157_packedbf16 k0_t1)) (fun _ => rfl)) (View.stores_vmem h_S1x128x128 (q11.storeExact_slice rfl _ (k0_off159_packedbf16 k0_t1)) (fun _ => rfl))
    yPair arg11 arg13 arg16 arg18 arg21 (k0_off155 k0_t1) (k0_off155_inb k0_t1) (k0_off137 k0_t1) (k0_off137_inb k0_t1) (k0_off129 k0_t1 4#32) (k0_off129_inb k0_t1 4) (k0_off160 k0_t1) (k0_off160_inb k0_t1) (k0_off161 k0_t1) (k0_off161_inb k0_t1) (k0_off129 k0_t1 5#32) (k0_off129_inb k0_t1 5) (k0_off162 k0_t1) (k0_off162_inb k0_t1) (k0_off163 k0_t1) (k0_off163_inb k0_t1) (View.stores_vmem h_S1x128x128 (q11.storeExact_slice rfl _ (k0_off161_packedbf16 k0_t1)) (fun _ => rfl)) (View.stores_vmem h_S1x128x128 (q11.storeExact_slice rfl _ (k0_off163_packedbf16 k0_t1)) (fun _ => rfl))
    headN arg12 arg14 arg22 (k0_pay1 v96 v97) (k0_off164 k0_t1) (k0_off164_inb k0_t1) (k0_off129 k0_t1 6#32) (k0_off129_inb k0_t1 6) (View.stores_vmem h_S1x1x128x256 (q14.storeExact_slice rfl _ (k0_off164_packedfp8e4m3 k0_t1)) (fun _ => rfl)) (View.stores_vmem_bits_univ h_S1x1x128 rfl)
    headN arg12 arg14 arg22 (k0_pay1 v96 v97) (k0_off165 k0_t1) (k0_off165_inb k0_t1) (k0_off129 k0_t1 7#32) (k0_off129_inb k0_t1 7) (View.stores_vmem h_S1x1x128x256 (q14.storeExact_slice rfl _ (k0_off165_packedfp8e4m3 k0_t1)) (fun _ => rfl)) (View.stores_vmem_bits_univ h_S1x1x128 rfl)
    yPair arg11 arg13 arg16 arg18 arg21 (k0_off166 k0_t1) (k0_off166_inb k0_t1) (k0_off132 k0_t1) (k0_off132_inb k0_t1) (k0_off129 k0_t1 6#32) (k0_off129_inb k0_t1 6) (k0_off167 k0_t1) (k0_off167_inb k0_t1) (k0_off168 k0_t1) (k0_off168_inb k0_t1) (k0_off129 k0_t1 7#32) (k0_off129_inb k0_t1 7) (k0_off169 k0_t1) (k0_off169_inb k0_t1) (k0_off170 k0_t1) (k0_off170_inb k0_t1) (View.stores_vmem h_S1x128x128 (q11.storeExact_slice rfl _ (k0_off168_packedbf16 k0_t1)) (fun _ => rfl)) (View.stores_vmem h_S1x128x128 (q11.storeExact_slice rfl _ (k0_off170_packedbf16 k0_t1)) (fun _ => rfl))
    yPair arg11 arg13 arg16 arg18 arg21 (k0_off166 k0_t1) (k0_off166_inb k0_t1) (k0_off137 k0_t1) (k0_off137_inb k0_t1) (k0_off129 k0_t1 6#32) (k0_off129_inb k0_t1 6) (k0_off171 k0_t1) (k0_off171_inb k0_t1) (k0_off172 k0_t1) (k0_off172_inb k0_t1) (k0_off129 k0_t1 7#32) (k0_off129_inb k0_t1 7) (k0_off173 k0_t1) (k0_off173_inb k0_t1) (k0_off174 k0_t1) (k0_off174_inb k0_t1) (View.stores_vmem h_S1x128x128 (q11.storeExact_slice rfl _ (k0_off172_packedbf16 k0_t1)) (fun _ => rfl)) (View.stores_vmem h_S1x128x128 (q11.storeExact_slice rfl _ (k0_off174_packedbf16 k0_t1)) (fun _ => rfl))
    pure ⟨⟩

set_option maxRecDepth 65536 in
theorem branch2_eq
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) :
    branch2 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 = steps2 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 := rfl

/-- Branch 3 of a trip, as printed. -/
def branch3
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) : KProg (F := F) PUnit := do
    let ⟨v277, v278, c0_i32_217⟩ : Σ' (v277 : FVec F S1x128 .f32) (v278 : BitVec 32), BitVec 32 ← k0_part95 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v139
    let ⟨cst_233, v319⟩ : Σ' (cst_233 : F .f32), FVec F S128x128 .f32 ← k0_part96 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v277 v278 c0_i32_217
    let ⟨v338, v358⟩ : Σ' (v338 : FVec F S128x256 .f32), FVec F S128x128 .bf16 ← k0_part97 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 cst_233 v319
    let ⟨v394, v399⟩ : Σ' (v394 : FVec F S128x256 .f32), Vec F S1x1x128 .f32 ← k0_part98 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v338 v358
    k0_part99 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v394 v399
    let ⟨v450, v480⟩ : Σ' (v450 : FVec F S128x256 .f32), FVec F S1x128 .f32 ← k0_part100 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139
    let ⟨v516, v523, v524⟩ : Σ' (v516 : FVec F S128x1 .f32) (v523 : FVec F S128x256 .f32), FVec F S128x256 .f32 ← k0_part101 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v450 v480
    let ⟨v547, v562, v564⟩ : Σ' (v547 : FVec F S128x256 .f32) (v562 : FVec F S128x1 .f32), FVec F S128x1 .f32 ← k0_part102 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v516 v523 v524
    let ⟨v598, v603⟩ : Σ' (v598 : FVec F S128x256 .f32), Vec F S1x1x128 .f32 ← k0_part103 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v547 v562 v564
    k0_part104 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v598 v603
    let ⟨v654, v684⟩ : Σ' (v654 : FVec F S128x256 .f32), FVec F S1x128 .f32 ← k0_part105 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139
    let ⟨v710, v724, v727⟩ : Σ' (v710 : FVec F S128x256 .f32) (v724 : FVec F S128x128 .f32), FVec F S128x128 .bf16 ← k0_part106 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v654 v684
    let ⟨v761, v766, v768⟩ : Σ' (v761 : FVec F S128x256 .f32) (v766 : IVec S128x1 1), FVec F S128x1 .f32 ← k0_part107 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v710 v724 v727
    let ⟨v807, v808⟩ : Σ' (v807 : FVec F S128x256 .f32), FVec F S128x256 .f32 ← k0_part108 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v761 v766 v768
    k0_part109 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v807 v808
    let ⟨v858, v888⟩ : Σ' (v858 : FVec F S128x256 .f32), FVec F S1x128 .f32 ← k0_part110 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139
    let ⟨v914, v928, v931⟩ : Σ' (v914 : FVec F S128x256 .f32) (v928 : FVec F S128x128 .f32), FVec F S128x128 .bf16 ← k0_part111 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v858 v888
    let ⟨v970, v971⟩ : Σ' (v970 : FVec F S128x256 .f32), BitVec 32 ← k0_part112 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v914 v928 v931
    let v1014 : FVec F S128x128 .bf16 ← k0_part113 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v970 v971
    let v1055 : FVec F S128x128 .f32 ← k0_part114 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v1014
    let ⟨v1082, v1092⟩ : Σ' (v1082 : FVec F S128x1 .f32), FVec F S128x256 .fp8e4m3 ← k0_part115 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1055
    let ⟨v1118, v1132, v1135⟩ : Σ' (v1118 : FVec F S128x256 .f32) (v1132 : FVec F S128x128 .f32), FVec F S128x128 .bf16 ← k0_part116 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 (k0_pay1 v96 v97) k0_t1 arg29 v129 v139 v1082 v1092
    let ⟨v1174, v1175⟩ : Σ' (v1174 : FVec F S128x256 .f32), BitVec 32 ← k0_part117 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1118 v1132 v1135
    let v1218 : FVec F S128x128 .bf16 ← k0_part118 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1174 v1175
    let v1230 : FVec F S128x256 .f32 ← k0_part119 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 v139 v1218
    let v1259 : Vec F S1x1x128 .f32 ← Prog.lift (.load arg21 (Rect.unit (s := S5x32x128) (k0_off176 k0_t1 7#32) S1x1x128.size (k0_off176_inb k0_t1 7)).toLoadRect (View.loadsAt_vmem h_S1x1x128))
    let v1262 : Vec F S1x128x1 .f32 ← Prog.lift (.load arg18 (Rect.unit (s := S4x384x8) (k0_off237 k0_t1) S1x128x1.size (k0_off237_inb k0_t1)).toLoadRect (View.loadsAt_vmem h_S1x128x1))
    let v1270 : Vec F S1x128x128 .bf16 ← Prog.lift (.load arg11 (Rect.unit (s := S20x384x1024) (k0_off238 k0_t1) S1x128x128.size (k0_off238_inb k0_t1)).toLoadRect (View.loadsAt_vmem h_S1x128x128))
    let v1276 : Vec F S1x128x128 .bf16 ← Prog.lift (.load arg11 (Rect.unit (s := S20x384x1024) (k0_off238 k0_t1) S1x128x128.size (k0_off238_inb k0_t1)).toLoadRect (View.loadsAt_vmem h_S1x128x128))
    Prog.lift (.store arg11 (Rect.unit (s := S20x384x1024) (k0_off238 k0_t1) S1x128x128.size (k0_off238_inb k0_t1)) (k0_pay3 v1230 v1259 v1262 v1270) Finset.univ (View.stores_vmem h_S1x128x128 (q11.storeExact_slice rfl _ (k0_off238_packedbf16 k0_t1)) (fun _ => rfl)) (.inl rfl))
    pure ⟨⟩

/-- Branch 3 of a trip, as steps. -/
def steps3
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) : KProg (F := F) PUnit := do
    headN arg12 arg14 arg22 (k0_pay1 v96 v97) (k0_off175 k0_t1) (k0_off175_inb k0_t1) (k0_off176 k0_t1 0#32) (k0_off176_inb k0_t1 0) (View.stores_vmem h_S1x1x128x256 (q14.storeExact_slice rfl _ (k0_off175_packedfp8e4m3 k0_t1)) (fun _ => rfl)) (View.stores_vmem_bits_univ h_S1x1x128 rfl)
    headN arg12 arg14 arg22 (k0_pay1 v96 v97) (k0_off177 k0_t1) (k0_off177_inb k0_t1) (k0_off176 k0_t1 1#32) (k0_off176_inb k0_t1 1) (View.stores_vmem h_S1x1x128x256 (q14.storeExact_slice rfl _ (k0_off177_packedfp8e4m3 k0_t1)) (fun _ => rfl)) (View.stores_vmem_bits_univ h_S1x1x128 rfl)
    yPair arg11 arg13 arg16 arg18 arg21 (k0_off178 k0_t1) (k0_off178_inb k0_t1) (k0_off179 k0_t1) (k0_off179_inb k0_t1) (k0_off176 k0_t1 0#32) (k0_off176_inb k0_t1 0) (k0_off180 k0_t1) (k0_off180_inb k0_t1) (k0_off181 k0_t1) (k0_off181_inb k0_t1) (k0_off176 k0_t1 1#32) (k0_off176_inb k0_t1 1) (k0_off182 k0_t1) (k0_off182_inb k0_t1) (k0_off183 k0_t1) (k0_off183_inb k0_t1) (View.stores_vmem h_S1x128x128 (q11.storeExact_slice rfl _ (k0_off181_packedbf16 k0_t1)) (fun _ => rfl)) (View.stores_vmem h_S1x128x128 (q11.storeExact_slice rfl _ (k0_off183_packedbf16 k0_t1)) (fun _ => rfl))
    yPair arg11 arg13 arg16 arg18 arg21 (k0_off178 k0_t1) (k0_off178_inb k0_t1) (k0_off184 k0_t1) (k0_off184_inb k0_t1) (k0_off176 k0_t1 0#32) (k0_off176_inb k0_t1 0) (k0_off185 k0_t1) (k0_off185_inb k0_t1) (k0_off186 k0_t1) (k0_off186_inb k0_t1) (k0_off176 k0_t1 1#32) (k0_off176_inb k0_t1 1) (k0_off187 k0_t1) (k0_off187_inb k0_t1) (k0_off188 k0_t1) (k0_off188_inb k0_t1) (View.stores_vmem h_S1x128x128 (q11.storeExact_slice rfl _ (k0_off186_packedbf16 k0_t1)) (fun _ => rfl)) (View.stores_vmem h_S1x128x128 (q11.storeExact_slice rfl _ (k0_off188_packedbf16 k0_t1)) (fun _ => rfl))
    yPair arg11 arg13 arg16 arg18 arg21 (k0_off178 k0_t1) (k0_off178_inb k0_t1) (k0_off189 k0_t1) (k0_off189_inb k0_t1) (k0_off176 k0_t1 0#32) (k0_off176_inb k0_t1 0) (k0_off190 k0_t1) (k0_off190_inb k0_t1) (k0_off191 k0_t1) (k0_off191_inb k0_t1) (k0_off176 k0_t1 1#32) (k0_off176_inb k0_t1 1) (k0_off192 k0_t1) (k0_off192_inb k0_t1) (k0_off193 k0_t1) (k0_off193_inb k0_t1) (View.stores_vmem h_S1x128x128 (q11.storeExact_slice rfl _ (k0_off191_packedbf16 k0_t1)) (fun _ => rfl)) (View.stores_vmem h_S1x128x128 (q11.storeExact_slice rfl _ (k0_off193_packedbf16 k0_t1)) (fun _ => rfl))
    headN arg12 arg14 arg22 (k0_pay1 v96 v97) (k0_off194 k0_t1) (k0_off194_inb k0_t1) (k0_off176 k0_t1 2#32) (k0_off176_inb k0_t1 2) (View.stores_vmem h_S1x1x128x256 (q14.storeExact_slice rfl _ (k0_off194_packedfp8e4m3 k0_t1)) (fun _ => rfl)) (View.stores_vmem_bits_univ h_S1x1x128 rfl)
    headN arg12 arg14 arg22 (k0_pay1 v96 v97) (k0_off195 k0_t1) (k0_off195_inb k0_t1) (k0_off176 k0_t1 3#32) (k0_off176_inb k0_t1 3) (View.stores_vmem h_S1x1x128x256 (q14.storeExact_slice rfl _ (k0_off195_packedfp8e4m3 k0_t1)) (fun _ => rfl)) (View.stores_vmem_bits_univ h_S1x1x128 rfl)
    yPair arg11 arg13 arg16 arg18 arg21 (k0_off196 k0_t1) (k0_off196_inb k0_t1) (k0_off179 k0_t1) (k0_off179_inb k0_t1) (k0_off176 k0_t1 2#32) (k0_off176_inb k0_t1 2) (k0_off197 k0_t1) (k0_off197_inb k0_t1) (k0_off198 k0_t1) (k0_off198_inb k0_t1) (k0_off176 k0_t1 3#32) (k0_off176_inb k0_t1 3) (k0_off199 k0_t1) (k0_off199_inb k0_t1) (k0_off200 k0_t1) (k0_off200_inb k0_t1) (View.stores_vmem h_S1x128x128 (q11.storeExact_slice rfl _ (k0_off198_packedbf16 k0_t1)) (fun _ => rfl)) (View.stores_vmem h_S1x128x128 (q11.storeExact_slice rfl _ (k0_off200_packedbf16 k0_t1)) (fun _ => rfl))
    yPair arg11 arg13 arg16 arg18 arg21 (k0_off196 k0_t1) (k0_off196_inb k0_t1) (k0_off184 k0_t1) (k0_off184_inb k0_t1) (k0_off176 k0_t1 2#32) (k0_off176_inb k0_t1 2) (k0_off201 k0_t1) (k0_off201_inb k0_t1) (k0_off202 k0_t1) (k0_off202_inb k0_t1) (k0_off176 k0_t1 3#32) (k0_off176_inb k0_t1 3) (k0_off203 k0_t1) (k0_off203_inb k0_t1) (k0_off204 k0_t1) (k0_off204_inb k0_t1) (View.stores_vmem h_S1x128x128 (q11.storeExact_slice rfl _ (k0_off202_packedbf16 k0_t1)) (fun _ => rfl)) (View.stores_vmem h_S1x128x128 (q11.storeExact_slice rfl _ (k0_off204_packedbf16 k0_t1)) (fun _ => rfl))
    yPair arg11 arg13 arg16 arg18 arg21 (k0_off196 k0_t1) (k0_off196_inb k0_t1) (k0_off189 k0_t1) (k0_off189_inb k0_t1) (k0_off176 k0_t1 2#32) (k0_off176_inb k0_t1 2) (k0_off205 k0_t1) (k0_off205_inb k0_t1) (k0_off206 k0_t1) (k0_off206_inb k0_t1) (k0_off176 k0_t1 3#32) (k0_off176_inb k0_t1 3) (k0_off207 k0_t1) (k0_off207_inb k0_t1) (k0_off208 k0_t1) (k0_off208_inb k0_t1) (View.stores_vmem h_S1x128x128 (q11.storeExact_slice rfl _ (k0_off206_packedbf16 k0_t1)) (fun _ => rfl)) (View.stores_vmem h_S1x128x128 (q11.storeExact_slice rfl _ (k0_off208_packedbf16 k0_t1)) (fun _ => rfl))
    headN arg12 arg14 arg22 (k0_pay1 v96 v97) (k0_off209 k0_t1) (k0_off209_inb k0_t1) (k0_off176 k0_t1 4#32) (k0_off176_inb k0_t1 4) (View.stores_vmem h_S1x1x128x256 (q14.storeExact_slice rfl _ (k0_off209_packedfp8e4m3 k0_t1)) (fun _ => rfl)) (View.stores_vmem_bits_univ h_S1x1x128 rfl)
    headN arg12 arg14 arg22 (k0_pay1 v96 v97) (k0_off210 k0_t1) (k0_off210_inb k0_t1) (k0_off176 k0_t1 5#32) (k0_off176_inb k0_t1 5) (View.stores_vmem h_S1x1x128x256 (q14.storeExact_slice rfl _ (k0_off210_packedfp8e4m3 k0_t1)) (fun _ => rfl)) (View.stores_vmem_bits_univ h_S1x1x128 rfl)
    yPair arg11 arg13 arg16 arg18 arg21 (k0_off211 k0_t1) (k0_off211_inb k0_t1) (k0_off179 k0_t1) (k0_off179_inb k0_t1) (k0_off176 k0_t1 4#32) (k0_off176_inb k0_t1 4) (k0_off212 k0_t1) (k0_off212_inb k0_t1) (k0_off213 k0_t1) (k0_off213_inb k0_t1) (k0_off176 k0_t1 5#32) (k0_off176_inb k0_t1 5) (k0_off214 k0_t1) (k0_off214_inb k0_t1) (k0_off215 k0_t1) (k0_off215_inb k0_t1) (View.stores_vmem h_S1x128x128 (q11.storeExact_slice rfl _ (k0_off213_packedbf16 k0_t1)) (fun _ => rfl)) (View.stores_vmem h_S1x128x128 (q11.storeExact_slice rfl _ (k0_off215_packedbf16 k0_t1)) (fun _ => rfl))
    yPair arg11 arg13 arg16 arg18 arg21 (k0_off211 k0_t1) (k0_off211_inb k0_t1) (k0_off184 k0_t1) (k0_off184_inb k0_t1) (k0_off176 k0_t1 4#32) (k0_off176_inb k0_t1 4) (k0_off216 k0_t1) (k0_off216_inb k0_t1) (k0_off217 k0_t1) (k0_off217_inb k0_t1) (k0_off176 k0_t1 5#32) (k0_off176_inb k0_t1 5) (k0_off218 k0_t1) (k0_off218_inb k0_t1) (k0_off219 k0_t1) (k0_off219_inb k0_t1) (View.stores_vmem h_S1x128x128 (q11.storeExact_slice rfl _ (k0_off217_packedbf16 k0_t1)) (fun _ => rfl)) (View.stores_vmem h_S1x128x128 (q11.storeExact_slice rfl _ (k0_off219_packedbf16 k0_t1)) (fun _ => rfl))
    yPair arg11 arg13 arg16 arg18 arg21 (k0_off211 k0_t1) (k0_off211_inb k0_t1) (k0_off189 k0_t1) (k0_off189_inb k0_t1) (k0_off176 k0_t1 4#32) (k0_off176_inb k0_t1 4) (k0_off220 k0_t1) (k0_off220_inb k0_t1) (k0_off221 k0_t1) (k0_off221_inb k0_t1) (k0_off176 k0_t1 5#32) (k0_off176_inb k0_t1 5) (k0_off222 k0_t1) (k0_off222_inb k0_t1) (k0_off223 k0_t1) (k0_off223_inb k0_t1) (View.stores_vmem h_S1x128x128 (q11.storeExact_slice rfl _ (k0_off221_packedbf16 k0_t1)) (fun _ => rfl)) (View.stores_vmem h_S1x128x128 (q11.storeExact_slice rfl _ (k0_off223_packedbf16 k0_t1)) (fun _ => rfl))
    headN arg12 arg14 arg22 (k0_pay1 v96 v97) (k0_off224 k0_t1) (k0_off224_inb k0_t1) (k0_off176 k0_t1 6#32) (k0_off176_inb k0_t1 6) (View.stores_vmem h_S1x1x128x256 (q14.storeExact_slice rfl _ (k0_off224_packedfp8e4m3 k0_t1)) (fun _ => rfl)) (View.stores_vmem_bits_univ h_S1x1x128 rfl)
    headN arg12 arg14 arg22 (k0_pay1 v96 v97) (k0_off225 k0_t1) (k0_off225_inb k0_t1) (k0_off176 k0_t1 7#32) (k0_off176_inb k0_t1 7) (View.stores_vmem h_S1x1x128x256 (q14.storeExact_slice rfl _ (k0_off225_packedfp8e4m3 k0_t1)) (fun _ => rfl)) (View.stores_vmem_bits_univ h_S1x1x128 rfl)
    yPair arg11 arg13 arg16 arg18 arg21 (k0_off226 k0_t1) (k0_off226_inb k0_t1) (k0_off179 k0_t1) (k0_off179_inb k0_t1) (k0_off176 k0_t1 6#32) (k0_off176_inb k0_t1 6) (k0_off227 k0_t1) (k0_off227_inb k0_t1) (k0_off228 k0_t1) (k0_off228_inb k0_t1) (k0_off176 k0_t1 7#32) (k0_off176_inb k0_t1 7) (k0_off229 k0_t1) (k0_off229_inb k0_t1) (k0_off230 k0_t1) (k0_off230_inb k0_t1) (View.stores_vmem h_S1x128x128 (q11.storeExact_slice rfl _ (k0_off228_packedbf16 k0_t1)) (fun _ => rfl)) (View.stores_vmem h_S1x128x128 (q11.storeExact_slice rfl _ (k0_off230_packedbf16 k0_t1)) (fun _ => rfl))
    yPair arg11 arg13 arg16 arg18 arg21 (k0_off226 k0_t1) (k0_off226_inb k0_t1) (k0_off184 k0_t1) (k0_off184_inb k0_t1) (k0_off176 k0_t1 6#32) (k0_off176_inb k0_t1 6) (k0_off231 k0_t1) (k0_off231_inb k0_t1) (k0_off232 k0_t1) (k0_off232_inb k0_t1) (k0_off176 k0_t1 7#32) (k0_off176_inb k0_t1 7) (k0_off233 k0_t1) (k0_off233_inb k0_t1) (k0_off234 k0_t1) (k0_off234_inb k0_t1) (View.stores_vmem h_S1x128x128 (q11.storeExact_slice rfl _ (k0_off232_packedbf16 k0_t1)) (fun _ => rfl)) (View.stores_vmem h_S1x128x128 (q11.storeExact_slice rfl _ (k0_off234_packedbf16 k0_t1)) (fun _ => rfl))
    yPair arg11 arg13 arg16 arg18 arg21 (k0_off226 k0_t1) (k0_off226_inb k0_t1) (k0_off189 k0_t1) (k0_off189_inb k0_t1) (k0_off176 k0_t1 6#32) (k0_off176_inb k0_t1 6) (k0_off235 k0_t1) (k0_off235_inb k0_t1) (k0_off236 k0_t1) (k0_off236_inb k0_t1) (k0_off176 k0_t1 7#32) (k0_off176_inb k0_t1 7) (k0_off237 k0_t1) (k0_off237_inb k0_t1) (k0_off238 k0_t1) (k0_off238_inb k0_t1) (View.stores_vmem h_S1x128x128 (q11.storeExact_slice rfl _ (k0_off236_packedbf16 k0_t1)) (fun _ => rfl)) (View.stores_vmem h_S1x128x128 (q11.storeExact_slice rfl _ (k0_off238_packedbf16 k0_t1)) (fun _ => rfl))
    pure ⟨⟩

set_option maxRecDepth 65536 in
theorem branch3_eq
    (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_)
    (v96 v97 : IVec S128x128 32) (k0_t1 : Fin k0_t1_loop.trips) (arg29 v129 v139 : BitVec 32) :
    branch3 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 = steps3 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 := rfl

end Cert.KernelIdeal.Run
-- ==== Proof.TripIdeal.lean ====
module

public import proofs.«01_k».proof.Proof.BranchIdeal
public import proofs.«01_k».proof.Proof.Gen.KernelIdeal.Frame
public import Idealize.ShloMosaic.Lib.MixedBatch
public import Idealize.ShloMosaic.Lib.Pointwise.Index

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The definitions a body's run is stated against: none of what follows depends on which they are. -/
class Rows (F : FTy → Type) [FloatOps F] where
  row : Defs nD τ sig (Elt F) Λ₀

variable {F : FTy → Type} [FloatOps F] [Rows F]

local notation "𝕄" => MT nD τ sig Unit (Elt F) ℕ (Pipeline.UD sig nD τ) ℕ

/-! # One trip's steps, as rules -/

variable (c : Dev nD)
abbrev WP {α : Type} (c : Dev nD) (p : KProg (F := F) α) (Q : α → sProp 𝕄) : sProp 𝕄 :=
  wp frame (wpE (Rows.row (F := F)) Variants.none (c : Thread nD τ) none) Set.univ p Q

/-- The elements `W` of a buffer of the core, held with contents `f`. -/
abbrev pt {sp : Space} {S : Shape} {e : EltTy} (m : Memref sig .tc sp S e) (W : Finset (Idx (m.view.loc (c : Thread nD τ))))
    (f : Buf (Elt F) (m.view.loc (c : Thread nD τ))) : sProp 𝕄 :=
  m.view.loc (c : Thread nD τ) ↦[W]{fullShare} f

theorem ld {cs : CoreSpace} {S : Shape} {e : EltTy} {m : Memref sig .tc cs S e} {r : Rect S} {hl : m.view.LoadsAt r}
    {α : Type} {k : (r.shape.Idx → Elt F e) → KProg (F := F) α} {Q : α → sProp 𝕄} {W : Finset (Idx (m.view.loc (c : Thread nD τ)))}
    {f : Buf (Elt F) (m.view.loc (c : Thread nD τ))} (hS : (m.access r).set ⊆ W) :
    pt c m W f ⊢ iprop((pt c m W f -∗ WP c (k ((m.access r).read (Elt F) f)) Q) -∗ WP c (Prog.lift (.load m r hl) >>= k) Q) :=
  wp_load_rect (defs := Rows.row (F := F)) Variants.none (c : Thread nD τ) none (Γ := .empty) Set.univ (Q := Q) (m := m) (r := r) (hl := hl)
    (k := k) (q := fullShare) (f := f) (S := W) hS

theorem st {cs : CoreSpace} {S : Shape} {e : EltTy} {m : Memref sig .tc cs S e} {r : Rect S} {w : r.shape.Idx → Elt F e}
    {hx : (m.access r).Stores Finset.univ} {hm : (Finset.univ : Finset r.shape.Idx) = Finset.univ ∨ ∀ a, r.stride a = 1}
    {α : Type} {k : PUnit → KProg (F := F) α} {Q : α → sProp 𝕄} {W : Finset (Idx (m.view.loc (c : Thread nD τ)))}
    {f g : Buf (Elt F) (m.view.loc (c : Thread nD τ))} (hS : (m.access r).set ⊆ W)
    (hin : ∀ j, (m.access r).read (Elt F) g j = w j) (hout : ∀ i ∈ W, i ∉ (m.access r).set → g i = f i) :
    pt c m W f ⊢ iprop((pt c m W g -∗ WP c (k ⟨⟩) Q) -∗ WP c (Prog.lift (.store m r w Finset.univ hx hm) >>= k) Q) := by
  have h := wp_store (defs := Rows.row (F := F)) Variants.none (c : Thread nD τ) none Set.univ (Γ := .empty) (Q := Q) (k := k) (m := m) (r := r) (w := w) (hx := hx) (hm := hm) (f := f) (S := W) hS
  have e : (m.access r).write (Elt F) f w Finset.univ = (m.access r).write (Elt F) f w Finset.univ := rfl
  have e2 : (pt c m W ((m.access r).write (Elt F) f w Finset.univ)) = pt c m W g := by
    refine pointsTo_congr fun i hi => ?_
    by_cases h' : i ∈ (m.access r).set
    · obtain ⟨j, -, rfl⟩ := Finset.mem_map.mp h'
      rw [View.write_emb_of_mem _ _ (Finset.mem_univ j), ← hin j, View.read_apply]
      simp
    · rw [View.write_of_not_mem _ _ _ h', hout i hi h']
  rw [show ((m.access r).loc (c : Thread nD τ) ↦[W]{fullShare} ((m.access r).write (Elt F) f w Finset.univ) : sProp 𝕄) = pt c m W g from e2] at h
  exact h

abbrev mY := Memref.whole (sig := sig) main_arg0
abbrev mC := Memref.whole (sig := sig) main_arg1
abbrev mDt := Memref.whole (sig := sig) main_arg2
abbrev mAl := Memref.whole (sig := sig) main_v0
abbrev mCodes := Memref.whole (sig := sig) main_arg4
abbrev mScl := Memref.whole (sig := sig) main_arg5
abbrev mHl := Memref.whole (sig := sig) main_arg6
abbrev mFde := Memref.whole (sig := sig) main_arg7
abbrev oY := Memref.whole (sig := sig) main_v1_0
abbrev oQ := Memref.whole (sig := sig) main_v1_1
abbrev oS := Memref.whole (sig := sig) main_v1_2
abbrev bY := Memref.whole (sig := sig) cc0_scratch0
abbrev bH := Memref.whole (sig := sig) cc0_scratch1
abbrev bCo := Memref.whole (sig := sig) cc0_scratch2
abbrev bQ := Memref.whole (sig := sig) cc0_scratch3
abbrev bC := Memref.whole (sig := sig) cc0_scratch4
abbrev bCg := Memref.whole (sig := sig) cc0_scratch5
abbrev bDt := Memref.whole (sig := sig) cc0_scratch6
abbrev bW := Memref.whole (sig := sig) cc0_scratch7
abbrev bFd := Memref.whole (sig := sig) cc0_scratch8
abbrev bAl := Memref.whole (sig := sig) cc0_scratch9
abbrev bSc := Memref.whole (sig := sig) cc0_scratch10
abbrev bSo := Memref.whole (sig := sig) cc0_scratch11
abbrev bFde := Memref.whole (sig := sig) cc0_scratch12

/-! ## What a trip computes, element by element -/

/-- The `r`-th head's slab of unit `u`. -/
def slabH {e : EltTy} (f : Vec F S20x8x128x256 e) (u : Fin 20) (r : Fin 8) : Vec F S1x1x128x256 e := fun j => f (ix4 u r (j 2) (j 3))
/-- The `p`-th pair of heads' slab of unit `u`. -/
def slabP {e : EltTy} (f : Vec F S20x8x128x256 e) (u : Fin 20) (p : Fin 4) : Vec F S1x2x128x256 e :=
  fun j => f (ix4 u ⟨2 * p.val + (j 1 : Fin 2).val, by have h : (j 1 : Fin 2).val < 2 := (j 1 : Fin 2).isLt; omega⟩ (j 2) (j 3))
/-- The row of scales of head `h` of batch `b`. -/
def slabS (f : Vec F S5x32x128 .f32) (b : Fin 5) (h : Fin 32) : Vec F S1x1x128 .f32 := fun j => f (ix3 b h (j 2))
/-- The final decay of head `r` of group `g`. -/
def slabF (f : Vec F S4x1x8 .f32) (g : Fin 4) (r : Fin 8) : Vec F S1x1x1 .f32 := fun _ => f (ix3 g 0 r)
/-- Token block `n` of group `g`'s rows of `c`. -/
def slabG (f : Vec F S4x384x256 .bf16) (g : Fin 4) (n : Fin 3) : Vec F S1x128x256 .bf16 :=
  fun j => f (ix3 g ⟨128 * n.val + (j 1 : Fin 128).val, by have h : (j 1 : Fin 128).val < 128 := (j 1 : Fin 128).isLt; omega⟩ (j 2))
/-- Token block `n` of the weights of head `r` of group `g`. -/
def slabW (f : Vec F S4x384x8 .f32) (g : Fin 4) (n : Fin 3) (r : Fin 8) : Vec F S1x128x1 .f32 :=
  fun j => f (ix3 g ⟨128 * n.val + (j 1 : Fin 128).val, by have h : (j 1 : Fin 128).val < 128 := (j 1 : Fin 128).isLt; omega⟩ r)
/-- Token block `n`, head `r`, of unit `u`'s rows of `y`. -/
def slabY (f : Vec F S20x384x1024 .bf16) (u : Fin 20) (n : Fin 3) (r : Fin 8) : Vec F S1x128x128 .bf16 :=
  fun j => f (ix3 u ⟨128 * n.val + (j 1 : Fin 128).val, by have h : (j 1 : Fin 128).val < 128 := (j 1 : Fin 128).isLt; omega⟩
    ⟨128 * r.val + (j 2 : Fin 128).val, by have h : (j 2 : Fin 128).val < 128 := (j 2 : Fin 128).isLt; omega⟩)

/-- What the trips read: the staged arrays, unit by unit; each batch's weights, decays and rows of `c`; and which batches carry. -/
structure Dat (F : FTy → Type) where
  Hb : Vec F S20x8x128x256 .f32
  Co : Vec F S20x8x128x256 .fp8e4m3
  Y0 : Vec F S20x384x1024 .bf16
  Sc : Vec F S5x32x128 .f32
  Cg : Fin 5 → Vec F S4x384x256 .bf16
  Wt : Fin 5 → Vec F S4x384x8 .f32
  Fd : Fin 5 → Vec F S4x1x8 .f32
  eye : IVec S128x128 1
  cy : Fin 5 → Prop
  nt : Fin 5 → ℕ

open Classical in
/-- The codes. -/
def QF (D : Dat F) : Vec F S20x8x128x256 .fp8e4m3 := fun i =>
  let u : Fin 20 := i 0; let r : Fin 8 := i 1
  let b : Fin 5 := ⟨u.val / 4, by omega⟩; let g : Fin 4 := ⟨u.val % 4, by omega⟩
  let h : Fin 32 := ⟨8 * (u.val % 4) + r.val, by omega⟩
  if D.cy b then qPayC D.eye (slabH D.Hb u r) (slabS D.Sc b h) (slabF (D.Fd b) g r) (slabH D.Co u r) (ix4 0 0 (i 2) (i 3))
  else qPay (slabH D.Hb u r) (ix4 0 0 (i 2) (i 3))
open Classical in
/-- The scales. -/
def SF (D : Dat F) : Vec F S5x32x128 .f32 := fun i =>
  let b : Fin 5 := i 0; let h : Fin 32 := i 1
  let u : Fin 20 := ⟨4 * b.val + h.val / 8, by omega⟩; let g : Fin 4 := ⟨h.val / 8, by omega⟩; let r : Fin 8 := ⟨h.val % 8, by omega⟩
  if D.cy b then sPayC D.eye (slabH D.Hb u r) (slabS D.Sc b h) (slabF (D.Fd b) g r) (slabH D.Co u r) (ix3 0 0 (i 2))
  else sPay D.eye (slabH D.Hb u r) (ix3 0 0 (i 2))
/-- The corrected `y`. -/
def YV (D : Dat F) : Vec F S20x384x1024 .bf16 := fun i =>
  let u : Fin 20 := i 0; let t : Fin 384 := i 1; let k : Fin 1024 := i 2
  let b : Fin 5 := ⟨u.val / 4, by omega⟩; let g : Fin 4 := ⟨u.val % 4, by omega⟩
  let n : Fin 3 := ⟨t.val / 128, by omega⟩; let p : Fin 4 := ⟨k.val / 256, by omega⟩; let r : Fin 8 := ⟨k.val / 128, by omega⟩
  let h : Fin 32 := ⟨8 * (u.val % 4) + r.val, by omega⟩
  let j : S1x128x128.Idx := ix3 0 ⟨t.val % 128, by omega⟩ ⟨k.val % 128, by omega⟩
  if r.val % 2 = 0 then yPayA (slabP D.Co u p) (slabG (D.Cg b) g n) (slabS D.Sc b h) (slabW (D.Wt b) g n r) (slabY D.Y0 u n r) j
  else yPayB (slabP D.Co u p) (slabG (D.Cg b) g n) (slabS D.Sc b h) (slabW (D.Wt b) g n r) (slabY D.Y0 u n r) j

/-! ## How far a trip has got -/

/-- The codes of a unit whose first `n` heads are done. -/
def Qst (D : Dat F) (f0 : Vec F S20x8x128x256 .fp8e4m3) (n : ℕ) : Vec F S20x8x128x256 .fp8e4m3 :=
  fun i => if (i 1 : Fin 8).val < n then QF D i else f0 i
/-- The scales, the first `n` heads of all done. -/
def Sst (D : Dat F) (f0 : Vec F S5x32x128 .f32) (n : ℕ) : Vec F S5x32x128 .f32 :=
  fun i => if 32 * (i 0 : Fin 5).val + (i 1 : Fin 32).val < n then SF D i else f0 i
/-- The rows of `y` of a unit, the first `s` pair steps done, at `nt` token blocks per pair. -/
def Yst (D : Dat F) (nt s : ℕ) : Vec F S20x384x1024 .bf16 :=
  fun i => if (i 1 : Fin 384).val / 128 < nt ∧ ((i 2 : Fin 1024).val / 256) * nt + (i 1 : Fin 384).val / 128 < s then YV D i else D.Y0 i

/-- Unit `u`'s window of a buffer of heads. -/
def W20 (u : ℕ) : Finset S20x8x128x256.Idx := Finset.univ.filter fun i => (i 0 : Fin 20).val = u
/-- Unit `u`'s window of the buffer of `y`. -/
def WY (u : ℕ) : Finset S20x384x1024.Idx := Finset.univ.filter fun i => (i 0 : Fin 20).val = u

/-- What a trip's steps hold: the unit's windows, the batch's scratch, the scales. -/
def TR (D : Dat F) (u : Fin 20) (b : Fin 5) (f0 : Vec F S20x8x128x256 .fp8e4m3) (g0 : Vec F S5x32x128 .f32) (nt n s : ℕ) : sProp 𝕄 :=
  iprop(pt c bH (W20 u) D.Hb ∗ pt c bCo (W20 u) D.Co ∗ pt c bY (WY u) (Yst D nt s) ∗ pt c bQ (W20 u) (Qst D f0 n)
    ∗ pt c bSo Finset.univ (Sst D g0 (8 * u.val + n)) ∗ pt c bSc Finset.univ D.Sc ∗ pt c bFd Finset.univ (D.Fd b)
    ∗ pt c bCg Finset.univ (D.Cg b) ∗ pt c bW Finset.univ (D.Wt b))

theorem acc_set {b : Ref sig .tc} (r : Rect b.ty.shape) : ((Memref.whole b).access r).set = r.set := View.set_slice_whole b r

/-! ### The rectangles the steps use -/

theorem embH {u : Fin 20} {r : Fin 8} {o : Fin 4 → ℕ} {h : ∀ a, o a + S1x1x128x256.size a ≤ S20x8x128x256.size a} (ho : o = ![u.val, r.val, 0, 0])
    (j : S1x1x128x256.Idx) : (Rect.unit (s := S20x8x128x256) o S1x1x128x256.size h).emb j = ix4 u r (j 2 : Fin 128) (j 3 : Fin 256) := by
  subst ho
  refine funext fun a => Fin.ext ?_
  have h0 : (j 0 : Fin 1).val < 1 := (j 0 : Fin 1).isLt
  have h1 : (j 1 : Fin 1).val < 1 := (j 1 : Fin 1).isLt
  fin_cases a
  · show u.val + 1 * (j 0 : Fin 1).val = u.val; omega
  · show r.val + 1 * (j 1 : Fin 1).val = r.val; omega
  · show 0 + 1 * (j 2 : Fin 128).val = (j 2 : Fin 128).val; omega
  · show 0 + 1 * (j 3 : Fin 256).val = (j 3 : Fin 256).val; omega
theorem memH {u r : ℕ} {o : Fin 4 → ℕ} {h : ∀ a, o a + S1x1x128x256.size a ≤ S20x8x128x256.size a} (ho : o = ![u, r, 0, 0])
    (i : S20x8x128x256.Idx) : i ∈ (Rect.unit (s := S20x8x128x256) o S1x1x128x256.size h).set ↔ (i 0 : Fin 20).val = u ∧ (i 1 : Fin 8).val = r := by
  subst ho
  rw [Rect.mem_set_unit]
  have h2 : (i 2 : Fin 128).val < 128 := (i 2 : Fin 128).isLt
  have h3 : (i 3 : Fin 256).val < 256 := (i 3 : Fin 256).isLt
  constructor
  · intro H
    have a0 : u ≤ (i 0 : Fin 20).val ∧ (i 0 : Fin 20).val < u + 1 := H 0
    have a1 : r ≤ (i 1 : Fin 8).val ∧ (i 1 : Fin 8).val < r + 1 := H 1
    omega
  · rintro ⟨a0, a1⟩ a
    fin_cases a
    · show u ≤ (i 0 : Fin 20).val ∧ (i 0 : Fin 20).val < u + 1; omega
    · show r ≤ (i 1 : Fin 8).val ∧ (i 1 : Fin 8).val < r + 1; omega
    · show 0 ≤ (i 2 : Fin 128).val ∧ (i 2 : Fin 128).val < 0 + 128; omega
    · show 0 ≤ (i 3 : Fin 256).val ∧ (i 3 : Fin 256).val < 0 + 256; omega
theorem subH {u r : ℕ} {o : Fin 4 → ℕ} {h : ∀ a, o a + S1x1x128x256.size a ≤ S20x8x128x256.size a} (ho : o = ![u, r, 0, 0]) :
    (Rect.unit (s := S20x8x128x256) o S1x1x128x256.size h).set ⊆ W20 u :=
  fun i hi => Finset.mem_filter.mpr ⟨Finset.mem_univ _, ((memH ho i).mp hi).1⟩

theorem embP {u : Fin 20} {p : Fin 4} {o : Fin 4 → ℕ} {h : ∀ a, o a + S1x2x128x256.size a ≤ S20x8x128x256.size a} (ho : o = ![u.val, 2 * p.val, 0, 0])
    (j : S1x2x128x256.Idx) : (Rect.unit (s := S20x8x128x256) o S1x2x128x256.size h).emb j
      = ix4 u ⟨2 * p.val + (j 1 : Fin 2).val, by have h : (j 1 : Fin 2).val < 2 := (j 1 : Fin 2).isLt; omega⟩ (j 2 : Fin 128) (j 3 : Fin 256) := by
  subst ho
  refine funext fun a => Fin.ext ?_
  have h0 : (j 0 : Fin 1).val < 1 := (j 0 : Fin 1).isLt
  fin_cases a
  · show u.val + 1 * (j 0 : Fin 1).val = u.val; omega
  · show 2 * p.val + 1 * (j 1 : Fin 2).val = 2 * p.val + (j 1 : Fin 2).val; omega
  · show 0 + 1 * (j 2 : Fin 128).val = (j 2 : Fin 128).val; omega
  · show 0 + 1 * (j 3 : Fin 256).val = (j 3 : Fin 256).val; omega
theorem subP {u q : ℕ} {o : Fin 4 → ℕ} {h : ∀ a, o a + S1x2x128x256.size a ≤ S20x8x128x256.size a} (ho : o = ![u, q, 0, 0]) :
    (Rect.unit (s := S20x8x128x256) o S1x2x128x256.size h).set ⊆ W20 u := fun i hi => by
  subst ho
  have a0 : u ≤ (i 0 : Fin 20).val ∧ (i 0 : Fin 20).val < u + 1 := (Rect.mem_set_unit.mp hi) 0
  exact Finset.mem_filter.mpr ⟨Finset.mem_univ _, by omega⟩

theorem embS {b : Fin 5} {g : Fin 32} {o : Fin 3 → ℕ} {h : ∀ a, o a + S1x1x128.size a ≤ S5x32x128.size a} (ho : o = ![b.val, g.val, 0])
    (j : S1x1x128.Idx) : (Rect.unit (s := S5x32x128) o S1x1x128.size h).emb j = ix3 b g (j 2 : Fin 128) := by
  subst ho
  refine funext fun a => Fin.ext ?_
  have h0 : (j 0 : Fin 1).val < 1 := (j 0 : Fin 1).isLt
  have h1 : (j 1 : Fin 1).val < 1 := (j 1 : Fin 1).isLt
  fin_cases a
  · show b.val + 1 * (j 0 : Fin 1).val = b.val; omega
  · show g.val + 1 * (j 1 : Fin 1).val = g.val; omega
  · show 0 + 1 * (j 2 : Fin 128).val = (j 2 : Fin 128).val; omega
theorem memS {b g : ℕ} {o : Fin 3 → ℕ} {h : ∀ a, o a + S1x1x128.size a ≤ S5x32x128.size a} (ho : o = ![b, g, 0])
    (i : S5x32x128.Idx) : i ∈ (Rect.unit (s := S5x32x128) o S1x1x128.size h).set ↔ (i 0 : Fin 5).val = b ∧ (i 1 : Fin 32).val = g := by
  subst ho
  rw [Rect.mem_set_unit]
  have h2 : (i 2 : Fin 128).val < 128 := (i 2 : Fin 128).isLt
  constructor
  · intro H
    have a0 : b ≤ (i 0 : Fin 5).val ∧ (i 0 : Fin 5).val < b + 1 := H 0
    have a1 : g ≤ (i 1 : Fin 32).val ∧ (i 1 : Fin 32).val < g + 1 := H 1
    omega
  · rintro ⟨a0, a1⟩ a
    fin_cases a
    · show b ≤ (i 0 : Fin 5).val ∧ (i 0 : Fin 5).val < b + 1; omega
    · show g ≤ (i 1 : Fin 32).val ∧ (i 1 : Fin 32).val < g + 1; omega
    · show 0 ≤ (i 2 : Fin 128).val ∧ (i 2 : Fin 128).val < 0 + 128; omega

theorem embF {g : Fin 4} {r : Fin 8} {o : Fin 3 → ℕ} {h : ∀ a, o a + S1x1x1.size a ≤ S4x1x8.size a} (ho : o = ![g.val, 0, r.val])
    (j : S1x1x1.Idx) : (Rect.unit (s := S4x1x8) o S1x1x1.size h).emb j = ix3 g 0 r := by
  subst ho
  refine funext fun a => Fin.ext ?_
  have h0 : (j 0 : Fin 1).val < 1 := (j 0 : Fin 1).isLt
  have h1 : (j 1 : Fin 1).val < 1 := (j 1 : Fin 1).isLt
  have h2 : (j 2 : Fin 1).val < 1 := (j 2 : Fin 1).isLt
  fin_cases a
  · show g.val + 1 * (j 0 : Fin 1).val = g.val; omega
  · show 0 + 1 * (j 1 : Fin 1).val = 0; omega
  · show r.val + 1 * (j 2 : Fin 1).val = r.val; omega

theorem embG {g : Fin 4} {n : Fin 3} {o : Fin 3 → ℕ} {h : ∀ a, o a + S1x128x256.size a ≤ S4x384x256.size a} (ho : o = ![g.val, 128 * n.val, 0])
    (j : S1x128x256.Idx) : (Rect.unit (s := S4x384x256) o S1x128x256.size h).emb j
      = ix3 g ⟨128 * n.val + (j 1 : Fin 128).val, by have h : (j 1 : Fin 128).val < 128 := (j 1 : Fin 128).isLt; omega⟩ (j 2 : Fin 256) := by
  subst ho
  refine funext fun a => Fin.ext ?_
  have h0 : (j 0 : Fin 1).val < 1 := (j 0 : Fin 1).isLt
  fin_cases a
  · show g.val + 1 * (j 0 : Fin 1).val = g.val; omega
  · show 128 * n.val + 1 * (j 1 : Fin 128).val = 128 * n.val + (j 1 : Fin 128).val; omega
  · show 0 + 1 * (j 2 : Fin 256).val = (j 2 : Fin 256).val; omega

theorem embW {g : Fin 4} {n : Fin 3} {r : Fin 8} {o : Fin 3 → ℕ} {h : ∀ a, o a + S1x128x1.size a ≤ S4x384x8.size a} (ho : o = ![g.val, 128 * n.val, r.val])
    (j : S1x128x1.Idx) : (Rect.unit (s := S4x384x8) o S1x128x1.size h).emb j
      = ix3 g ⟨128 * n.val + (j 1 : Fin 128).val, by have h : (j 1 : Fin 128).val < 128 := (j 1 : Fin 128).isLt; omega⟩ r := by
  subst ho
  refine funext fun a => Fin.ext ?_
  have h0 : (j 0 : Fin 1).val < 1 := (j 0 : Fin 1).isLt
  have h2 : (j 2 : Fin 1).val < 1 := (j 2 : Fin 1).isLt
  fin_cases a
  · show g.val + 1 * (j 0 : Fin 1).val = g.val; omega
  · show 128 * n.val + 1 * (j 1 : Fin 128).val = 128 * n.val + (j 1 : Fin 128).val; omega
  · show r.val + 1 * (j 2 : Fin 1).val = r.val; omega

theorem embY {u : Fin 20} {n : Fin 3} {r : Fin 8} {o : Fin 3 → ℕ} {h : ∀ a, o a + S1x128x128.size a ≤ S20x384x1024.size a}
    (ho : o = ![u.val, 128 * n.val, 128 * r.val])
    (j : S1x128x128.Idx) : (Rect.unit (s := S20x384x1024) o S1x128x128.size h).emb j
      = ix3 u ⟨128 * n.val + (j 1 : Fin 128).val, by have h : (j 1 : Fin 128).val < 128 := (j 1 : Fin 128).isLt; omega⟩
        ⟨128 * r.val + (j 2 : Fin 128).val, by have h : (j 2 : Fin 128).val < 128 := (j 2 : Fin 128).isLt; omega⟩ := by
  subst ho
  refine funext fun a => Fin.ext ?_
  have h0 : (j 0 : Fin 1).val < 1 := (j 0 : Fin 1).isLt
  fin_cases a
  · show u.val + 1 * (j 0 : Fin 1).val = u.val; omega
  · show 128 * n.val + 1 * (j 1 : Fin 128).val = 128 * n.val + (j 1 : Fin 128).val; omega
  · show 128 * r.val + 1 * (j 2 : Fin 128).val = 128 * r.val + (j 2 : Fin 128).val; omega
theorem memY {u n r : ℕ} {o : Fin 3 → ℕ} {h : ∀ a, o a + S1x128x128.size a ≤ S20x384x1024.size a} (ho : o = ![u, 128 * n, 128 * r])
    (i : S20x384x1024.Idx) : i ∈ (Rect.unit (s := S20x384x1024) o S1x128x128.size h).set
      ↔ (i 0 : Fin 20).val = u ∧ (i 1 : Fin 384).val / 128 = n ∧ (i 2 : Fin 1024).val / 128 = r := by
  subst ho
  rw [Rect.mem_set_unit]
  constructor
  · intro H
    have a0 : u ≤ (i 0 : Fin 20).val ∧ (i 0 : Fin 20).val < u + 1 := H 0
    have a1 : 128 * n ≤ (i 1 : Fin 384).val ∧ (i 1 : Fin 384).val < 128 * n + 128 := H 1
    have a2 : 128 * r ≤ (i 2 : Fin 1024).val ∧ (i 2 : Fin 1024).val < 128 * r + 128 := H 2
    omega
  · rintro ⟨a0, a1, a2⟩ a
    fin_cases a
    · show u ≤ (i 0 : Fin 20).val ∧ (i 0 : Fin 20).val < u + 1; omega
    · show 128 * n ≤ (i 1 : Fin 384).val ∧ (i 1 : Fin 384).val < 128 * n + 128; omega
    · show 128 * r ≤ (i 2 : Fin 1024).val ∧ (i 2 : Fin 1024).val < 128 * r + 128; omega
theorem subY {u n r : ℕ} {o : Fin 3 → ℕ} {h : ∀ a, o a + S1x128x128.size a ≤ S20x384x1024.size a} (ho : o = ![u, 128 * n, 128 * r]) :
    (Rect.unit (s := S20x384x1024) o S1x128x128.size h).set ⊆ WY u :=
  fun i hi => Finset.mem_filter.mpr ⟨Finset.mem_univ _, ((memY ho i).mp hi).1⟩

/-! ### The progress contents -/

theorem eta4 (j : S1x1x128x256.Idx) : ix4 (0 : Fin 1) (0 : Fin 1) (j 2 : Fin 128) (j 3 : Fin 256) = j := by
  refine funext fun a => Fin.ext ?_
  have h0 : (j 0 : Fin 1).val < 1 := (j 0 : Fin 1).isLt
  have h1 : (j 1 : Fin 1).val < 1 := (j 1 : Fin 1).isLt
  fin_cases a
  · show 0 = (j 0 : Fin 1).val; omega
  · show 0 = (j 1 : Fin 1).val; omega
  · rfl
  · rfl
theorem eta3 (j : S1x1x128.Idx) : ix3 (0 : Fin 1) (0 : Fin 1) (j 2 : Fin 128) = j := by
  refine funext fun a => Fin.ext ?_
  have h0 : (j 0 : Fin 1).val < 1 := (j 0 : Fin 1).isLt
  have h1 : (j 1 : Fin 1).val < 1 := (j 1 : Fin 1).isLt
  fin_cases a
  · show 0 = (j 0 : Fin 1).val; omega
  · show 0 = (j 1 : Fin 1).val; omega
  · rfl

variable (D : Dat F) (u : Fin 20) (b : Fin 5) (hb : b.val = u.val / 4) (f0 : Vec F S20x8x128x256 .fp8e4m3) (g0 : Vec F S5x32x128 .f32)

theorem Qst_out (n : ℕ) (i : S20x8x128x256.Idx) (h : (i 1 : Fin 8).val ≠ n) : Qst D f0 (n + 1) i = Qst D f0 n i := by
  unfold Qst
  by_cases h' : (i 1 : Fin 8).val < n
  · rw [if_pos h', if_pos (by omega)]
  · rw [if_neg h', if_neg (by omega)]
theorem Qst_in (n : Fin 8) (x : Fin 128) (y : Fin 256) : Qst D f0 (n.val + 1) (ix4 u n x y) = QF D (ix4 u n x y) := by
  unfold Qst; exact if_pos (Nat.lt_succ_self _)
theorem Sst_out (n : ℕ) (i : S5x32x128.Idx) (h : 32 * (i 0 : Fin 5).val + (i 1 : Fin 32).val ≠ n) : Sst D g0 (n + 1) i = Sst D g0 n i := by
  unfold Sst
  by_cases h' : 32 * (i 0 : Fin 5).val + (i 1 : Fin 32).val < n
  · rw [if_pos h', if_pos (by omega)]
  · rw [if_neg h', if_neg (by omega)]
theorem Sst_in (n : ℕ) (i : S5x32x128.Idx) (h : 32 * (i 0 : Fin 5).val + (i 1 : Fin 32).val = n) : Sst D g0 (n + 1) i = SF D i := by
  unfold Sst; exact if_pos (by omega)

open Classical in
include hb in
theorem QF_N (hc : ¬ D.cy b) (n : Fin 8) (x : Fin 128) (y : Fin 256) : QF D (ix4 u n x y) = qPay (slabH D.Hb u n) (ix4 0 0 x y) := by
  have e : (⟨u.val / 4, by omega⟩ : Fin 5) = b := Fin.ext hb.symm
  show (if D.cy (⟨u.val / 4, _⟩ : Fin 5) then _ else _) = _
  rw [e, if_neg hc]; rfl
open Classical in
include hb in
theorem QF_C (hc : D.cy b) (n : Fin 8) (x : Fin 128) (y : Fin 256) : QF D (ix4 u n x y)
    = qPayC D.eye (slabH D.Hb u n) (slabS D.Sc b ⟨8 * (u.val % 4) + n.val, by omega⟩) (slabF (D.Fd b) ⟨u.val % 4, by omega⟩ n) (slabH D.Co u n) (ix4 0 0 x y) := by
  have e : (⟨u.val / 4, by omega⟩ : Fin 5) = b := Fin.ext hb.symm
  show (if D.cy (⟨u.val / 4, _⟩ : Fin 5) then qPayC D.eye (slabH D.Hb u n) (slabS D.Sc (⟨u.val / 4, _⟩ : Fin 5) _) (slabF (D.Fd (⟨u.val / 4, _⟩ : Fin 5)) _ n) _ _ else _) = _
  rw [e, if_pos hc]; rfl
open Classical in
include hb in
theorem SF_N (hc : ¬ D.cy b) (n : Fin 8) (x : Fin 128) : SF D (ix3 b ⟨8 * (u.val % 4) + n.val, by omega⟩ x) = sPay D.eye (slabH D.Hb u n) (ix3 0 0 x) := by
  have e : (⟨4 * b.val + (8 * (u.val % 4) + n.val) / 8, by omega⟩ : Fin 20) = u := Fin.ext (by show 4 * b.val + (8 * (u.val % 4) + n.val) / 8 = u.val; omega)
  have e2 : (⟨(8 * (u.val % 4) + n.val) % 8, by omega⟩ : Fin 8) = n := Fin.ext (by show (8 * (u.val % 4) + n.val) % 8 = n.val; omega)
  show (if D.cy b then _ else sPay D.eye (slabH D.Hb (⟨4 * b.val + (8 * (u.val % 4) + n.val) / 8, _⟩ : Fin 20) (⟨(8 * (u.val % 4) + n.val) % 8, _⟩ : Fin 8)) (ix3 0 0 x)) = _
  rw [e, e2, if_neg hc]
open Classical in
include hb in
theorem SF_C (hc : D.cy b) (n : Fin 8) (x : Fin 128) : SF D (ix3 b ⟨8 * (u.val % 4) + n.val, by omega⟩ x)
    = sPayC D.eye (slabH D.Hb u n) (slabS D.Sc b ⟨8 * (u.val % 4) + n.val, by omega⟩) (slabF (D.Fd b) ⟨u.val % 4, by omega⟩ n) (slabH D.Co u n) (ix3 0 0 x) := by
  have e : (⟨4 * b.val + (8 * (u.val % 4) + n.val) / 8, by omega⟩ : Fin 20) = u := Fin.ext (by show 4 * b.val + (8 * (u.val % 4) + n.val) / 8 = u.val; omega)
  have e2 : (⟨(8 * (u.val % 4) + n.val) % 8, by omega⟩ : Fin 8) = n := Fin.ext (by show (8 * (u.val % 4) + n.val) % 8 = n.val; omega)
  have e3 : (⟨(8 * (u.val % 4) + n.val) / 8, by omega⟩ : Fin 4) = ⟨u.val % 4, by omega⟩ := Fin.ext (by show (8 * (u.val % 4) + n.val) / 8 = u.val % 4; omega)
  show (if D.cy b then sPayC D.eye (slabH D.Hb (⟨4 * b.val + (8 * (u.val % 4) + n.val) / 8, _⟩ : Fin 20) (⟨(8 * (u.val % 4) + n.val) % 8, _⟩ : Fin 8)) (slabS D.Sc b (⟨8 * (u.val % 4) + n.val, _⟩ : Fin 32))
    (slabF (D.Fd b) (⟨(8 * (u.val % 4) + n.val) / 8, _⟩ : Fin 4) (⟨(8 * (u.val % 4) + n.val) % 8, _⟩ : Fin 8))
    (slabH D.Co (⟨4 * b.val + (8 * (u.val % 4) + n.val) / 8, _⟩ : Fin 20) (⟨(8 * (u.val % 4) + n.val) % 8, _⟩ : Fin 8)) (ix3 0 0 x) else _) = _
  rw [e, e2, e3, if_pos hc]

/-! ### The steps -/

include hb in
theorem headN_spec (nt s : ℕ) (n : Fin 8) (m m' : ℕ) (hm : m = n.val) (hm' : m' = n.val + 1) (hc : ¬ D.cy b)
    {oH : Fin 4 → ℕ} {hH : ∀ a, oH a + S1x1x128x256.size a ≤ S20x8x128x256.size a}
    {o2 : Fin 3 → ℕ} {hS : ∀ a, o2 a + S1x1x128.size a ≤ S5x32x128.size a}
    (eH : oH = ![u.val, n.val, 0, 0]) (eS : o2 = ![b.val, 8 * (u.val % 4) + n.val, 0])
    {xH : (bQ.access (Rect.unit (s := S20x8x128x256) oH S1x1x128x256.size hH)).Stores Finset.univ}
    {xS : (bSo.access (Rect.unit (s := S5x32x128) o2 S1x1x128.size hS)).Stores Finset.univ}
    {α : Type} {k : PUnit → KProg (F := F) α} {Q : α → sProp 𝕄} :
    TR c D u b f0 g0 nt m s ⊢ iprop((TR c D u b f0 g0 nt m' s -∗ WP c (k ⟨⟩) Q)
      -∗ WP c (headN bH bQ bSo D.eye oH hH o2 hS xH xS >>= k) Q) := by
  subst hm hm'
  have eS' : o2 = ![b.val, (⟨8 * (u.val % 4) + n.val, by omega⟩ : Fin 32).val, 0] := eS
  have rH : ((bH.access (Rect.unit (s := S20x8x128x256) oH S1x1x128x256.size hH)).read (Elt F) D.Hb) = slabH D.Hb u n :=
    funext fun j => congrArg D.Hb (embH eH j)
  unfold TR headN
  simp only [bind_assoc]
  iintro ⟨H1, H2, H3, H4, H5, HR⟩ Hk
  iapply (ld c (m := bH) (r := Rect.unit (s := S20x8x128x256) oH S1x1x128x256.size hH) (by rw [acc_set]; exact subH eH)) $$ H1
  iintro H1
  iapply (ld c (m := bQ) (r := Rect.unit (s := S20x8x128x256) oH S1x1x128x256.size hH) (by rw [acc_set]; exact subH eH)) $$ H4
  iintro H4
  iapply (st c (m := bQ) (r := Rect.unit (s := S20x8x128x256) oH S1x1x128x256.size hH) (g := Qst D f0 (n.val + 1)) (by rw [acc_set]; exact subH eH) ?_ ?_) $$ H4
  rotate_left 2
  · iintro H4
    iapply (ld c (m := bSo) (r := Rect.unit (s := S5x32x128) o2 S1x1x128.size hS) (Finset.subset_univ _)) $$ H5
    iintro H5
    iapply (st c (m := bSo) (r := Rect.unit (s := S5x32x128) o2 S1x1x128.size hS) (g := Sst D g0 (8 * u.val + (n.val + 1))) (Finset.subset_univ _) ?_ ?_) $$ H5
    rotate_left 2
    · iintro H5
      iapply Hk
      isplitl [H1]; · iexact H1
      isplitl [H2]; · iexact H2
      isplitl [H3]; · iexact H3
      isplitl [H4]; · iexact H4
      isplitl [H5]; · iexact H5
      iexact HR
    · intro j
      rw [rH]
      exact (congrArg (Sst D g0 (8 * u.val + n.val + 1)) (embS eS' j)).trans ((Sst_in D g0 _ _ (by show 32 * b.val + (8 * (u.val % 4) + n.val) = _; omega)).trans
        ((SF_N D u b hb hc n (j 2)).trans (congrArg _ (eta3 j))))
    · intro i _ hi
      rw [acc_set, memS eS] at hi
      exact Sst_out D g0 _ i fun h => hi (by
        have h1 : (i 1 : Fin 32).val < 32 := (i 1 : Fin 32).isLt
        have h2 : n.val < 8 := n.isLt
        have h3 : 32 * (i 0 : Fin 5).val + (i 1 : Fin 32).val = 8 * u.val + n.val := h
        clear * - hb h1 h2 h3
        generalize (i 0 : Fin 5).val = x at *
        generalize (i 1 : Fin 32).val = y at *
        omega)
  · intro j
    rw [rH]
    exact (congrArg (Qst D f0 (n.val + 1)) (embH eH j)).trans ((Qst_in D u f0 n (j 2) (j 3)).trans
      ((QF_N D u b hb hc n (j 2) (j 3)).trans (congrArg _ (eta4 j))))
  · intro i hi hn
    rw [acc_set, memH eH] at hn
    exact Qst_out D f0 _ i fun h => hn ⟨(Finset.mem_filter.mp hi).2, h⟩

include hb in
theorem headC_spec (nt s : ℕ) (n : Fin 8) (m m' : ℕ) (hm : m = n.val) (hm' : m' = n.val + 1) (hc : D.cy b)
    {oH : Fin 4 → ℕ} {hH : ∀ a, oH a + S1x1x128x256.size a ≤ S20x8x128x256.size a}
    {o2 : Fin 3 → ℕ} {hS : ∀ a, o2 a + S1x1x128.size a ≤ S5x32x128.size a}
    {oF : Fin 3 → ℕ} {hF : ∀ a, oF a + S1x1x1.size a ≤ S4x1x8.size a}
    (eH : oH = ![u.val, n.val, 0, 0]) (eS : o2 = ![b.val, 8 * (u.val % 4) + n.val, 0]) (eF : oF = ![u.val % 4, 0, n.val])
    {xH : (bQ.access (Rect.unit (s := S20x8x128x256) oH S1x1x128x256.size hH)).Stores Finset.univ}
    {xS : (bSo.access (Rect.unit (s := S5x32x128) o2 S1x1x128.size hS)).Stores Finset.univ}
    {α : Type} {k : PUnit → KProg (F := F) α} {Q : α → sProp 𝕄} :
    TR c D u b f0 g0 nt m s ⊢ iprop((TR c D u b f0 g0 nt m' s -∗ WP c (k ⟨⟩) Q)
      -∗ WP c (headC bH bCo bQ bFd bSc bSo D.eye oH hH o2 hS oF hF xH xS >>= k) Q) := by
  subst hm hm'
  have eS' : o2 = ![b.val, (⟨8 * (u.val % 4) + n.val, by omega⟩ : Fin 32).val, 0] := eS
  have eF' : oF = ![(⟨u.val % 4, by omega⟩ : Fin 4).val, 0, n.val] := eF
  have rH : ((bH.access (Rect.unit (s := S20x8x128x256) oH S1x1x128x256.size hH)).read (Elt F) D.Hb) = slabH D.Hb u n :=
    funext fun j => congrArg D.Hb (embH eH j)
  have rC : ((bCo.access (Rect.unit (s := S20x8x128x256) oH S1x1x128x256.size hH)).read (Elt F) D.Co) = slabH D.Co u n :=
    funext fun j => congrArg D.Co (embH eH j)
  have rS : ((bSc.access (Rect.unit (s := S5x32x128) o2 S1x1x128.size hS)).read (Elt F) D.Sc) = slabS D.Sc b ⟨8 * (u.val % 4) + n.val, by omega⟩ :=
    funext fun j => congrArg D.Sc (embS eS' j)
  have rF : ((bFd.access (Rect.unit (s := S4x1x8) oF S1x1x1.size hF)).read (Elt F) (D.Fd b)) = slabF (D.Fd b) ⟨u.val % 4, by omega⟩ n :=
    funext fun j => congrArg (D.Fd b) (embF eF' j)
  unfold TR headC
  simp only [bind_assoc]
  iintro ⟨H1, H2, H3, H4, H5, H6, H7, HR⟩ Hk
  iapply (ld c (m := bH) (r := Rect.unit (s := S20x8x128x256) oH S1x1x128x256.size hH) (by rw [acc_set]; exact subH eH)) $$ H1
  iintro H1
  iapply (ld c (m := bSc) (r := Rect.unit (s := S5x32x128) o2 S1x1x128.size hS) (Finset.subset_univ _)) $$ H6
  iintro H6
  iapply (ld c (m := bFd) (r := Rect.unit (s := S4x1x8) oF S1x1x1.size hF) (Finset.subset_univ _)) $$ H7
  iintro H7
  iapply (ld c (m := bCo) (r := Rect.unit (s := S20x8x128x256) oH S1x1x128x256.size hH) (by rw [acc_set]; exact subH eH)) $$ H2
  iintro H2
  iapply (ld c (m := bQ) (r := Rect.unit (s := S20x8x128x256) oH S1x1x128x256.size hH) (by rw [acc_set]; exact subH eH)) $$ H4
  iintro H4
  iapply (st c (m := bQ) (r := Rect.unit (s := S20x8x128x256) oH S1x1x128x256.size hH) (g := Qst D f0 (n.val + 1)) (by rw [acc_set]; exact subH eH) ?_ ?_) $$ H4
  rotate_left 2
  · iintro H4
    iapply (ld c (m := bSo) (r := Rect.unit (s := S5x32x128) o2 S1x1x128.size hS) (Finset.subset_univ _)) $$ H5
    iintro H5
    iapply (st c (m := bSo) (r := Rect.unit (s := S5x32x128) o2 S1x1x128.size hS) (g := Sst D g0 (8 * u.val + (n.val + 1))) (Finset.subset_univ _) ?_ ?_) $$ H5
    rotate_left 2
    · iintro H5
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HR
    · intro j
      rw [rH, rC, rS, rF]
      exact (congrArg (Sst D g0 (8 * u.val + n.val + 1)) (embS eS' j)).trans ((Sst_in D g0 _ _ (by show 32 * b.val + (8 * (u.val % 4) + n.val) = _; omega)).trans
        ((SF_C D u b hb hc n (j 2)).trans (congrArg _ (eta3 j))))
    · intro i _ hi
      rw [acc_set, memS eS] at hi
      exact Sst_out D g0 _ i fun h => hi (by
        have h1 : (i 1 : Fin 32).val < 32 := (i 1 : Fin 32).isLt
        have h2 : n.val < 8 := n.isLt
        have h3 : 32 * (i 0 : Fin 5).val + (i 1 : Fin 32).val = 8 * u.val + n.val := h
        clear * - hb h1 h2 h3
        generalize (i 0 : Fin 5).val = x at *
        generalize (i 1 : Fin 32).val = y at *
        omega)
  · intro j
    rw [rH, rC, rS, rF]
    exact (congrArg (Qst D f0 (n.val + 1)) (embH eH j)).trans ((Qst_in D u f0 n (j 2) (j 3)).trans
      ((QF_C D u b hb hc n (j 2) (j 3)).trans (congrArg _ (eta4 j))))
  · intro i hi hn
    rw [acc_set, memH eH] at hn
    exact Qst_out D f0 _ i fun h => hn ⟨(Finset.mem_filter.mp hi).2, h⟩

theorem YV_at (p : Fin 4) (n : Fin 3) (r : Fin 8) (hr : r.val / 2 = p.val) (x z : Fin 128) (hx : 128 * n.val + x.val < 384) (hz : 128 * r.val + z.val < 1024)
    (hb : b.val = u.val / 4) :
    YV D (ix3 u ⟨128 * n.val + x.val, hx⟩ ⟨128 * r.val + z.val, hz⟩) =
      if r.val % 2 = 0 then yPayA (slabP D.Co u p) (slabG (D.Cg b) ⟨u.val % 4, by omega⟩ n) (slabS D.Sc b ⟨8 * (u.val % 4) + r.val, by omega⟩)
        (slabW (D.Wt b) ⟨u.val % 4, by omega⟩ n r) (slabY D.Y0 u n r) (ix3 0 x z)
      else yPayB (slabP D.Co u p) (slabG (D.Cg b) ⟨u.val % 4, by omega⟩ n) (slabS D.Sc b ⟨8 * (u.val % 4) + r.val, by omega⟩)
        (slabW (D.Wt b) ⟨u.val % 4, by omega⟩ n r) (slabY D.Y0 u n r) (ix3 0 x z) := by
  have e1 : (⟨u.val / 4, by omega⟩ : Fin 5) = b := Fin.ext hb.symm
  have e2 : (⟨(128 * n.val + x.val) / 128, by omega⟩ : Fin 3) = n := Fin.ext (by show (128 * n.val + x.val) / 128 = n.val; omega)
  have e3 : (⟨(128 * r.val + z.val) / 256, by omega⟩ : Fin 4) = p := Fin.ext (by show (128 * r.val + z.val) / 256 = p.val; omega)
  have e4 : (⟨(128 * r.val + z.val) / 128, by omega⟩ : Fin 8) = r := Fin.ext (by show (128 * r.val + z.val) / 128 = r.val; omega)
  have e5 : (⟨(128 * n.val + x.val) % 128, by omega⟩ : Fin 128) = x := Fin.ext (by show (128 * n.val + x.val) % 128 = x.val; omega)
  have e6 : (⟨(128 * r.val + z.val) % 128, by omega⟩ : Fin 128) = z := Fin.ext (by show (128 * r.val + z.val) % 128 = z.val; omega)
  have key : ∀ (b' : Fin 5) (n' : Fin 3) (p' : Fin 4) (r' : Fin 8) (x' z' : Fin 128), b' = b → n' = n → p' = p → r' = r → x' = x → z' = z →
      (if r'.val % 2 = 0 then yPayA (slabP D.Co u p') (slabG (D.Cg b') ⟨u.val % 4, by omega⟩ n') (slabS D.Sc b' ⟨8 * (u.val % 4) + r'.val, by omega⟩)
          (slabW (D.Wt b') ⟨u.val % 4, by omega⟩ n' r') (slabY D.Y0 u n' r') (ix3 0 x' z')
        else yPayB (slabP D.Co u p') (slabG (D.Cg b') ⟨u.val % 4, by omega⟩ n') (slabS D.Sc b' ⟨8 * (u.val % 4) + r'.val, by omega⟩)
          (slabW (D.Wt b') ⟨u.val % 4, by omega⟩ n' r') (slabY D.Y0 u n' r') (ix3 0 x' z')) =
      if r.val % 2 = 0 then yPayA (slabP D.Co u p) (slabG (D.Cg b) ⟨u.val % 4, by omega⟩ n) (slabS D.Sc b ⟨8 * (u.val % 4) + r.val, by omega⟩)
        (slabW (D.Wt b) ⟨u.val % 4, by omega⟩ n r) (slabY D.Y0 u n r) (ix3 0 x z)
      else yPayB (slabP D.Co u p) (slabG (D.Cg b) ⟨u.val % 4, by omega⟩ n) (slabS D.Sc b ⟨8 * (u.val % 4) + r.val, by omega⟩)
        (slabW (D.Wt b) ⟨u.val % 4, by omega⟩ n r) (slabY D.Y0 u n r) (ix3 0 x z) := by
    rintro _ _ _ _ _ _ rfl rfl rfl rfl rfl rfl; rfl
  exact key _ _ _ _ _ _ e1 e2 e3 e4 e5 e6

/-- Between the two halves of a pair step. -/
def Yhalf (nt s n r : ℕ) : Vec F S20x384x1024 .bf16 :=
  fun i => if (i 1 : Fin 384).val / 128 = n ∧ (i 2 : Fin 1024).val / 128 = r then YV D i else Yst D nt s i

theorem eta3' (j : S1x128x128.Idx) : ix3 (0 : Fin 1) (j 1 : Fin 128) (j 2 : Fin 128) = j := by
  refine funext fun a => Fin.ext ?_
  have h0 : (j 0 : Fin 1).val < 1 := (j 0 : Fin 1).isLt
  fin_cases a
  · show 0 = (j 0 : Fin 1).val; omega
  · rfl
  · rfl

theorem Yst_out {nt s n p : ℕ} (hnt : nt = 1 ∨ nt = 2 ∨ nt = 3) (hn : n < nt) (hs : s = p * nt + n) (a c : ℕ) (h : ¬ (a = n ∧ c = p)) :
    (a < nt ∧ c * nt + a < s + 1) ↔ (a < nt ∧ c * nt + a < s) := by
  rcases hnt with rfl | rfl | rfl <;> omega
theorem Yst_in {nt s n p : ℕ} (hn : n < nt) (hs : s = p * nt + n) (a c : ℕ) (h : a = n ∧ c = p) : (a < nt ∧ c * nt + a < s + 1) := by
  obtain ⟨rfl, rfl⟩ := h; exact ⟨hn, by omega⟩
theorem Yst_at {nt s n p : ℕ} (hn : n < nt) (hs : s = p * nt + n) (i : S20x384x1024.Idx) (h1 : (i 1 : Fin 384).val / 128 = n) (h2 : (i 2 : Fin 1024).val / 256 = p) :
    Yst D nt s i = D.Y0 i := by
  unfold Yst; exact if_neg (by rw [h1, h2, hs]; omega)

include hb in
theorem yPair_spec (nt s s' nn : ℕ) (hs' : s' = s + 1) (p : Fin 4) (n : Fin 3) (hnt : nt = 1 ∨ nt = 2 ∨ nt = 3) (hn : n.val < nt) (hs : s = p.val * nt + n.val)
    {oC : Fin 4 → ℕ} {hC : ∀ a, oC a + S1x2x128x256.size a ≤ S20x8x128x256.size a}
    {oG : Fin 3 → ℕ} {hG : ∀ a, oG a + S1x128x256.size a ≤ S4x384x256.size a}
    {o1 : Fin 3 → ℕ} {hS1 : ∀ a, o1 a + S1x1x128.size a ≤ S5x32x128.size a}
    {oW : Fin 3 → ℕ} {hW : ∀ a, oW a + S1x128x1.size a ≤ S4x384x8.size a}
    {oV : Fin 3 → ℕ} {hY : ∀ a, oV a + S1x128x128.size a ≤ S20x384x1024.size a}
    {o1' : Fin 3 → ℕ} {hS1' : ∀ a, o1' a + S1x1x128.size a ≤ S5x32x128.size a}
    {oW' : Fin 3 → ℕ} {hW' : ∀ a, oW' a + S1x128x1.size a ≤ S4x384x8.size a}
    {oV' : Fin 3 → ℕ} {hY' : ∀ a, oV' a + S1x128x128.size a ≤ S20x384x1024.size a}
    (eC : oC = ![u.val, 2 * p.val, 0, 0]) (eG : oG = ![u.val % 4, 128 * n.val, 0])
    (eS : o1 = ![b.val, 8 * (u.val % 4) + 2 * p.val, 0]) (eW : oW = ![u.val % 4, 128 * n.val, 2 * p.val]) (eY : oV = ![u.val, 128 * n.val, 128 * (2 * p.val)])
    (eS' : o1' = ![b.val, 8 * (u.val % 4) + (2 * p.val + 1), 0]) (eW' : oW' = ![u.val % 4, 128 * n.val, 2 * p.val + 1])
    (eY' : oV' = ![u.val, 128 * n.val, 128 * (2 * p.val + 1)])
    {xY : (bY.access (Rect.unit (s := S20x384x1024) oV S1x128x128.size hY)).Stores Finset.univ}
    {xY' : (bY.access (Rect.unit (s := S20x384x1024) oV' S1x128x128.size hY')).Stores Finset.univ}
    {α : Type} {k : PUnit → KProg (F := F) α} {Q : α → sProp 𝕄} :
    TR c D u b f0 g0 nt nn s ⊢ iprop((TR c D u b f0 g0 nt nn s' -∗ WP c (k ⟨⟩) Q)
      -∗ WP c (yPair bY bCo bCg bW bSc oC hC oG hG o1 hS1 oW hW oV hY o1' hS1' oW' hW' oV' hY' xY xY' >>= k) Q) := by
  subst hs'
  have hg : u.val % 4 < 4 := by omega
  have hr0 : 2 * p.val < 8 := by omega
  have hr1 : 2 * p.val + 1 < 8 := by omega
  have eG' : oG = ![(⟨u.val % 4, hg⟩ : Fin 4).val, 128 * n.val, 0] := eG
  have eS0 : o1 = ![b.val, (⟨8 * (u.val % 4) + 2 * p.val, by omega⟩ : Fin 32).val, 0] := eS
  have eS1 : o1' = ![b.val, (⟨8 * (u.val % 4) + (2 * p.val + 1), by omega⟩ : Fin 32).val, 0] := eS'
  have eW0 : oW = ![(⟨u.val % 4, hg⟩ : Fin 4).val, 128 * n.val, (⟨2 * p.val, hr0⟩ : Fin 8).val] := eW
  have eW1 : oW' = ![(⟨u.val % 4, hg⟩ : Fin 4).val, 128 * n.val, (⟨2 * p.val + 1, hr1⟩ : Fin 8).val] := eW'
  have eY0 : oV = ![u.val, 128 * n.val, 128 * (⟨2 * p.val, hr0⟩ : Fin 8).val] := eY
  have eY1 : oV' = ![u.val, 128 * n.val, 128 * (⟨2 * p.val + 1, hr1⟩ : Fin 8).val] := eY'
  have rC : ((bCo.access (Rect.unit (s := S20x8x128x256) oC S1x2x128x256.size hC)).read (Elt F) D.Co) = slabP D.Co u p :=
    funext fun j => congrArg D.Co (embP eC j)
  have rG : ((bCg.access (Rect.unit (s := S4x384x256) oG S1x128x256.size hG)).read (Elt F) (D.Cg b)) = slabG (D.Cg b) ⟨u.val % 4, hg⟩ n :=
    funext fun j => congrArg (D.Cg b) (embG eG' j)
  have rS : ((bSc.access (Rect.unit (s := S5x32x128) o1 S1x1x128.size hS1)).read (Elt F) D.Sc) = slabS D.Sc b ⟨8 * (u.val % 4) + 2 * p.val, by omega⟩ :=
    funext fun j => congrArg D.Sc (embS eS0 j)
  have rS' : ((bSc.access (Rect.unit (s := S5x32x128) o1' S1x1x128.size hS1')).read (Elt F) D.Sc) = slabS D.Sc b ⟨8 * (u.val % 4) + (2 * p.val + 1), by omega⟩ :=
    funext fun j => congrArg D.Sc (embS eS1 j)
  have rW : ((bW.access (Rect.unit (s := S4x384x8) oW S1x128x1.size hW)).read (Elt F) (D.Wt b)) = slabW (D.Wt b) ⟨u.val % 4, hg⟩ n ⟨2 * p.val, hr0⟩ :=
    funext fun j => congrArg (D.Wt b) (embW eW0 j)
  have rW' : ((bW.access (Rect.unit (s := S4x384x8) oW' S1x128x1.size hW')).read (Elt F) (D.Wt b)) = slabW (D.Wt b) ⟨u.val % 4, hg⟩ n ⟨2 * p.val + 1, hr1⟩ :=
    funext fun j => congrArg (D.Wt b) (embW eW1 j)
  have rY : ((bY.access (Rect.unit (s := S20x384x1024) oV S1x128x128.size hY)).read (Elt F) (Yst D nt s)) = slabY D.Y0 u n ⟨2 * p.val, hr0⟩ :=
    funext fun j => (congrArg (Yst D nt s) (embY eY0 j)).trans (Yst_at D hn hs _
      (by have h : (j 1 : Fin 128).val < 128 := (j 1 : Fin 128).isLt; show (128 * n.val + (j 1 : Fin 128).val) / 128 = n.val; omega)
      (by have h : (j 2 : Fin 128).val < 128 := (j 2 : Fin 128).isLt; show (128 * (2 * p.val) + (j 2 : Fin 128).val) / 256 = p.val; omega))
  have rY' : ((bY.access (Rect.unit (s := S20x384x1024) oV' S1x128x128.size hY')).read (Elt F) (Yhalf D nt s n.val (2 * p.val))) = slabY D.Y0 u n ⟨2 * p.val + 1, hr1⟩ :=
    funext fun j => (congrArg (Yhalf D nt s n.val (2 * p.val)) (embY eY1 j)).trans ((if_neg (by
        rintro ⟨_, h'⟩
        have h2 : (j 2 : Fin 128).val < 128 := (j 2 : Fin 128).isLt
        have h3 : (128 * (2 * p.val + 1) + (j 2 : Fin 128).val) / 128 = 2 * p.val := h'
        omega)).trans (Yst_at D hn hs _
      (by have h : (j 1 : Fin 128).val < 128 := (j 1 : Fin 128).isLt; show (128 * n.val + (j 1 : Fin 128).val) / 128 = n.val; omega)
      (by have h : (j 2 : Fin 128).val < 128 := (j 2 : Fin 128).isLt; show (128 * (2 * p.val + 1) + (j 2 : Fin 128).val) / 256 = p.val; omega)))
  unfold TR yPair
  simp only [bind_assoc]
  iintro ⟨H1, H2, H3, H4, H5, H6, H7, H8, H9⟩ Hk
  iapply (ld c (m := bCo) (r := Rect.unit (s := S20x8x128x256) oC S1x2x128x256.size hC) (by rw [acc_set]; exact subP eC)) $$ H2
  iintro H2
  iapply (ld c (m := bCg) (r := Rect.unit (s := S4x384x256) oG S1x128x256.size hG) (Finset.subset_univ _)) $$ H8
  iintro H8
  iapply (ld c (m := bSc) (r := Rect.unit (s := S5x32x128) o1 S1x1x128.size hS1) (Finset.subset_univ _)) $$ H6
  iintro H6
  iapply (ld c (m := bW) (r := Rect.unit (s := S4x384x8) oW S1x128x1.size hW) (Finset.subset_univ _)) $$ H9
  iintro H9
  iapply (ld c (m := bY) (r := Rect.unit (s := S20x384x1024) oV S1x128x128.size hY) (by rw [acc_set]; exact subY eY)) $$ H3
  iintro H3
  iapply (ld c (m := bY) (r := Rect.unit (s := S20x384x1024) oV S1x128x128.size hY) (by rw [acc_set]; exact subY eY)) $$ H3
  iintro H3
  iapply (st c (m := bY) (r := Rect.unit (s := S20x384x1024) oV S1x128x128.size hY) (g := Yhalf D nt s n.val (2 * p.val)) (by rw [acc_set]; exact subY eY) ?_ ?_) $$ H3
  rotate_left 2
  · iintro H3
    iapply (ld c (m := bSc) (r := Rect.unit (s := S5x32x128) o1' S1x1x128.size hS1') (Finset.subset_univ _)) $$ H6
    iintro H6
    iapply (ld c (m := bW) (r := Rect.unit (s := S4x384x8) oW' S1x128x1.size hW') (Finset.subset_univ _)) $$ H9
    iintro H9
    iapply (ld c (m := bY) (r := Rect.unit (s := S20x384x1024) oV' S1x128x128.size hY') (by rw [acc_set]; exact subY eY')) $$ H3
    iintro H3
    iapply (ld c (m := bY) (r := Rect.unit (s := S20x384x1024) oV' S1x128x128.size hY') (by rw [acc_set]; exact subY eY')) $$ H3
    iintro H3
    iapply (st c (m := bY) (r := Rect.unit (s := S20x384x1024) oV' S1x128x128.size hY') (g := Yst D nt (s + 1)) (by rw [acc_set]; exact subY eY') ?_ ?_) $$ H3
    rotate_left 2
    · iintro H3
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · intro j
      have h1 : (j 1 : Fin 128).val < 128 := (j 1 : Fin 128).isLt
      have h2 : (j 2 : Fin 128).val < 128 := (j 2 : Fin 128).isLt
      rw [rC, rG, rS', rW', rY']
      refine (congrArg (Yst D nt (s + 1)) (embY eY1 j)).trans ((if_pos (Yst_in hn hs _ _ ⟨?_, ?_⟩)).trans
        ((YV_at D u b p n ⟨2 * p.val + 1, hr1⟩ (by show (2 * p.val + 1) / 2 = p.val; omega) (j 1) (j 2) _ _ hb).trans
          ((if_neg (by show ¬ (2 * p.val + 1) % 2 = 0; omega)).trans (congrArg _ (eta3' j)))))
      · show (128 * n.val + (j 1 : Fin 128).val) / 128 = n.val; omega
      · show (128 * (2 * p.val + 1) + (j 2 : Fin 128).val) / 256 = p.val; omega
    · intro i hi hm
      rw [acc_set, memY eY'] at hm
      have hm' : ¬ ((i 1 : Fin 384).val / 128 = n.val ∧ (i 2 : Fin 1024).val / 128 = 2 * p.val + 1) := fun h => hm ⟨(Finset.mem_filter.mp hi).2, h⟩
      show Yst D nt (s + 1) i = Yhalf D nt s n.val (2 * p.val) i
      unfold Yhalf
      by_cases h : (i 1 : Fin 384).val / 128 = n.val ∧ (i 2 : Fin 1024).val / 128 = 2 * p.val
      · rw [if_pos h]
        exact if_pos (Yst_in hn hs _ _ ⟨h.1, by have := h.2; clear * - this; omega⟩)
      · rw [if_neg h]
        unfold Yst
        refine if_congr (Yst_out hnt hn hs _ _ ?_) rfl rfl
        rintro ⟨ha, hc⟩
        clear * - h hm' ha hc
        omega
  · intro j
    have h1 : (j 1 : Fin 128).val < 128 := (j 1 : Fin 128).isLt
    have h2 : (j 2 : Fin 128).val < 128 := (j 2 : Fin 128).isLt
    rw [rC, rG, rS, rW, rY]
    refine (congrArg (Yhalf D nt s n.val (2 * p.val)) (embY eY0 j)).trans ((if_pos ⟨?_, ?_⟩).trans
      ((YV_at D u b p n ⟨2 * p.val, hr0⟩ (by show (2 * p.val) / 2 = p.val; omega) (j 1) (j 2) _ _ hb).trans
        ((if_pos (by show (2 * p.val) % 2 = 0; omega)).trans (congrArg _ (eta3' j)))))
    · show (128 * n.val + (j 1 : Fin 128).val) / 128 = n.val; omega
    · show (128 * (2 * p.val) + (j 2 : Fin 128).val) / 128 = 2 * p.val; omega
  · intro i hi hm
    rw [acc_set, memY eY] at hm
    exact if_neg fun h => hm ⟨(Finset.mem_filter.mp hi).2, h⟩

end Cert.KernelIdeal.Run
-- ==== Proof.StepsIdeal.lean ====
module

public import proofs.«01_k».proof.Proof.TripIdeal

@[expose] public section

noncomputable section

/-- A buffer named whole is a whole memref. -/
theorem Cert.wh {sig : Idealize.ShloMosaic.RefSig} {κ : Idealize.ShloMosaic.Kind} (b : Idealize.ShloMosaic.Ref sig κ) :
    (Idealize.ShloMosaic.Memref.whole b).IsWhole := Idealize.ShloMosaic.Memref.isWhole_whole b

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The branches of a trip, run -/

theorem trips_eq : k0_t1_loop.trips = 20 := by decide +kernel
/-- The unit of a trip. -/
abbrev tu (t : Fin k0_t1_loop.trips) : Fin 20 := Fin.cast trips_eq t

theorem e_k0_off26 : ∀ t : Fin k0_t1_loop.trips, k0_off26 t = ![t.val, 0, 0, 0] := by decide +kernel
theorem e_k0_off27_0 : ∀ t : Fin k0_t1_loop.trips, k0_off27 t 0#32 = ![t.val / 4, 8 * (t.val % 4) + 0, 0] := by decide +kernel
theorem e_k0_off28 : ∀ t : Fin k0_t1_loop.trips, k0_off28 t = ![t.val % 4, 0, 0] := by decide +kernel
theorem e_k0_off29 : ∀ t : Fin k0_t1_loop.trips, k0_off29 t = ![t.val, 1, 0, 0] := by decide +kernel
theorem e_k0_off27_1 : ∀ t : Fin k0_t1_loop.trips, k0_off27 t 1#32 = ![t.val / 4, 8 * (t.val % 4) + 1, 0] := by decide +kernel
theorem e_k0_off30 : ∀ t : Fin k0_t1_loop.trips, k0_off30 t = ![t.val % 4, 0, 1] := by decide +kernel
theorem e_k0_off31 : ∀ t : Fin k0_t1_loop.trips, k0_off31 t = ![t.val, 0, 0, 0] := by decide +kernel
theorem e_k0_off32 : ∀ t : Fin k0_t1_loop.trips, k0_off32 t = ![t.val % 4, 0, 0] := by decide +kernel
theorem e_k0_off33 : ∀ t : Fin k0_t1_loop.trips, k0_off33 t = ![t.val % 4, 0, 0] := by decide +kernel
theorem e_k0_off34 : ∀ t : Fin k0_t1_loop.trips, k0_off34 t = ![t.val, 0, 0] := by decide +kernel
theorem e_k0_off35 : ∀ t : Fin k0_t1_loop.trips, k0_off35 t = ![t.val % 4, 0, 1] := by decide +kernel
theorem e_k0_off36 : ∀ t : Fin k0_t1_loop.trips, k0_off36 t = ![t.val, 0, 128] := by decide +kernel
theorem e_k0_off37 : ∀ t : Fin k0_t1_loop.trips, k0_off37 t = ![t.val % 4, 128, 0] := by decide +kernel
theorem e_k0_off38 : ∀ t : Fin k0_t1_loop.trips, k0_off38 t = ![t.val % 4, 128, 0] := by decide +kernel
theorem e_k0_off39 : ∀ t : Fin k0_t1_loop.trips, k0_off39 t = ![t.val, 128, 0] := by decide +kernel
theorem e_k0_off40 : ∀ t : Fin k0_t1_loop.trips, k0_off40 t = ![t.val % 4, 128, 1] := by decide +kernel
theorem e_k0_off41 : ∀ t : Fin k0_t1_loop.trips, k0_off41 t = ![t.val, 128, 128] := by decide +kernel
theorem e_k0_off42 : ∀ t : Fin k0_t1_loop.trips, k0_off42 t = ![t.val % 4, 256, 0] := by decide +kernel
theorem e_k0_off43 : ∀ t : Fin k0_t1_loop.trips, k0_off43 t = ![t.val % 4, 256, 0] := by decide +kernel
theorem e_k0_off44 : ∀ t : Fin k0_t1_loop.trips, k0_off44 t = ![t.val, 256, 0] := by decide +kernel
theorem e_k0_off45 : ∀ t : Fin k0_t1_loop.trips, k0_off45 t = ![t.val % 4, 256, 1] := by decide +kernel
theorem e_k0_off46 : ∀ t : Fin k0_t1_loop.trips, k0_off46 t = ![t.val, 256, 128] := by decide +kernel
theorem e_k0_off47 : ∀ t : Fin k0_t1_loop.trips, k0_off47 t = ![t.val, 2, 0, 0] := by decide +kernel
theorem e_k0_off27_2 : ∀ t : Fin k0_t1_loop.trips, k0_off27 t 2#32 = ![t.val / 4, 8 * (t.val % 4) + 2, 0] := by decide +kernel
theorem e_k0_off48 : ∀ t : Fin k0_t1_loop.trips, k0_off48 t = ![t.val % 4, 0, 2] := by decide +kernel
theorem e_k0_off49 : ∀ t : Fin k0_t1_loop.trips, k0_off49 t = ![t.val, 3, 0, 0] := by decide +kernel
theorem e_k0_off27_3 : ∀ t : Fin k0_t1_loop.trips, k0_off27 t 3#32 = ![t.val / 4, 8 * (t.val % 4) + 3, 0] := by decide +kernel
theorem e_k0_off50 : ∀ t : Fin k0_t1_loop.trips, k0_off50 t = ![t.val % 4, 0, 3] := by decide +kernel
theorem e_k0_off51 : ∀ t : Fin k0_t1_loop.trips, k0_off51 t = ![t.val, 2, 0, 0] := by decide +kernel
theorem e_k0_off52 : ∀ t : Fin k0_t1_loop.trips, k0_off52 t = ![t.val % 4, 0, 2] := by decide +kernel
theorem e_k0_off53 : ∀ t : Fin k0_t1_loop.trips, k0_off53 t = ![t.val, 0, 256] := by decide +kernel
theorem e_k0_off54 : ∀ t : Fin k0_t1_loop.trips, k0_off54 t = ![t.val % 4, 0, 3] := by decide +kernel
theorem e_k0_off55 : ∀ t : Fin k0_t1_loop.trips, k0_off55 t = ![t.val, 0, 384] := by decide +kernel
theorem e_k0_off56 : ∀ t : Fin k0_t1_loop.trips, k0_off56 t = ![t.val % 4, 128, 2] := by decide +kernel
theorem e_k0_off57 : ∀ t : Fin k0_t1_loop.trips, k0_off57 t = ![t.val, 128, 256] := by decide +kernel
theorem e_k0_off58 : ∀ t : Fin k0_t1_loop.trips, k0_off58 t = ![t.val % 4, 128, 3] := by decide +kernel
theorem e_k0_off59 : ∀ t : Fin k0_t1_loop.trips, k0_off59 t = ![t.val, 128, 384] := by decide +kernel
theorem e_k0_off60 : ∀ t : Fin k0_t1_loop.trips, k0_off60 t = ![t.val % 4, 256, 2] := by decide +kernel
theorem e_k0_off61 : ∀ t : Fin k0_t1_loop.trips, k0_off61 t = ![t.val, 256, 256] := by decide +kernel
theorem e_k0_off62 : ∀ t : Fin k0_t1_loop.trips, k0_off62 t = ![t.val % 4, 256, 3] := by decide +kernel
theorem e_k0_off63 : ∀ t : Fin k0_t1_loop.trips, k0_off63 t = ![t.val, 256, 384] := by decide +kernel
theorem e_k0_off64 : ∀ t : Fin k0_t1_loop.trips, k0_off64 t = ![t.val, 4, 0, 0] := by decide +kernel
theorem e_k0_off27_4 : ∀ t : Fin k0_t1_loop.trips, k0_off27 t 4#32 = ![t.val / 4, 8 * (t.val % 4) + 4, 0] := by decide +kernel
theorem e_k0_off65 : ∀ t : Fin k0_t1_loop.trips, k0_off65 t = ![t.val % 4, 0, 4] := by decide +kernel
theorem e_k0_off66 : ∀ t : Fin k0_t1_loop.trips, k0_off66 t = ![t.val, 5, 0, 0] := by decide +kernel
theorem e_k0_off27_5 : ∀ t : Fin k0_t1_loop.trips, k0_off27 t 5#32 = ![t.val / 4, 8 * (t.val % 4) + 5, 0] := by decide +kernel
theorem e_k0_off67 : ∀ t : Fin k0_t1_loop.trips, k0_off67 t = ![t.val % 4, 0, 5] := by decide +kernel
theorem e_k0_off68 : ∀ t : Fin k0_t1_loop.trips, k0_off68 t = ![t.val, 4, 0, 0] := by decide +kernel
theorem e_k0_off69 : ∀ t : Fin k0_t1_loop.trips, k0_off69 t = ![t.val % 4, 0, 4] := by decide +kernel
theorem e_k0_off70 : ∀ t : Fin k0_t1_loop.trips, k0_off70 t = ![t.val, 0, 512] := by decide +kernel
theorem e_k0_off71 : ∀ t : Fin k0_t1_loop.trips, k0_off71 t = ![t.val % 4, 0, 5] := by decide +kernel
theorem e_k0_off72 : ∀ t : Fin k0_t1_loop.trips, k0_off72 t = ![t.val, 0, 640] := by decide +kernel
theorem e_k0_off73 : ∀ t : Fin k0_t1_loop.trips, k0_off73 t = ![t.val % 4, 128, 4] := by decide +kernel
theorem e_k0_off74 : ∀ t : Fin k0_t1_loop.trips, k0_off74 t = ![t.val, 128, 512] := by decide +kernel
theorem e_k0_off75 : ∀ t : Fin k0_t1_loop.trips, k0_off75 t = ![t.val % 4, 128, 5] := by decide +kernel
theorem e_k0_off76 : ∀ t : Fin k0_t1_loop.trips, k0_off76 t = ![t.val, 128, 640] := by decide +kernel
theorem e_k0_off77 : ∀ t : Fin k0_t1_loop.trips, k0_off77 t = ![t.val % 4, 256, 4] := by decide +kernel
theorem e_k0_off78 : ∀ t : Fin k0_t1_loop.trips, k0_off78 t = ![t.val, 256, 512] := by decide +kernel
theorem e_k0_off79 : ∀ t : Fin k0_t1_loop.trips, k0_off79 t = ![t.val % 4, 256, 5] := by decide +kernel
theorem e_k0_off80 : ∀ t : Fin k0_t1_loop.trips, k0_off80 t = ![t.val, 256, 640] := by decide +kernel
theorem e_k0_off81 : ∀ t : Fin k0_t1_loop.trips, k0_off81 t = ![t.val, 6, 0, 0] := by decide +kernel
theorem e_k0_off27_6 : ∀ t : Fin k0_t1_loop.trips, k0_off27 t 6#32 = ![t.val / 4, 8 * (t.val % 4) + 6, 0] := by decide +kernel
theorem e_k0_off82 : ∀ t : Fin k0_t1_loop.trips, k0_off82 t = ![t.val % 4, 0, 6] := by decide +kernel
theorem e_k0_off83 : ∀ t : Fin k0_t1_loop.trips, k0_off83 t = ![t.val, 7, 0, 0] := by decide +kernel
theorem e_k0_off27_7 : ∀ t : Fin k0_t1_loop.trips, k0_off27 t 7#32 = ![t.val / 4, 8 * (t.val % 4) + 7, 0] := by decide +kernel
theorem e_k0_off84 : ∀ t : Fin k0_t1_loop.trips, k0_off84 t = ![t.val % 4, 0, 7] := by decide +kernel
theorem e_k0_off85 : ∀ t : Fin k0_t1_loop.trips, k0_off85 t = ![t.val, 6, 0, 0] := by decide +kernel
theorem e_k0_off86 : ∀ t : Fin k0_t1_loop.trips, k0_off86 t = ![t.val % 4, 0, 6] := by decide +kernel
theorem e_k0_off87 : ∀ t : Fin k0_t1_loop.trips, k0_off87 t = ![t.val, 0, 768] := by decide +kernel
theorem e_k0_off88 : ∀ t : Fin k0_t1_loop.trips, k0_off88 t = ![t.val % 4, 0, 7] := by decide +kernel
theorem e_k0_off89 : ∀ t : Fin k0_t1_loop.trips, k0_off89 t = ![t.val, 0, 896] := by decide +kernel
theorem e_k0_off90 : ∀ t : Fin k0_t1_loop.trips, k0_off90 t = ![t.val % 4, 128, 6] := by decide +kernel
theorem e_k0_off91 : ∀ t : Fin k0_t1_loop.trips, k0_off91 t = ![t.val, 128, 768] := by decide +kernel
theorem e_k0_off92 : ∀ t : Fin k0_t1_loop.trips, k0_off92 t = ![t.val % 4, 128, 7] := by decide +kernel
theorem e_k0_off93 : ∀ t : Fin k0_t1_loop.trips, k0_off93 t = ![t.val, 128, 896] := by decide +kernel
theorem e_k0_off94 : ∀ t : Fin k0_t1_loop.trips, k0_off94 t = ![t.val % 4, 256, 6] := by decide +kernel
theorem e_k0_off95 : ∀ t : Fin k0_t1_loop.trips, k0_off95 t = ![t.val, 256, 768] := by decide +kernel
theorem e_k0_off96 : ∀ t : Fin k0_t1_loop.trips, k0_off96 t = ![t.val % 4, 256, 7] := by decide +kernel
theorem e_k0_off97 : ∀ t : Fin k0_t1_loop.trips, k0_off97 t = ![t.val, 256, 896] := by decide +kernel
theorem e_k0_off98 : ∀ t : Fin k0_t1_loop.trips, k0_off98 t = ![t.val, 0, 0, 0] := by decide +kernel
theorem e_k0_off99_0 : ∀ t : Fin k0_t1_loop.trips, k0_off99 t 0#32 = ![t.val / 4, 8 * (t.val % 4) + 0, 0] := by decide +kernel
theorem e_k0_off100 : ∀ t : Fin k0_t1_loop.trips, k0_off100 t = ![t.val, 1, 0, 0] := by decide +kernel
theorem e_k0_off99_1 : ∀ t : Fin k0_t1_loop.trips, k0_off99 t 1#32 = ![t.val / 4, 8 * (t.val % 4) + 1, 0] := by decide +kernel
theorem e_k0_off101 : ∀ t : Fin k0_t1_loop.trips, k0_off101 t = ![t.val, 0, 0, 0] := by decide +kernel
theorem e_k0_off102 : ∀ t : Fin k0_t1_loop.trips, k0_off102 t = ![t.val % 4, 0, 0] := by decide +kernel
theorem e_k0_off103 : ∀ t : Fin k0_t1_loop.trips, k0_off103 t = ![t.val % 4, 0, 0] := by decide +kernel
theorem e_k0_off104 : ∀ t : Fin k0_t1_loop.trips, k0_off104 t = ![t.val, 0, 0] := by decide +kernel
theorem e_k0_off105 : ∀ t : Fin k0_t1_loop.trips, k0_off105 t = ![t.val % 4, 0, 1] := by decide +kernel
theorem e_k0_off106 : ∀ t : Fin k0_t1_loop.trips, k0_off106 t = ![t.val, 0, 128] := by decide +kernel
theorem e_k0_off107 : ∀ t : Fin k0_t1_loop.trips, k0_off107 t = ![t.val, 2, 0, 0] := by decide +kernel
theorem e_k0_off99_2 : ∀ t : Fin k0_t1_loop.trips, k0_off99 t 2#32 = ![t.val / 4, 8 * (t.val % 4) + 2, 0] := by decide +kernel
theorem e_k0_off108 : ∀ t : Fin k0_t1_loop.trips, k0_off108 t = ![t.val, 3, 0, 0] := by decide +kernel
theorem e_k0_off99_3 : ∀ t : Fin k0_t1_loop.trips, k0_off99 t 3#32 = ![t.val / 4, 8 * (t.val % 4) + 3, 0] := by decide +kernel
theorem e_k0_off109 : ∀ t : Fin k0_t1_loop.trips, k0_off109 t = ![t.val, 2, 0, 0] := by decide +kernel
theorem e_k0_off110 : ∀ t : Fin k0_t1_loop.trips, k0_off110 t = ![t.val % 4, 0, 2] := by decide +kernel
theorem e_k0_off111 : ∀ t : Fin k0_t1_loop.trips, k0_off111 t = ![t.val, 0, 256] := by decide +kernel
theorem e_k0_off112 : ∀ t : Fin k0_t1_loop.trips, k0_off112 t = ![t.val % 4, 0, 3] := by decide +kernel
theorem e_k0_off113 : ∀ t : Fin k0_t1_loop.trips, k0_off113 t = ![t.val, 0, 384] := by decide +kernel
theorem e_k0_off114 : ∀ t : Fin k0_t1_loop.trips, k0_off114 t = ![t.val, 4, 0, 0] := by decide +kernel
theorem e_k0_off99_4 : ∀ t : Fin k0_t1_loop.trips, k0_off99 t 4#32 = ![t.val / 4, 8 * (t.val % 4) + 4, 0] := by decide +kernel
theorem e_k0_off115 : ∀ t : Fin k0_t1_loop.trips, k0_off115 t = ![t.val, 5, 0, 0] := by decide +kernel
theorem e_k0_off99_5 : ∀ t : Fin k0_t1_loop.trips, k0_off99 t 5#32 = ![t.val / 4, 8 * (t.val % 4) + 5, 0] := by decide +kernel
theorem e_k0_off116 : ∀ t : Fin k0_t1_loop.trips, k0_off116 t = ![t.val, 4, 0, 0] := by decide +kernel
theorem e_k0_off117 : ∀ t : Fin k0_t1_loop.trips, k0_off117 t = ![t.val % 4, 0, 4] := by decide +kernel
theorem e_k0_off118 : ∀ t : Fin k0_t1_loop.trips, k0_off118 t = ![t.val, 0, 512] := by decide +kernel
theorem e_k0_off119 : ∀ t : Fin k0_t1_loop.trips, k0_off119 t = ![t.val % 4, 0, 5] := by decide +kernel
theorem e_k0_off120 : ∀ t : Fin k0_t1_loop.trips, k0_off120 t = ![t.val, 0, 640] := by decide +kernel
theorem e_k0_off121 : ∀ t : Fin k0_t1_loop.trips, k0_off121 t = ![t.val, 6, 0, 0] := by decide +kernel
theorem e_k0_off99_6 : ∀ t : Fin k0_t1_loop.trips, k0_off99 t 6#32 = ![t.val / 4, 8 * (t.val % 4) + 6, 0] := by decide +kernel
theorem e_k0_off122 : ∀ t : Fin k0_t1_loop.trips, k0_off122 t = ![t.val, 7, 0, 0] := by decide +kernel
theorem e_k0_off99_7 : ∀ t : Fin k0_t1_loop.trips, k0_off99 t 7#32 = ![t.val / 4, 8 * (t.val % 4) + 7, 0] := by decide +kernel
theorem e_k0_off123 : ∀ t : Fin k0_t1_loop.trips, k0_off123 t = ![t.val, 6, 0, 0] := by decide +kernel
theorem e_k0_off124 : ∀ t : Fin k0_t1_loop.trips, k0_off124 t = ![t.val % 4, 0, 6] := by decide +kernel
theorem e_k0_off125 : ∀ t : Fin k0_t1_loop.trips, k0_off125 t = ![t.val, 0, 768] := by decide +kernel
theorem e_k0_off126 : ∀ t : Fin k0_t1_loop.trips, k0_off126 t = ![t.val % 4, 0, 7] := by decide +kernel
theorem e_k0_off127 : ∀ t : Fin k0_t1_loop.trips, k0_off127 t = ![t.val, 0, 896] := by decide +kernel
theorem e_k0_off128 : ∀ t : Fin k0_t1_loop.trips, k0_off128 t = ![t.val, 0, 0, 0] := by decide +kernel
theorem e_k0_off129_0 : ∀ t : Fin k0_t1_loop.trips, k0_off129 t 0#32 = ![t.val / 4, 8 * (t.val % 4) + 0, 0] := by decide +kernel
theorem e_k0_off130 : ∀ t : Fin k0_t1_loop.trips, k0_off130 t = ![t.val, 1, 0, 0] := by decide +kernel
theorem e_k0_off129_1 : ∀ t : Fin k0_t1_loop.trips, k0_off129 t 1#32 = ![t.val / 4, 8 * (t.val % 4) + 1, 0] := by decide +kernel
theorem e_k0_off131 : ∀ t : Fin k0_t1_loop.trips, k0_off131 t = ![t.val, 0, 0, 0] := by decide +kernel
theorem e_k0_off132 : ∀ t : Fin k0_t1_loop.trips, k0_off132 t = ![t.val % 4, 0, 0] := by decide +kernel
theorem e_k0_off133 : ∀ t : Fin k0_t1_loop.trips, k0_off133 t = ![t.val % 4, 0, 0] := by decide +kernel
theorem e_k0_off134 : ∀ t : Fin k0_t1_loop.trips, k0_off134 t = ![t.val, 0, 0] := by decide +kernel
theorem e_k0_off135 : ∀ t : Fin k0_t1_loop.trips, k0_off135 t = ![t.val % 4, 0, 1] := by decide +kernel
theorem e_k0_off136 : ∀ t : Fin k0_t1_loop.trips, k0_off136 t = ![t.val, 0, 128] := by decide +kernel
theorem e_k0_off137 : ∀ t : Fin k0_t1_loop.trips, k0_off137 t = ![t.val % 4, 128, 0] := by decide +kernel
theorem e_k0_off138 : ∀ t : Fin k0_t1_loop.trips, k0_off138 t = ![t.val % 4, 128, 0] := by decide +kernel
theorem e_k0_off139 : ∀ t : Fin k0_t1_loop.trips, k0_off139 t = ![t.val, 128, 0] := by decide +kernel
theorem e_k0_off140 : ∀ t : Fin k0_t1_loop.trips, k0_off140 t = ![t.val % 4, 128, 1] := by decide +kernel
theorem e_k0_off141 : ∀ t : Fin k0_t1_loop.trips, k0_off141 t = ![t.val, 128, 128] := by decide +kernel
theorem e_k0_off142 : ∀ t : Fin k0_t1_loop.trips, k0_off142 t = ![t.val, 2, 0, 0] := by decide +kernel
theorem e_k0_off129_2 : ∀ t : Fin k0_t1_loop.trips, k0_off129 t 2#32 = ![t.val / 4, 8 * (t.val % 4) + 2, 0] := by decide +kernel
theorem e_k0_off143 : ∀ t : Fin k0_t1_loop.trips, k0_off143 t = ![t.val, 3, 0, 0] := by decide +kernel
theorem e_k0_off129_3 : ∀ t : Fin k0_t1_loop.trips, k0_off129 t 3#32 = ![t.val / 4, 8 * (t.val % 4) + 3, 0] := by decide +kernel
theorem e_k0_off144 : ∀ t : Fin k0_t1_loop.trips, k0_off144 t = ![t.val, 2, 0, 0] := by decide +kernel
theorem e_k0_off145 : ∀ t : Fin k0_t1_loop.trips, k0_off145 t = ![t.val % 4, 0, 2] := by decide +kernel
theorem e_k0_off146 : ∀ t : Fin k0_t1_loop.trips, k0_off146 t = ![t.val, 0, 256] := by decide +kernel
theorem e_k0_off147 : ∀ t : Fin k0_t1_loop.trips, k0_off147 t = ![t.val % 4, 0, 3] := by decide +kernel
theorem e_k0_off148 : ∀ t : Fin k0_t1_loop.trips, k0_off148 t = ![t.val, 0, 384] := by decide +kernel
theorem e_k0_off149 : ∀ t : Fin k0_t1_loop.trips, k0_off149 t = ![t.val % 4, 128, 2] := by decide +kernel
theorem e_k0_off150 : ∀ t : Fin k0_t1_loop.trips, k0_off150 t = ![t.val, 128, 256] := by decide +kernel
theorem e_k0_off151 : ∀ t : Fin k0_t1_loop.trips, k0_off151 t = ![t.val % 4, 128, 3] := by decide +kernel
theorem e_k0_off152 : ∀ t : Fin k0_t1_loop.trips, k0_off152 t = ![t.val, 128, 384] := by decide +kernel
theorem e_k0_off153 : ∀ t : Fin k0_t1_loop.trips, k0_off153 t = ![t.val, 4, 0, 0] := by decide +kernel
theorem e_k0_off129_4 : ∀ t : Fin k0_t1_loop.trips, k0_off129 t 4#32 = ![t.val / 4, 8 * (t.val % 4) + 4, 0] := by decide +kernel
theorem e_k0_off154 : ∀ t : Fin k0_t1_loop.trips, k0_off154 t = ![t.val, 5, 0, 0] := by decide +kernel
theorem e_k0_off129_5 : ∀ t : Fin k0_t1_loop.trips, k0_off129 t 5#32 = ![t.val / 4, 8 * (t.val % 4) + 5, 0] := by decide +kernel
theorem e_k0_off155 : ∀ t : Fin k0_t1_loop.trips, k0_off155 t = ![t.val, 4, 0, 0] := by decide +kernel
theorem e_k0_off156 : ∀ t : Fin k0_t1_loop.trips, k0_off156 t = ![t.val % 4, 0, 4] := by decide +kernel
theorem e_k0_off157 : ∀ t : Fin k0_t1_loop.trips, k0_off157 t = ![t.val, 0, 512] := by decide +kernel
theorem e_k0_off158 : ∀ t : Fin k0_t1_loop.trips, k0_off158 t = ![t.val % 4, 0, 5] := by decide +kernel
theorem e_k0_off159 : ∀ t : Fin k0_t1_loop.trips, k0_off159 t = ![t.val, 0, 640] := by decide +kernel
theorem e_k0_off160 : ∀ t : Fin k0_t1_loop.trips, k0_off160 t = ![t.val % 4, 128, 4] := by decide +kernel
theorem e_k0_off161 : ∀ t : Fin k0_t1_loop.trips, k0_off161 t = ![t.val, 128, 512] := by decide +kernel
theorem e_k0_off162 : ∀ t : Fin k0_t1_loop.trips, k0_off162 t = ![t.val % 4, 128, 5] := by decide +kernel
theorem e_k0_off163 : ∀ t : Fin k0_t1_loop.trips, k0_off163 t = ![t.val, 128, 640] := by decide +kernel
theorem e_k0_off164 : ∀ t : Fin k0_t1_loop.trips, k0_off164 t = ![t.val, 6, 0, 0] := by decide +kernel
theorem e_k0_off129_6 : ∀ t : Fin k0_t1_loop.trips, k0_off129 t 6#32 = ![t.val / 4, 8 * (t.val % 4) + 6, 0] := by decide +kernel
theorem e_k0_off165 : ∀ t : Fin k0_t1_loop.trips, k0_off165 t = ![t.val, 7, 0, 0] := by decide +kernel
theorem e_k0_off129_7 : ∀ t : Fin k0_t1_loop.trips, k0_off129 t 7#32 = ![t.val / 4, 8 * (t.val % 4) + 7, 0] := by decide +kernel
theorem e_k0_off166 : ∀ t : Fin k0_t1_loop.trips, k0_off166 t = ![t.val, 6, 0, 0] := by decide +kernel
theorem e_k0_off167 : ∀ t : Fin k0_t1_loop.trips, k0_off167 t = ![t.val % 4, 0, 6] := by decide +kernel
theorem e_k0_off168 : ∀ t : Fin k0_t1_loop.trips, k0_off168 t = ![t.val, 0, 768] := by decide +kernel
theorem e_k0_off169 : ∀ t : Fin k0_t1_loop.trips, k0_off169 t = ![t.val % 4, 0, 7] := by decide +kernel
theorem e_k0_off170 : ∀ t : Fin k0_t1_loop.trips, k0_off170 t = ![t.val, 0, 896] := by decide +kernel
theorem e_k0_off171 : ∀ t : Fin k0_t1_loop.trips, k0_off171 t = ![t.val % 4, 128, 6] := by decide +kernel
theorem e_k0_off172 : ∀ t : Fin k0_t1_loop.trips, k0_off172 t = ![t.val, 128, 768] := by decide +kernel
theorem e_k0_off173 : ∀ t : Fin k0_t1_loop.trips, k0_off173 t = ![t.val % 4, 128, 7] := by decide +kernel
theorem e_k0_off174 : ∀ t : Fin k0_t1_loop.trips, k0_off174 t = ![t.val, 128, 896] := by decide +kernel
theorem e_k0_off175 : ∀ t : Fin k0_t1_loop.trips, k0_off175 t = ![t.val, 0, 0, 0] := by decide +kernel
theorem e_k0_off176_0 : ∀ t : Fin k0_t1_loop.trips, k0_off176 t 0#32 = ![t.val / 4, 8 * (t.val % 4) + 0, 0] := by decide +kernel
theorem e_k0_off177 : ∀ t : Fin k0_t1_loop.trips, k0_off177 t = ![t.val, 1, 0, 0] := by decide +kernel
theorem e_k0_off176_1 : ∀ t : Fin k0_t1_loop.trips, k0_off176 t 1#32 = ![t.val / 4, 8 * (t.val % 4) + 1, 0] := by decide +kernel
theorem e_k0_off178 : ∀ t : Fin k0_t1_loop.trips, k0_off178 t = ![t.val, 0, 0, 0] := by decide +kernel
theorem e_k0_off179 : ∀ t : Fin k0_t1_loop.trips, k0_off179 t = ![t.val % 4, 0, 0] := by decide +kernel
theorem e_k0_off180 : ∀ t : Fin k0_t1_loop.trips, k0_off180 t = ![t.val % 4, 0, 0] := by decide +kernel
theorem e_k0_off181 : ∀ t : Fin k0_t1_loop.trips, k0_off181 t = ![t.val, 0, 0] := by decide +kernel
theorem e_k0_off182 : ∀ t : Fin k0_t1_loop.trips, k0_off182 t = ![t.val % 4, 0, 1] := by decide +kernel
theorem e_k0_off183 : ∀ t : Fin k0_t1_loop.trips, k0_off183 t = ![t.val, 0, 128] := by decide +kernel
theorem e_k0_off184 : ∀ t : Fin k0_t1_loop.trips, k0_off184 t = ![t.val % 4, 128, 0] := by decide +kernel
theorem e_k0_off185 : ∀ t : Fin k0_t1_loop.trips, k0_off185 t = ![t.val % 4, 128, 0] := by decide +kernel
theorem e_k0_off186 : ∀ t : Fin k0_t1_loop.trips, k0_off186 t = ![t.val, 128, 0] := by decide +kernel
theorem e_k0_off187 : ∀ t : Fin k0_t1_loop.trips, k0_off187 t = ![t.val % 4, 128, 1] := by decide +kernel
theorem e_k0_off188 : ∀ t : Fin k0_t1_loop.trips, k0_off188 t = ![t.val, 128, 128] := by decide +kernel
theorem e_k0_off189 : ∀ t : Fin k0_t1_loop.trips, k0_off189 t = ![t.val % 4, 256, 0] := by decide +kernel
theorem e_k0_off190 : ∀ t : Fin k0_t1_loop.trips, k0_off190 t = ![t.val % 4, 256, 0] := by decide +kernel
theorem e_k0_off191 : ∀ t : Fin k0_t1_loop.trips, k0_off191 t = ![t.val, 256, 0] := by decide +kernel
theorem e_k0_off192 : ∀ t : Fin k0_t1_loop.trips, k0_off192 t = ![t.val % 4, 256, 1] := by decide +kernel
theorem e_k0_off193 : ∀ t : Fin k0_t1_loop.trips, k0_off193 t = ![t.val, 256, 128] := by decide +kernel
theorem e_k0_off194 : ∀ t : Fin k0_t1_loop.trips, k0_off194 t = ![t.val, 2, 0, 0] := by decide +kernel
theorem e_k0_off176_2 : ∀ t : Fin k0_t1_loop.trips, k0_off176 t 2#32 = ![t.val / 4, 8 * (t.val % 4) + 2, 0] := by decide +kernel
theorem e_k0_off195 : ∀ t : Fin k0_t1_loop.trips, k0_off195 t = ![t.val, 3, 0, 0] := by decide +kernel
theorem e_k0_off176_3 : ∀ t : Fin k0_t1_loop.trips, k0_off176 t 3#32 = ![t.val / 4, 8 * (t.val % 4) + 3, 0] := by decide +kernel
theorem e_k0_off196 : ∀ t : Fin k0_t1_loop.trips, k0_off196 t = ![t.val, 2, 0, 0] := by decide +kernel
theorem e_k0_off197 : ∀ t : Fin k0_t1_loop.trips, k0_off197 t = ![t.val % 4, 0, 2] := by decide +kernel
theorem e_k0_off198 : ∀ t : Fin k0_t1_loop.trips, k0_off198 t = ![t.val, 0, 256] := by decide +kernel
theorem e_k0_off199 : ∀ t : Fin k0_t1_loop.trips, k0_off199 t = ![t.val % 4, 0, 3] := by decide +kernel
theorem e_k0_off200 : ∀ t : Fin k0_t1_loop.trips, k0_off200 t = ![t.val, 0, 384] := by decide +kernel
theorem e_k0_off201 : ∀ t : Fin k0_t1_loop.trips, k0_off201 t = ![t.val % 4, 128, 2] := by decide +kernel
theorem e_k0_off202 : ∀ t : Fin k0_t1_loop.trips, k0_off202 t = ![t.val, 128, 256] := by decide +kernel
theorem e_k0_off203 : ∀ t : Fin k0_t1_loop.trips, k0_off203 t = ![t.val % 4, 128, 3] := by decide +kernel
theorem e_k0_off204 : ∀ t : Fin k0_t1_loop.trips, k0_off204 t = ![t.val, 128, 384] := by decide +kernel
theorem e_k0_off205 : ∀ t : Fin k0_t1_loop.trips, k0_off205 t = ![t.val % 4, 256, 2] := by decide +kernel
theorem e_k0_off206 : ∀ t : Fin k0_t1_loop.trips, k0_off206 t = ![t.val, 256, 256] := by decide +kernel
theorem e_k0_off207 : ∀ t : Fin k0_t1_loop.trips, k0_off207 t = ![t.val % 4, 256, 3] := by decide +kernel
theorem e_k0_off208 : ∀ t : Fin k0_t1_loop.trips, k0_off208 t = ![t.val, 256, 384] := by decide +kernel
theorem e_k0_off209 : ∀ t : Fin k0_t1_loop.trips, k0_off209 t = ![t.val, 4, 0, 0] := by decide +kernel
theorem e_k0_off176_4 : ∀ t : Fin k0_t1_loop.trips, k0_off176 t 4#32 = ![t.val / 4, 8 * (t.val % 4) + 4, 0] := by decide +kernel
theorem e_k0_off210 : ∀ t : Fin k0_t1_loop.trips, k0_off210 t = ![t.val, 5, 0, 0] := by decide +kernel
theorem e_k0_off176_5 : ∀ t : Fin k0_t1_loop.trips, k0_off176 t 5#32 = ![t.val / 4, 8 * (t.val % 4) + 5, 0] := by decide +kernel
theorem e_k0_off211 : ∀ t : Fin k0_t1_loop.trips, k0_off211 t = ![t.val, 4, 0, 0] := by decide +kernel
theorem e_k0_off212 : ∀ t : Fin k0_t1_loop.trips, k0_off212 t = ![t.val % 4, 0, 4] := by decide +kernel
theorem e_k0_off213 : ∀ t : Fin k0_t1_loop.trips, k0_off213 t = ![t.val, 0, 512] := by decide +kernel
theorem e_k0_off214 : ∀ t : Fin k0_t1_loop.trips, k0_off214 t = ![t.val % 4, 0, 5] := by decide +kernel
theorem e_k0_off215 : ∀ t : Fin k0_t1_loop.trips, k0_off215 t = ![t.val, 0, 640] := by decide +kernel
theorem e_k0_off216 : ∀ t : Fin k0_t1_loop.trips, k0_off216 t = ![t.val % 4, 128, 4] := by decide +kernel
theorem e_k0_off217 : ∀ t : Fin k0_t1_loop.trips, k0_off217 t = ![t.val, 128, 512] := by decide +kernel
theorem e_k0_off218 : ∀ t : Fin k0_t1_loop.trips, k0_off218 t = ![t.val % 4, 128, 5] := by decide +kernel
theorem e_k0_off219 : ∀ t : Fin k0_t1_loop.trips, k0_off219 t = ![t.val, 128, 640] := by decide +kernel
theorem e_k0_off220 : ∀ t : Fin k0_t1_loop.trips, k0_off220 t = ![t.val % 4, 256, 4] := by decide +kernel
theorem e_k0_off221 : ∀ t : Fin k0_t1_loop.trips, k0_off221 t = ![t.val, 256, 512] := by decide +kernel
theorem e_k0_off222 : ∀ t : Fin k0_t1_loop.trips, k0_off222 t = ![t.val % 4, 256, 5] := by decide +kernel
theorem e_k0_off223 : ∀ t : Fin k0_t1_loop.trips, k0_off223 t = ![t.val, 256, 640] := by decide +kernel
theorem e_k0_off224 : ∀ t : Fin k0_t1_loop.trips, k0_off224 t = ![t.val, 6, 0, 0] := by decide +kernel
theorem e_k0_off176_6 : ∀ t : Fin k0_t1_loop.trips, k0_off176 t 6#32 = ![t.val / 4, 8 * (t.val % 4) + 6, 0] := by decide +kernel
theorem e_k0_off225 : ∀ t : Fin k0_t1_loop.trips, k0_off225 t = ![t.val, 7, 0, 0] := by decide +kernel
theorem e_k0_off176_7 : ∀ t : Fin k0_t1_loop.trips, k0_off176 t 7#32 = ![t.val / 4, 8 * (t.val % 4) + 7, 0] := by decide +kernel
theorem e_k0_off226 : ∀ t : Fin k0_t1_loop.trips, k0_off226 t = ![t.val, 6, 0, 0] := by decide +kernel
theorem e_k0_off227 : ∀ t : Fin k0_t1_loop.trips, k0_off227 t = ![t.val % 4, 0, 6] := by decide +kernel
theorem e_k0_off228 : ∀ t : Fin k0_t1_loop.trips, k0_off228 t = ![t.val, 0, 768] := by decide +kernel
theorem e_k0_off229 : ∀ t : Fin k0_t1_loop.trips, k0_off229 t = ![t.val % 4, 0, 7] := by decide +kernel
theorem e_k0_off230 : ∀ t : Fin k0_t1_loop.trips, k0_off230 t = ![t.val, 0, 896] := by decide +kernel
theorem e_k0_off231 : ∀ t : Fin k0_t1_loop.trips, k0_off231 t = ![t.val % 4, 128, 6] := by decide +kernel
theorem e_k0_off232 : ∀ t : Fin k0_t1_loop.trips, k0_off232 t = ![t.val, 128, 768] := by decide +kernel
theorem e_k0_off233 : ∀ t : Fin k0_t1_loop.trips, k0_off233 t = ![t.val % 4, 128, 7] := by decide +kernel
theorem e_k0_off234 : ∀ t : Fin k0_t1_loop.trips, k0_off234 t = ![t.val, 128, 896] := by decide +kernel
theorem e_k0_off235 : ∀ t : Fin k0_t1_loop.trips, k0_off235 t = ![t.val % 4, 256, 6] := by decide +kernel
theorem e_k0_off236 : ∀ t : Fin k0_t1_loop.trips, k0_off236 t = ![t.val, 256, 768] := by decide +kernel
theorem e_k0_off237 : ∀ t : Fin k0_t1_loop.trips, k0_off237 t = ![t.val % 4, 256, 7] := by decide +kernel
theorem e_k0_off238 : ∀ t : Fin k0_t1_loop.trips, k0_off238 t = ![t.val, 256, 896] := by decide +kernel

set_option maxRecDepth 65536 in
theorem stepsC_spec (c : Dev nD) (D : Dat F) (t : Fin k0_t1_loop.trips) (b : Fin 5) (hb : b.val = t.val / 4) (f0 : Vec F S20x8x128x256 .fp8e4m3) (g0 : Vec F S5x32x128 .f32)
    (hc : D.cy b) (v96 v97 : IVec S128x128 32) (he : D.eye = k0_pay1 v96 v97)
    {α : Type} {k : PUnit → KProg (F := F) α} {Q : α → sProp 𝕄} :
    TR c D (tu t) b f0 g0 3 0 0 ⊢ iprop((TR c D (tu t) b f0 g0 3 8 12 -∗ WP c (k ⟨⟩) Q)
      -∗ WP c (stepsC (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 v96 v97 t >>= k) Q) := by
  unfold stepsC
  rw [← he]
  simp only [bind_assoc, pure_bind]
  iintro HT Hk
  iapply (headC_spec c D (tu t) b hb f0 g0 3 0 0 0 1 rfl rfl hc (e_k0_off26 t) ((e_k0_off27_0 t).trans (by rw [hb]; rfl)) (e_k0_off28 t)) $$ HT
  iintro HT
  iapply (headC_spec c D (tu t) b hb f0 g0 3 0 1 1 2 rfl rfl hc (e_k0_off29 t) ((e_k0_off27_1 t).trans (by rw [hb]; rfl)) (e_k0_off30 t)) $$ HT
  iintro HT
  iapply (yPair_spec c D (tu t) b hb f0 g0 3 0 1 2 rfl 0 0 (by decide) (by decide) (by decide) (e_k0_off31 t) (e_k0_off32 t) ((e_k0_off27_0 t).trans (by rw [hb]; rfl)) (e_k0_off33 t) (e_k0_off34 t) ((e_k0_off27_1 t).trans (by rw [hb]; rfl)) (e_k0_off35 t) (e_k0_off36 t)) $$ HT
  iintro HT
  iapply (yPair_spec c D (tu t) b hb f0 g0 3 1 2 2 rfl 0 1 (by decide) (by decide) (by decide) (e_k0_off31 t) (e_k0_off37 t) ((e_k0_off27_0 t).trans (by rw [hb]; rfl)) (e_k0_off38 t) (e_k0_off39 t) ((e_k0_off27_1 t).trans (by rw [hb]; rfl)) (e_k0_off40 t) (e_k0_off41 t)) $$ HT
  iintro HT
  iapply (yPair_spec c D (tu t) b hb f0 g0 3 2 3 2 rfl 0 2 (by decide) (by decide) (by decide) (e_k0_off31 t) (e_k0_off42 t) ((e_k0_off27_0 t).trans (by rw [hb]; rfl)) (e_k0_off43 t) (e_k0_off44 t) ((e_k0_off27_1 t).trans (by rw [hb]; rfl)) (e_k0_off45 t) (e_k0_off46 t)) $$ HT
  iintro HT
  iapply (headC_spec c D (tu t) b hb f0 g0 3 3 2 2 3 rfl rfl hc (e_k0_off47 t) ((e_k0_off27_2 t).trans (by rw [hb]; rfl)) (e_k0_off48 t)) $$ HT
  iintro HT
  iapply (headC_spec c D (tu t) b hb f0 g0 3 3 3 3 4 rfl rfl hc (e_k0_off49 t) ((e_k0_off27_3 t).trans (by rw [hb]; rfl)) (e_k0_off50 t)) $$ HT
  iintro HT
  iapply (yPair_spec c D (tu t) b hb f0 g0 3 3 4 4 rfl 1 0 (by decide) (by decide) (by decide) (e_k0_off51 t) (e_k0_off32 t) ((e_k0_off27_2 t).trans (by rw [hb]; rfl)) (e_k0_off52 t) (e_k0_off53 t) ((e_k0_off27_3 t).trans (by rw [hb]; rfl)) (e_k0_off54 t) (e_k0_off55 t)) $$ HT
  iintro HT
  iapply (yPair_spec c D (tu t) b hb f0 g0 3 4 5 4 rfl 1 1 (by decide) (by decide) (by decide) (e_k0_off51 t) (e_k0_off37 t) ((e_k0_off27_2 t).trans (by rw [hb]; rfl)) (e_k0_off56 t) (e_k0_off57 t) ((e_k0_off27_3 t).trans (by rw [hb]; rfl)) (e_k0_off58 t) (e_k0_off59 t)) $$ HT
  iintro HT
  iapply (yPair_spec c D (tu t) b hb f0 g0 3 5 6 4 rfl 1 2 (by decide) (by decide) (by decide) (e_k0_off51 t) (e_k0_off42 t) ((e_k0_off27_2 t).trans (by rw [hb]; rfl)) (e_k0_off60 t) (e_k0_off61 t) ((e_k0_off27_3 t).trans (by rw [hb]; rfl)) (e_k0_off62 t) (e_k0_off63 t)) $$ HT
  iintro HT
  iapply (headC_spec c D (tu t) b hb f0 g0 3 6 4 4 5 rfl rfl hc (e_k0_off64 t) ((e_k0_off27_4 t).trans (by rw [hb]; rfl)) (e_k0_off65 t)) $$ HT
  iintro HT
  iapply (headC_spec c D (tu t) b hb f0 g0 3 6 5 5 6 rfl rfl hc (e_k0_off66 t) ((e_k0_off27_5 t).trans (by rw [hb]; rfl)) (e_k0_off67 t)) $$ HT
  iintro HT
  iapply (yPair_spec c D (tu t) b hb f0 g0 3 6 7 6 rfl 2 0 (by decide) (by decide) (by decide) (e_k0_off68 t) (e_k0_off32 t) ((e_k0_off27_4 t).trans (by rw [hb]; rfl)) (e_k0_off69 t) (e_k0_off70 t) ((e_k0_off27_5 t).trans (by rw [hb]; rfl)) (e_k0_off71 t) (e_k0_off72 t)) $$ HT
  iintro HT
  iapply (yPair_spec c D (tu t) b hb f0 g0 3 7 8 6 rfl 2 1 (by decide) (by decide) (by decide) (e_k0_off68 t) (e_k0_off37 t) ((e_k0_off27_4 t).trans (by rw [hb]; rfl)) (e_k0_off73 t) (e_k0_off74 t) ((e_k0_off27_5 t).trans (by rw [hb]; rfl)) (e_k0_off75 t) (e_k0_off76 t)) $$ HT
  iintro HT
  iapply (yPair_spec c D (tu t) b hb f0 g0 3 8 9 6 rfl 2 2 (by decide) (by decide) (by decide) (e_k0_off68 t) (e_k0_off42 t) ((e_k0_off27_4 t).trans (by rw [hb]; rfl)) (e_k0_off77 t) (e_k0_off78 t) ((e_k0_off27_5 t).trans (by rw [hb]; rfl)) (e_k0_off79 t) (e_k0_off80 t)) $$ HT
  iintro HT
  iapply (headC_spec c D (tu t) b hb f0 g0 3 9 6 6 7 rfl rfl hc (e_k0_off81 t) ((e_k0_off27_6 t).trans (by rw [hb]; rfl)) (e_k0_off82 t)) $$ HT
  iintro HT
  iapply (headC_spec c D (tu t) b hb f0 g0 3 9 7 7 8 rfl rfl hc (e_k0_off83 t) ((e_k0_off27_7 t).trans (by rw [hb]; rfl)) (e_k0_off84 t)) $$ HT
  iintro HT
  iapply (yPair_spec c D (tu t) b hb f0 g0 3 9 10 8 rfl 3 0 (by decide) (by decide) (by decide) (e_k0_off85 t) (e_k0_off32 t) ((e_k0_off27_6 t).trans (by rw [hb]; rfl)) (e_k0_off86 t) (e_k0_off87 t) ((e_k0_off27_7 t).trans (by rw [hb]; rfl)) (e_k0_off88 t) (e_k0_off89 t)) $$ HT
  iintro HT
  iapply (yPair_spec c D (tu t) b hb f0 g0 3 10 11 8 rfl 3 1 (by decide) (by decide) (by decide) (e_k0_off85 t) (e_k0_off37 t) ((e_k0_off27_6 t).trans (by rw [hb]; rfl)) (e_k0_off90 t) (e_k0_off91 t) ((e_k0_off27_7 t).trans (by rw [hb]; rfl)) (e_k0_off92 t) (e_k0_off93 t)) $$ HT
  iintro HT
  iapply (yPair_spec c D (tu t) b hb f0 g0 3 11 12 8 rfl 3 2 (by decide) (by decide) (by decide) (e_k0_off85 t) (e_k0_off42 t) ((e_k0_off27_6 t).trans (by rw [hb]; rfl)) (e_k0_off94 t) (e_k0_off95 t) ((e_k0_off27_7 t).trans (by rw [hb]; rfl)) (e_k0_off96 t) (e_k0_off97 t)) $$ HT
  iintro HT
  iapply Hk
  iexact HT

set_option maxRecDepth 65536 in
theorem steps1_spec (c : Dev nD) (D : Dat F) (t : Fin k0_t1_loop.trips) (b : Fin 5) (hb : b.val = t.val / 4) (f0 : Vec F S20x8x128x256 .fp8e4m3) (g0 : Vec F S5x32x128 .f32)
    (hc : ¬ D.cy b) (v96 v97 : IVec S128x128 32) (he : D.eye = k0_pay1 v96 v97)
    {α : Type} {k : PUnit → KProg (F := F) α} {Q : α → sProp 𝕄} :
    TR c D (tu t) b f0 g0 1 0 0 ⊢ iprop((TR c D (tu t) b f0 g0 1 8 4 -∗ WP c (k ⟨⟩) Q)
      -∗ WP c (steps1 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 v96 v97 t >>= k) Q) := by
  unfold steps1
  rw [← he]
  simp only [bind_assoc, pure_bind]
  iintro HT Hk
  iapply (headN_spec c D (tu t) b hb f0 g0 1 0 0 0 1 rfl rfl hc (e_k0_off98 t) ((e_k0_off99_0 t).trans (by rw [hb]; rfl))) $$ HT
  iintro HT
  iapply (headN_spec c D (tu t) b hb f0 g0 1 0 1 1 2 rfl rfl hc (e_k0_off100 t) ((e_k0_off99_1 t).trans (by rw [hb]; rfl))) $$ HT
  iintro HT
  iapply (yPair_spec c D (tu t) b hb f0 g0 1 0 1 2 rfl 0 0 (by decide) (by decide) (by decide) (e_k0_off101 t) (e_k0_off102 t) ((e_k0_off99_0 t).trans (by rw [hb]; rfl)) (e_k0_off103 t) (e_k0_off104 t) ((e_k0_off99_1 t).trans (by rw [hb]; rfl)) (e_k0_off105 t) (e_k0_off106 t)) $$ HT
  iintro HT
  iapply (headN_spec c D (tu t) b hb f0 g0 1 1 2 2 3 rfl rfl hc (e_k0_off107 t) ((e_k0_off99_2 t).trans (by rw [hb]; rfl))) $$ HT
  iintro HT
  iapply (headN_spec c D (tu t) b hb f0 g0 1 1 3 3 4 rfl rfl hc (e_k0_off108 t) ((e_k0_off99_3 t).trans (by rw [hb]; rfl))) $$ HT
  iintro HT
  iapply (yPair_spec c D (tu t) b hb f0 g0 1 1 2 4 rfl 1 0 (by decide) (by decide) (by decide) (e_k0_off109 t) (e_k0_off102 t) ((e_k0_off99_2 t).trans (by rw [hb]; rfl)) (e_k0_off110 t) (e_k0_off111 t) ((e_k0_off99_3 t).trans (by rw [hb]; rfl)) (e_k0_off112 t) (e_k0_off113 t)) $$ HT
  iintro HT
  iapply (headN_spec c D (tu t) b hb f0 g0 1 2 4 4 5 rfl rfl hc (e_k0_off114 t) ((e_k0_off99_4 t).trans (by rw [hb]; rfl))) $$ HT
  iintro HT
  iapply (headN_spec c D (tu t) b hb f0 g0 1 2 5 5 6 rfl rfl hc (e_k0_off115 t) ((e_k0_off99_5 t).trans (by rw [hb]; rfl))) $$ HT
  iintro HT
  iapply (yPair_spec c D (tu t) b hb f0 g0 1 2 3 6 rfl 2 0 (by decide) (by decide) (by decide) (e_k0_off116 t) (e_k0_off102 t) ((e_k0_off99_4 t).trans (by rw [hb]; rfl)) (e_k0_off117 t) (e_k0_off118 t) ((e_k0_off99_5 t).trans (by rw [hb]; rfl)) (e_k0_off119 t) (e_k0_off120 t)) $$ HT
  iintro HT
  iapply (headN_spec c D (tu t) b hb f0 g0 1 3 6 6 7 rfl rfl hc (e_k0_off121 t) ((e_k0_off99_6 t).trans (by rw [hb]; rfl))) $$ HT
  iintro HT
  iapply (headN_spec c D (tu t) b hb f0 g0 1 3 7 7 8 rfl rfl hc (e_k0_off122 t) ((e_k0_off99_7 t).trans (by rw [hb]; rfl))) $$ HT
  iintro HT
  iapply (yPair_spec c D (tu t) b hb f0 g0 1 3 4 8 rfl 3 0 (by decide) (by decide) (by decide) (e_k0_off123 t) (e_k0_off102 t) ((e_k0_off99_6 t).trans (by rw [hb]; rfl)) (e_k0_off124 t) (e_k0_off125 t) ((e_k0_off99_7 t).trans (by rw [hb]; rfl)) (e_k0_off126 t) (e_k0_off127 t)) $$ HT
  iintro HT
  iapply Hk
  iexact HT

set_option maxRecDepth 65536 in
theorem steps2_spec (c : Dev nD) (D : Dat F) (t : Fin k0_t1_loop.trips) (b : Fin 5) (hb : b.val = t.val / 4) (f0 : Vec F S20x8x128x256 .fp8e4m3) (g0 : Vec F S5x32x128 .f32)
    (hc : ¬ D.cy b) (v96 v97 : IVec S128x128 32) (he : D.eye = k0_pay1 v96 v97)
    {α : Type} {k : PUnit → KProg (F := F) α} {Q : α → sProp 𝕄} :
    TR c D (tu t) b f0 g0 2 0 0 ⊢ iprop((TR c D (tu t) b f0 g0 2 8 8 -∗ WP c (k ⟨⟩) Q)
      -∗ WP c (steps2 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 v96 v97 t >>= k) Q) := by
  unfold steps2
  rw [← he]
  simp only [bind_assoc, pure_bind]
  iintro HT Hk
  iapply (headN_spec c D (tu t) b hb f0 g0 2 0 0 0 1 rfl rfl hc (e_k0_off128 t) ((e_k0_off129_0 t).trans (by rw [hb]; rfl))) $$ HT
  iintro HT
  iapply (headN_spec c D (tu t) b hb f0 g0 2 0 1 1 2 rfl rfl hc (e_k0_off130 t) ((e_k0_off129_1 t).trans (by rw [hb]; rfl))) $$ HT
  iintro HT
  iapply (yPair_spec c D (tu t) b hb f0 g0 2 0 1 2 rfl 0 0 (by decide) (by decide) (by decide) (e_k0_off131 t) (e_k0_off132 t) ((e_k0_off129_0 t).trans (by rw [hb]; rfl)) (e_k0_off133 t) (e_k0_off134 t) ((e_k0_off129_1 t).trans (by rw [hb]; rfl)) (e_k0_off135 t) (e_k0_off136 t)) $$ HT
  iintro HT
  iapply (yPair_spec c D (tu t) b hb f0 g0 2 1 2 2 rfl 0 1 (by decide) (by decide) (by decide) (e_k0_off131 t) (e_k0_off137 t) ((e_k0_off129_0 t).trans (by rw [hb]; rfl)) (e_k0_off138 t) (e_k0_off139 t) ((e_k0_off129_1 t).trans (by rw [hb]; rfl)) (e_k0_off140 t) (e_k0_off141 t)) $$ HT
  iintro HT
  iapply (headN_spec c D (tu t) b hb f0 g0 2 2 2 2 3 rfl rfl hc (e_k0_off142 t) ((e_k0_off129_2 t).trans (by rw [hb]; rfl))) $$ HT
  iintro HT
  iapply (headN_spec c D (tu t) b hb f0 g0 2 2 3 3 4 rfl rfl hc (e_k0_off143 t) ((e_k0_off129_3 t).trans (by rw [hb]; rfl))) $$ HT
  iintro HT
  iapply (yPair_spec c D (tu t) b hb f0 g0 2 2 3 4 rfl 1 0 (by decide) (by decide) (by decide) (e_k0_off144 t) (e_k0_off132 t) ((e_k0_off129_2 t).trans (by rw [hb]; rfl)) (e_k0_off145 t) (e_k0_off146 t) ((e_k0_off129_3 t).trans (by rw [hb]; rfl)) (e_k0_off147 t) (e_k0_off148 t)) $$ HT
  iintro HT
  iapply (yPair_spec c D (tu t) b hb f0 g0 2 3 4 4 rfl 1 1 (by decide) (by decide) (by decide) (e_k0_off144 t) (e_k0_off137 t) ((e_k0_off129_2 t).trans (by rw [hb]; rfl)) (e_k0_off149 t) (e_k0_off150 t) ((e_k0_off129_3 t).trans (by rw [hb]; rfl)) (e_k0_off151 t) (e_k0_off152 t)) $$ HT
  iintro HT
  iapply (headN_spec c D (tu t) b hb f0 g0 2 4 4 4 5 rfl rfl hc (e_k0_off153 t) ((e_k0_off129_4 t).trans (by rw [hb]; rfl))) $$ HT
  iintro HT
  iapply (headN_spec c D (tu t) b hb f0 g0 2 4 5 5 6 rfl rfl hc (e_k0_off154 t) ((e_k0_off129_5 t).trans (by rw [hb]; rfl))) $$ HT
  iintro HT
  iapply (yPair_spec c D (tu t) b hb f0 g0 2 4 5 6 rfl 2 0 (by decide) (by decide) (by decide) (e_k0_off155 t) (e_k0_off132 t) ((e_k0_off129_4 t).trans (by rw [hb]; rfl)) (e_k0_off156 t) (e_k0_off157 t) ((e_k0_off129_5 t).trans (by rw [hb]; rfl)) (e_k0_off158 t) (e_k0_off159 t)) $$ HT
  iintro HT
  iapply (yPair_spec c D (tu t) b hb f0 g0 2 5 6 6 rfl 2 1 (by decide) (by decide) (by decide) (e_k0_off155 t) (e_k0_off137 t) ((e_k0_off129_4 t).trans (by rw [hb]; rfl)) (e_k0_off160 t) (e_k0_off161 t) ((e_k0_off129_5 t).trans (by rw [hb]; rfl)) (e_k0_off162 t) (e_k0_off163 t)) $$ HT
  iintro HT
  iapply (headN_spec c D (tu t) b hb f0 g0 2 6 6 6 7 rfl rfl hc (e_k0_off164 t) ((e_k0_off129_6 t).trans (by rw [hb]; rfl))) $$ HT
  iintro HT
  iapply (headN_spec c D (tu t) b hb f0 g0 2 6 7 7 8 rfl rfl hc (e_k0_off165 t) ((e_k0_off129_7 t).trans (by rw [hb]; rfl))) $$ HT
  iintro HT
  iapply (yPair_spec c D (tu t) b hb f0 g0 2 6 7 8 rfl 3 0 (by decide) (by decide) (by decide) (e_k0_off166 t) (e_k0_off132 t) ((e_k0_off129_6 t).trans (by rw [hb]; rfl)) (e_k0_off167 t) (e_k0_off168 t) ((e_k0_off129_7 t).trans (by rw [hb]; rfl)) (e_k0_off169 t) (e_k0_off170 t)) $$ HT
  iintro HT
  iapply (yPair_spec c D (tu t) b hb f0 g0 2 7 8 8 rfl 3 1 (by decide) (by decide) (by decide) (e_k0_off166 t) (e_k0_off137 t) ((e_k0_off129_6 t).trans (by rw [hb]; rfl)) (e_k0_off171 t) (e_k0_off172 t) ((e_k0_off129_7 t).trans (by rw [hb]; rfl)) (e_k0_off173 t) (e_k0_off174 t)) $$ HT
  iintro HT
  iapply Hk
  iexact HT

set_option maxRecDepth 65536 in
theorem steps3_spec (c : Dev nD) (D : Dat F) (t : Fin k0_t1_loop.trips) (b : Fin 5) (hb : b.val = t.val / 4) (f0 : Vec F S20x8x128x256 .fp8e4m3) (g0 : Vec F S5x32x128 .f32)
    (hc : ¬ D.cy b) (v96 v97 : IVec S128x128 32) (he : D.eye = k0_pay1 v96 v97)
    {α : Type} {k : PUnit → KProg (F := F) α} {Q : α → sProp 𝕄} :
    TR c D (tu t) b f0 g0 3 0 0 ⊢ iprop((TR c D (tu t) b f0 g0 3 8 12 -∗ WP c (k ⟨⟩) Q)
      -∗ WP c (steps3 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 v96 v97 t >>= k) Q) := by
  unfold steps3
  rw [← he]
  simp only [bind_assoc, pure_bind]
  iintro HT Hk
  iapply (headN_spec c D (tu t) b hb f0 g0 3 0 0 0 1 rfl rfl hc (e_k0_off175 t) ((e_k0_off176_0 t).trans (by rw [hb]; rfl))) $$ HT
  iintro HT
  iapply (headN_spec c D (tu t) b hb f0 g0 3 0 1 1 2 rfl rfl hc (e_k0_off177 t) ((e_k0_off176_1 t).trans (by rw [hb]; rfl))) $$ HT
  iintro HT
  iapply (yPair_spec c D (tu t) b hb f0 g0 3 0 1 2 rfl 0 0 (by decide) (by decide) (by decide) (e_k0_off178 t) (e_k0_off179 t) ((e_k0_off176_0 t).trans (by rw [hb]; rfl)) (e_k0_off180 t) (e_k0_off181 t) ((e_k0_off176_1 t).trans (by rw [hb]; rfl)) (e_k0_off182 t) (e_k0_off183 t)) $$ HT
  iintro HT
  iapply (yPair_spec c D (tu t) b hb f0 g0 3 1 2 2 rfl 0 1 (by decide) (by decide) (by decide) (e_k0_off178 t) (e_k0_off184 t) ((e_k0_off176_0 t).trans (by rw [hb]; rfl)) (e_k0_off185 t) (e_k0_off186 t) ((e_k0_off176_1 t).trans (by rw [hb]; rfl)) (e_k0_off187 t) (e_k0_off188 t)) $$ HT
  iintro HT
  iapply (yPair_spec c D (tu t) b hb f0 g0 3 2 3 2 rfl 0 2 (by decide) (by decide) (by decide) (e_k0_off178 t) (e_k0_off189 t) ((e_k0_off176_0 t).trans (by rw [hb]; rfl)) (e_k0_off190 t) (e_k0_off191 t) ((e_k0_off176_1 t).trans (by rw [hb]; rfl)) (e_k0_off192 t) (e_k0_off193 t)) $$ HT
  iintro HT
  iapply (headN_spec c D (tu t) b hb f0 g0 3 3 2 2 3 rfl rfl hc (e_k0_off194 t) ((e_k0_off176_2 t).trans (by rw [hb]; rfl))) $$ HT
  iintro HT
  iapply (headN_spec c D (tu t) b hb f0 g0 3 3 3 3 4 rfl rfl hc (e_k0_off195 t) ((e_k0_off176_3 t).trans (by rw [hb]; rfl))) $$ HT
  iintro HT
  iapply (yPair_spec c D (tu t) b hb f0 g0 3 3 4 4 rfl 1 0 (by decide) (by decide) (by decide) (e_k0_off196 t) (e_k0_off179 t) ((e_k0_off176_2 t).trans (by rw [hb]; rfl)) (e_k0_off197 t) (e_k0_off198 t) ((e_k0_off176_3 t).trans (by rw [hb]; rfl)) (e_k0_off199 t) (e_k0_off200 t)) $$ HT
  iintro HT
  iapply (yPair_spec c D (tu t) b hb f0 g0 3 4 5 4 rfl 1 1 (by decide) (by decide) (by decide) (e_k0_off196 t) (e_k0_off184 t) ((e_k0_off176_2 t).trans (by rw [hb]; rfl)) (e_k0_off201 t) (e_k0_off202 t) ((e_k0_off176_3 t).trans (by rw [hb]; rfl)) (e_k0_off203 t) (e_k0_off204 t)) $$ HT
  iintro HT
  iapply (yPair_spec c D (tu t) b hb f0 g0 3 5 6 4 rfl 1 2 (by decide) (by decide) (by decide) (e_k0_off196 t) (e_k0_off189 t) ((e_k0_off176_2 t).trans (by rw [hb]; rfl)) (e_k0_off205 t) (e_k0_off206 t) ((e_k0_off176_3 t).trans (by rw [hb]; rfl)) (e_k0_off207 t) (e_k0_off208 t)) $$ HT
  iintro HT
  iapply (headN_spec c D (tu t) b hb f0 g0 3 6 4 4 5 rfl rfl hc (e_k0_off209 t) ((e_k0_off176_4 t).trans (by rw [hb]; rfl))) $$ HT
  iintro HT
  iapply (headN_spec c D (tu t) b hb f0 g0 3 6 5 5 6 rfl rfl hc (e_k0_off210 t) ((e_k0_off176_5 t).trans (by rw [hb]; rfl))) $$ HT
  iintro HT
  iapply (yPair_spec c D (tu t) b hb f0 g0 3 6 7 6 rfl 2 0 (by decide) (by decide) (by decide) (e_k0_off211 t) (e_k0_off179 t) ((e_k0_off176_4 t).trans (by rw [hb]; rfl)) (e_k0_off212 t) (e_k0_off213 t) ((e_k0_off176_5 t).trans (by rw [hb]; rfl)) (e_k0_off214 t) (e_k0_off215 t)) $$ HT
  iintro HT
  iapply (yPair_spec c D (tu t) b hb f0 g0 3 7 8 6 rfl 2 1 (by decide) (by decide) (by decide) (e_k0_off211 t) (e_k0_off184 t) ((e_k0_off176_4 t).trans (by rw [hb]; rfl)) (e_k0_off216 t) (e_k0_off217 t) ((e_k0_off176_5 t).trans (by rw [hb]; rfl)) (e_k0_off218 t) (e_k0_off219 t)) $$ HT
  iintro HT
  iapply (yPair_spec c D (tu t) b hb f0 g0 3 8 9 6 rfl 2 2 (by decide) (by decide) (by decide) (e_k0_off211 t) (e_k0_off189 t) ((e_k0_off176_4 t).trans (by rw [hb]; rfl)) (e_k0_off220 t) (e_k0_off221 t) ((e_k0_off176_5 t).trans (by rw [hb]; rfl)) (e_k0_off222 t) (e_k0_off223 t)) $$ HT
  iintro HT
  iapply (headN_spec c D (tu t) b hb f0 g0 3 9 6 6 7 rfl rfl hc (e_k0_off224 t) ((e_k0_off176_6 t).trans (by rw [hb]; rfl))) $$ HT
  iintro HT
  iapply (headN_spec c D (tu t) b hb f0 g0 3 9 7 7 8 rfl rfl hc (e_k0_off225 t) ((e_k0_off176_7 t).trans (by rw [hb]; rfl))) $$ HT
  iintro HT
  iapply (yPair_spec c D (tu t) b hb f0 g0 3 9 10 8 rfl 3 0 (by decide) (by decide) (by decide) (e_k0_off226 t) (e_k0_off179 t) ((e_k0_off176_6 t).trans (by rw [hb]; rfl)) (e_k0_off227 t) (e_k0_off228 t) ((e_k0_off176_7 t).trans (by rw [hb]; rfl)) (e_k0_off229 t) (e_k0_off230 t)) $$ HT
  iintro HT
  iapply (yPair_spec c D (tu t) b hb f0 g0 3 10 11 8 rfl 3 1 (by decide) (by decide) (by decide) (e_k0_off226 t) (e_k0_off184 t) ((e_k0_off176_6 t).trans (by rw [hb]; rfl)) (e_k0_off231 t) (e_k0_off232 t) ((e_k0_off176_7 t).trans (by rw [hb]; rfl)) (e_k0_off233 t) (e_k0_off234 t)) $$ HT
  iintro HT
  iapply (yPair_spec c D (tu t) b hb f0 g0 3 11 12 8 rfl 3 2 (by decide) (by decide) (by decide) (e_k0_off226 t) (e_k0_off189 t) ((e_k0_off176_6 t).trans (by rw [hb]; rfl)) (e_k0_off235 t) (e_k0_off236 t) ((e_k0_off176_7 t).trans (by rw [hb]; rfl)) (e_k0_off237 t) (e_k0_off238 t)) $$ HT
  iintro HT
  iapply Hk
  iexact HT

end Cert.KernelIdeal.Run
-- ==== Proof.DmaIdeal.lean ====
module

public import proofs.«01_k».proof.Proof.StepsIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The transfers: their windows, their cells, and the rules of starting and waiting -/

/-- The inputs, as the body finds them. -/
structure Ins (F : FTy → Type) where
  y : Vec F S5x384x4096 .bf16
  cc : Vec F S5x384x4x256 .bf16
  dt : Vec F S5x384x32 .f32
  al : Vec F S1x32 .f32
  codes : Vec F S5x32x128x256 .fp8e4m3
  scl : Vec F S5x32x128 .f32
  hl : Vec F S5x32x128x256 .f32
  fde : Vec F S5 .i32
  cg : Fin 5 → Vec F S4x384x256 .bf16

/-- A unit's columns of `y` in the arrays. -/
def OY (u : ℕ) : Finset S5x384x4096.Idx := Finset.univ.filter fun i => (i 0 : Fin 5).val = u / 4 ∧ (i 2 : Fin 4096).val / 1024 = u % 4
/-- A unit's heads in the arrays. -/
def OH (u : ℕ) : Finset S5x32x128x256.Idx := Finset.univ.filter fun i => (i 0 : Fin 5).val = u / 4 ∧ (i 1 : Fin 32).val / 8 = u % 4
/-- A batch of `dt`. -/
def BD (b : ℕ) : Finset S5x384x32.Idx := Finset.univ.filter fun i => (i 0 : Fin 5).val = b
/-- A batch of `c`. -/
def BC (b : ℕ) : Finset S5x384x4x256.Idx := Finset.univ.filter fun i => (i 0 : Fin 5).val = b

/-- The units' heads, as staged. -/
def stH {e : EltTy} (f : Vec F S5x32x128x256 e) : Vec F S20x8x128x256 e := fun i =>
  f (ix4 ⟨(i 0 : Fin 20).val / 4, by have h : (i 0 : Fin 20).val < 20 := (i 0 : Fin 20).isLt; omega⟩
    ⟨8 * ((i 0 : Fin 20).val % 4) + (i 1 : Fin 8).val, by have h : (i 1 : Fin 8).val < 8 := (i 1 : Fin 8).isLt; omega⟩ (i 2 : Fin 128) (i 3 : Fin 256))
/-- The units' columns of `y`, as staged. -/
def stY (f : Vec F S5x384x4096 .bf16) : Vec F S20x384x1024 .bf16 := fun i =>
  f (ix3 ⟨(i 0 : Fin 20).val / 4, by have h : (i 0 : Fin 20).val < 20 := (i 0 : Fin 20).isLt; omega⟩ (i 1 : Fin 384)
    ⟨1024 * ((i 0 : Fin 20).val % 4) + (i 2 : Fin 1024).val, by have h : (i 2 : Fin 1024).val < 1024 := (i 2 : Fin 1024).isLt; omega⟩)
/-- The staged heads, put back. -/
def unH {e : EltTy} (f : Vec F S20x8x128x256 e) : Vec F S5x32x128x256 e := fun i =>
  f (ix4 ⟨4 * (i 0 : Fin 5).val + (i 1 : Fin 32).val / 8, by have h : (i 0 : Fin 5).val < 5 := (i 0 : Fin 5).isLt; have h' : (i 1 : Fin 32).val < 32 := (i 1 : Fin 32).isLt; omega⟩
    ⟨(i 1 : Fin 32).val % 8, by omega⟩ (i 2 : Fin 128) (i 3 : Fin 256))
/-- The staged columns of `y`, put back. -/
def unY (f : Vec F S20x384x1024 .bf16) : Vec F S5x384x4096 .bf16 := fun i =>
  f (ix3 ⟨4 * (i 0 : Fin 5).val + (i 2 : Fin 4096).val / 1024, by have h : (i 0 : Fin 5).val < 5 := (i 0 : Fin 5).isLt; have h' : (i 2 : Fin 4096).val < 4096 := (i 2 : Fin 4096).isLt; omega⟩
    (i 1 : Fin 384) ⟨(i 2 : Fin 4096).val % 1024, by omega⟩)

/-! ### Where a window's elements lie -/

theorem set_W20 {u : ℕ} {o : Fin 4 → ℕ} {h : ∀ a, o a + S1x8x128x256.size a ≤ S20x8x128x256.size a} (ho : o = ![u, 0, 0, 0]) :
    (Rect.unit (s := S20x8x128x256) o S1x8x128x256.size h).set = W20 u := by
  subst ho
  ext i
  rw [Rect.mem_set_unit]
  have h0 : (i 0 : Fin 20).val < 20 := (i 0 : Fin 20).isLt
  have h1 : (i 1 : Fin 8).val < 8 := (i 1 : Fin 8).isLt
  have h2 : (i 2 : Fin 128).val < 128 := (i 2 : Fin 128).isLt
  have h3 : (i 3 : Fin 256).val < 256 := (i 3 : Fin 256).isLt
  unfold W20
  rw [Finset.mem_filter]
  constructor
  · intro H
    have a0 : u ≤ (i 0 : Fin 20).val ∧ (i 0 : Fin 20).val < u + 1 := H 0
    have a1 : 0 ≤ (i 1 : Fin 8).val ∧ (i 1 : Fin 8).val < 0 + 8 := H 1
    have a2 : 0 ≤ (i 2 : Fin 128).val ∧ (i 2 : Fin 128).val < 0 + 128 := H 2
    have a3 : 0 ≤ (i 3 : Fin 256).val ∧ (i 3 : Fin 256).val < 0 + 256 := H 3
    refine ⟨Finset.mem_univ _, ?_⟩
    omega
  · rintro ⟨-, a0⟩ a
    fin_cases a
    · show u ≤ (i 0 : Fin 20).val ∧ (i 0 : Fin 20).val < u + 1; omega
    · show 0 ≤ (i 1 : Fin 8).val ∧ (i 1 : Fin 8).val < 0 + 8; omega
    · show 0 ≤ (i 2 : Fin 128).val ∧ (i 2 : Fin 128).val < 0 + 128; omega
    · show 0 ≤ (i 3 : Fin 256).val ∧ (i 3 : Fin 256).val < 0 + 256; omega

theorem set_WY {u : ℕ} {o : Fin 3 → ℕ} {h : ∀ a, o a + S1x384x1024.size a ≤ S20x384x1024.size a} (ho : o = ![u, 0, 0]) :
    (Rect.unit (s := S20x384x1024) o S1x384x1024.size h).set = WY u := by
  subst ho
  ext i
  rw [Rect.mem_set_unit]
  have h0 : (i 0 : Fin 20).val < 20 := (i 0 : Fin 20).isLt
  have h1 : (i 1 : Fin 384).val < 384 := (i 1 : Fin 384).isLt
  have h2 : (i 2 : Fin 1024).val < 1024 := (i 2 : Fin 1024).isLt
  unfold WY
  rw [Finset.mem_filter]
  constructor
  · intro H
    have a0 : u ≤ (i 0 : Fin 20).val ∧ (i 0 : Fin 20).val < u + 1 := H 0
    have a1 : 0 ≤ (i 1 : Fin 384).val ∧ (i 1 : Fin 384).val < 0 + 384 := H 1
    have a2 : 0 ≤ (i 2 : Fin 1024).val ∧ (i 2 : Fin 1024).val < 0 + 1024 := H 2
    refine ⟨Finset.mem_univ _, ?_⟩
    omega
  · rintro ⟨-, a0⟩ a
    fin_cases a
    · show u ≤ (i 0 : Fin 20).val ∧ (i 0 : Fin 20).val < u + 1; omega
    · show 0 ≤ (i 1 : Fin 384).val ∧ (i 1 : Fin 384).val < 0 + 384; omega
    · show 0 ≤ (i 2 : Fin 1024).val ∧ (i 2 : Fin 1024).val < 0 + 1024; omega

theorem set_OH {u : ℕ} {o : Fin 4 → ℕ} {h : ∀ a, o a + S1x8x128x256.size a ≤ S5x32x128x256.size a} (ho : o = ![u / 4, 8 * (u % 4), 0, 0]) :
    (Rect.unit (s := S5x32x128x256) o S1x8x128x256.size h).set = OH u := by
  subst ho
  ext i
  rw [Rect.mem_set_unit]
  have h0 : (i 0 : Fin 5).val < 5 := (i 0 : Fin 5).isLt
  have h1 : (i 1 : Fin 32).val < 32 := (i 1 : Fin 32).isLt
  have h2 : (i 2 : Fin 128).val < 128 := (i 2 : Fin 128).isLt
  have h3 : (i 3 : Fin 256).val < 256 := (i 3 : Fin 256).isLt
  unfold OH
  rw [Finset.mem_filter]
  constructor
  · intro H
    have a0 : u / 4 ≤ (i 0 : Fin 5).val ∧ (i 0 : Fin 5).val < u / 4 + 1 := H 0
    have a1 : 8 * (u % 4) ≤ (i 1 : Fin 32).val ∧ (i 1 : Fin 32).val < 8 * (u % 4) + 8 := H 1
    have a2 : 0 ≤ (i 2 : Fin 128).val ∧ (i 2 : Fin 128).val < 0 + 128 := H 2
    have a3 : 0 ≤ (i 3 : Fin 256).val ∧ (i 3 : Fin 256).val < 0 + 256 := H 3
    refine ⟨Finset.mem_univ _, ?_⟩
    omega
  · rintro ⟨-, a0⟩ a
    fin_cases a
    · show u / 4 ≤ (i 0 : Fin 5).val ∧ (i 0 : Fin 5).val < u / 4 + 1; omega
    · show 8 * (u % 4) ≤ (i 1 : Fin 32).val ∧ (i 1 : Fin 32).val < 8 * (u % 4) + 8; omega
    · show 0 ≤ (i 2 : Fin 128).val ∧ (i 2 : Fin 128).val < 0 + 128; omega
    · show 0 ≤ (i 3 : Fin 256).val ∧ (i 3 : Fin 256).val < 0 + 256; omega

theorem set_OY {u : ℕ} {o : Fin 3 → ℕ} {h : ∀ a, o a + S1x384x1024.size a ≤ S5x384x4096.size a} (ho : o = ![u / 4, 0, 1024 * (u % 4)]) :
    (Rect.unit (s := S5x384x4096) o S1x384x1024.size h).set = OY u := by
  subst ho
  ext i
  rw [Rect.mem_set_unit]
  have h0 : (i 0 : Fin 5).val < 5 := (i 0 : Fin 5).isLt
  have h1 : (i 1 : Fin 384).val < 384 := (i 1 : Fin 384).isLt
  have h2 : (i 2 : Fin 4096).val < 4096 := (i 2 : Fin 4096).isLt
  unfold OY
  rw [Finset.mem_filter]
  constructor
  · intro H
    have a0 : u / 4 ≤ (i 0 : Fin 5).val ∧ (i 0 : Fin 5).val < u / 4 + 1 := H 0
    have a1 : 0 ≤ (i 1 : Fin 384).val ∧ (i 1 : Fin 384).val < 0 + 384 := H 1
    have a2 : 1024 * (u % 4) ≤ (i 2 : Fin 4096).val ∧ (i 2 : Fin 4096).val < 1024 * (u % 4) + 1024 := H 2
    refine ⟨Finset.mem_univ _, ?_⟩
    omega
  · rintro ⟨-, a0⟩ a
    fin_cases a
    · show u / 4 ≤ (i 0 : Fin 5).val ∧ (i 0 : Fin 5).val < u / 4 + 1; omega
    · show 0 ≤ (i 1 : Fin 384).val ∧ (i 1 : Fin 384).val < 0 + 384; omega
    · show 1024 * (u % 4) ≤ (i 2 : Fin 4096).val ∧ (i 2 : Fin 4096).val < 1024 * (u % 4) + 1024; omega

theorem set_BD {b : ℕ} {o : Fin 3 → ℕ} {h : ∀ a, o a + S1x384x32.size a ≤ S5x384x32.size a} (ho : o = ![b, 0, 0]) :
    (Rect.unit (s := S5x384x32) o S1x384x32.size h).set = BD b := by
  subst ho
  ext i
  rw [Rect.mem_set_unit]
  have h0 : (i 0 : Fin 5).val < 5 := (i 0 : Fin 5).isLt
  have h1 : (i 1 : Fin 384).val < 384 := (i 1 : Fin 384).isLt
  have h2 : (i 2 : Fin 32).val < 32 := (i 2 : Fin 32).isLt
  unfold BD
  rw [Finset.mem_filter]
  constructor
  · intro H
    have a0 : b ≤ (i 0 : Fin 5).val ∧ (i 0 : Fin 5).val < b + 1 := H 0
    have a1 : 0 ≤ (i 1 : Fin 384).val ∧ (i 1 : Fin 384).val < 0 + 384 := H 1
    have a2 : 0 ≤ (i 2 : Fin 32).val ∧ (i 2 : Fin 32).val < 0 + 32 := H 2
    refine ⟨Finset.mem_univ _, ?_⟩
    omega
  · rintro ⟨-, a0⟩ a
    fin_cases a
    · show b ≤ (i 0 : Fin 5).val ∧ (i 0 : Fin 5).val < b + 1; omega
    · show 0 ≤ (i 1 : Fin 384).val ∧ (i 1 : Fin 384).val < 0 + 384; omega
    · show 0 ≤ (i 2 : Fin 32).val ∧ (i 2 : Fin 32).val < 0 + 32; omega

theorem set_BC {b : ℕ} {o : Fin 4 → ℕ} {h : ∀ a, o a + S1x384x4x256.size a ≤ S5x384x4x256.size a} (ho : o = ![b, 0, 0, 0]) :
    (Rect.unit (s := S5x384x4x256) o S1x384x4x256.size h).set = BC b := by
  subst ho
  ext i
  rw [Rect.mem_set_unit]
  have h0 : (i 0 : Fin 5).val < 5 := (i 0 : Fin 5).isLt
  have h1 : (i 1 : Fin 384).val < 384 := (i 1 : Fin 384).isLt
  have h2 : (i 2 : Fin 4).val < 4 := (i 2 : Fin 4).isLt
  have h3 : (i 3 : Fin 256).val < 256 := (i 3 : Fin 256).isLt
  unfold BC
  rw [Finset.mem_filter]
  constructor
  · intro H
    have a0 : b ≤ (i 0 : Fin 5).val ∧ (i 0 : Fin 5).val < b + 1 := H 0
    have a1 : 0 ≤ (i 1 : Fin 384).val ∧ (i 1 : Fin 384).val < 0 + 384 := H 1
    have a2 : 0 ≤ (i 2 : Fin 4).val ∧ (i 2 : Fin 4).val < 0 + 4 := H 2
    have a3 : 0 ≤ (i 3 : Fin 256).val ∧ (i 3 : Fin 256).val < 0 + 256 := H 3
    refine ⟨Finset.mem_univ _, ?_⟩
    omega
  · rintro ⟨-, a0⟩ a
    fin_cases a
    · show b ≤ (i 0 : Fin 5).val ∧ (i 0 : Fin 5).val < b + 1; omega
    · show 0 ≤ (i 1 : Fin 384).val ∧ (i 1 : Fin 384).val < 0 + 384; omega
    · show 0 ≤ (i 2 : Fin 4).val ∧ (i 2 : Fin 4).val < 0 + 4; omega
    · show 0 ≤ (i 3 : Fin 256).val ∧ (i 3 : Fin 256).val < 0 + 256; omega

/-! ### What a transfer lands -/

theorem land_H {u : ℕ} {e : EltTy} {f : Vec F S5x32x128x256 e} {oS : Fin 4 → ℕ} {hS : ∀ a, oS a + S1x8x128x256.size a ≤ S5x32x128x256.size a} (eS : oS = ![u / 4, 8 * (u % 4), 0, 0])
    {oD : Fin 4 → ℕ} {hD : ∀ a, oD a + S1x8x128x256.size a ≤ S20x8x128x256.size a} (eD : oD = ![u, 0, 0, 0]) (z : S1x8x128x256.Idx) :
    stH f ((Rect.unit (s := S20x8x128x256) oD S1x8x128x256.size hD).emb z) = f ((Rect.unit (s := S5x32x128x256) oS S1x8x128x256.size hS).emb z) := by
  subst eS eD
  have hD0 : u + 1 ≤ 20 := hD 0
  have hS0 : u / 4 + 1 ≤ 5 := hS 0
  have h0 : (z 0 : Fin 1).val < 1 := (z 0 : Fin 1).isLt
  have h1 : (z 1 : Fin 8).val < 8 := (z 1 : Fin 8).isLt
  have h2 : (z 2 : Fin 128).val < 128 := (z 2 : Fin 128).isLt
  have h3 : (z 3 : Fin 256).val < 256 := (z 3 : Fin 256).isLt
  refine congrArg f (funext fun a => Fin.ext ?_)
  fin_cases a
  · show (u + 1 * (z 0 : Fin 1).val) / 4 = u / 4 + 1 * (z 0 : Fin 1).val; omega
  · show 8 * ((u + 1 * (z 0 : Fin 1).val) % 4) + (0 + 1 * (z 1 : Fin 8).val) = 8 * (u % 4) + 1 * (z 1 : Fin 8).val; omega
  · show 0 + 1 * (z 2 : Fin 128).val = 0 + 1 * (z 2 : Fin 128).val; omega
  · show 0 + 1 * (z 3 : Fin 256).val = 0 + 1 * (z 3 : Fin 256).val; omega

theorem land_Y {u : ℕ} {f : Vec F S5x384x4096 .bf16} {oS : Fin 3 → ℕ} {hS : ∀ a, oS a + S1x384x1024.size a ≤ S5x384x4096.size a} (eS : oS = ![u / 4, 0, 1024 * (u % 4)])
    {oD : Fin 3 → ℕ} {hD : ∀ a, oD a + S1x384x1024.size a ≤ S20x384x1024.size a} (eD : oD = ![u, 0, 0]) (z : S1x384x1024.Idx) :
    stY f ((Rect.unit (s := S20x384x1024) oD S1x384x1024.size hD).emb z) = f ((Rect.unit (s := S5x384x4096) oS S1x384x1024.size hS).emb z) := by
  subst eS eD
  have hD0 : u + 1 ≤ 20 := hD 0
  have hS0 : u / 4 + 1 ≤ 5 := hS 0
  have h0 : (z 0 : Fin 1).val < 1 := (z 0 : Fin 1).isLt
  have h1 : (z 1 : Fin 384).val < 384 := (z 1 : Fin 384).isLt
  have h2 : (z 2 : Fin 1024).val < 1024 := (z 2 : Fin 1024).isLt
  refine congrArg f (funext fun a => Fin.ext ?_)
  fin_cases a
  · show (u + 1 * (z 0 : Fin 1).val) / 4 = u / 4 + 1 * (z 0 : Fin 1).val; omega
  · show 0 + 1 * (z 1 : Fin 384).val = 0 + 1 * (z 1 : Fin 384).val; omega
  · show 1024 * ((u + 1 * (z 0 : Fin 1).val) % 4) + (0 + 1 * (z 2 : Fin 1024).val) = 1024 * (u % 4) + 1 * (z 2 : Fin 1024).val; omega

theorem land_uH {u : ℕ} {e : EltTy} {f : Vec F S20x8x128x256 e} {oS : Fin 4 → ℕ} {hS : ∀ a, oS a + S1x8x128x256.size a ≤ S20x8x128x256.size a} (eS : oS = ![u, 0, 0, 0])
    {oD : Fin 4 → ℕ} {hD : ∀ a, oD a + S1x8x128x256.size a ≤ S5x32x128x256.size a} (eD : oD = ![u / 4, 8 * (u % 4), 0, 0]) (z : S1x8x128x256.Idx) :
    unH f ((Rect.unit (s := S5x32x128x256) oD S1x8x128x256.size hD).emb z) = f ((Rect.unit (s := S20x8x128x256) oS S1x8x128x256.size hS).emb z) := by
  subst eS eD
  have hD0 : u / 4 + 1 ≤ 5 := hD 0
  have hS0 : u + 1 ≤ 20 := hS 0
  have h0 : (z 0 : Fin 1).val < 1 := (z 0 : Fin 1).isLt
  have h1 : (z 1 : Fin 8).val < 8 := (z 1 : Fin 8).isLt
  have h2 : (z 2 : Fin 128).val < 128 := (z 2 : Fin 128).isLt
  have h3 : (z 3 : Fin 256).val < 256 := (z 3 : Fin 256).isLt
  refine congrArg f (funext fun a => Fin.ext ?_)
  fin_cases a
  · show 4 * (u / 4 + 1 * (z 0 : Fin 1).val) + (8 * (u % 4) + 1 * (z 1 : Fin 8).val) / 8 = u + 1 * (z 0 : Fin 1).val; omega
  · show (8 * (u % 4) + 1 * (z 1 : Fin 8).val) % 8 = 0 + 1 * (z 1 : Fin 8).val; omega
  · show 0 + 1 * (z 2 : Fin 128).val = 0 + 1 * (z 2 : Fin 128).val; omega
  · show 0 + 1 * (z 3 : Fin 256).val = 0 + 1 * (z 3 : Fin 256).val; omega

theorem land_uY {u : ℕ} {f : Vec F S20x384x1024 .bf16} {oS : Fin 3 → ℕ} {hS : ∀ a, oS a + S1x384x1024.size a ≤ S20x384x1024.size a} (eS : oS = ![u, 0, 0])
    {oD : Fin 3 → ℕ} {hD : ∀ a, oD a + S1x384x1024.size a ≤ S5x384x4096.size a} (eD : oD = ![u / 4, 0, 1024 * (u % 4)]) (z : S1x384x1024.Idx) :
    unY f ((Rect.unit (s := S5x384x4096) oD S1x384x1024.size hD).emb z) = f ((Rect.unit (s := S20x384x1024) oS S1x384x1024.size hS).emb z) := by
  subst eS eD
  have hD0 : u / 4 + 1 ≤ 5 := hD 0
  have hS0 : u + 1 ≤ 20 := hS 0
  have h0 : (z 0 : Fin 1).val < 1 := (z 0 : Fin 1).isLt
  have h1 : (z 1 : Fin 384).val < 384 := (z 1 : Fin 384).isLt
  have h2 : (z 2 : Fin 1024).val < 1024 := (z 2 : Fin 1024).isLt
  refine congrArg f (funext fun a => Fin.ext ?_)
  fin_cases a
  · show 4 * (u / 4 + 1 * (z 0 : Fin 1).val) + (1024 * (u % 4) + 1 * (z 2 : Fin 1024).val) / 1024 = u + 1 * (z 0 : Fin 1).val; omega
  · show 0 + 1 * (z 1 : Fin 384).val = 0 + 1 * (z 1 : Fin 384).val; omega
  · show (1024 * (u % 4) + 1 * (z 2 : Fin 1024).val) % 1024 = 0 + 1 * (z 2 : Fin 1024).val; omega

/-! ### The cells -/

abbrev cU (u : ℕ) (hu : u < 20) : DmaSem sig := ⟨13 + u, by show 13 + u < 34; omega⟩
abbrev cD (b : ℕ) (hb : b < 5) : DmaSem sig := ⟨3 + b, by show 3 + b < 34; omega⟩
abbrev cC (b : ℕ) (hb : b < 5) : DmaSem sig := ⟨8 + b, by show 8 + b < 34; omega⟩
theorem inbU : ∀ (u : Fin 20) (a : Fin 1), (![u.val] : Fin 1 → ℕ) a + S1.size a ≤ S20.size a := by decide
theorem semU' : ∀ u : Fin 20, ((cc0_scratch16.slice (Rect.unit (s := S20) ![u.val] S1.size (inbU u))).squeeze S_ squeezes_S1_S_).sem = cU u.val u.isLt := by
  decide +kernel
theorem semU {o : Fin 1 → ℕ} {h : ∀ a, o a + S1.size a ≤ S20.size a} {u : ℕ} (hu : u < 20) (ho : o = ![u]) :
    ((cc0_scratch16.slice (Rect.unit (s := S20) o S1.size h)).squeeze S_ squeezes_S1_S_).sem = cU u hu := by
  subst ho
  exact semU' ⟨u, hu⟩
theorem inbD : ∀ (b : Fin 5) (a : Fin 1), (![b.val] : Fin 1 → ℕ) a + S1.size a ≤ S5.size a := by decide
theorem semD' : ∀ b : Fin 5, ((cc0_scratch14.slice (Rect.unit (s := S5) ![b.val] S1.size (inbD b))).squeeze S_ squeezes_S1_S_).sem = cD b.val b.isLt := by
  decide +kernel
theorem semD {o : Fin 1 → ℕ} {h : ∀ a, o a + S1.size a ≤ S5.size a} {b : ℕ} (hb : b < 5) (ho : o = ![b]) :
    ((cc0_scratch14.slice (Rect.unit (s := S5) o S1.size h)).squeeze S_ squeezes_S1_S_).sem = cD b hb := by
  subst ho
  exact semD' ⟨b, hb⟩
theorem inbC : ∀ (b : Fin 5) (a : Fin 1), (![b.val] : Fin 1 → ℕ) a + S1.size a ≤ S5.size a := by decide
theorem semC' : ∀ b : Fin 5, ((cc0_scratch15.slice (Rect.unit (s := S5) ![b.val] S1.size (inbC b))).squeeze S_ squeezes_S1_S_).sem = cC b.val b.isLt := by
  decide +kernel
theorem semC {o : Fin 1 → ℕ} {h : ∀ a, o a + S1.size a ≤ S5.size a} {b : ℕ} (hb : b < 5) (ho : o = ![b]) :
    ((cc0_scratch15.slice (Rect.unit (s := S5) o S1.size h)).squeeze S_ squeezes_S1_S_).sem = cC b hb := by
  subst ho
  exact semC' ⟨b, hb⟩
theorem inbA : ∀ (b : Fin 3) (a : Fin 1), (![b.val] : Fin 1 → ℕ) a + S1.size a ≤ S3.size a := by decide
theorem semA : ∀ b : Fin 3, ((cc0_scratch13.slice (Rect.unit (s := S3) ![b.val] S1.size (inbA b))).squeeze S_ squeezes_S1_S_).sem = (⟨b.val, by show b.val < 34; omega⟩ : DmaSem sig) := by
  decide +kernel
theorem semO : cc0_scratch17.sem = (⟨33, by decide⟩ : DmaSem sig) := by decide +kernel

/-! ### The rules -/

section Rules
variable (c : Dev nD)

abbrev EC : UEmb Counters 𝕄 := countersEmb (U := Pipeline.UD sig nD τ)

abbrev MB {n : ℕ} (s : DmaSem sig) (A : Fin n → ℕ) (D : Fin n → sProp 𝕄) (j u : ℕ) : sProp 𝕄 :=
  Transfers.MixedBatch (EC (F := F)) (c : Thread nD τ) (SemLoc.dma s) () A D j u

theorem dstart {sp sp' : Space} {S : Shape} {e : EltTy} {src : Memref sig .tc sp S e} {dst : Memref sig .tc sp' S e} {s0 : DmaSem sig} (s : DmaSem sig) (es : s0 = s)
    {h1 : src.view.WordExact} {h2 : dst.view.WordExact} {h3 : DmaTarget.Typed (nD := nD) (p := (c : Thread nD τ).2) sp (SemLoc.dma s0) (.here dst)}
    {n : ℕ} {A : Fin n → ℕ} {D : Fin n → sProp 𝕄} {j u : ℕ} {α : Type} {k : PUnit → KProg (F := F) α} {Q : α → sProp 𝕄}
    {O : Finset (Idx (src.view.loc (c : Thread nD τ)))} {W : Finset (Idx (dst.view.loc (c : Thread nD τ)))}
    {fs : Buf (Elt F) (src.view.loc (c : Thread nD τ))} {fd G : Buf (Elt F) (dst.view.loc (c : Thread nD τ))}
    (hO : src.view.set = O) (hW : dst.view.set = W) (hj : j < n) (hA : dst.view.dmaCredit = A ⟨j, hj⟩) (hu : u ≤ Transfers.sumTo A j)
    (hin : ∀ x, dst.view.read (Elt F) G x = src.view.read (Elt F) fs x)
    (hD : iprop(pt c dst W G ∗ pt c src O fs) ⊢ D ⟨j, hj⟩) :
    iprop(pt c src O fs ∗ pt c dst W fd ∗ MB c s A D j u)
      ⊢ iprop((MB c s A D (j + 1) u -∗ WP c (k ⟨⟩) Q)
        -∗ WP c (Prog.lift (.enqueueDma src (.here dst) (.dma s0) h1 h2 h3) >>= k) Q) := by
  subst hO hW es
  have e2 : (pt c dst dst.view.set (dst.view.write (Elt F) fd (ReadAs.same.apply (src.view.read (Elt F) fs)) Finset.univ)) = pt c dst dst.view.set G := by
    refine pointsTo_congr fun i hi => ?_
    obtain ⟨x, -, rfl⟩ := Finset.mem_map.mp hi
    rw [View.write_emb_of_mem _ _ (Finset.mem_univ x)]
    have := hin x
    rw [View.read_apply] at this
    show cast _ (src.view.read (Elt F) fs x) = _
    rw [← this]
    simp
  have h := Transfers.wp_dmaMixedBatch (EC (F := F)) Variants.none (c : Thread nD τ) none (defs := Rows.row (F := F)) (Q := Q) (k := k) (src := src) (dst := dst) (via := ReadAs.same)
    (hsrc := h1) (hdst := h2) (hsem := h3) (q := fullShare) (fs := fs) (Sd := dst.view.set) (fd := fd) (D := D) (j := j) (u := u) () A (Finset.Subset.refl _) hj (show dst.view.amount (SemLoc.dma s0) = _ from hA) hu
    (by rw [show ((dst.view.loc (c : Thread nD τ) ↦[dst.view.set]{fullShare} (dst.view.write (Elt F) fd (ReadAs.same.apply (src.view.read (Elt F) fs)) Finset.univ)) : sProp 𝕄) = pt c dst dst.view.set G from e2]; exact hD)
  exact h

theorem dwait {sp sp' : Space} {S S' : Shape} {e e' : EltTy} {src : Memref sig .tc sp S e} {dst : Memref sig .tc sp' S' e'} {s0 : DmaSem sig} (s : DmaSem sig) (es : s0 = s)
    {h1 : src.view.WordExact} {h2 : dst.view.WordExact}
    {n : ℕ} {A : Fin n → ℕ} {D : Fin n → sProp 𝕄} {j u : ℕ} {α : Type} {k : PUnit → KProg (F := F) α} {Q : α → sProp 𝕄} {W : Waits sig Unit} (J : ℕ)
    (hJ : dst.view.dmaCredit = J) (hu : u + J ≤ Transfers.sumTo A j) :
    iprop(MB c s A D j u ∗ owes (c : Thread nD τ) 0 W)
      ⊢ iprop((iprop(MB c s A D j (u + J) ∗ owes (c : Thread nD τ) 0 (insert (SemLoc.dma s, ()) W)) -∗ WP c (k ⟨⟩) Q)
        -∗ WP c (Prog.lift (.waitDma2 s0 src dst h1 h2) >>= k) Q) := by
  subst es
  exact Transfers.wp_waitMixedBatch (EC (F := F)) Variants.none (c : Thread nD τ) none (defs := Rows.row (F := F)) (Q := Q) (k := k) (srcw := src) (dstw := dst)
    (hsrc := h1) (hdst := h2) () hJ hu

theorem dwaitAll {sp sp' : Space} {S S' : Shape} {e e' : EltTy} {src : Memref sig .tc sp S e} {dst : Memref sig .tc sp' S' e'} {s0 : DmaSem sig} (s : DmaSem sig) (es : s0 = s)
    {h1 : src.view.WordExact} {h2 : dst.view.WordExact}
    {n : ℕ} {A : Fin n → ℕ} {D : Fin n → sProp 𝕄} {u : ℕ} {α : Type} {k : PUnit → KProg (F := F) α} {Q : α → sProp 𝕄} {W : Waits sig Unit} (J : ℕ)
    (hJ : dst.view.dmaCredit = J) (hA0 : ∀ t, 0 < A t) (hu : u + J = Transfers.sumTo A n) :
    iprop(MB c s A D n u ∗ owes (c : Thread nD τ) 0 W)
      ⊢ iprop((iprop(bigSep Finset.univ D ∗ semVal ((c : Thread nD τ), SemLoc.dma s) 0 ∗ owes (c : Thread nD τ) 0 (insert (SemLoc.dma s, ()) W)) -∗ WP c (k ⟨⟩) Q)
        -∗ WP c (Prog.lift (.waitDma2 s0 src dst h1 h2) >>= k) Q) := by
  subst es
  exact Transfers.wp_waitMixedBatchAll (EC (F := F)) Variants.none (c : Thread nD τ) none (defs := Rows.row (F := F)) (Q := Q) (k := k) (srcw := src) (dstw := dst)
    (hsrc := h1) (hdst := h2) () hJ hA0 hu

theorem dalloc {n : ℕ} (s : DmaSem sig) (A : Fin n → ℕ) (D : Fin n → sProp 𝕄) [∀ t, Storable (upEmb : UEmb _ 𝕄) (D t)] :
    (semVal ((c : Thread nD τ), SemLoc.dma s) 0 : sProp 𝕄) ⊢ |={Set.univ}=> MB c s A D 0 0 :=
  Transfers.mixedBatch_alloc' (Lvl := ℕ) (countersEmb (U := Pipeline.UD sig nD τ)) (c : Thread nD τ) () A D (sm := SemLoc.dma s) (E := Set.univ)

end Rules

end Cert.KernelIdeal.Run
-- ==== Proof.PrepIdeal.lean ====
module

public import proofs.«01_k».proof.Proof.DmaIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # Preparing a batch: its decays, weights and rows of `c` -/

def c286 (v263 : FVec F S384x32 .f32) (v264 : IVec S8x32 32) (v265 : FVec F S1x32 .f32) (v272 : FVec F S8x32 .f32) (c2 : BitVec 32) : FVec F S8x32 .f32 := k0_pay7 v264 v265 v272 c2
def c308 (v263 : FVec F S384x32 .f32) (v264 : IVec S8x32 32) (v265 : FVec F S1x32 .f32) (v272 : FVec F S8x32 .f32) (c2 : BitVec 32) : FVec F S8x32 .f32 := k0_pay8 v263 v264 v265 v272 c2
def c309 (v263 : FVec F S384x32 .f32) (v264 : IVec S8x32 32) (v265 : FVec F S1x32 .f32) (v272 : FVec F S8x32 .f32) (c2 : BitVec 32) : FVec F S1x32 .f32 := k0_pay9 v263 v264 v265 v272 c2
def c310 (v263 : FVec F S384x32 .f32) (v264 : IVec S8x32 32) (v265 : FVec F S1x32 .f32) (v272 : FVec F S8x32 .f32) (c2 : BitVec 32) : FVec F S8x32 .f32 := k0_pay10 v263
def c315 (v263 : FVec F S384x32 .f32) (v264 : IVec S8x32 32) (v265 : FVec F S1x32 .f32) (v272 : FVec F S8x32 .f32) (c2 : BitVec 32) : FVec F S8x32 .f32 := k0_pay11 v263 v264
def c330 (v263 : FVec F S384x32 .f32) (v264 : IVec S8x32 32) (v265 : FVec F S1x32 .f32) (v272 : FVec F S8x32 .f32) (c2 : BitVec 32) : FVec F S8x32 .f32 := k0_pay12 v264 (c309 v263 v264 v265 v272 c2) (c310 v263 v264 v265 v272 c2) (c315 v263 v264 v265 v272 c2)
def c352 (v263 : FVec F S384x32 .f32) (v264 : IVec S8x32 32) (v265 : FVec F S1x32 .f32) (v272 : FVec F S8x32 .f32) (c2 : BitVec 32) : FVec F S8x32 .f32 := k0_pay13 v263 v264 (c309 v263 v264 v265 v272 c2) (c310 v263 v264 v265 v272 c2) (c315 v263 v264 v265 v272 c2)
def c353 (v263 : FVec F S384x32 .f32) (v264 : IVec S8x32 32) (v265 : FVec F S1x32 .f32) (v272 : FVec F S8x32 .f32) (c2 : BitVec 32) : FVec F S1x32 .f32 := k0_pay14 v263 v264 (c309 v263 v264 v265 v272 c2) (c310 v263 v264 v265 v272 c2) (c315 v263 v264 v265 v272 c2)
def c354 (v263 : FVec F S384x32 .f32) (v264 : IVec S8x32 32) (v265 : FVec F S1x32 .f32) (v272 : FVec F S8x32 .f32) (c2 : BitVec 32) : FVec F S8x32 .f32 := k0_pay15 v263
def c356 (v263 : FVec F S384x32 .f32) (v264 : IVec S8x32 32) (v265 : FVec F S1x32 .f32) (v272 : FVec F S8x32 .f32) (c2 : BitVec 32) : IVec S8x32 1 := k0_pay16 v264
def c357 (v263 : FVec F S384x32 .f32) (v264 : IVec S8x32 32) (v265 : FVec F S1x32 .f32) (v272 : FVec F S8x32 .f32) (c2 : BitVec 32) : FVec F S8x32 .f32 := k0_pay17 v263
def ccst_255 (v263 : FVec F S384x32 .f32) (v264 : IVec S8x32 32) (v265 : FVec F S1x32 .f32) (v272 : FVec F S8x32 .f32) (c2 : BitVec 32) : F .f32 := Scalar.ofBits .f32 0x00000000#32
def c374 (v263 : FVec F S384x32 .f32) (v264 : IVec S8x32 32) (v265 : FVec F S1x32 .f32) (v272 : FVec F S8x32 .f32) (c2 : BitVec 32) : FVec F S8x32 .f32 := k0_pay18 v264 (c353 v263 v264 v265 v272 c2) (c354 v263 v264 v265 v272 c2) (c356 v263 v264 v265 v272 c2) (c357 v263 v264 v265 v272 c2) (ccst_255 v263 v264 v265 v272 c2)
def c396 (v263 : FVec F S384x32 .f32) (v264 : IVec S8x32 32) (v265 : FVec F S1x32 .f32) (v272 : FVec F S8x32 .f32) (c2 : BitVec 32) : FVec F S8x32 .f32 := k0_pay19 v263 v264 (c353 v263 v264 v265 v272 c2) (c354 v263 v264 v265 v272 c2) (c356 v263 v264 v265 v272 c2) (c357 v263 v264 v265 v272 c2) (ccst_255 v263 v264 v265 v272 c2)
def c397 (v263 : FVec F S384x32 .f32) (v264 : IVec S8x32 32) (v265 : FVec F S1x32 .f32) (v272 : FVec F S8x32 .f32) (c2 : BitVec 32) : FVec F S1x32 .f32 := k0_pay20 v263 v264 (c353 v263 v264 v265 v272 c2) (c354 v263 v264 v265 v272 c2) (c356 v263 v264 v265 v272 c2) (c357 v263 v264 v265 v272 c2) (ccst_255 v263 v264 v265 v272 c2)
def c398 (v263 : FVec F S384x32 .f32) (v264 : IVec S8x32 32) (v265 : FVec F S1x32 .f32) (v272 : FVec F S8x32 .f32) (c2 : BitVec 32) : FVec F S8x32 .f32 := k0_pay21 v263
def c400 (v263 : FVec F S384x32 .f32) (v264 : IVec S8x32 32) (v265 : FVec F S1x32 .f32) (v272 : FVec F S8x32 .f32) (c2 : BitVec 32) : IVec S8x32 1 := k0_pay22 v264
def cc1_i32_272 (v263 : FVec F S384x32 .f32) (v264 : IVec S8x32 32) (v265 : FVec F S1x32 .f32) (v272 : FVec F S8x32 .f32) (c2 : BitVec 32) : BitVec 32 := 1#32
def c418 (v263 : FVec F S384x32 .f32) (v264 : IVec S8x32 32) (v265 : FVec F S1x32 .f32) (v272 : FVec F S8x32 .f32) (c2 : BitVec 32) : FVec F S8x32 .f32 := k0_pay23 v264 (c397 v263 v264 v265 v272 c2) (c398 v263 v264 v265 v272 c2) (c400 v263 v264 v265 v272 c2) (cc1_i32_272 v263 v264 v265 v272 c2)
def c440 (v263 : FVec F S384x32 .f32) (v264 : IVec S8x32 32) (v265 : FVec F S1x32 .f32) (v272 : FVec F S8x32 .f32) (c2 : BitVec 32) : FVec F S8x32 .f32 := k0_pay24 v263 v264 (c397 v263 v264 v265 v272 c2) (c398 v263 v264 v265 v272 c2) (c400 v263 v264 v265 v272 c2) (cc1_i32_272 v263 v264 v265 v272 c2)
def c441 (v263 : FVec F S384x32 .f32) (v264 : IVec S8x32 32) (v265 : FVec F S1x32 .f32) (v272 : FVec F S8x32 .f32) (c2 : BitVec 32) : FVec F S1x32 .f32 := k0_pay25 v263 v264 (c397 v263 v264 v265 v272 c2) (c398 v263 v264 v265 v272 c2) (c400 v263 v264 v265 v272 c2) (cc1_i32_272 v263 v264 v265 v272 c2)
def c442 (v263 : FVec F S384x32 .f32) (v264 : IVec S8x32 32) (v265 : FVec F S1x32 .f32) (v272 : FVec F S8x32 .f32) (c2 : BitVec 32) : FVec F S8x32 .f32 := k0_pay26 v263
def c443 (v263 : FVec F S384x32 .f32) (v264 : IVec S8x32 32) (v265 : FVec F S1x32 .f32) (v272 : FVec F S8x32 .f32) (c2 : BitVec 32) : IVec S8x32 32 := k0_pay27
def c462 (v263 : FVec F S384x32 .f32) (v264 : IVec S8x32 32) (v265 : FVec F S1x32 .f32) (v272 : FVec F S8x32 .f32) (c2 : BitVec 32) : FVec F S8x32 .f32 := k0_pay28 v264 (c441 v263 v264 v265 v272 c2) (c442 v263 v264 v265 v272 c2) (c443 v263 v264 v265 v272 c2)
def c484 (v263 : FVec F S384x32 .f32) (v264 : IVec S8x32 32) (v265 : FVec F S1x32 .f32) (v272 : FVec F S8x32 .f32) (c2 : BitVec 32) : FVec F S8x32 .f32 := k0_pay29 v263 v264 (c441 v263 v264 v265 v272 c2) (c442 v263 v264 v265 v272 c2) (c443 v263 v264 v265 v272 c2)
def c485 (v263 : FVec F S384x32 .f32) (v264 : IVec S8x32 32) (v265 : FVec F S1x32 .f32) (v272 : FVec F S8x32 .f32) (c2 : BitVec 32) : FVec F S1x32 .f32 := k0_pay30 v263 v264 (c441 v263 v264 v265 v272 c2) (c442 v263 v264 v265 v272 c2) (c443 v263 v264 v265 v272 c2)
def c486 (v263 : FVec F S384x32 .f32) (v264 : IVec S8x32 32) (v265 : FVec F S1x32 .f32) (v272 : FVec F S8x32 .f32) (c2 : BitVec 32) : FVec F S8x32 .f32 := k0_pay31 v263
def c506 (v263 : FVec F S384x32 .f32) (v264 : IVec S8x32 32) (v265 : FVec F S1x32 .f32) (v272 : FVec F S8x32 .f32) (c2 : BitVec 32) : FVec F S8x32 .f32 := k0_pay32 v264 (c485 v263 v264 v265 v272 c2) (c486 v263 v264 v265 v272 c2)
def c528 (v263 : FVec F S384x32 .f32) (v264 : IVec S8x32 32) (v265 : FVec F S1x32 .f32) (v272 : FVec F S8x32 .f32) (c2 : BitVec 32) : FVec F S8x32 .f32 := k0_pay33 v263 v264 (c485 v263 v264 v265 v272 c2) (c486 v263 v264 v265 v272 c2)
def c550 (v263 : FVec F S384x32 .f32) (v264 : IVec S8x32 32) (v265 : FVec F S1x32 .f32) (v272 : FVec F S8x32 .f32) (c2 : BitVec 32) : FVec F S8x32 .f32 := k0_pay34 v263 v264 (c528 v263 v264 v265 v272 c2)
def c551 (v263 : FVec F S384x32 .f32) (v264 : IVec S8x32 32) (v265 : FVec F S1x32 .f32) (v272 : FVec F S8x32 .f32) (c2 : BitVec 32) : FVec F S1x32 .f32 := k0_pay35 v263 v264 (c528 v263 v264 v265 v272 c2)
def c570 (v263 : FVec F S384x32 .f32) (v264 : IVec S8x32 32) (v265 : FVec F S1x32 .f32) (v272 : FVec F S8x32 .f32) (c2 : BitVec 32) : FVec F S8x32 .f32 := k0_pay36 v263 v264
def c572 (v263 : FVec F S384x32 .f32) (v264 : IVec S8x32 32) (v265 : FVec F S1x32 .f32) (v272 : FVec F S8x32 .f32) (c2 : BitVec 32) : FVec F S8x32 .f32 := k0_pay37 (c551 v263 v264 v265 v272 c2) (c570 v263 v264 v265 v272 c2)
def c594 (v263 : FVec F S384x32 .f32) (v264 : IVec S8x32 32) (v265 : FVec F S1x32 .f32) (v272 : FVec F S8x32 .f32) (c2 : BitVec 32) : FVec F S8x32 .f32 := k0_pay38 v263 v264 (c551 v263 v264 v265 v272 c2) (c570 v263 v264 v265 v272 c2)
def c595 (v263 : FVec F S384x32 .f32) (v264 : IVec S8x32 32) (v265 : FVec F S1x32 .f32) (v272 : FVec F S8x32 .f32) (c2 : BitVec 32) : FVec F S1x32 .f32 := k0_pay39 v263 v264 (c551 v263 v264 v265 v272 c2) (c570 v263 v264 v265 v272 c2)
def c608 (v263 : FVec F S384x32 .f32) (v264 : IVec S8x32 32) (v265 : FVec F S1x32 .f32) (v272 : FVec F S8x32 .f32) (c2 : BitVec 32) : FVec F S8x32 .f32 := k0_pay40 v263 v264
def c610 (v263 : FVec F S384x32 .f32) (v264 : IVec S8x32 32) (v265 : FVec F S1x32 .f32) (v272 : FVec F S8x32 .f32) (c2 : BitVec 32) : IVec S8x32 1 := k0_pay41 v264
def c611 (v263 : FVec F S384x32 .f32) (v264 : IVec S8x32 32) (v265 : FVec F S1x32 .f32) (v272 : FVec F S8x32 .f32) (c2 : BitVec 32) : FVec F S8x32 .f32 := k0_pay42 v263 v264
def c612 (v263 : FVec F S384x32 .f32) (v264 : IVec S8x32 32) (v265 : FVec F S1x32 .f32) (v272 : FVec F S8x32 .f32) (c2 : BitVec 32) : FVec F S8x32 .f32 := k0_pay43 (F := F)
def c616 (v263 : FVec F S384x32 .f32) (v264 : IVec S8x32 32) (v265 : FVec F S1x32 .f32) (v272 : FVec F S8x32 .f32) (c2 : BitVec 32) : FVec F S8x32 .f32 := k0_pay44 (c595 v263 v264 v265 v272 c2) (c608 v263 v264 v265 v272 c2) (c610 v263 v264 v265 v272 c2) (c611 v263 v264 v265 v272 c2) (c612 v263 v264 v265 v272 c2)
def c638 (v263 : FVec F S384x32 .f32) (v264 : IVec S8x32 32) (v265 : FVec F S1x32 .f32) (v272 : FVec F S8x32 .f32) (c2 : BitVec 32) : FVec F S8x32 .f32 := k0_pay45 v263 v264 (c595 v263 v264 v265 v272 c2) (c608 v263 v264 v265 v272 c2) (c610 v263 v264 v265 v272 c2) (c611 v263 v264 v265 v272 c2) (c612 v263 v264 v265 v272 c2)
def c639 (v263 : FVec F S384x32 .f32) (v264 : IVec S8x32 32) (v265 : FVec F S1x32 .f32) (v272 : FVec F S8x32 .f32) (c2 : BitVec 32) : FVec F S1x32 .f32 := k0_pay46 v263 v264 (c595 v263 v264 v265 v272 c2) (c608 v263 v264 v265 v272 c2) (c610 v263 v264 v265 v272 c2) (c611 v263 v264 v265 v272 c2) (c612 v263 v264 v265 v272 c2)
def c652 (v263 : FVec F S384x32 .f32) (v264 : IVec S8x32 32) (v265 : FVec F S1x32 .f32) (v272 : FVec F S8x32 .f32) (c2 : BitVec 32) : FVec F S8x32 .f32 := k0_pay47 v263 v264
def c654 (v263 : FVec F S384x32 .f32) (v264 : IVec S8x32 32) (v265 : FVec F S1x32 .f32) (v272 : FVec F S8x32 .f32) (c2 : BitVec 32) : IVec S8x32 1 := k0_pay48 v264
def c655 (v263 : FVec F S384x32 .f32) (v264 : IVec S8x32 32) (v265 : FVec F S1x32 .f32) (v272 : FVec F S8x32 .f32) (c2 : BitVec 32) : FVec F S8x32 .f32 := k0_pay49 v263 v264
def c660 (v263 : FVec F S384x32 .f32) (v264 : IVec S8x32 32) (v265 : FVec F S1x32 .f32) (v272 : FVec F S8x32 .f32) (c2 : BitVec 32) : FVec F S8x32 .f32 := k0_pay50 (c639 v263 v264 v265 v272 c2) (c652 v263 v264 v265 v272 c2) (c654 v263 v264 v265 v272 c2) (c655 v263 v264 v265 v272 c2)
def c682 (v263 : FVec F S384x32 .f32) (v264 : IVec S8x32 32) (v265 : FVec F S1x32 .f32) (v272 : FVec F S8x32 .f32) (c2 : BitVec 32) : FVec F S8x32 .f32 := k0_pay51 v263 v264 (c639 v263 v264 v265 v272 c2) (c652 v263 v264 v265 v272 c2) (c654 v263 v264 v265 v272 c2) (c655 v263 v264 v265 v272 c2)
def c683 (v263 : FVec F S384x32 .f32) (v264 : IVec S8x32 32) (v265 : FVec F S1x32 .f32) (v272 : FVec F S8x32 .f32) (c2 : BitVec 32) : FVec F S1x32 .f32 := k0_pay52 v263 v264 (c639 v263 v264 v265 v272 c2) (c652 v263 v264 v265 v272 c2) (c654 v263 v264 v265 v272 c2) (c655 v263 v264 v265 v272 c2)
def c696 (v263 : FVec F S384x32 .f32) (v264 : IVec S8x32 32) (v265 : FVec F S1x32 .f32) (v272 : FVec F S8x32 .f32) (c2 : BitVec 32) : FVec F S8x32 .f32 := k0_pay53 v263 v264
def c698 (v263 : FVec F S384x32 .f32) (v264 : IVec S8x32 32) (v265 : FVec F S1x32 .f32) (v272 : FVec F S8x32 .f32) (c2 : BitVec 32) : IVec S8x32 1 := k0_pay54 v264
def c704 (v263 : FVec F S384x32 .f32) (v264 : IVec S8x32 32) (v265 : FVec F S1x32 .f32) (v272 : FVec F S8x32 .f32) (c2 : BitVec 32) : FVec F S8x32 .f32 := k0_pay55 (c683 v263 v264 v265 v272 c2) (c696 v263 v264 v265 v272 c2) (c698 v263 v264 v265 v272 c2)
def c726 (v263 : FVec F S384x32 .f32) (v264 : IVec S8x32 32) (v265 : FVec F S1x32 .f32) (v272 : FVec F S8x32 .f32) (c2 : BitVec 32) : FVec F S8x32 .f32 := k0_pay56 v263 v264 (c683 v263 v264 v265 v272 c2) (c696 v263 v264 v265 v272 c2) (c698 v263 v264 v265 v272 c2)
def c727 (v263 : FVec F S384x32 .f32) (v264 : IVec S8x32 32) (v265 : FVec F S1x32 .f32) (v272 : FVec F S8x32 .f32) (c2 : BitVec 32) : FVec F S1x32 .f32 := k0_pay57 v263 v264 (c683 v263 v264 v265 v272 c2) (c696 v263 v264 v265 v272 c2) (c698 v263 v264 v265 v272 c2)
def c740 (v263 : FVec F S384x32 .f32) (v264 : IVec S8x32 32) (v265 : FVec F S1x32 .f32) (v272 : FVec F S8x32 .f32) (c2 : BitVec 32) : FVec F S8x32 .f32 := k0_pay58 v263 v264
def cc4_i32_412 (v263 : FVec F S384x32 .f32) (v264 : IVec S8x32 32) (v265 : FVec F S1x32 .f32) (v272 : FVec F S8x32 .f32) (c2 : BitVec 32) : BitVec 32 := 4#32
def c748 (v263 : FVec F S384x32 .f32) (v264 : IVec S8x32 32) (v265 : FVec F S1x32 .f32) (v272 : FVec F S8x32 .f32) (c2 : BitVec 32) : FVec F S8x32 .f32 := k0_pay59 v264 (c727 v263 v264 v265 v272 c2) (c740 v263 v264 v265 v272 c2) (cc4_i32_412 v263 v264 v265 v272 c2)
def c770 (v263 : FVec F S384x32 .f32) (v264 : IVec S8x32 32) (v265 : FVec F S1x32 .f32) (v272 : FVec F S8x32 .f32) (c2 : BitVec 32) : FVec F S8x32 .f32 := k0_pay60 v263 v264 (c727 v263 v264 v265 v272 c2) (c740 v263 v264 v265 v272 c2) (cc4_i32_412 v263 v264 v265 v272 c2)
def c771 (v263 : FVec F S384x32 .f32) (v264 : IVec S8x32 32) (v265 : FVec F S1x32 .f32) (v272 : FVec F S8x32 .f32) (c2 : BitVec 32) : FVec F S1x32 .f32 := k0_pay61 v263 v264 (c727 v263 v264 v265 v272 c2) (c740 v263 v264 v265 v272 c2) (cc4_i32_412 v263 v264 v265 v272 c2)
def c778 (v263 : FVec F S384x32 .f32) (v264 : IVec S8x32 32) (v265 : FVec F S1x32 .f32) (v272 : FVec F S8x32 .f32) (c2 : BitVec 32) : FVec F S8x32 .f32 := k0_pay62 v263 v264
def c783 (v263 : FVec F S384x32 .f32) (v264 : IVec S8x32 32) (v265 : FVec F S1x32 .f32) (v272 : FVec F S8x32 .f32) (c2 : BitVec 32) : FVec F S8x32 .f32 := k0_pay63 v263 v264
def c792 (v263 : FVec F S384x32 .f32) (v264 : IVec S8x32 32) (v265 : FVec F S1x32 .f32) (v272 : FVec F S8x32 .f32) (c2 : BitVec 32) : FVec F S8x32 .f32 := k0_pay64 v264 (c771 v263 v264 v265 v272 c2) (c778 v263 v264 v265 v272 c2) (c783 v263 v264 v265 v272 c2)
def c814 (v263 : FVec F S384x32 .f32) (v264 : IVec S8x32 32) (v265 : FVec F S1x32 .f32) (v272 : FVec F S8x32 .f32) (c2 : BitVec 32) : FVec F S8x32 .f32 := k0_pay65 v263 v264 (c771 v263 v264 v265 v272 c2) (c778 v263 v264 v265 v272 c2) (c783 v263 v264 v265 v272 c2)
def c815 (v263 : FVec F S384x32 .f32) (v264 : IVec S8x32 32) (v265 : FVec F S1x32 .f32) (v272 : FVec F S8x32 .f32) (c2 : BitVec 32) : FVec F S1x32 .f32 := k0_pay66 v263 v264 (c771 v263 v264 v265 v272 c2) (c778 v263 v264 v265 v272 c2) (c783 v263 v264 v265 v272 c2)
def c822 (v263 : FVec F S384x32 .f32) (v264 : IVec S8x32 32) (v265 : FVec F S1x32 .f32) (v272 : FVec F S8x32 .f32) (c2 : BitVec 32) : FVec F S8x32 .f32 := k0_pay67 v263 v264
def c824 (v263 : FVec F S384x32 .f32) (v264 : IVec S8x32 32) (v265 : FVec F S1x32 .f32) (v272 : FVec F S8x32 .f32) (c2 : BitVec 32) : IVec S8x32 1 := k0_pay68 v264
def c825 (v263 : FVec F S384x32 .f32) (v264 : IVec S8x32 32) (v265 : FVec F S1x32 .f32) (v272 : FVec F S8x32 .f32) (c2 : BitVec 32) : FVec F S8x32 .f32 := k0_pay69 v263 v264
def ccst_447 (v263 : FVec F S384x32 .f32) (v264 : IVec S8x32 32) (v265 : FVec F S1x32 .f32) (v272 : FVec F S8x32 .f32) (c2 : BitVec 32) : F .f32 := Scalar.ofBits .f32 0x00000000#32
def c836 (v263 : FVec F S384x32 .f32) (v264 : IVec S8x32 32) (v265 : FVec F S1x32 .f32) (v272 : FVec F S8x32 .f32) (c2 : BitVec 32) : FVec F S8x32 .f32 := k0_pay70 v264 (c815 v263 v264 v265 v272 c2) (c822 v263 v264 v265 v272 c2) (c824 v263 v264 v265 v272 c2) (c825 v263 v264 v265 v272 c2) (ccst_447 v263 v264 v265 v272 c2)
def c858 (v263 : FVec F S384x32 .f32) (v264 : IVec S8x32 32) (v265 : FVec F S1x32 .f32) (v272 : FVec F S8x32 .f32) (c2 : BitVec 32) : FVec F S8x32 .f32 := k0_pay71 v263 v264 (c815 v263 v264 v265 v272 c2) (c822 v263 v264 v265 v272 c2) (c824 v263 v264 v265 v272 c2) (c825 v263 v264 v265 v272 c2) (ccst_447 v263 v264 v265 v272 c2)
def c859 (v263 : FVec F S384x32 .f32) (v264 : IVec S8x32 32) (v265 : FVec F S1x32 .f32) (v272 : FVec F S8x32 .f32) (c2 : BitVec 32) : FVec F S1x32 .f32 := k0_pay72 v263 v264 (c815 v263 v264 v265 v272 c2) (c822 v263 v264 v265 v272 c2) (c824 v263 v264 v265 v272 c2) (c825 v263 v264 v265 v272 c2) (ccst_447 v263 v264 v265 v272 c2)
def c866 (v263 : FVec F S384x32 .f32) (v264 : IVec S8x32 32) (v265 : FVec F S1x32 .f32) (v272 : FVec F S8x32 .f32) (c2 : BitVec 32) : FVec F S8x32 .f32 := k0_pay73 v263 v264
def c868 (v263 : FVec F S384x32 .f32) (v264 : IVec S8x32 32) (v265 : FVec F S1x32 .f32) (v272 : FVec F S8x32 .f32) (c2 : BitVec 32) : IVec S8x32 1 := k0_pay74 v264
def cc2_i32_464 (v263 : FVec F S384x32 .f32) (v264 : IVec S8x32 32) (v265 : FVec F S1x32 .f32) (v272 : FVec F S8x32 .f32) (c2 : BitVec 32) : BitVec 32 := 2#32
def c880 (v263 : FVec F S384x32 .f32) (v264 : IVec S8x32 32) (v265 : FVec F S1x32 .f32) (v272 : FVec F S8x32 .f32) (c2 : BitVec 32) : FVec F S8x32 .f32 := k0_pay75 v264 (c859 v263 v264 v265 v272 c2) (c866 v263 v264 v265 v272 c2) (c868 v263 v264 v265 v272 c2) (cc2_i32_464 v263 v264 v265 v272 c2)
def c902 (v263 : FVec F S384x32 .f32) (v264 : IVec S8x32 32) (v265 : FVec F S1x32 .f32) (v272 : FVec F S8x32 .f32) (c2 : BitVec 32) : FVec F S8x32 .f32 := k0_pay76 v263 v264 (c859 v263 v264 v265 v272 c2) (c866 v263 v264 v265 v272 c2) (c868 v263 v264 v265 v272 c2) (cc2_i32_464 v263 v264 v265 v272 c2)
def c903 (v263 : FVec F S384x32 .f32) (v264 : IVec S8x32 32) (v265 : FVec F S1x32 .f32) (v272 : FVec F S8x32 .f32) (c2 : BitVec 32) : FVec F S1x32 .f32 := k0_pay77 v263 v264 (c859 v263 v264 v265 v272 c2) (c866 v263 v264 v265 v272 c2) (c868 v263 v264 v265 v272 c2) (cc2_i32_464 v263 v264 v265 v272 c2)
def c910 (v263 : FVec F S384x32 .f32) (v264 : IVec S8x32 32) (v265 : FVec F S1x32 .f32) (v272 : FVec F S8x32 .f32) (c2 : BitVec 32) : FVec F S8x32 .f32 := k0_pay78 v263 v264
def c911 (v263 : FVec F S384x32 .f32) (v264 : IVec S8x32 32) (v265 : FVec F S1x32 .f32) (v272 : FVec F S8x32 .f32) (c2 : BitVec 32) : IVec S8x32 32 := k0_pay79
def c924 (v263 : FVec F S384x32 .f32) (v264 : IVec S8x32 32) (v265 : FVec F S1x32 .f32) (v272 : FVec F S8x32 .f32) (c2 : BitVec 32) : FVec F S8x32 .f32 := k0_pay80 v264 (c903 v263 v264 v265 v272 c2) (c910 v263 v264 v265 v272 c2) (c911 v263 v264 v265 v272 c2)
def c946 (v263 : FVec F S384x32 .f32) (v264 : IVec S8x32 32) (v265 : FVec F S1x32 .f32) (v272 : FVec F S8x32 .f32) (c2 : BitVec 32) : FVec F S8x32 .f32 := k0_pay81 v263 v264 (c903 v263 v264 v265 v272 c2) (c910 v263 v264 v265 v272 c2) (c911 v263 v264 v265 v272 c2)
def c947 (v263 : FVec F S384x32 .f32) (v264 : IVec S8x32 32) (v265 : FVec F S1x32 .f32) (v272 : FVec F S8x32 .f32) (c2 : BitVec 32) : FVec F S1x32 .f32 := k0_pay82 v263 v264 (c903 v263 v264 v265 v272 c2) (c910 v263 v264 v265 v272 c2) (c911 v263 v264 v265 v272 c2)
def c954 (v263 : FVec F S384x32 .f32) (v264 : IVec S8x32 32) (v265 : FVec F S1x32 .f32) (v272 : FVec F S8x32 .f32) (c2 : BitVec 32) : FVec F S8x32 .f32 := k0_pay83 v263 v264
def c968 (v263 : FVec F S384x32 .f32) (v264 : IVec S8x32 32) (v265 : FVec F S1x32 .f32) (v272 : FVec F S8x32 .f32) (c2 : BitVec 32) : FVec F S8x32 .f32 := k0_pay84 v264 (c947 v263 v264 v265 v272 c2) (c954 v263 v264 v265 v272 c2)
def c990 (v263 : FVec F S384x32 .f32) (v264 : IVec S8x32 32) (v265 : FVec F S1x32 .f32) (v272 : FVec F S8x32 .f32) (c2 : BitVec 32) : FVec F S8x32 .f32 := k0_pay85 v263 v264 (c947 v263 v264 v265 v272 c2) (c954 v263 v264 v265 v272 c2)
def c991 (v263 : FVec F S384x32 .f32) (v264 : IVec S8x32 32) (v265 : FVec F S1x32 .f32) (v272 : FVec F S8x32 .f32) (c2 : BitVec 32) : FVec F S1x32 .f32 := k0_pay86 v263 v264 (c947 v263 v264 v265 v272 c2) (c954 v263 v264 v265 v272 c2)
def c992 (v263 : FVec F S384x32 .f32) (v264 : IVec S8x32 32) (v265 : FVec F S1x32 .f32) (v272 : FVec F S8x32 .f32) (c2 : BitVec 32) : FVec F S8x32 .f32 := k0_pay87 v263
def c994 (v263 : FVec F S384x32 .f32) (v264 : IVec S8x32 32) (v265 : FVec F S1x32 .f32) (v272 : FVec F S8x32 .f32) (c2 : BitVec 32) : IVec S8x32 1 := k0_pay88 v264
def c995 (v263 : FVec F S384x32 .f32) (v264 : IVec S8x32 32) (v265 : FVec F S1x32 .f32) (v272 : FVec F S8x32 .f32) (c2 : BitVec 32) : FVec F S8x32 .f32 := k0_pay89 v263
def c996 (v263 : FVec F S384x32 .f32) (v264 : IVec S8x32 32) (v265 : FVec F S1x32 .f32) (v272 : FVec F S8x32 .f32) (c2 : BitVec 32) : FVec F S8x32 .f32 := k0_pay90 (F := F)
def c1012 (v263 : FVec F S384x32 .f32) (v264 : IVec S8x32 32) (v265 : FVec F S1x32 .f32) (v272 : FVec F S8x32 .f32) (c2 : BitVec 32) : FVec F S8x32 .f32 := k0_pay91 v264 (c991 v263 v264 v265 v272 c2) (c992 v263 v264 v265 v272 c2) (c994 v263 v264 v265 v272 c2) (c995 v263 v264 v265 v272 c2) (c996 v263 v264 v265 v272 c2)
def c1034 (v263 : FVec F S384x32 .f32) (v264 : IVec S8x32 32) (v265 : FVec F S1x32 .f32) (v272 : FVec F S8x32 .f32) (c2 : BitVec 32) : FVec F S8x32 .f32 := k0_pay92 v263 v264 (c991 v263 v264 v265 v272 c2) (c992 v263 v264 v265 v272 c2) (c994 v263 v264 v265 v272 c2) (c995 v263 v264 v265 v272 c2) (c996 v263 v264 v265 v272 c2)
def c1035 (v263 : FVec F S384x32 .f32) (v264 : IVec S8x32 32) (v265 : FVec F S1x32 .f32) (v272 : FVec F S8x32 .f32) (c2 : BitVec 32) : FVec F S1x32 .f32 := k0_pay93 v263 v264 (c991 v263 v264 v265 v272 c2) (c992 v263 v264 v265 v272 c2) (c994 v263 v264 v265 v272 c2) (c995 v263 v264 v265 v272 c2) (c996 v263 v264 v265 v272 c2)
def c1036 (v263 : FVec F S384x32 .f32) (v264 : IVec S8x32 32) (v265 : FVec F S1x32 .f32) (v272 : FVec F S8x32 .f32) (c2 : BitVec 32) : FVec F S8x32 .f32 := k0_pay94 v263
def c1038 (v263 : FVec F S384x32 .f32) (v264 : IVec S8x32 32) (v265 : FVec F S1x32 .f32) (v272 : FVec F S8x32 .f32) (c2 : BitVec 32) : IVec S8x32 1 := k0_pay95 v264
def c1039 (v263 : FVec F S384x32 .f32) (v264 : IVec S8x32 32) (v265 : FVec F S1x32 .f32) (v272 : FVec F S8x32 .f32) (c2 : BitVec 32) : FVec F S8x32 .f32 := k0_pay96 v263
def c1056 (v263 : FVec F S384x32 .f32) (v264 : IVec S8x32 32) (v265 : FVec F S1x32 .f32) (v272 : FVec F S8x32 .f32) (c2 : BitVec 32) : FVec F S8x32 .f32 := k0_pay97 v264 (c1035 v263 v264 v265 v272 c2) (c1036 v263 v264 v265 v272 c2) (c1038 v263 v264 v265 v272 c2) (c1039 v263 v264 v265 v272 c2)
def c1078 (v263 : FVec F S384x32 .f32) (v264 : IVec S8x32 32) (v265 : FVec F S1x32 .f32) (v272 : FVec F S8x32 .f32) (c2 : BitVec 32) : FVec F S8x32 .f32 := k0_pay98 v263 v264 (c1035 v263 v264 v265 v272 c2) (c1036 v263 v264 v265 v272 c2) (c1038 v263 v264 v265 v272 c2) (c1039 v263 v264 v265 v272 c2)
def c1079 (v263 : FVec F S384x32 .f32) (v264 : IVec S8x32 32) (v265 : FVec F S1x32 .f32) (v272 : FVec F S8x32 .f32) (c2 : BitVec 32) : FVec F S1x32 .f32 := k0_pay99 v263 v264 (c1035 v263 v264 v265 v272 c2) (c1036 v263 v264 v265 v272 c2) (c1038 v263 v264 v265 v272 c2) (c1039 v263 v264 v265 v272 c2)
def c1080 (v263 : FVec F S384x32 .f32) (v264 : IVec S8x32 32) (v265 : FVec F S1x32 .f32) (v272 : FVec F S8x32 .f32) (c2 : BitVec 32) : FVec F S8x32 .f32 := k0_pay100 v263
def c1082 (v263 : FVec F S384x32 .f32) (v264 : IVec S8x32 32) (v265 : FVec F S1x32 .f32) (v272 : FVec F S8x32 .f32) (c2 : BitVec 32) : IVec S8x32 1 := k0_pay101 v264
def c1100 (v263 : FVec F S384x32 .f32) (v264 : IVec S8x32 32) (v265 : FVec F S1x32 .f32) (v272 : FVec F S8x32 .f32) (c2 : BitVec 32) : FVec F S8x32 .f32 := k0_pay102 v264 (c1079 v263 v264 v265 v272 c2) (c1080 v263 v264 v265 v272 c2) (c1082 v263 v264 v265 v272 c2)
def c1122 (v263 : FVec F S384x32 .f32) (v264 : IVec S8x32 32) (v265 : FVec F S1x32 .f32) (v272 : FVec F S8x32 .f32) (c2 : BitVec 32) : FVec F S8x32 .f32 := k0_pay103 v263 v264 (c1079 v263 v264 v265 v272 c2) (c1080 v263 v264 v265 v272 c2) (c1082 v263 v264 v265 v272 c2)
def c1123 (v263 : FVec F S384x32 .f32) (v264 : IVec S8x32 32) (v265 : FVec F S1x32 .f32) (v272 : FVec F S8x32 .f32) (c2 : BitVec 32) : FVec F S1x32 .f32 := k0_pay104 v263 v264 (c1079 v263 v264 v265 v272 c2) (c1080 v263 v264 v265 v272 c2) (c1082 v263 v264 v265 v272 c2)
def c1124 (v263 : FVec F S384x32 .f32) (v264 : IVec S8x32 32) (v265 : FVec F S1x32 .f32) (v272 : FVec F S8x32 .f32) (c2 : BitVec 32) : FVec F S8x32 .f32 := k0_pay105 v263
def cc1_i32_568 (v263 : FVec F S384x32 .f32) (v264 : IVec S8x32 32) (v265 : FVec F S1x32 .f32) (v272 : FVec F S8x32 .f32) (c2 : BitVec 32) : BitVec 32 := 1#32
def c1144 (v263 : FVec F S384x32 .f32) (v264 : IVec S8x32 32) (v265 : FVec F S1x32 .f32) (v272 : FVec F S8x32 .f32) (c2 : BitVec 32) : FVec F S8x32 .f32 := k0_pay106 v264 (c1123 v263 v264 v265 v272 c2) (c1124 v263 v264 v265 v272 c2) (cc1_i32_568 v263 v264 v265 v272 c2)
def c1166 (v263 : FVec F S384x32 .f32) (v264 : IVec S8x32 32) (v265 : FVec F S1x32 .f32) (v272 : FVec F S8x32 .f32) (c2 : BitVec 32) : FVec F S8x32 .f32 := k0_pay107 v263 v264 (c1123 v263 v264 v265 v272 c2) (c1124 v263 v264 v265 v272 c2) (cc1_i32_568 v263 v264 v265 v272 c2)
def c1167 (v263 : FVec F S384x32 .f32) (v264 : IVec S8x32 32) (v265 : FVec F S1x32 .f32) (v272 : FVec F S8x32 .f32) (c2 : BitVec 32) : FVec F S1x32 .f32 := k0_pay108 v263 v264 (c1123 v263 v264 v265 v272 c2) (c1124 v263 v264 v265 v272 c2) (cc1_i32_568 v263 v264 v265 v272 c2)
def c1188 (v263 : FVec F S384x32 .f32) (v264 : IVec S8x32 32) (v265 : FVec F S1x32 .f32) (v272 : FVec F S8x32 .f32) (c2 : BitVec 32) : FVec F S8x32 .f32 := k0_pay109 v263 v264 (c1167 v263 v264 v265 v272 c2)
def c1208 (v263 : FVec F S384x32 .f32) (v264 : IVec S8x32 32) (v265 : FVec F S1x32 .f32) (v272 : FVec F S8x32 .f32) (c2 : BitVec 32) : FVec F S8x32 .f32 := k0_pay110 v263 v264
def c1209 (v263 : FVec F S384x32 .f32) (v264 : IVec S8x32 32) (v265 : FVec F S1x32 .f32) (v272 : FVec F S8x32 .f32) (c2 : BitVec 32) : FVec F S8x32 .f32 := k0_pay111 v263 v264 (c1167 v263 v264 v265 v272 c2)
def c1210 (v263 : FVec F S384x32 .f32) (v264 : IVec S8x32 32) (v265 : FVec F S1x32 .f32) (v272 : FVec F S8x32 .f32) (c2 : BitVec 32) : FVec F S8x32 .f32 := k0_pay112 (c1208 v263 v264 v265 v272 c2) (c1209 v263 v264 v265 v272 c2)
def c1232 (v263 : FVec F S384x32 .f32) (v264 : IVec S8x32 32) (v265 : FVec F S1x32 .f32) (v272 : FVec F S8x32 .f32) (c2 : BitVec 32) : FVec F S8x32 .f32 := k0_pay113 v263 v264 (c1208 v263 v264 v265 v272 c2) (c1209 v263 v264 v265 v272 c2)
def c1233 (v263 : FVec F S384x32 .f32) (v264 : IVec S8x32 32) (v265 : FVec F S1x32 .f32) (v272 : FVec F S8x32 .f32) (c2 : BitVec 32) : FVec F S1x32 .f32 := k0_pay114 v263 v264 (c1208 v263 v264 v265 v272 c2) (c1209 v263 v264 v265 v272 c2)
def c1246 (v263 : FVec F S384x32 .f32) (v264 : IVec S8x32 32) (v265 : FVec F S1x32 .f32) (v272 : FVec F S8x32 .f32) (c2 : BitVec 32) : FVec F S8x32 .f32 := k0_pay115 v263 v264
def c1251 (v263 : FVec F S384x32 .f32) (v264 : IVec S8x32 32) (v265 : FVec F S1x32 .f32) (v272 : FVec F S8x32 .f32) (c2 : BitVec 32) : FVec F S8x32 .f32 := k0_pay116 v263 v264
def c1254 (v263 : FVec F S384x32 .f32) (v264 : IVec S8x32 32) (v265 : FVec F S1x32 .f32) (v272 : FVec F S8x32 .f32) (c2 : BitVec 32) : FVec F S8x32 .f32 := k0_pay117 (c1233 v263 v264 v265 v272 c2) (c1246 v263 v264 v265 v272 c2) (c1251 v263 v264 v265 v272 c2)
def c1276 (v263 : FVec F S384x32 .f32) (v264 : IVec S8x32 32) (v265 : FVec F S1x32 .f32) (v272 : FVec F S8x32 .f32) (c2 : BitVec 32) : FVec F S8x32 .f32 := k0_pay118 v263 v264 (c1233 v263 v264 v265 v272 c2) (c1246 v263 v264 v265 v272 c2) (c1251 v263 v264 v265 v272 c2)
def c1277 (v263 : FVec F S384x32 .f32) (v264 : IVec S8x32 32) (v265 : FVec F S1x32 .f32) (v272 : FVec F S8x32 .f32) (c2 : BitVec 32) : FVec F S1x32 .f32 := k0_pay119 v263 v264 (c1233 v263 v264 v265 v272 c2) (c1246 v263 v264 v265 v272 c2) (c1251 v263 v264 v265 v272 c2)
def c1290 (v263 : FVec F S384x32 .f32) (v264 : IVec S8x32 32) (v265 : FVec F S1x32 .f32) (v272 : FVec F S8x32 .f32) (c2 : BitVec 32) : FVec F S8x32 .f32 := k0_pay120 v263 v264
def c1292 (v263 : FVec F S384x32 .f32) (v264 : IVec S8x32 32) (v265 : FVec F S1x32 .f32) (v272 : FVec F S8x32 .f32) (c2 : BitVec 32) : IVec S8x32 1 := k0_pay121 v264
def c1293 (v263 : FVec F S384x32 .f32) (v264 : IVec S8x32 32) (v265 : FVec F S1x32 .f32) (v272 : FVec F S8x32 .f32) (c2 : BitVec 32) : FVec F S8x32 .f32 := k0_pay122 v263 v264
def ccst_639 (v263 : FVec F S384x32 .f32) (v264 : IVec S8x32 32) (v265 : FVec F S1x32 .f32) (v272 : FVec F S8x32 .f32) (c2 : BitVec 32) : F .f32 := Scalar.ofBits .f32 0x00000000#32
/-- The decays of a batch, all tokens and heads. -/
def decay (v263 : FVec F S384x32 .f32) (v264 : IVec S8x32 32) (v265 : FVec F S1x32 .f32) (v272 : FVec F S8x32 .f32) (c2 : BitVec 32) : FVec F S384x32 .f32 := k0_pay123 v263 v264 (c286 v263 v264 v265 v272 c2) (c308 v263 v264 v265 v272 c2) (c330 v263 v264 v265 v272 c2) (c352 v263 v264 v265 v272 c2) (c374 v263 v264 v265 v272 c2) (c396 v263 v264 v265 v272 c2) (c418 v263 v264 v265 v272 c2) (c440 v263 v264 v265 v272 c2) (c462 v263 v264 v265 v272 c2) (c484 v263 v264 v265 v272 c2) (c506 v263 v264 v265 v272 c2) (c528 v263 v264 v265 v272 c2) (c550 v263 v264 v265 v272 c2) (c572 v263 v264 v265 v272 c2) (c594 v263 v264 v265 v272 c2) (c616 v263 v264 v265 v272 c2) (c638 v263 v264 v265 v272 c2) (c660 v263 v264 v265 v272 c2) (c682 v263 v264 v265 v272 c2) (c704 v263 v264 v265 v272 c2) (c726 v263 v264 v265 v272 c2) (c748 v263 v264 v265 v272 c2) (c770 v263 v264 v265 v272 c2) (c792 v263 v264 v265 v272 c2) (c814 v263 v264 v265 v272 c2) (c836 v263 v264 v265 v272 c2) (c858 v263 v264 v265 v272 c2) (c880 v263 v264 v265 v272 c2) (c902 v263 v264 v265 v272 c2) (c924 v263 v264 v265 v272 c2) (c946 v263 v264 v265 v272 c2) (c968 v263 v264 v265 v272 c2) (c990 v263 v264 v265 v272 c2) (c1012 v263 v264 v265 v272 c2) (c1034 v263 v264 v265 v272 c2) (c1056 v263 v264 v265 v272 c2) (c1078 v263 v264 v265 v272 c2) (c1100 v263 v264 v265 v272 c2) (c1122 v263 v264 v265 v272 c2) (c1144 v263 v264 v265 v272 c2) (c1166 v263 v264 v265 v272 c2) (c1188 v263 v264 v265 v272 c2) (c1210 v263 v264 v265 v272 c2) (c1232 v263 v264 v265 v272 c2) (c1254 v263 v264 v265 v272 c2) (c1276 v263 v264 v265 v272 c2) (c1277 v263 v264 v265 v272 c2) (c1290 v263 v264 v265 v272 c2) (c1292 v263 v264 v265 v272 c2) (c1293 v263 v264 v265 v272 c2) (ccst_639 v263 v264 v265 v272 c2)
/-- The decays of the tokens before the first document end, zero after. -/
def wts (v263 : FVec F S384x32 .f32) (v264 : IVec S8x32 32) (v265 : FVec F S1x32 .f32) (v272 : FVec F S8x32 .f32) (c2 : BitVec 32) (w : Elt F .i32) : FVec F S384x32 .f32 := k0_pay124 v263 v264 (c286 v263 v264 v265 v272 c2) (c308 v263 v264 v265 v272 c2) (c330 v263 v264 v265 v272 c2) (c352 v263 v264 v265 v272 c2) (c374 v263 v264 v265 v272 c2) (c396 v263 v264 v265 v272 c2) (c418 v263 v264 v265 v272 c2) (c440 v263 v264 v265 v272 c2) (c462 v263 v264 v265 v272 c2) (c484 v263 v264 v265 v272 c2) (c506 v263 v264 v265 v272 c2) (c528 v263 v264 v265 v272 c2) (c550 v263 v264 v265 v272 c2) (c572 v263 v264 v265 v272 c2) (c594 v263 v264 v265 v272 c2) (c616 v263 v264 v265 v272 c2) (c638 v263 v264 v265 v272 c2) (c660 v263 v264 v265 v272 c2) (c682 v263 v264 v265 v272 c2) (c704 v263 v264 v265 v272 c2) (c726 v263 v264 v265 v272 c2) (c748 v263 v264 v265 v272 c2) (c770 v263 v264 v265 v272 c2) (c792 v263 v264 v265 v272 c2) (c814 v263 v264 v265 v272 c2) (c836 v263 v264 v265 v272 c2) (c858 v263 v264 v265 v272 c2) (c880 v263 v264 v265 v272 c2) (c902 v263 v264 v265 v272 c2) (c924 v263 v264 v265 v272 c2) (c946 v263 v264 v265 v272 c2) (c968 v263 v264 v265 v272 c2) (c990 v263 v264 v265 v272 c2) (c1012 v263 v264 v265 v272 c2) (c1034 v263 v264 v265 v272 c2) (c1056 v263 v264 v265 v272 c2) (c1078 v263 v264 v265 v272 c2) (c1100 v263 v264 v265 v272 c2) (c1122 v263 v264 v265 v272 c2) (c1144 v263 v264 v265 v272 c2) (c1166 v263 v264 v265 v272 c2) (c1188 v263 v264 v265 v272 c2) (c1210 v263 v264 v265 v272 c2) (c1232 v263 v264 v265 v272 c2) (c1254 v263 v264 v265 v272 c2) (c1276 v263 v264 v265 v272 c2) (c1277 v263 v264 v265 v272 c2) (c1290 v263 v264 v265 v272 c2) (c1292 v263 v264 v265 v272 c2) (c1293 v263 v264 v265 v272 c2) (ccst_639 v263 v264 v265 v272 c2) w
def wts0 (v263 : FVec F S384x32 .f32) (v264 : IVec S8x32 32) (v265 : FVec F S1x32 .f32) (v272 : FVec F S8x32 .f32) (c2 : BitVec 32) (w : Elt F .i32) : FVec F S1x384x8 .f32 := k0_pay125 v263 v264 (c286 v263 v264 v265 v272 c2) (c308 v263 v264 v265 v272 c2) (c330 v263 v264 v265 v272 c2) (c352 v263 v264 v265 v272 c2) (c374 v263 v264 v265 v272 c2) (c396 v263 v264 v265 v272 c2) (c418 v263 v264 v265 v272 c2) (c440 v263 v264 v265 v272 c2) (c462 v263 v264 v265 v272 c2) (c484 v263 v264 v265 v272 c2) (c506 v263 v264 v265 v272 c2) (c528 v263 v264 v265 v272 c2) (c550 v263 v264 v265 v272 c2) (c572 v263 v264 v265 v272 c2) (c594 v263 v264 v265 v272 c2) (c616 v263 v264 v265 v272 c2) (c638 v263 v264 v265 v272 c2) (c660 v263 v264 v265 v272 c2) (c682 v263 v264 v265 v272 c2) (c704 v263 v264 v265 v272 c2) (c726 v263 v264 v265 v272 c2) (c748 v263 v264 v265 v272 c2) (c770 v263 v264 v265 v272 c2) (c792 v263 v264 v265 v272 c2) (c814 v263 v264 v265 v272 c2) (c836 v263 v264 v265 v272 c2) (c858 v263 v264 v265 v272 c2) (c880 v263 v264 v265 v272 c2) (c902 v263 v264 v265 v272 c2) (c924 v263 v264 v265 v272 c2) (c946 v263 v264 v265 v272 c2) (c968 v263 v264 v265 v272 c2) (c990 v263 v264 v265 v272 c2) (c1012 v263 v264 v265 v272 c2) (c1034 v263 v264 v265 v272 c2) (c1056 v263 v264 v265 v272 c2) (c1078 v263 v264 v265 v272 c2) (c1100 v263 v264 v265 v272 c2) (c1122 v263 v264 v265 v272 c2) (c1144 v263 v264 v265 v272 c2) (c1166 v263 v264 v265 v272 c2) (c1188 v263 v264 v265 v272 c2) (c1210 v263 v264 v265 v272 c2) (c1232 v263 v264 v265 v272 c2) (c1254 v263 v264 v265 v272 c2) (c1276 v263 v264 v265 v272 c2) (c1277 v263 v264 v265 v272 c2) (c1290 v263 v264 v265 v272 c2) (c1292 v263 v264 v265 v272 c2) (c1293 v263 v264 v265 v272 c2) (ccst_639 v263 v264 v265 v272 c2) w
def fin0 (v263 : FVec F S384x32 .f32) (v264 : IVec S8x32 32) (v265 : FVec F S1x32 .f32) (v272 : FVec F S8x32 .f32) (c2 : BitVec 32) : FVec F S1x8 .f32 := k0_pay126 v263 v264 (c286 v263 v264 v265 v272 c2) (c308 v263 v264 v265 v272 c2) (c330 v263 v264 v265 v272 c2) (c352 v263 v264 v265 v272 c2) (c374 v263 v264 v265 v272 c2) (c396 v263 v264 v265 v272 c2) (c418 v263 v264 v265 v272 c2) (c440 v263 v264 v265 v272 c2) (c462 v263 v264 v265 v272 c2) (c484 v263 v264 v265 v272 c2) (c506 v263 v264 v265 v272 c2) (c528 v263 v264 v265 v272 c2) (c550 v263 v264 v265 v272 c2) (c572 v263 v264 v265 v272 c2) (c594 v263 v264 v265 v272 c2) (c616 v263 v264 v265 v272 c2) (c638 v263 v264 v265 v272 c2) (c660 v263 v264 v265 v272 c2) (c682 v263 v264 v265 v272 c2) (c704 v263 v264 v265 v272 c2) (c726 v263 v264 v265 v272 c2) (c748 v263 v264 v265 v272 c2) (c770 v263 v264 v265 v272 c2) (c792 v263 v264 v265 v272 c2) (c814 v263 v264 v265 v272 c2) (c836 v263 v264 v265 v272 c2) (c858 v263 v264 v265 v272 c2) (c880 v263 v264 v265 v272 c2) (c902 v263 v264 v265 v272 c2) (c924 v263 v264 v265 v272 c2) (c946 v263 v264 v265 v272 c2) (c968 v263 v264 v265 v272 c2) (c990 v263 v264 v265 v272 c2) (c1012 v263 v264 v265 v272 c2) (c1034 v263 v264 v265 v272 c2) (c1056 v263 v264 v265 v272 c2) (c1078 v263 v264 v265 v272 c2) (c1100 v263 v264 v265 v272 c2) (c1122 v263 v264 v265 v272 c2) (c1144 v263 v264 v265 v272 c2) (c1166 v263 v264 v265 v272 c2) (c1188 v263 v264 v265 v272 c2) (c1210 v263 v264 v265 v272 c2) (c1232 v263 v264 v265 v272 c2) (c1254 v263 v264 v265 v272 c2) (c1276 v263 v264 v265 v272 c2) (c1277 v263 v264 v265 v272 c2) (c1290 v263 v264 v265 v272 c2) (c1292 v263 v264 v265 v272 c2) (c1293 v263 v264 v265 v272 c2) (ccst_639 v263 v264 v265 v272 c2)
section Ops

/-- What preparing a batch does once its running sums are started. -/
def prepOps (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (k0_h1 : k0_cond1 k0_t1 = 1#1) (v263 : FVec F S384x32 .f32) (v264 : IVec S8x32 32) (v265 : FVec F S1x32 .f32) (v272 : FVec F S8x32 .f32) (c2 : BitVec 32) :
    KProg (F := F) (Σ' (v1383_hi : FVec F S384x256 .bf16), FVec F S384x256 .f32) := do
  let w : Elt F .i32 ← smemLoad arg23 (Rect.unit (s := S5) (k0_off8 k0_t1) S1.size (k0_off8_inb k0_t1 k0_h1)) numel1_S1 rfl
  let _ : Vec F S1x384x8 .f32 ← Prog.lift (.load arg18 (Rect.unit (s := S4x384x8) ![0, 0, 0] S1x384x8.size inb_S4x384x8_S1x384x8_0_0_0).toLoadRect (View.loadsAt_vmem h_S1x384x8))
  Prog.lift (.store arg18 (Rect.unit (s := S4x384x8) ![0, 0, 0] S1x384x8.size inb_S4x384x8_S1x384x8_0_0_0) (wts0 v263 v264 v265 v272 c2 w) Finset.univ (View.stores_vmem_bits_univ h_S1x384x8 rfl) (.inl rfl))
  let _ : Vec F S1x1x8 .f32 ← Prog.lift (.load arg19 (Rect.unit (s := S4x1x8) ![0, 0, 0] S1x1x8.size inb_S4x1x8_S1x1x8_0_0_0).toLoadRect (View.loadsAt_vmem h_S1x1x8))
  Prog.lift (.store arg19 (Rect.unit (s := S4x1x8) ![0, 0, 0] S1x1x8.size inb_S4x1x8_S1x1x8_0_0_0) (k0_pay127 (fin0 v263 v264 v265 v272 c2)) Finset.univ (View.stores_vmem_bits_univ h_S1x1x8 rfl) (.inl rfl))
  let _ : Vec F S1x384x8 .f32 ← Prog.lift (.load arg18 (Rect.unit (s := S4x384x8) ![1, 0, 0] S1x384x8.size inb_S4x384x8_S1x384x8_1_0_0).toLoadRect (View.loadsAt_vmem h_S1x384x8))
  Prog.lift (.store arg18 (Rect.unit (s := S4x384x8) ![1, 0, 0] S1x384x8.size inb_S4x384x8_S1x384x8_1_0_0) (k0_pay128 (wts v263 v264 v265 v272 c2 w)) Finset.univ (View.stores_vmem_bits_univ h_S1x384x8 rfl) (.inl rfl))
  let _ : Vec F S1x1x8 .f32 ← Prog.lift (.load arg19 (Rect.unit (s := S4x1x8) ![1, 0, 0] S1x1x8.size inb_S4x1x8_S1x1x8_1_0_0).toLoadRect (View.loadsAt_vmem h_S1x1x8))
  Prog.lift (.store arg19 (Rect.unit (s := S4x1x8) ![1, 0, 0] S1x1x8.size inb_S4x1x8_S1x1x8_1_0_0) (k0_pay129 (decay v263 v264 v265 v272 c2)) Finset.univ (View.stores_vmem_bits_univ h_S1x1x8 rfl) (.inl rfl))
  let _ : Vec F S1x384x8 .f32 ← Prog.lift (.load arg18 (Rect.unit (s := S4x384x8) ![2, 0, 0] S1x384x8.size inb_S4x384x8_S1x384x8_2_0_0).toLoadRect (View.loadsAt_vmem h_S1x384x8))
  Prog.lift (.store arg18 (Rect.unit (s := S4x384x8) ![2, 0, 0] S1x384x8.size inb_S4x384x8_S1x384x8_2_0_0) (k0_pay130 (wts v263 v264 v265 v272 c2 w)) Finset.univ (View.stores_vmem_bits_univ h_S1x384x8 rfl) (.inl rfl))
  let _ : Vec F S1x1x8 .f32 ← Prog.lift (.load arg19 (Rect.unit (s := S4x1x8) ![2, 0, 0] S1x1x8.size inb_S4x1x8_S1x1x8_2_0_0).toLoadRect (View.loadsAt_vmem h_S1x1x8))
  Prog.lift (.store arg19 (Rect.unit (s := S4x1x8) ![2, 0, 0] S1x1x8.size inb_S4x1x8_S1x1x8_2_0_0) (k0_pay131 (decay v263 v264 v265 v272 c2)) Finset.univ (View.stores_vmem_bits_univ h_S1x1x8 rfl) (.inl rfl))
  let _ : Vec F S1x384x8 .f32 ← Prog.lift (.load arg18 (Rect.unit (s := S4x384x8) ![3, 0, 0] S1x384x8.size inb_S4x384x8_S1x384x8_3_0_0).toLoadRect (View.loadsAt_vmem h_S1x384x8))
  Prog.lift (.store arg18 (Rect.unit (s := S4x384x8) ![3, 0, 0] S1x384x8.size inb_S4x384x8_S1x384x8_3_0_0) (k0_pay132 (wts v263 v264 v265 v272 c2 w)) Finset.univ (View.stores_vmem_bits_univ h_S1x384x8 rfl) (.inl rfl))
  let _ : Vec F S1x1x8 .f32 ← Prog.lift (.load arg19 (Rect.unit (s := S4x1x8) ![3, 0, 0] S1x1x8.size inb_S4x1x8_S1x1x8_3_0_0).toLoadRect (View.loadsAt_vmem h_S1x1x8))
  Prog.lift (.store arg19 (Rect.unit (s := S4x1x8) ![3, 0, 0] S1x1x8.size inb_S4x1x8_S1x1x8_3_0_0) (k0_pay133 (decay v263 v264 v265 v272 c2)) Finset.univ (View.stores_vmem_bits_univ h_S1x1x8 rfl) (.inl rfl))
  let r0 : Vec F S1x384x2x256 .bf16 ← Prog.lift (.load arg15 (Rect.unit (s := S5x384x4x256) (k0_off9 k0_t1) S1x384x2x256.size (k0_off9_inb k0_t1 k0_h1)).toLoadRect (View.loadsAt_vmem h_S1x384x2x256))
  let _ : Vec F S1x384x256 .bf16 ← Prog.lift (.load arg16 (Rect.unit (s := S4x384x256) ![0, 0, 0] S1x384x256.size inb_S4x384x256_S1x384x256_0_0_0).toLoadRect (View.loadsAt_vmem h_S1x384x256))
  Prog.lift (.store arg16 (Rect.unit (s := S4x384x256) ![0, 0, 0] S1x384x256.size inb_S4x384x256_S1x384x256_0_0_0) (k0_pay136 (k0_pay134 r0)) Finset.univ (View.stores_vmem h_S1x384x256 (q16.storeExact_slice rfl _ packedbf16_S4x384x256_S1x384x256_0_0_0) (fun _ => rfl)) (.inl rfl))
  let _ : Vec F S1x384x256 .bf16 ← Prog.lift (.load arg16 (Rect.unit (s := S4x384x256) ![1, 0, 0] S1x384x256.size inb_S4x384x256_S1x384x256_1_0_0).toLoadRect (View.loadsAt_vmem h_S1x384x256))
  Prog.lift (.store arg16 (Rect.unit (s := S4x384x256) ![1, 0, 0] S1x384x256.size inb_S4x384x256_S1x384x256_1_0_0) (k0_pay137 (k0_pay135 r0)) Finset.univ (View.stores_vmem h_S1x384x256 (q16.storeExact_slice rfl _ packedbf16_S4x384x256_S1x384x256_1_0_0) (fun _ => rfl)) (.inl rfl))
  let r1 : Vec F S1x384x2x256 .bf16 ← Prog.lift (.load arg15 (Rect.unit (s := S5x384x4x256) (k0_off10 k0_t1) S1x384x2x256.size (k0_off10_inb k0_t1 k0_h1)).toLoadRect (View.loadsAt_vmem h_S1x384x2x256))
  pure ⟨k0_pay138 r1, k0_pay139 r1⟩
set_option maxRecDepth 65536 in
theorem part28_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (k0_h1 : k0_cond1 k0_t1 = 1#1) :
    k0_part28 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1
      = k0_part1 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1 >>= fun r => prepOps arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 k0_h1 r.1 r.2.1 r.2.2.1 r.2.2.2.1 r.2.2.2.2 := rfl
end Ops

/-! ### Rows of the scratch -/

variable (c : Dev nD)

def pick {α : Type} (p0 p1 p2 p3 : α) (g : ℕ) : α := if g = 0 then p0 else if g = 1 then p1 else if g = 2 then p2 else p3

def rowsW (p0 p1 p2 p3 : Vec F S1x384x8 .f32) : Vec F S4x384x8 .f32 := fun i => pick p0 p1 p2 p3 (i 0 : Fin 4).val (ix3 0 (i 1 : Fin 384) (i 2 : Fin 8))
def updW (n : ℕ) (P f : Vec F S4x384x8 .f32) : Vec F S4x384x8 .f32 := fun i => if (i 0 : Fin 4).val < n then P i else f i
theorem updW_zero (P f : Vec F S4x384x8 .f32) : updW 0 P f = f := funext fun i => if_neg (Nat.not_lt_zero _)
theorem updW_four (P f : Vec F S4x384x8 .f32) : updW 4 P f = P := funext fun i => if_pos (i 0 : Fin 4).isLt
theorem embWr {g : ℕ} (hg : g < 4) {o : Fin 3 → ℕ} {h : ∀ a, o a + S1x384x8.size a ≤ S4x384x8.size a} (ho : o = ![g, 0, 0]) (z : S1x384x8.Idx) :
    (Rect.unit (s := S4x384x8) o S1x384x8.size h).emb z = ix3 (⟨g, hg⟩ : Fin 4) (z 1 : Fin 384) (z 2 : Fin 8) := by
  subst ho
  refine funext fun a => Fin.ext ?_
  have h0 : (z 0 : Fin 1).val < 1 := (z 0 : Fin 1).isLt
  fin_cases a
  · show g + 1 * (z 0 : Fin 1).val = g; omega
  · show 0 + 1 * (z 1 : Fin 384).val = (z 1 : Fin 384).val; omega
  · show 0 + 1 * (z 2 : Fin 8).val = (z 2 : Fin 8).val; omega
theorem memWr {g : ℕ} {o : Fin 3 → ℕ} {h : ∀ a, o a + S1x384x8.size a ≤ S4x384x8.size a} (ho : o = ![g, 0, 0]) (i : S4x384x8.Idx) :
    i ∈ (Rect.unit (s := S4x384x8) o S1x384x8.size h).set ↔ (i 0 : Fin 4).val = g := by
  subst ho
  rw [Rect.mem_set_unit]
  have h1 : (i 1 : Fin 384).val < 384 := (i 1 : Fin 384).isLt
  have h2 : (i 2 : Fin 8).val < 8 := (i 2 : Fin 8).isLt
  constructor
  · intro H
    have a0 : g ≤ (i 0 : Fin 4).val ∧ (i 0 : Fin 4).val < g + 1 := H 0
    omega
  · rintro a0 a
    fin_cases a
    · show g ≤ (i 0 : Fin 4).val ∧ (i 0 : Fin 4).val < g + 1; omega
    · show 0 ≤ (i 1 : Fin 384).val ∧ (i 1 : Fin 384).val < 0 + 384; omega
    · show 0 ≤ (i 2 : Fin 8).val ∧ (i 2 : Fin 8).val < 0 + 8; omega
theorem ldW {o : Fin 3 → ℕ} {h : ∀ a, o a + S1x384x8.size a ≤ S4x384x8.size a} {hl : bW.view.LoadsAt (Rect.unit (s := S4x384x8) o S1x384x8.size h).toLoadRect}
    {α : Type} {k : ((S1x384x8.Idx → Elt F (.f32 : EltTy))) → KProg (F := F) α} {Q : α → sProp 𝕄} (f : Vec F S4x384x8 .f32) :
    pt c bW Finset.univ f ⊢ iprop((pt c bW Finset.univ f -∗ ∀ v, WP c (k v) Q) -∗ WP c (Prog.lift (.load bW (Rect.unit (s := S4x384x8) o S1x384x8.size h).toLoadRect hl) >>= k) Q) := by
  iintro H Hk
  iapply (ld c (m := bW) (r := Rect.unit (s := S4x384x8) o S1x384x8.size h) (hl := hl) (k := k) (Q := Q) (W := Finset.univ) (f := f) (Finset.subset_univ _)) $$ H
  iintro H
  iapply Hk $$ H
theorem stW {g : ℕ} (hg : g < 4) {o : Fin 3 → ℕ} {h : ∀ a, o a + S1x384x8.size a ≤ S4x384x8.size a} (ho : o = ![g, 0, 0]) (g' : ℕ) (hg' : g' = g + 1)
    {w : S1x384x8.Idx → Elt F (.f32 : EltTy)} {hx : (bW.access (Rect.unit (s := S4x384x8) o S1x384x8.size h)).Stores Finset.univ}
    {hm : (Finset.univ : Finset (Rect.unit (s := S4x384x8) o S1x384x8.size h).shape.Idx) = Finset.univ ∨ ∀ a, (Rect.unit (s := S4x384x8) o S1x384x8.size h).stride a = 1}
    {α : Type} {k : PUnit → KProg (F := F) α} {Q : α → sProp 𝕄} (P f : Vec F S4x384x8 .f32)
    (hv : ∀ z : S1x384x8.Idx, w z = P (ix3 (⟨g, hg⟩ : Fin 4) (z 1 : Fin 384) (z 2 : Fin 8))) :
    pt c bW Finset.univ (updW g P f) ⊢ iprop((pt c bW Finset.univ (updW g' P f) -∗ WP c (k ⟨⟩) Q)
      -∗ WP c (Prog.lift (.store bW (Rect.unit (s := S4x384x8) o S1x384x8.size h) w Finset.univ hx hm) >>= k) Q) := by
  subst hg'
  refine st c (Finset.subset_univ _) (fun z => ?_) (fun i _ hi => ?_)
  · refine (congrArg (updW (g + 1) P f) (embWr hg ho z)).trans ?_
    exact (if_pos (Nat.lt_succ_self g)).trans (hv z).symm
  · have hi' : (i 0 : Fin 4).val ≠ g := fun e => by rw [acc_set] at hi; exact hi ((memWr ho i).mpr e)
    unfold updW
    by_cases h' : (i 0 : Fin 4).val < g
    · exact (if_pos (show (i 0 : Fin 4).val < g + 1 by omega)).trans (if_pos h').symm
    · exact (if_neg (show ¬ (i 0 : Fin 4).val < g + 1 by omega)).trans (if_neg h').symm
theorem rowsW_at (p0 p1 p2 p3 : Vec F S1x384x8 .f32) (g : Fin 4) (z : S1x384x8.Idx) :
    rowsW p0 p1 p2 p3 (ix3 g (z 1 : Fin 384) (z 2 : Fin 8)) = pick p0 p1 p2 p3 g.val z := by
  have e : (ix3 (0 : Fin 1) (z 1 : Fin 384) (z 2 : Fin 8) : S1x384x8.Idx) = z := by
    refine funext fun a => Fin.ext ?_
    have h0 : (z 0 : Fin 1).val < 1 := (z 0 : Fin 1).isLt
    fin_cases a
    · show 0 = (z 0 : Fin 1).val; omega
    · rfl
    · rfl
  exact congrArg (pick p0 p1 p2 p3 g.val) e

def rowsD (p0 p1 p2 p3 : Vec F S1x1x8 .f32) : Vec F S4x1x8 .f32 := fun i => pick p0 p1 p2 p3 (i 0 : Fin 4).val (ix3 0 (i 1 : Fin 1) (i 2 : Fin 8))
def updD (n : ℕ) (P f : Vec F S4x1x8 .f32) : Vec F S4x1x8 .f32 := fun i => if (i 0 : Fin 4).val < n then P i else f i
theorem updD_zero (P f : Vec F S4x1x8 .f32) : updD 0 P f = f := funext fun i => if_neg (Nat.not_lt_zero _)
theorem updD_four (P f : Vec F S4x1x8 .f32) : updD 4 P f = P := funext fun i => if_pos (i 0 : Fin 4).isLt
theorem embDr {g : ℕ} (hg : g < 4) {o : Fin 3 → ℕ} {h : ∀ a, o a + S1x1x8.size a ≤ S4x1x8.size a} (ho : o = ![g, 0, 0]) (z : S1x1x8.Idx) :
    (Rect.unit (s := S4x1x8) o S1x1x8.size h).emb z = ix3 (⟨g, hg⟩ : Fin 4) (z 1 : Fin 1) (z 2 : Fin 8) := by
  subst ho
  refine funext fun a => Fin.ext ?_
  have h0 : (z 0 : Fin 1).val < 1 := (z 0 : Fin 1).isLt
  fin_cases a
  · show g + 1 * (z 0 : Fin 1).val = g; omega
  · show 0 + 1 * (z 1 : Fin 1).val = (z 1 : Fin 1).val; omega
  · show 0 + 1 * (z 2 : Fin 8).val = (z 2 : Fin 8).val; omega
theorem memDr {g : ℕ} {o : Fin 3 → ℕ} {h : ∀ a, o a + S1x1x8.size a ≤ S4x1x8.size a} (ho : o = ![g, 0, 0]) (i : S4x1x8.Idx) :
    i ∈ (Rect.unit (s := S4x1x8) o S1x1x8.size h).set ↔ (i 0 : Fin 4).val = g := by
  subst ho
  rw [Rect.mem_set_unit]
  have h1 : (i 1 : Fin 1).val < 1 := (i 1 : Fin 1).isLt
  have h2 : (i 2 : Fin 8).val < 8 := (i 2 : Fin 8).isLt
  constructor
  · intro H
    have a0 : g ≤ (i 0 : Fin 4).val ∧ (i 0 : Fin 4).val < g + 1 := H 0
    omega
  · rintro a0 a
    fin_cases a
    · show g ≤ (i 0 : Fin 4).val ∧ (i 0 : Fin 4).val < g + 1; omega
    · show 0 ≤ (i 1 : Fin 1).val ∧ (i 1 : Fin 1).val < 0 + 1; omega
    · show 0 ≤ (i 2 : Fin 8).val ∧ (i 2 : Fin 8).val < 0 + 8; omega
theorem ldD {o : Fin 3 → ℕ} {h : ∀ a, o a + S1x1x8.size a ≤ S4x1x8.size a} {hl : bFd.view.LoadsAt (Rect.unit (s := S4x1x8) o S1x1x8.size h).toLoadRect}
    {α : Type} {k : ((S1x1x8.Idx → Elt F (.f32 : EltTy))) → KProg (F := F) α} {Q : α → sProp 𝕄} (f : Vec F S4x1x8 .f32) :
    pt c bFd Finset.univ f ⊢ iprop((pt c bFd Finset.univ f -∗ ∀ v, WP c (k v) Q) -∗ WP c (Prog.lift (.load bFd (Rect.unit (s := S4x1x8) o S1x1x8.size h).toLoadRect hl) >>= k) Q) := by
  iintro H Hk
  iapply (ld c (m := bFd) (r := Rect.unit (s := S4x1x8) o S1x1x8.size h) (hl := hl) (k := k) (Q := Q) (W := Finset.univ) (f := f) (Finset.subset_univ _)) $$ H
  iintro H
  iapply Hk $$ H
theorem stD {g : ℕ} (hg : g < 4) {o : Fin 3 → ℕ} {h : ∀ a, o a + S1x1x8.size a ≤ S4x1x8.size a} (ho : o = ![g, 0, 0]) (g' : ℕ) (hg' : g' = g + 1)
    {w : S1x1x8.Idx → Elt F (.f32 : EltTy)} {hx : (bFd.access (Rect.unit (s := S4x1x8) o S1x1x8.size h)).Stores Finset.univ}
    {hm : (Finset.univ : Finset (Rect.unit (s := S4x1x8) o S1x1x8.size h).shape.Idx) = Finset.univ ∨ ∀ a, (Rect.unit (s := S4x1x8) o S1x1x8.size h).stride a = 1}
    {α : Type} {k : PUnit → KProg (F := F) α} {Q : α → sProp 𝕄} (P f : Vec F S4x1x8 .f32)
    (hv : ∀ z : S1x1x8.Idx, w z = P (ix3 (⟨g, hg⟩ : Fin 4) (z 1 : Fin 1) (z 2 : Fin 8))) :
    pt c bFd Finset.univ (updD g P f) ⊢ iprop((pt c bFd Finset.univ (updD g' P f) -∗ WP c (k ⟨⟩) Q)
      -∗ WP c (Prog.lift (.store bFd (Rect.unit (s := S4x1x8) o S1x1x8.size h) w Finset.univ hx hm) >>= k) Q) := by
  subst hg'
  refine st c (Finset.subset_univ _) (fun z => ?_) (fun i _ hi => ?_)
  · refine (congrArg (updD (g + 1) P f) (embDr hg ho z)).trans ?_
    exact (if_pos (Nat.lt_succ_self g)).trans (hv z).symm
  · have hi' : (i 0 : Fin 4).val ≠ g := fun e => by rw [acc_set] at hi; exact hi ((memDr ho i).mpr e)
    unfold updD
    by_cases h' : (i 0 : Fin 4).val < g
    · exact (if_pos (show (i 0 : Fin 4).val < g + 1 by omega)).trans (if_pos h').symm
    · exact (if_neg (show ¬ (i 0 : Fin 4).val < g + 1 by omega)).trans (if_neg h').symm
theorem rowsD_at (p0 p1 p2 p3 : Vec F S1x1x8 .f32) (g : Fin 4) (z : S1x1x8.Idx) :
    rowsD p0 p1 p2 p3 (ix3 g (z 1 : Fin 1) (z 2 : Fin 8)) = pick p0 p1 p2 p3 g.val z := by
  have e : (ix3 (0 : Fin 1) (z 1 : Fin 1) (z 2 : Fin 8) : S1x1x8.Idx) = z := by
    refine funext fun a => Fin.ext ?_
    have h0 : (z 0 : Fin 1).val < 1 := (z 0 : Fin 1).isLt
    fin_cases a
    · show 0 = (z 0 : Fin 1).val; omega
    · rfl
    · rfl
  exact congrArg (pick p0 p1 p2 p3 g.val) e

def rowsG (p0 p1 p2 p3 : Vec F S1x384x256 .bf16) : Vec F S4x384x256 .bf16 := fun i => pick p0 p1 p2 p3 (i 0 : Fin 4).val (ix3 0 (i 1 : Fin 384) (i 2 : Fin 256))
def updG (n : ℕ) (P f : Vec F S4x384x256 .bf16) : Vec F S4x384x256 .bf16 := fun i => if (i 0 : Fin 4).val < n then P i else f i
theorem updG_zero (P f : Vec F S4x384x256 .bf16) : updG 0 P f = f := funext fun i => if_neg (Nat.not_lt_zero _)
theorem updG_four (P f : Vec F S4x384x256 .bf16) : updG 4 P f = P := funext fun i => if_pos (i 0 : Fin 4).isLt
theorem embGr {g : ℕ} (hg : g < 4) {o : Fin 3 → ℕ} {h : ∀ a, o a + S1x384x256.size a ≤ S4x384x256.size a} (ho : o = ![g, 0, 0]) (z : S1x384x256.Idx) :
    (Rect.unit (s := S4x384x256) o S1x384x256.size h).emb z = ix3 (⟨g, hg⟩ : Fin 4) (z 1 : Fin 384) (z 2 : Fin 256) := by
  subst ho
  refine funext fun a => Fin.ext ?_
  have h0 : (z 0 : Fin 1).val < 1 := (z 0 : Fin 1).isLt
  fin_cases a
  · show g + 1 * (z 0 : Fin 1).val = g; omega
  · show 0 + 1 * (z 1 : Fin 384).val = (z 1 : Fin 384).val; omega
  · show 0 + 1 * (z 2 : Fin 256).val = (z 2 : Fin 256).val; omega
theorem memGr {g : ℕ} {o : Fin 3 → ℕ} {h : ∀ a, o a + S1x384x256.size a ≤ S4x384x256.size a} (ho : o = ![g, 0, 0]) (i : S4x384x256.Idx) :
    i ∈ (Rect.unit (s := S4x384x256) o S1x384x256.size h).set ↔ (i 0 : Fin 4).val = g := by
  subst ho
  rw [Rect.mem_set_unit]
  have h1 : (i 1 : Fin 384).val < 384 := (i 1 : Fin 384).isLt
  have h2 : (i 2 : Fin 256).val < 256 := (i 2 : Fin 256).isLt
  constructor
  · intro H
    have a0 : g ≤ (i 0 : Fin 4).val ∧ (i 0 : Fin 4).val < g + 1 := H 0
    omega
  · rintro a0 a
    fin_cases a
    · show g ≤ (i 0 : Fin 4).val ∧ (i 0 : Fin 4).val < g + 1; omega
    · show 0 ≤ (i 1 : Fin 384).val ∧ (i 1 : Fin 384).val < 0 + 384; omega
    · show 0 ≤ (i 2 : Fin 256).val ∧ (i 2 : Fin 256).val < 0 + 256; omega
theorem ldG {o : Fin 3 → ℕ} {h : ∀ a, o a + S1x384x256.size a ≤ S4x384x256.size a} {hl : bCg.view.LoadsAt (Rect.unit (s := S4x384x256) o S1x384x256.size h).toLoadRect}
    {α : Type} {k : ((S1x384x256.Idx → Elt F (.bf16 : EltTy))) → KProg (F := F) α} {Q : α → sProp 𝕄} (f : Vec F S4x384x256 .bf16) :
    pt c bCg Finset.univ f ⊢ iprop((pt c bCg Finset.univ f -∗ ∀ v, WP c (k v) Q) -∗ WP c (Prog.lift (.load bCg (Rect.unit (s := S4x384x256) o S1x384x256.size h).toLoadRect hl) >>= k) Q) := by
  iintro H Hk
  iapply (ld c (m := bCg) (r := Rect.unit (s := S4x384x256) o S1x384x256.size h) (hl := hl) (k := k) (Q := Q) (W := Finset.univ) (f := f) (Finset.subset_univ _)) $$ H
  iintro H
  iapply Hk $$ H
theorem stG {g : ℕ} (hg : g < 4) {o : Fin 3 → ℕ} {h : ∀ a, o a + S1x384x256.size a ≤ S4x384x256.size a} (ho : o = ![g, 0, 0]) (g' : ℕ) (hg' : g' = g + 1)
    {w : S1x384x256.Idx → Elt F (.bf16 : EltTy)} {hx : (bCg.access (Rect.unit (s := S4x384x256) o S1x384x256.size h)).Stores Finset.univ}
    {hm : (Finset.univ : Finset (Rect.unit (s := S4x384x256) o S1x384x256.size h).shape.Idx) = Finset.univ ∨ ∀ a, (Rect.unit (s := S4x384x256) o S1x384x256.size h).stride a = 1}
    {α : Type} {k : PUnit → KProg (F := F) α} {Q : α → sProp 𝕄} (P f : Vec F S4x384x256 .bf16)
    (hv : ∀ z : S1x384x256.Idx, w z = P (ix3 (⟨g, hg⟩ : Fin 4) (z 1 : Fin 384) (z 2 : Fin 256))) :
    pt c bCg Finset.univ (updG g P f) ⊢ iprop((pt c bCg Finset.univ (updG g' P f) -∗ WP c (k ⟨⟩) Q)
      -∗ WP c (Prog.lift (.store bCg (Rect.unit (s := S4x384x256) o S1x384x256.size h) w Finset.univ hx hm) >>= k) Q) := by
  subst hg'
  refine st c (Finset.subset_univ _) (fun z => ?_) (fun i _ hi => ?_)
  · refine (congrArg (updG (g + 1) P f) (embGr hg ho z)).trans ?_
    exact (if_pos (Nat.lt_succ_self g)).trans (hv z).symm
  · have hi' : (i 0 : Fin 4).val ≠ g := fun e => by rw [acc_set] at hi; exact hi ((memGr ho i).mpr e)
    unfold updG
    by_cases h' : (i 0 : Fin 4).val < g
    · exact (if_pos (show (i 0 : Fin 4).val < g + 1 by omega)).trans (if_pos h').symm
    · exact (if_neg (show ¬ (i 0 : Fin 4).val < g + 1 by omega)).trans (if_neg h').symm
theorem rowsG_at (p0 p1 p2 p3 : Vec F S1x384x256 .bf16) (g : Fin 4) (z : S1x384x256.Idx) :
    rowsG p0 p1 p2 p3 (ix3 g (z 1 : Fin 384) (z 2 : Fin 256)) = pick p0 p1 p2 p3 g.val z := by
  have e : (ix3 (0 : Fin 1) (z 1 : Fin 384) (z 2 : Fin 256) : S1x384x256.Idx) = z := by
    refine funext fun a => Fin.ext ?_
    have h0 : (z 0 : Fin 1).val < 1 := (z 0 : Fin 1).isLt
    fin_cases a
    · show 0 = (z 0 : Fin 1).val; omega
    · rfl
    · rfl
  exact congrArg (pick p0 p1 p2 p3 g.val) e

/-! ### The reads of the scratch -/

/-- Two heads' worth of a batch's rows of `c`. -/
def slabC (f : Vec F S5x384x4x256 .bf16) (b : Fin 5) (p : Fin 2) : Vec F S1x384x2x256 .bf16 :=
  fun j => f (ix4 b (j 1 : Fin 384) ⟨2 * p.val + (j 2 : Fin 2).val, by have h : (j 2 : Fin 2).val < 2 := (j 2 : Fin 2).isLt; omega⟩ (j 3 : Fin 256))
/-- A batch's `dt`. -/
def slabD (f : Vec F S5x384x32 .f32) (b : Fin 5) : Vec F S1x384x32 .f32 := fun j => f (ix3 b (j 1 : Fin 384) (j 2 : Fin 32))
theorem embC {b : Fin 5} {p : Fin 2} {o : Fin 4 → ℕ} {h : ∀ a, o a + S1x384x2x256.size a ≤ S5x384x4x256.size a} (ho : o = ![b.val, 0, 2 * p.val, 0])
    (j : S1x384x2x256.Idx) : (Rect.unit (s := S5x384x4x256) o S1x384x2x256.size h).emb j
      = ix4 b (j 1 : Fin 384) ⟨2 * p.val + (j 2 : Fin 2).val, by have h : (j 2 : Fin 2).val < 2 := (j 2 : Fin 2).isLt; omega⟩ (j 3 : Fin 256) := by
  subst ho
  refine funext fun a => Fin.ext ?_
  have h0 : (j 0 : Fin 1).val < 1 := (j 0 : Fin 1).isLt
  fin_cases a
  · show b.val + 1 * (j 0 : Fin 1).val = b.val; omega
  · show 0 + 1 * (j 1 : Fin 384).val = (j 1 : Fin 384).val; omega
  · show 2 * p.val + 1 * (j 2 : Fin 2).val = 2 * p.val + (j 2 : Fin 2).val; omega
  · show 0 + 1 * (j 3 : Fin 256).val = (j 3 : Fin 256).val; omega
theorem subC {b : ℕ} {q : ℕ} {o : Fin 4 → ℕ} {h : ∀ a, o a + S1x384x2x256.size a ≤ S5x384x4x256.size a} (ho : o = ![b, 0, q, 0]) :
    (Rect.unit (s := S5x384x4x256) o S1x384x2x256.size h).set ⊆ BC b := fun i hi => by
  subst ho
  have a0 : b ≤ (i 0 : Fin 5).val ∧ (i 0 : Fin 5).val < b + 1 := (Rect.mem_set_unit.mp hi) 0
  exact Finset.mem_filter.mpr ⟨Finset.mem_univ _, by omega⟩
theorem embD {b : Fin 5} {o : Fin 3 → ℕ} {h : ∀ a, o a + S1x384x32.size a ≤ S5x384x32.size a} (ho : o = ![b.val, 0, 0])
    (j : S1x384x32.Idx) : (Rect.unit (s := S5x384x32) o S1x384x32.size h).emb j = ix3 b (j 1 : Fin 384) (j 2 : Fin 32) := by
  subst ho
  refine funext fun a => Fin.ext ?_
  have h0 : (j 0 : Fin 1).val < 1 := (j 0 : Fin 1).isLt
  fin_cases a
  · show b.val + 1 * (j 0 : Fin 1).val = b.val; omega
  · show 0 + 1 * (j 1 : Fin 384).val = (j 1 : Fin 384).val; omega
  · show 0 + 1 * (j 2 : Fin 32).val = (j 2 : Fin 32).val; omega
theorem subD {b : ℕ} {o : Fin 3 → ℕ} {h : ∀ a, o a + S1x384x32.size a ≤ S5x384x32.size a} (ho : o = ![b, 0, 0]) :
    (Rect.unit (s := S5x384x32) o S1x384x32.size h).set ⊆ BD b := fun i hi => by
  subst ho
  have a0 : b ≤ (i 0 : Fin 5).val ∧ (i 0 : Fin 5).val < b + 1 := (Rect.mem_set_unit.mp hi) 0
  exact Finset.mem_filter.mpr ⟨Finset.mem_univ _, by omega⟩
theorem ldFde {b : Fin 5} {o : Fin 1 → ℕ} {h : ∀ a, o a + S1.size a ≤ S5.size a} (ho : o = ![b.val]) {h1 : (Rect.unit (s := S5) o S1.size h).shape.numel = 1} {hp : EltTy.packing .i32 = 1}
    {α : Type} {k : Elt F .i32 → KProg (F := F) α} {Q : α → sProp 𝕄} (f : Vec F S5 .i32) :
    pt c bFde Finset.univ f ⊢ iprop((pt c bFde Finset.univ f -∗ WP c (k (f (ix1 b))) Q) -∗ WP c (smemLoad bFde (Rect.unit (s := S5) o S1.size h) h1 hp >>= k) Q) := by
  have e : ∀ x, (Rect.unit (s := S5) o S1.size h).emb x = ix1 b := fun x => by
    subst ho
    refine funext fun a => Fin.ext ?_
    have h0 : (x 0 : Fin 1).val < 1 := (x 0 : Fin 1).isLt
    fin_cases a
    show b.val + 1 * (x 0 : Fin 1).val = b.val; omega
  rw [← e (Shape.Idx.first (h1.symm ▸ Nat.one_pos))]
  exact wp_smemLoadElt (defs := Rows.row (F := F)) Variants.none (c : Thread nD τ) none (Γ := .empty) Set.univ (Q := Q) (m := bFde) (r := Rect.unit (s := S5) o S1.size h)
    (hw := View.loads_smem_one hp h1) (x := Shape.Idx.first (h1.symm ▸ Nat.one_pos)) (k := k) (q := fullShare) (f := f) (S := Finset.univ) (Finset.subset_univ _)

/-- A batch's weights. -/
def WtV (v263 : FVec F S384x32 .f32) (v264 : IVec S8x32 32) (v265 : FVec F S1x32 .f32) (v272 : FVec F S8x32 .f32) (c2 : BitVec 32) (w : Elt F .i32) : Vec F S4x384x8 .f32 :=
  rowsW (wts0 v263 v264 v265 v272 c2 w) (k0_pay128 (wts v263 v264 v265 v272 c2 w)) (k0_pay130 (wts v263 v264 v265 v272 c2 w)) (k0_pay132 (wts v263 v264 v265 v272 c2 w))
/-- A batch's final decays. -/
def FdV (v263 : FVec F S384x32 .f32) (v264 : IVec S8x32 32) (v265 : FVec F S1x32 .f32) (v272 : FVec F S8x32 .f32) (c2 : BitVec 32) : Vec F S4x1x8 .f32 :=
  rowsD (k0_pay127 (fin0 v263 v264 v265 v272 c2)) (k0_pay129 (decay v263 v264 v265 v272 c2)) (k0_pay131 (decay v263 v264 v265 v272 c2)) (k0_pay133 (decay v263 v264 v265 v272 c2))
/-- A batch's rows of `c`, group by group. -/
def CgV (cc : Vec F S5x384x4x256 .bf16) (b : Fin 5) : Vec F S4x384x256 .bf16 :=
  rowsG (k0_pay136 (k0_pay134 (slabC cc b 0))) (k0_pay137 (k0_pay135 (slabC cc b 0))) (k0_pay465 (k0_pay139 (slabC cc b 1))) (k0_pay466 (k0_pay138 (slabC cc b 1)))

theorem o8 : ∀ t, k0_cond1 t = 1#1 → k0_off8 t = ![t.val / 4] := by decide +kernel
theorem o9 : ∀ t, k0_cond1 t = 1#1 → k0_off9 t = ![t.val / 4, 0, 0, 0] := by decide +kernel
theorem o10 : ∀ t, k0_cond1 t = 1#1 → k0_off10 t = ![t.val / 4, 0, 2, 0] := by decide +kernel

theorem prepOps_spec (t : Fin k0_t1_loop.trips) (h1 : k0_cond1 t = 1#1) (b : Fin 5) (hb : b.val = t.val / 4) (v263 : FVec F S384x32 .f32) (v264 : IVec S8x32 32) (v265 : FVec F S1x32 .f32) (v272 : FVec F S8x32 .f32) (c2 : BitVec 32)
    (fde : Vec F S5 .i32) (cc : Vec F S5x384x4x256 .bf16) (w0 : Vec F S4x384x8 .f32) (d0 : Vec F S4x1x8 .f32) (g0 : Vec F S4x384x256 .bf16)
    {α : Type} {k : (Σ' (v1383_hi : FVec F S384x256 .bf16), FVec F S384x256 .f32) → KProg (F := F) α} {Q : α → sProp 𝕄} :
    iprop(pt c bFde Finset.univ fde ∗ pt c bC (BC b.val) cc ∗ pt c bW Finset.univ w0 ∗ pt c bFd Finset.univ d0 ∗ pt c bCg Finset.univ g0)
      ⊢ iprop((iprop(pt c bFde Finset.univ fde ∗ pt c bC (BC b.val) cc ∗ pt c bW Finset.univ (WtV v263 v264 v265 v272 c2 (fde (ix1 b))) ∗ pt c bFd Finset.univ (FdV v263 v264 v265 v272 c2)
            ∗ pt c bCg Finset.univ (updG 2 (CgV cc b) g0)) -∗ WP c (k ⟨k0_pay138 (slabC cc b 1), k0_pay139 (slabC cc b 1)⟩) Q)
        -∗ WP c (prepOps (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t h1 v263 v264 v265 v272 c2 >>= k) Q) := by
  unfold prepOps
  simp only [bind_assoc, pure_bind]
  have e8 := o8 t h1
  have e9 := o9 t h1
  have e10 := o10 t h1
  rw [← hb] at e8 e9 e10
  have c0 : ((Memref.whole cc0_scratch4 : Memref sig .tc .vmem S5x384x4x256 .bf16).access (Rect.unit (s := S5x384x4x256) (k0_off9 t) S1x384x2x256.size (k0_off9_inb t h1))).read (Elt F) cc = slabC cc b 0 :=
    funext fun j => congrArg cc (embC (b := b) (p := 0) e9 j)
  have c1 : ((Memref.whole cc0_scratch4 : Memref sig .tc .vmem S5x384x4x256 .bf16).access (Rect.unit (s := S5x384x4x256) (k0_off10 t) S1x384x2x256.size (k0_off10_inb t h1))).read (Elt F) cc = slabC cc b 1 :=
    funext fun j => congrArg cc (embC (b := b) (p := 1) e10 j)
  rw [← updW_zero (WtV v263 v264 v265 v272 c2 (fde (ix1 b))) w0, ← updD_zero (FdV v263 v264 v265 v272 c2) d0, ← updG_zero (CgV cc b) g0]
  iintro ⟨Hf, Hc, Hw, Hd, Hg⟩ Hk
  iapply (ldFde c (b := b) e8 fde) $$ Hf; iintro Hf
  iapply (ldW c _) $$ Hw; iintro Hw %_
  iapply (stW c (g := 0) (by decide) rfl 1 rfl (WtV v263 v264 v265 v272 c2 (fde (ix1 b))) w0 (fun z => (rowsW_at _ _ _ _ (0 : Fin 4) z).symm)) $$ Hw; iintro Hw
  iapply (ldD c _) $$ Hd; iintro Hd %_
  iapply (stD c (g := 0) (by decide) rfl 1 rfl (FdV v263 v264 v265 v272 c2) d0 (fun z => (rowsD_at _ _ _ _ (0 : Fin 4) z).symm)) $$ Hd; iintro Hd
  iapply (ldW c _) $$ Hw; iintro Hw %_
  iapply (stW c (g := 1) (by decide) rfl 2 rfl (WtV v263 v264 v265 v272 c2 (fde (ix1 b))) w0 (fun z => (rowsW_at _ _ _ _ (1 : Fin 4) z).symm)) $$ Hw; iintro Hw
  iapply (ldD c _) $$ Hd; iintro Hd %_
  iapply (stD c (g := 1) (by decide) rfl 2 rfl (FdV v263 v264 v265 v272 c2) d0 (fun z => (rowsD_at _ _ _ _ (1 : Fin 4) z).symm)) $$ Hd; iintro Hd
  iapply (ldW c _) $$ Hw; iintro Hw %_
  iapply (stW c (g := 2) (by decide) rfl 3 rfl (WtV v263 v264 v265 v272 c2 (fde (ix1 b))) w0 (fun z => (rowsW_at _ _ _ _ (2 : Fin 4) z).symm)) $$ Hw; iintro Hw
  iapply (ldD c _) $$ Hd; iintro Hd %_
  iapply (stD c (g := 2) (by decide) rfl 3 rfl (FdV v263 v264 v265 v272 c2) d0 (fun z => (rowsD_at _ _ _ _ (2 : Fin 4) z).symm)) $$ Hd; iintro Hd
  iapply (ldW c _) $$ Hw; iintro Hw %_
  iapply (stW c (g := 3) (by decide) rfl 4 rfl (WtV v263 v264 v265 v272 c2 (fde (ix1 b))) w0 (fun z => (rowsW_at _ _ _ _ (3 : Fin 4) z).symm)) $$ Hw; iintro Hw
  iapply (ldD c _) $$ Hd; iintro Hd %_
  iapply (stD c (g := 3) (by decide) rfl 4 rfl (FdV v263 v264 v265 v272 c2) d0 (fun z => (rowsD_at _ _ _ _ (3 : Fin 4) z).symm)) $$ Hd; iintro Hd
  iapply (ld c (m := bC) (r := Rect.unit (s := S5x384x4x256) (k0_off9 t) S1x384x2x256.size (k0_off9_inb t h1)) (W := BC b.val) (f := cc) (by rw [acc_set]; exact subC e9)) $$ Hc; iintro Hc
  iapply (ldG c _) $$ Hg; iintro Hg %_
  iapply (stG c (g := 0) (by decide) rfl 1 rfl (CgV cc b) g0 (fun z => by rw [c0]; exact (rowsG_at (k0_pay136 (k0_pay134 (slabC cc b 0))) (k0_pay137 (k0_pay135 (slabC cc b 0))) (k0_pay465 (k0_pay139 (slabC cc b 1))) (k0_pay466 (k0_pay138 (slabC cc b 1))) (0 : Fin 4) z).symm)) $$ Hg; iintro Hg
  iapply (ldG c _) $$ Hg; iintro Hg %_
  iapply (stG c (g := 1) (by decide) rfl 2 rfl (CgV cc b) g0 (fun z => by rw [c0]; exact (rowsG_at (k0_pay136 (k0_pay134 (slabC cc b 0))) (k0_pay137 (k0_pay135 (slabC cc b 0))) (k0_pay465 (k0_pay139 (slabC cc b 1))) (k0_pay466 (k0_pay138 (slabC cc b 1))) (1 : Fin 4) z).symm)) $$ Hg; iintro Hg
  iapply (ld c (m := bC) (r := Rect.unit (s := S5x384x4x256) (k0_off10 t) S1x384x2x256.size (k0_off10_inb t h1)) (W := BC b.val) (f := cc) (by rw [acc_set]; exact subC e10)) $$ Hc; iintro Hc
  rw [updW_four, updD_four]
  rw [show ((Memref.whole cc0_scratch4 : Memref sig .tc .vmem S5x384x4x256 .bf16).access (Rect.unit (s := S5x384x4x256) (k0_off10 t) S1x384x2x256.size (k0_off10_inb t h1))).read (Elt F) cc = slabC cc b 1 from c1]
  iapply Hk
  isplitl [Hf]; · iexact Hf
  isplitl [Hc]; · iexact Hc
  isplitl [Hw]; · iexact Hw
  isplitl [Hd]; · iexact Hd
  iexact Hg

end Cert.KernelIdeal.Run
-- ==== Proof.InvIdeal.lean ====
module

public import proofs.«01_k».proof.Proof.PrepIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The loop's invariant: where each unit and each batch stands -/

/-- The token blocks a first document end leaves to correct, at least one and at most three. -/
def blocks (w : Elt F .i32) : BitVec 32 :=
  let v201 : BitVec 32 := Scalar.addi w 128#32
  let v202 : BitVec 32 := Scalar.subi v201 1#32
  let v203 : BitVec 32 := Scalar.divsi v202 128#32
  let v204 : BitVec 1 := Scalar.cmpi .sgt v202 0#32
  let v205 : BitVec 32 := Scalar.extui v204
  let v206 : BitVec 1 := Scalar.cmpi .slt v202 0#32
  let v207 : BitVec 32 := Scalar.extui v206
  let v208 : BitVec 32 := Scalar.subi v205 v207
  let v209 : BitVec 1 := Scalar.cmpi .sgt 128#32 0#32
  let v210 : BitVec 32 := Scalar.extui v209
  let v211 : BitVec 1 := Scalar.cmpi .slt 128#32 0#32
  let v212 : BitVec 32 := Scalar.extui v211
  let v213 : BitVec 32 := Scalar.subi v210 v212
  let v214 : BitVec 1 := Scalar.cmpi .ne v208 v213
  let v215 : BitVec 32 := Scalar.remsi v202 128#32
  let v216 : BitVec 1 := Scalar.cmpi .ne v215 0#32
  let v217 : BitVec 1 := Scalar.andi v214 v216
  let v218 : BitVec 32 := Scalar.subi v203 1#32
  let v219 : BitVec 32 := Scalar.select v217 v218 v203
  let v220 : BitVec 32 := Scalar.maxsi 1#32 v219
  let v221 : BitVec 32 := Scalar.minsi 3#32 v220
  v221
theorem clamp3 (x : BitVec 32) : Scalar.minsi 3#32 (Scalar.maxsi 1#32 x) = 1#32 ∨ Scalar.minsi 3#32 (Scalar.maxsi 1#32 x) = 2#32 ∨ Scalar.minsi 3#32 (Scalar.maxsi 1#32 x) = 3#32 := by
  unfold Scalar.minsi Scalar.maxsi IntOp.minsi IntOp.maxsi
  simp only [BitVec.slt_eq_decide, decide_eq_true_eq]
  have e1 : (1#32).toInt = 1 := by decide
  have e2 : (2#32).toInt = 2 := by decide
  have e3 : (3#32).toInt = 3 := by decide
  simp only [← BitVec.toInt_inj, e1, e2, e3]
  have hy : 1 ≤ (if x.toInt < 1 then 1#32 else x : BitVec 32).toInt := by split <;> omega
  generalize (if x.toInt < 1 then 1#32 else x : BitVec 32) = y at hy ⊢
  split <;> omega
theorem blocks_cases (w : Elt F .i32) : blocks (F := F) w = 1#32 ∨ blocks (F := F) w = 2#32 ∨ blocks (F := F) w = 3#32 := by
  exact clamp3 _

def bF (n : ℕ) : Fin 5 := ⟨n % 5, Nat.mod_lt _ (by decide)⟩

abbrev v96c : IVec S128x128 32 := iota .tc S128x128 32 [0] iota_S128x128_d0_w32
abbrev v97c : IVec S128x128 32 := iota .tc S128x128 32 [1] iota_S128x128_d1_w32
abbrev i8c : IVec S8x32 32 := iota .tc S8x32 32 [0] iota_S8x32_d0_w32

/-- A batch's weights, decays and rows of `c`, from the inputs. -/
def WtI (I : Ins F) (b : Fin 5) : Vec F S4x384x8 .f32 :=
  WtV (k0_pay4 I.al (slabD I.dt b)) i8c (k0_pay5 (F := F)) (k0_pay6 I.al (slabD I.dt b)) 2#32 (I.fde (ix1 b))
def FdI (I : Ins F) (b : Fin 5) : Vec F S4x1x8 .f32 :=
  FdV (k0_pay4 I.al (slabD I.dt b)) i8c (k0_pay5 (F := F)) (k0_pay6 I.al (slabD I.dt b)) 2#32
def CgI (I : Ins F) (b : Fin 5) : Vec F S4x384x256 .bf16 := I.cg b

/-- What the trips compute from. -/
def dat (I : Ins F) : Dat F where
  Hb := stH I.hl
  Co := stH I.codes
  Y0 := stY I.y
  Sc := I.scl
  Cg := CgI I
  Wt := WtI I
  Fd := FdI I
  eye := k0_pay1 v96c v97c
  cy := fun b => I.fde (ix1 b) = 384#32
  nt := fun b => (blocks (F := F) (I.fde (ix1 b))).toNat

open Classical in
/-- How many token blocks of a batch are corrected. -/
def ntb (I : Ins F) (b : Fin 5) : ℕ := if I.fde (ix1 b) = 384#32 then 3 else (blocks (F := F) (I.fde (ix1 b))).toNat

/-- The finished `y`, unit by unit. -/
def YFin (I : Ins F) : Vec F S20x384x1024 .bf16 := fun i =>
  Yst (dat I) (ntb I (bF ((i 0 : Fin 20).val / 4))) (4 * ntb I (bF ((i 0 : Fin 20).val / 4))) i
/-- The three results. -/
def YO (I : Ins F) : Vec F S5x384x4096 .bf16 := unY (YFin I)
def QO (I : Ins F) : Vec F S5x32x128x256 .fp8e4m3 := unH (QF (dat I))
def SO (I : Ins F) : Vec F S5x32x128 .f32 := SF (dat I)

/-- What the buffers hold before the kernel writes them. -/
structure Junk (F : FTy → Type) where
  y : Vec F S20x384x1024 .bf16
  h : Vec F S20x8x128x256 .f32
  co : Vec F S20x8x128x256 .fp8e4m3
  q : Vec F S20x8x128x256 .fp8e4m3
  cc : Vec F S5x384x4x256 .bf16
  cg : Vec F S4x384x256 .bf16
  dt : Vec F S5x384x32 .f32
  w : Vec F S4x384x8 .f32
  fd : Vec F S4x1x8 .f32
  al : Vec F S1x32 .f32
  scl : Vec F S5x32x128 .f32
  so : Vec F S5x32x128 .f32
  fde : Vec F S5 .i32
  oy : Vec F S5x384x4096 .bf16
  oq : Vec F S5x32x128x256 .fp8e4m3
  os : Vec F S5x32x128 .f32

/-! ### Amounts and deliveries -/

abbrev JQ : ℕ := 8192
abbrev JH : ℕ := 32768
abbrev JY : ℕ := 24576
abbrev JD : ℕ := 6144
abbrev JC : ℕ := 24576

section Inv
variable (c : Dev nD) (I : Ins F) (J : Junk F)

def AU : Fin 3 → ℕ := ![JQ, JH, JY]
def DU (u : ℕ) : Fin 3 → sProp 𝕄 := ![
  iprop(pt c bCo (W20 u) (stH I.codes) ∗ pt c mCodes (OH u) I.codes),
  iprop(pt c bH (W20 u) (stH I.hl) ∗ pt c mHl (OH u) I.hl),
  iprop(pt c bY (WY u) (stY I.y) ∗ pt c mY (OY u) I.y)]
instance (u : ℕ) (t : Fin 3) : Storable (upEmb : UEmb _ 𝕄) (DU c I u t) := by
  exact match t with
  | ⟨0, _⟩ => inferInstanceAs (Storable _ (iprop(pt c bCo (W20 u) (stH I.codes) ∗ pt c mCodes (OH u) I.codes)))
  | ⟨1, _⟩ => inferInstanceAs (Storable _ (iprop(pt c bH (W20 u) (stH I.hl) ∗ pt c mHl (OH u) I.hl)))
  | ⟨2, _⟩ => inferInstanceAs (Storable _ (iprop(pt c bY (WY u) (stY I.y) ∗ pt c mY (OY u) I.y)))
def AD : Fin 1 → ℕ := ![JD]
def AC : Fin 1 → ℕ := ![JC]
def DD (b : ℕ) : Fin 1 → sProp 𝕄 := ![iprop(pt c bDt (BD b) I.dt ∗ pt c mDt (BD b) I.dt)]
def DC (b : ℕ) : Fin 1 → sProp 𝕄 := ![iprop(pt c bC (BC b) I.cc ∗ pt c mC (BC b) I.cc)]
instance (b : ℕ) (t : Fin 1) : Storable (upEmb : UEmb _ 𝕄) (DD c I b t) := by
  exact match t with
  | ⟨0, _⟩ => inferInstanceAs (Storable _ (iprop(pt c bDt (BD b) I.dt ∗ pt c mDt (BD b) I.dt)))
instance (b : ℕ) (t : Fin 1) : Storable (upEmb : UEmb _ 𝕄) (DC c I b t) := by
  exact match t with
  | ⟨0, _⟩ => inferInstanceAs (Storable _ (iprop(pt c bC (BC b) I.cc ∗ pt c mC (BC b) I.cc)))
def AO : Fin 40 → ℕ := fun i => if i.val % 2 = 0 then JY else JQ
def DO : Fin 40 → sProp 𝕄 := fun i => if i.val % 2 = 0
  then iprop(pt c oY (OY (i.val / 2)) (YO I) ∗ pt c bY (WY (i.val / 2)) (YFin I))
  else iprop(pt c oQ (OH (i.val / 2)) (QO I) ∗ pt c bQ (W20 (i.val / 2)) (QF (dat I)))
instance (t : Fin 40) : Storable (upEmb : UEmb _ 𝕄) (DO c I t) := by
  unfold DO
  split <;> infer_instance

/-! ### Units and batches -/

def UFresh (u : ℕ) (hu : u < 20) : sProp 𝕄 :=
  iprop(pt c mCodes (OH u) I.codes ∗ pt c mHl (OH u) I.hl ∗ pt c mY (OY u) I.y
    ∗ pt c bCo (W20 u) J.co ∗ pt c bH (W20 u) J.h ∗ pt c bY (WY u) J.y ∗ semVal ((c : Thread nD τ), SemLoc.dma (cU u hu)) 0)
def UFlight (u : ℕ) (hu : u < 20) : sProp 𝕄 := MB c (cU u hu) AU (DU c I u) 3 0
def UDone (u : ℕ) (hu : u < 20) : sProp 𝕄 :=
  iprop(pt c mCodes (OH u) I.codes ∗ pt c mHl (OH u) I.hl ∗ pt c mY (OY u) I.y
    ∗ pt c bCo (W20 u) (stH I.codes) ∗ pt c bH (W20 u) (stH I.hl) ∗ semVal ((c : Thread nD τ), SemLoc.dma (cU u hu)) 0)
/-- The loading side of unit `u`: the first `s` started, the first `w` worked on. -/
def UIn (s w : ℕ) (u : Fin 20) : sProp 𝕄 :=
  if u.val < w then UDone c I u.val u.isLt else if u.val < s then UFlight c I u.val u.isLt else UFresh c I J u.val u.isLt
def UWait (u : ℕ) : sProp 𝕄 := iprop(pt c bQ (W20 u) J.q ∗ pt c oY (OY u) J.oy ∗ pt c oQ (OH u) J.oq)
def UReady (u : ℕ) : sProp 𝕄 :=
  iprop(pt c bY (WY u) (YFin I) ∗ pt c bQ (W20 u) (QF (dat I)) ∗ pt c oY (OY u) J.oy ∗ pt c oQ (OH u) J.oq)
/-- The result side of unit `u`: the first `w` worked on, the first `o` sent. -/
def UOut (w o : ℕ) (u : Fin 20) : sProp 𝕄 :=
  if u.val < o then iprop(emp) else if u.val < w then UReady c I J u.val else UWait c J u.val

def BFresh (b : ℕ) (hb : b < 5) : sProp 𝕄 :=
  iprop(pt c mDt (BD b) I.dt ∗ pt c mC (BC b) I.cc ∗ pt c bDt (BD b) J.dt ∗ pt c bC (BC b) J.cc
    ∗ semVal ((c : Thread nD τ), SemLoc.dma (cD b hb)) 0 ∗ semVal ((c : Thread nD τ), SemLoc.dma (cC b hb)) 0)
def BFlight (b : ℕ) (hb : b < 5) : sProp 𝕄 := iprop(MB c (cD b hb) AD (DD c I b) 1 0 ∗ MB c (cC b hb) AC (DC c I b) 1 0)
def BDone (b : ℕ) (hb : b < 5) : sProp 𝕄 :=
  iprop(pt c mDt (BD b) I.dt ∗ pt c mC (BC b) I.cc ∗ pt c bDt (BD b) I.dt ∗ pt c bC (BC b) I.cc
    ∗ semVal ((c : Thread nD τ), SemLoc.dma (cD b hb)) 0 ∗ semVal ((c : Thread nD τ), SemLoc.dma (cC b hb)) 0)
def BIn (s w : ℕ) (b : Fin 5) : sProp 𝕄 :=
  if b.val < w then BDone c I b.val b.isLt else if b.val < s then BFlight c I b.val b.isLt else BFresh c I J b.val b.isLt

/-- The batch's scratch before trip `k`. -/
def Scr (k : ℕ) : sProp 𝕄 :=
  iprop(pt c bW Finset.univ (if k = 0 then J.w else WtI I (bF ((k - 1) / 4))) ∗ pt c bFd Finset.univ (if k = 0 then J.fd else FdI I (bF ((k - 1) / 4)))
    ∗ pt c bCg Finset.univ (if k = 0 then J.cg else CgI I (bF ((k - 1) / 4))))
/-- The same, prepared for batch `b`. -/
def ScrB (b : Fin 5) : sProp 𝕄 :=
  iprop(pt c bW Finset.univ (WtI I b) ∗ pt c bFd Finset.univ (FdI I b) ∗ pt c bCg Finset.univ (CgI I b))

def Owes : sProp 𝕄 := iprop(∃ W : Waits sig Unit, owes (c : Thread nD τ) 0 W)
abbrev sO : DmaSem sig := ⟨33, by decide⟩

def INV (k : ℕ) : sProp 𝕄 :=
  iprop(bigSep Finset.univ (UIn c I J (k + 4) k) ∗ bigSep Finset.univ (UOut c I J k (k - 1)) ∗ bigSep Finset.univ (BIn c I J ((k + 3) / 4 + 1) ((k + 3) / 4))
    ∗ Scr c I J k ∗ pt c bSo Finset.univ (Sst (dat I) J.so (8 * k)) ∗ pt c bSc Finset.univ I.scl ∗ pt c bAl Finset.univ I.al ∗ pt c bFde Finset.univ I.fde
    ∗ MB c sO AO (DO c I) (2 * (k - 1)) 0 ∗ Owes c)

/-- Changing one entry of a family. -/
theorem bigSep_upd {n : ℕ} (u : Fin n) (Φ Ψ : Fin n → sProp 𝕄) (h : ∀ v, v ≠ u → Φ v = Ψ v) :
    bigSep Finset.univ Φ ⊢ iprop(Φ u ∗ (Ψ u -∗ bigSep Finset.univ Ψ)) := by
  rw [BI.bigSep_univ_split u (Φ := Φ), BI.bigSep_univ_split u (Φ := Ψ), show bigSep (Finset.univ.erase u) Φ = bigSep (Finset.univ.erase u) Ψ from
    BI.bigSep_congr fun v hv => h v (Finset.ne_of_mem_erase hv)]
  change iprop(Φ u ∗ bigSep (Finset.univ.erase u) Ψ) ⊢ iprop(Φ u ∗ (Ψ u -∗ iprop(Ψ u ∗ bigSep (Finset.univ.erase u) Ψ)))
  iintro ⟨H1, H2⟩
  isplitl [H1]; · iexact H1
  iintro H
  isplitl [H]; · iexact H
  iexact H2
theorem bigSep_eqv {n : ℕ} (Φ Ψ : Fin n → sProp 𝕄) (h : ∀ v, Φ v = Ψ v) : bigSep Finset.univ Φ ⊢ bigSep Finset.univ Ψ := by
  rw [show Φ = Ψ from funext h]

/-! ### The transfers, one rule each -/

theorem crQ {sp : Space} (v : View sig .tc sp S8x128x256 (.fp8e4m3 : EltTy)) : v.dmaCredit = JQ := by
  show RefSig.tileCredit _ _ = _
  decide +kernel
theorem crH {sp : Space} (v : View sig .tc sp S8x128x256 (.f32 : EltTy)) : v.dmaCredit = JH := by
  show RefSig.tileCredit _ _ = _
  decide +kernel
theorem crY {sp : Space} (v : View sig .tc sp S384x1024 (.bf16 : EltTy)) : v.dmaCredit = JY := by
  show RefSig.tileCredit _ _ = _
  decide +kernel
theorem crD {sp : Space} (v : View sig .tc sp S384x32 (.f32 : EltTy)) : v.dmaCredit = JD := by
  show RefSig.tileCredit _ _ = _
  decide +kernel
theorem crC {sp : Space} (v : View sig .tc sp S384x4x256 (.bf16 : EltTy)) : v.dmaCredit = JC := by
  show RefSig.tileCredit _ _ = _
  decide +kernel

theorem startCo {u : ℕ} (hu : u < 20) {oc : Fin 1 → ℕ} {hc : ∀ a, oc a + S1.size a ≤ S20.size a} (ec : oc = ![u]) {oS : Fin 4 → ℕ} {hS : ∀ a, oS a + S1x8x128x256.size a ≤ S5x32x128x256.size a} (eS : oS = ![u / 4, 8 * (u % 4), 0, 0]) {oD : Fin 4 → ℕ} {hD : ∀ a, oD a + S1x8x128x256.size a ≤ S20x8x128x256.size a} (eD : oD = ![u, 0, 0, 0])
    {h1 : ((mCodes.slice (Rect.unit (s := S5x32x128x256) oS S1x8x128x256.size hS) (fun _ => rfl)).squeeze S8x128x256 squeezes_S1x8x128x256_S8x128x256).view.WordExact} {h2 : ((bCo.slice (Rect.unit (s := S20x8x128x256) oD S1x8x128x256.size hD) (fun _ => rfl)).squeeze S8x128x256 squeezes_S1x8x128x256_S8x128x256).view.WordExact}
    {h3 : DmaTarget.Typed (nD := nD) (p := (c : Thread nD τ).2) _ (SemLoc.dma ((cc0_scratch16.slice (Rect.unit (s := S20) oc S1.size hc)).squeeze S_ squeezes_S1_S_).sem) (.here ((bCo.slice (Rect.unit (s := S20x8x128x256) oD S1x8x128x256.size hD) (fun _ => rfl)).squeeze S8x128x256 squeezes_S1x8x128x256_S8x128x256))}
    {α : Type} {k : PUnit → KProg (F := F) α} {Q : α → sProp 𝕄} :
    iprop(pt c mCodes (OH u) I.codes ∗ pt c bCo (W20 u) J.co ∗ MB c (cU u hu) AU (DU c I u) 0 0)
      ⊢ iprop((MB c (cU u hu) AU (DU c I u) 1 0 -∗ WP c (k ⟨⟩) Q)
        -∗ WP c (Prog.lift (.enqueueDma ((mCodes.slice (Rect.unit (s := S5x32x128x256) oS S1x8x128x256.size hS) (fun _ => rfl)).squeeze S8x128x256 squeezes_S1x8x128x256_S8x128x256) (.here ((bCo.slice (Rect.unit (s := S20x8x128x256) oD S1x8x128x256.size hD) (fun _ => rfl)).squeeze S8x128x256 squeezes_S1x8x128x256_S8x128x256)) (.dma ((cc0_scratch16.slice (Rect.unit (s := S20) oc S1.size hc)).squeeze S_ squeezes_S1_S_).sem) h1 h2 h3) >>= k) Q) := by
  refine dstart c (src := ((mCodes.slice (Rect.unit (s := S5x32x128x256) oS S1x8x128x256.size hS) (fun _ => rfl)).squeeze S8x128x256 squeezes_S1x8x128x256_S8x128x256)) (dst := ((bCo.slice (Rect.unit (s := S20x8x128x256) oD S1x8x128x256.size hD) (fun _ => rfl)).squeeze S8x128x256 squeezes_S1x8x128x256_S8x128x256)) (O := OH u) (W := W20 u) (fs := I.codes) (fd := J.co) (G := (stH I.codes)) (n := 3) (A := AU) (D := (DU c I u)) (j := 0) (u := 0) (cU u hu) (semU hu ec) ?_ ?_ (show 0 < 3 by decide) ?_ (Nat.zero_le _) (fun x => ?_) ?_
  · exact (View.set_reshape _ _).trans ((View.set_slice_whole _ _).trans (set_OH eS))
  · exact (View.set_reshape _ _).trans ((View.set_slice_whole _ _).trans (set_W20 eD))
  · exact crQ _
  · exact land_H eS eD _
  · exact Entails.rfl

theorem startH {u : ℕ} (hu : u < 20) {oc : Fin 1 → ℕ} {hc : ∀ a, oc a + S1.size a ≤ S20.size a} (ec : oc = ![u]) {oS : Fin 4 → ℕ} {hS : ∀ a, oS a + S1x8x128x256.size a ≤ S5x32x128x256.size a} (eS : oS = ![u / 4, 8 * (u % 4), 0, 0]) {oD : Fin 4 → ℕ} {hD : ∀ a, oD a + S1x8x128x256.size a ≤ S20x8x128x256.size a} (eD : oD = ![u, 0, 0, 0])
    {h1 : ((mHl.slice (Rect.unit (s := S5x32x128x256) oS S1x8x128x256.size hS) (fun _ => rfl)).squeeze S8x128x256 squeezes_S1x8x128x256_S8x128x256).view.WordExact} {h2 : ((bH.slice (Rect.unit (s := S20x8x128x256) oD S1x8x128x256.size hD) (fun _ => rfl)).squeeze S8x128x256 squeezes_S1x8x128x256_S8x128x256).view.WordExact}
    {h3 : DmaTarget.Typed (nD := nD) (p := (c : Thread nD τ).2) _ (SemLoc.dma ((cc0_scratch16.slice (Rect.unit (s := S20) oc S1.size hc)).squeeze S_ squeezes_S1_S_).sem) (.here ((bH.slice (Rect.unit (s := S20x8x128x256) oD S1x8x128x256.size hD) (fun _ => rfl)).squeeze S8x128x256 squeezes_S1x8x128x256_S8x128x256))}
    {α : Type} {k : PUnit → KProg (F := F) α} {Q : α → sProp 𝕄} :
    iprop(pt c mHl (OH u) I.hl ∗ pt c bH (W20 u) J.h ∗ MB c (cU u hu) AU (DU c I u) 1 0)
      ⊢ iprop((MB c (cU u hu) AU (DU c I u) 2 0 -∗ WP c (k ⟨⟩) Q)
        -∗ WP c (Prog.lift (.enqueueDma ((mHl.slice (Rect.unit (s := S5x32x128x256) oS S1x8x128x256.size hS) (fun _ => rfl)).squeeze S8x128x256 squeezes_S1x8x128x256_S8x128x256) (.here ((bH.slice (Rect.unit (s := S20x8x128x256) oD S1x8x128x256.size hD) (fun _ => rfl)).squeeze S8x128x256 squeezes_S1x8x128x256_S8x128x256)) (.dma ((cc0_scratch16.slice (Rect.unit (s := S20) oc S1.size hc)).squeeze S_ squeezes_S1_S_).sem) h1 h2 h3) >>= k) Q) := by
  refine dstart c (src := ((mHl.slice (Rect.unit (s := S5x32x128x256) oS S1x8x128x256.size hS) (fun _ => rfl)).squeeze S8x128x256 squeezes_S1x8x128x256_S8x128x256)) (dst := ((bH.slice (Rect.unit (s := S20x8x128x256) oD S1x8x128x256.size hD) (fun _ => rfl)).squeeze S8x128x256 squeezes_S1x8x128x256_S8x128x256)) (O := OH u) (W := W20 u) (fs := I.hl) (fd := J.h) (G := (stH I.hl)) (n := 3) (A := AU) (D := (DU c I u)) (j := 1) (u := 0) (cU u hu) (semU hu ec) ?_ ?_ (show 1 < 3 by decide) ?_ (Nat.zero_le _) (fun x => ?_) ?_
  · exact (View.set_reshape _ _).trans ((View.set_slice_whole _ _).trans (set_OH eS))
  · exact (View.set_reshape _ _).trans ((View.set_slice_whole _ _).trans (set_W20 eD))
  · exact crH _
  · exact land_H eS eD _
  · exact Entails.rfl

theorem startY {u : ℕ} (hu : u < 20) {oc : Fin 1 → ℕ} {hc : ∀ a, oc a + S1.size a ≤ S20.size a} (ec : oc = ![u]) {oS : Fin 3 → ℕ} {hS : ∀ a, oS a + S1x384x1024.size a ≤ S5x384x4096.size a} (eS : oS = ![u / 4, 0, 1024 * (u % 4)]) {oD : Fin 3 → ℕ} {hD : ∀ a, oD a + S1x384x1024.size a ≤ S20x384x1024.size a} (eD : oD = ![u, 0, 0])
    {h1 : ((mY.slice (Rect.unit (s := S5x384x4096) oS S1x384x1024.size hS) (fun _ => rfl)).squeeze S384x1024 squeezes_S1x384x1024_S384x1024).view.WordExact} {h2 : ((bY.slice (Rect.unit (s := S20x384x1024) oD S1x384x1024.size hD) (fun _ => rfl)).squeeze S384x1024 squeezes_S1x384x1024_S384x1024).view.WordExact}
    {h3 : DmaTarget.Typed (nD := nD) (p := (c : Thread nD τ).2) _ (SemLoc.dma ((cc0_scratch16.slice (Rect.unit (s := S20) oc S1.size hc)).squeeze S_ squeezes_S1_S_).sem) (.here ((bY.slice (Rect.unit (s := S20x384x1024) oD S1x384x1024.size hD) (fun _ => rfl)).squeeze S384x1024 squeezes_S1x384x1024_S384x1024))}
    {α : Type} {k : PUnit → KProg (F := F) α} {Q : α → sProp 𝕄} :
    iprop(pt c mY (OY u) I.y ∗ pt c bY (WY u) J.y ∗ MB c (cU u hu) AU (DU c I u) 2 0)
      ⊢ iprop((MB c (cU u hu) AU (DU c I u) 3 0 -∗ WP c (k ⟨⟩) Q)
        -∗ WP c (Prog.lift (.enqueueDma ((mY.slice (Rect.unit (s := S5x384x4096) oS S1x384x1024.size hS) (fun _ => rfl)).squeeze S384x1024 squeezes_S1x384x1024_S384x1024) (.here ((bY.slice (Rect.unit (s := S20x384x1024) oD S1x384x1024.size hD) (fun _ => rfl)).squeeze S384x1024 squeezes_S1x384x1024_S384x1024)) (.dma ((cc0_scratch16.slice (Rect.unit (s := S20) oc S1.size hc)).squeeze S_ squeezes_S1_S_).sem) h1 h2 h3) >>= k) Q) := by
  refine dstart c (src := ((mY.slice (Rect.unit (s := S5x384x4096) oS S1x384x1024.size hS) (fun _ => rfl)).squeeze S384x1024 squeezes_S1x384x1024_S384x1024)) (dst := ((bY.slice (Rect.unit (s := S20x384x1024) oD S1x384x1024.size hD) (fun _ => rfl)).squeeze S384x1024 squeezes_S1x384x1024_S384x1024)) (O := OY u) (W := WY u) (fs := I.y) (fd := J.y) (G := (stY I.y)) (n := 3) (A := AU) (D := (DU c I u)) (j := 2) (u := 0) (cU u hu) (semU hu ec) ?_ ?_ (show 2 < 3 by decide) ?_ (Nat.zero_le _) (fun x => ?_) ?_
  · exact (View.set_reshape _ _).trans ((View.set_slice_whole _ _).trans (set_OY eS))
  · exact (View.set_reshape _ _).trans ((View.set_slice_whole _ _).trans (set_WY eD))
  · exact crY _
  · exact land_Y eS eD _
  · exact Entails.rfl

theorem startD {b : ℕ} (hb : b < 5) {oc : Fin 1 → ℕ} {hc : ∀ a, oc a + S1.size a ≤ S5.size a} (ec : oc = ![b]) {oS : Fin 3 → ℕ} {hS : ∀ a, oS a + S1x384x32.size a ≤ S5x384x32.size a} (eS : oS = ![b, 0, 0]) {oD : Fin 3 → ℕ} {hD : ∀ a, oD a + S1x384x32.size a ≤ S5x384x32.size a} (eD : oD = ![b, 0, 0])
    {h1 : ((mDt.slice (Rect.unit (s := S5x384x32) oS S1x384x32.size hS) (fun _ => rfl)).squeeze S384x32 squeezes_S1x384x32_S384x32).view.WordExact} {h2 : ((bDt.slice (Rect.unit (s := S5x384x32) oD S1x384x32.size hD) (fun _ => rfl)).squeeze S384x32 squeezes_S1x384x32_S384x32).view.WordExact}
    {h3 : DmaTarget.Typed (nD := nD) (p := (c : Thread nD τ).2) _ (SemLoc.dma ((cc0_scratch14.slice (Rect.unit (s := S5) oc S1.size hc)).squeeze S_ squeezes_S1_S_).sem) (.here ((bDt.slice (Rect.unit (s := S5x384x32) oD S1x384x32.size hD) (fun _ => rfl)).squeeze S384x32 squeezes_S1x384x32_S384x32))}
    {α : Type} {k : PUnit → KProg (F := F) α} {Q : α → sProp 𝕄} :
    iprop(pt c mDt (BD b) I.dt ∗ pt c bDt (BD b) J.dt ∗ MB c (cD b hb) AD (DD c I b) 0 0)
      ⊢ iprop((MB c (cD b hb) AD (DD c I b) 1 0 -∗ WP c (k ⟨⟩) Q)
        -∗ WP c (Prog.lift (.enqueueDma ((mDt.slice (Rect.unit (s := S5x384x32) oS S1x384x32.size hS) (fun _ => rfl)).squeeze S384x32 squeezes_S1x384x32_S384x32) (.here ((bDt.slice (Rect.unit (s := S5x384x32) oD S1x384x32.size hD) (fun _ => rfl)).squeeze S384x32 squeezes_S1x384x32_S384x32)) (.dma ((cc0_scratch14.slice (Rect.unit (s := S5) oc S1.size hc)).squeeze S_ squeezes_S1_S_).sem) h1 h2 h3) >>= k) Q) := by
  refine dstart c (src := ((mDt.slice (Rect.unit (s := S5x384x32) oS S1x384x32.size hS) (fun _ => rfl)).squeeze S384x32 squeezes_S1x384x32_S384x32)) (dst := ((bDt.slice (Rect.unit (s := S5x384x32) oD S1x384x32.size hD) (fun _ => rfl)).squeeze S384x32 squeezes_S1x384x32_S384x32)) (O := BD b) (W := BD b) (fs := I.dt) (fd := J.dt) (G := I.dt) (n := 1) (A := AD) (D := (DD c I b)) (j := 0) (u := 0) (cD b hb) (semD hb ec) ?_ ?_ (show 0 < 1 by decide) ?_ (Nat.zero_le _) (fun x => ?_) ?_
  · exact (View.set_reshape _ _).trans ((View.set_slice_whole _ _).trans (set_BD eS))
  · exact (View.set_reshape _ _).trans ((View.set_slice_whole _ _).trans (set_BD eD))
  · exact crD _
  · exact congrArg I.dt (by subst eS eD; rfl)
  · exact Entails.rfl

theorem startC {b : ℕ} (hb : b < 5) {oc : Fin 1 → ℕ} {hc : ∀ a, oc a + S1.size a ≤ S5.size a} (ec : oc = ![b]) {oS : Fin 4 → ℕ} {hS : ∀ a, oS a + S1x384x4x256.size a ≤ S5x384x4x256.size a} (eS : oS = ![b, 0, 0, 0]) {oD : Fin 4 → ℕ} {hD : ∀ a, oD a + S1x384x4x256.size a ≤ S5x384x4x256.size a} (eD : oD = ![b, 0, 0, 0])
    {h1 : ((mC.slice (Rect.unit (s := S5x384x4x256) oS S1x384x4x256.size hS) (fun _ => rfl)).squeeze S384x4x256 squeezes_S1x384x4x256_S384x4x256).view.WordExact} {h2 : ((bC.slice (Rect.unit (s := S5x384x4x256) oD S1x384x4x256.size hD) (fun _ => rfl)).squeeze S384x4x256 squeezes_S1x384x4x256_S384x4x256).view.WordExact}
    {h3 : DmaTarget.Typed (nD := nD) (p := (c : Thread nD τ).2) _ (SemLoc.dma ((cc0_scratch15.slice (Rect.unit (s := S5) oc S1.size hc)).squeeze S_ squeezes_S1_S_).sem) (.here ((bC.slice (Rect.unit (s := S5x384x4x256) oD S1x384x4x256.size hD) (fun _ => rfl)).squeeze S384x4x256 squeezes_S1x384x4x256_S384x4x256))}
    {α : Type} {k : PUnit → KProg (F := F) α} {Q : α → sProp 𝕄} :
    iprop(pt c mC (BC b) I.cc ∗ pt c bC (BC b) J.cc ∗ MB c (cC b hb) AC (DC c I b) 0 0)
      ⊢ iprop((MB c (cC b hb) AC (DC c I b) 1 0 -∗ WP c (k ⟨⟩) Q)
        -∗ WP c (Prog.lift (.enqueueDma ((mC.slice (Rect.unit (s := S5x384x4x256) oS S1x384x4x256.size hS) (fun _ => rfl)).squeeze S384x4x256 squeezes_S1x384x4x256_S384x4x256) (.here ((bC.slice (Rect.unit (s := S5x384x4x256) oD S1x384x4x256.size hD) (fun _ => rfl)).squeeze S384x4x256 squeezes_S1x384x4x256_S384x4x256)) (.dma ((cc0_scratch15.slice (Rect.unit (s := S5) oc S1.size hc)).squeeze S_ squeezes_S1_S_).sem) h1 h2 h3) >>= k) Q) := by
  refine dstart c (src := ((mC.slice (Rect.unit (s := S5x384x4x256) oS S1x384x4x256.size hS) (fun _ => rfl)).squeeze S384x4x256 squeezes_S1x384x4x256_S384x4x256)) (dst := ((bC.slice (Rect.unit (s := S5x384x4x256) oD S1x384x4x256.size hD) (fun _ => rfl)).squeeze S384x4x256 squeezes_S1x384x4x256_S384x4x256)) (O := BC b) (W := BC b) (fs := I.cc) (fd := J.cc) (G := I.cc) (n := 1) (A := AC) (D := (DC c I b)) (j := 0) (u := 0) (cC b hb) (semC hb ec) ?_ ?_ (show 0 < 1 by decide) ?_ (Nat.zero_le _) (fun x => ?_) ?_
  · exact (View.set_reshape _ _).trans ((View.set_slice_whole _ _).trans (set_BC eS))
  · exact (View.set_reshape _ _).trans ((View.set_slice_whole _ _).trans (set_BC eD))
  · exact crC _
  · exact congrArg I.cc (by subst eS eD; rfl)
  · exact Entails.rfl

theorem sendY {u : ℕ} (hu : u < 20)  {oS : Fin 3 → ℕ} {hS : ∀ a, oS a + S1x384x1024.size a ≤ S20x384x1024.size a} (eS : oS = ![u, 0, 0]) {oD : Fin 3 → ℕ} {hD : ∀ a, oD a + S1x384x1024.size a ≤ S5x384x4096.size a} (eD : oD = ![u / 4, 0, 1024 * (u % 4)])
    {h1 : ((bY.slice (Rect.unit (s := S20x384x1024) oS S1x384x1024.size hS) (fun _ => rfl)).squeeze S384x1024 squeezes_S1x384x1024_S384x1024).view.WordExact} {h2 : ((oY.slice (Rect.unit (s := S5x384x4096) oD S1x384x1024.size hD) (fun _ => rfl)).squeeze S384x1024 squeezes_S1x384x1024_S384x1024).view.WordExact}
    {h3 : DmaTarget.Typed (nD := nD) (p := (c : Thread nD τ).2) _ (SemLoc.dma cc0_scratch17.sem) (.here ((oY.slice (Rect.unit (s := S5x384x4096) oD S1x384x1024.size hD) (fun _ => rfl)).squeeze S384x1024 squeezes_S1x384x1024_S384x1024))}
    {α : Type} {k : PUnit → KProg (F := F) α} {Q : α → sProp 𝕄} :
    iprop(pt c bY (WY u) (YFin I) ∗ pt c oY (OY u) J.oy ∗ MB c sO AO (DO c I) (2 * u) 0)
      ⊢ iprop((MB c sO AO (DO c I) ((2 * u) + 1) 0 -∗ WP c (k ⟨⟩) Q)
        -∗ WP c (Prog.lift (.enqueueDma ((bY.slice (Rect.unit (s := S20x384x1024) oS S1x384x1024.size hS) (fun _ => rfl)).squeeze S384x1024 squeezes_S1x384x1024_S384x1024) (.here ((oY.slice (Rect.unit (s := S5x384x4096) oD S1x384x1024.size hD) (fun _ => rfl)).squeeze S384x1024 squeezes_S1x384x1024_S384x1024)) (.dma cc0_scratch17.sem) h1 h2 h3) >>= k) Q) := by
  refine dstart c (src := ((bY.slice (Rect.unit (s := S20x384x1024) oS S1x384x1024.size hS) (fun _ => rfl)).squeeze S384x1024 squeezes_S1x384x1024_S384x1024)) (dst := ((oY.slice (Rect.unit (s := S5x384x4096) oD S1x384x1024.size hD) (fun _ => rfl)).squeeze S384x1024 squeezes_S1x384x1024_S384x1024)) (O := WY u) (W := OY u) (fs := (YFin I)) (fd := J.oy) (G := (YO I)) (n := 40) (A := AO) (D := (DO c I)) (j := (2 * u)) (u := 0) sO semO ?_ ?_ (show (2 * u) < 40 by omega) ?_ (Nat.zero_le _) (fun x => ?_) ?_
  · exact (View.set_reshape _ _).trans ((View.set_slice_whole _ _).trans (set_WY eS))
  · exact (View.set_reshape _ _).trans ((View.set_slice_whole _ _).trans (set_OY eD))
  · unfold AO; rw [if_pos (show (2 * u) % 2 = 0 by omega)]; exact crY _
  · exact land_uY (f := YFin I) eS eD _
  · unfold DO; rw [if_pos (show (2 * u) % 2 = 0 by omega), show (2 * u) / 2 = u by omega]

theorem sendQ {u : ℕ} (hu : u < 20)  {oS : Fin 4 → ℕ} {hS : ∀ a, oS a + S1x8x128x256.size a ≤ S20x8x128x256.size a} (eS : oS = ![u, 0, 0, 0]) {oD : Fin 4 → ℕ} {hD : ∀ a, oD a + S1x8x128x256.size a ≤ S5x32x128x256.size a} (eD : oD = ![u / 4, 8 * (u % 4), 0, 0])
    {h1 : ((bQ.slice (Rect.unit (s := S20x8x128x256) oS S1x8x128x256.size hS) (fun _ => rfl)).squeeze S8x128x256 squeezes_S1x8x128x256_S8x128x256).view.WordExact} {h2 : ((oQ.slice (Rect.unit (s := S5x32x128x256) oD S1x8x128x256.size hD) (fun _ => rfl)).squeeze S8x128x256 squeezes_S1x8x128x256_S8x128x256).view.WordExact}
    {h3 : DmaTarget.Typed (nD := nD) (p := (c : Thread nD τ).2) _ (SemLoc.dma cc0_scratch17.sem) (.here ((oQ.slice (Rect.unit (s := S5x32x128x256) oD S1x8x128x256.size hD) (fun _ => rfl)).squeeze S8x128x256 squeezes_S1x8x128x256_S8x128x256))}
    {α : Type} {k : PUnit → KProg (F := F) α} {Q : α → sProp 𝕄} :
    iprop(pt c bQ (W20 u) (QF (dat I)) ∗ pt c oQ (OH u) J.oq ∗ MB c sO AO (DO c I) (2 * u + 1) 0)
      ⊢ iprop((MB c sO AO (DO c I) ((2 * u + 1) + 1) 0 -∗ WP c (k ⟨⟩) Q)
        -∗ WP c (Prog.lift (.enqueueDma ((bQ.slice (Rect.unit (s := S20x8x128x256) oS S1x8x128x256.size hS) (fun _ => rfl)).squeeze S8x128x256 squeezes_S1x8x128x256_S8x128x256) (.here ((oQ.slice (Rect.unit (s := S5x32x128x256) oD S1x8x128x256.size hD) (fun _ => rfl)).squeeze S8x128x256 squeezes_S1x8x128x256_S8x128x256)) (.dma cc0_scratch17.sem) h1 h2 h3) >>= k) Q) := by
  refine dstart c (src := ((bQ.slice (Rect.unit (s := S20x8x128x256) oS S1x8x128x256.size hS) (fun _ => rfl)).squeeze S8x128x256 squeezes_S1x8x128x256_S8x128x256)) (dst := ((oQ.slice (Rect.unit (s := S5x32x128x256) oD S1x8x128x256.size hD) (fun _ => rfl)).squeeze S8x128x256 squeezes_S1x8x128x256_S8x128x256)) (O := W20 u) (W := OH u) (fs := (QF (dat I))) (fd := J.oq) (G := (QO I)) (n := 40) (A := AO) (D := (DO c I)) (j := (2 * u + 1)) (u := 0) sO semO ?_ ?_ (show (2 * u + 1) < 40 by omega) ?_ (Nat.zero_le _) (fun x => ?_) ?_
  · exact (View.set_reshape _ _).trans ((View.set_slice_whole _ _).trans (set_W20 eS))
  · exact (View.set_reshape _ _).trans ((View.set_slice_whole _ _).trans (set_OH eD))
  · unfold AO; rw [if_neg (show ¬ (2 * u + 1) % 2 = 0 by omega)]; exact crQ _
  · exact land_uH (f := QF (dat I)) eS eD _
  · unfold DO; rw [if_neg (show ¬ (2 * u + 1) % 2 = 0 by omega), show (2 * u + 1) / 2 = u by omega]

end Inv

end Cert.KernelIdeal.Run
-- ==== Proof.RunIdeal.lean ====
module

public import proofs.«01_k».proof.Proof.InvIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The parts of a trip around its branch -/

set_option maxRecDepth 65536
set_option maxHeartbeats 0
def ifA {α : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (kk : Prog (TpuEff nD τ sig (Elt F) Λ₀ .tc) α) : Prog (TpuEff nD τ sig (Elt F) Λ₀ .tc) α :=
  if k0_h1 : k0_cond1 k0_t1 = 1#1 then do
    let ⟨v1383_hi, v1386⟩ : Σ' (v1383_hi : FVec F S384x256 .bf16), FVec F S384x256 .f32 ← k0_part28 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1
    let v1388 : Vec F S1x384x256 .bf16 ← Prog.lift (.load arg16 (Rect.unit (s := S4x384x256) ![2, 0, 0] S1x384x256.size inb_S4x384x256_S1x384x256_2_0_0).toLoadRect (View.loadsAt_vmem h_S1x384x256))
    Prog.lift (.store arg16 (Rect.unit (s := S4x384x256) ![2, 0, 0] S1x384x256.size inb_S4x384x256_S1x384x256_2_0_0) (k0_pay465 v1386) Finset.univ (View.stores_vmem h_S1x384x256 (q16.storeExact_slice rfl _ packedbf16_S4x384x256_S1x384x256_2_0_0) (fun _ => rfl)) (.inl rfl))
    let v1395 : Vec F S1x384x256 .bf16 ← Prog.lift (.load arg16 (Rect.unit (s := S4x384x256) ![3, 0, 0] S1x384x256.size inb_S4x384x256_S1x384x256_3_0_0).toLoadRect (View.loadsAt_vmem h_S1x384x256))
    Prog.lift (.store arg16 (Rect.unit (s := S4x384x256) ![3, 0, 0] S1x384x256.size inb_S4x384x256_S1x384x256_3_0_0) (k0_pay466 v1383_hi) Finset.univ (View.stores_vmem h_S1x384x256 (q16.storeExact_slice rfl _ packedbf16_S4x384x256_S1x384x256_3_0_0) (fun _ => rfl)) (.inl rfl))
    kk
  else kk

theorem ifA_bind {α β : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (kk : Prog (TpuEff nD τ sig (Elt F) Λ₀ .tc) α) (k2 : α → Prog (TpuEff nD τ sig (Elt F) Λ₀ .tc) β) :
    ifA arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 kk >>= k2 = ifA arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 (kk >>= k2) := by
  unfold ifA
  split <;> simp only [bind_assoc]
def ifB {α : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (arg29 : BitVec 32) (kk : Prog (TpuEff nD τ sig (Elt F) Λ₀ .tc) α) : Prog (TpuEff nD τ sig (Elt F) Λ₀ .tc) α :=
  if k0_h3 : k0_cond3 k0_t1 = 1#1 then do
    k0_part29 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 k0_h3
    let v276 : DmaSems sig S1 := arg27.slice (Rect.unit (s := S20) (k0_off11 k0_t1) S1.size (k0_off11_inb k0_t1 k0_h3))
    let v277 : DmaSems sig S_ := v276.squeeze S_ squeezes_S1_S_
    let v278 : Memref sig .tc .vmem S1x8x128x256 .f32 := arg12.slice (Rect.unit (s := S20x8x128x256) (k0_off12 k0_t1) S1x8x128x256.size (k0_off12_inb k0_t1 k0_h3)) (fun _ => rfl)
    let v279 : Memref sig .tc .vmem S8x128x256 .f32 := v278.squeeze S8x128x256 squeezes_S1x8x128x256_S8x128x256
    let v280 : Memref sig .tc .hbm S1x8x128x256 .f32 := arg6.slice (Rect.unit (s := S5x32x128x256) (k0_off13 k0_t1) S1x8x128x256.size (k0_off13_inb k0_t1 k0_h3)) (fun _ => rfl)
    let v281 : Memref sig .tc .hbm S8x128x256 .f32 := v280.squeeze S8x128x256 squeezes_S1x8x128x256_S8x128x256
    Prog.lift (.enqueueDma v281 (.here v279) (.dma v277.sem) ((View.wordExact_bits rfl).reshape _ _) ((View.wordExact_bits rfl).reshape _ _) ⟨Or.inl rfl, trivial⟩)
    let v282 : DmaSems sig S1 := arg27.slice (Rect.unit (s := S20) (k0_off11 k0_t1) S1.size (k0_off11_inb k0_t1 k0_h3))
    let v283 : DmaSems sig S_ := v282.squeeze S_ squeezes_S1_S_
    let v284 : Memref sig .tc .vmem S1x384x1024 .bf16 := arg11.slice (Rect.unit (s := S20x384x1024) (k0_off14 k0_t1) S1x384x1024.size (k0_off14_inb k0_t1 k0_h3)) (fun _ => rfl)
    let v285 : Memref sig .tc .vmem S384x1024 .bf16 := v284.squeeze S384x1024 squeezes_S1x384x1024_S384x1024
    let v286 : Memref sig .tc .hbm S1x384x1024 .bf16 := arg0.slice (Rect.unit (s := S5x384x4096) (k0_off15 k0_t1) S1x384x1024.size (k0_off15_inb k0_t1 k0_h3)) (fun _ => rfl)
    let v287 : Memref sig .tc .hbm S384x1024 .bf16 := v286.squeeze S384x1024 squeezes_S1x384x1024_S384x1024
    Prog.lift (.enqueueDma v287 (.here v285) (.dma v283.sem) ((q0.wordExact_slice rfl _ (k0_off15_wordsbf16 k0_t1 k0_h3)).reshape _ _) ((q11.wordExact_slice rfl _ (k0_off14_wordsbf16 k0_t1 k0_h3)).reshape _ _) ⟨Or.inl rfl, trivial⟩)
    kk
  else kk

theorem ifB_bind {α β : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (arg29 : BitVec 32) (kk : Prog (TpuEff nD τ sig (Elt F) Λ₀ .tc) α) (k2 : α → Prog (TpuEff nD τ sig (Elt F) Λ₀ .tc) β) :
    ifB arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 kk >>= k2 = ifB arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 (kk >>= k2) := by
  unfold ifB
  split <;> simp only [bind_assoc]
theorem part120_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (c0_i32_112 : BitVec 32) (c1_i32_113 : BitVec 32) (k0_t1 : Fin k0_t1_loop.trips) :
    k0_part120 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 c0_i32_112 c1_i32_113 k0_t1 = (do
  let arg29 : BitVec 32 := Scf.iv c0_i32_112 c1_i32_113 k0_t1
  let v113 : BitVec 32 := Scalar.divsi arg29 4#32
  let v114 : BitVec 1 := Scalar.cmpi .sgt arg29 0#32
  let v115 : BitVec 32 := Scalar.extui v114
  let v116 : BitVec 1 := Scalar.cmpi .slt arg29 0#32
  let v117 : BitVec 32 := Scalar.extui v116
  let v118 : BitVec 32 := Scalar.subi v115 v117
  let v119 : BitVec 1 := Scalar.cmpi .sgt 4#32 0#32
  let v120 : BitVec 32 := Scalar.extui v119
  let v121 : BitVec 1 := Scalar.cmpi .slt 4#32 0#32
  let v122 : BitVec 32 := Scalar.extui v121
  let v123 : BitVec 32 := Scalar.subi v120 v122
  let v124 : BitVec 1 := Scalar.cmpi .ne v118 v123
  let v125 : BitVec 32 := Scalar.remsi arg29 4#32
  let v126 : BitVec 1 := Scalar.cmpi .ne v125 0#32
  let v127 : BitVec 1 := Scalar.andi v124 v126
  let v128 : BitVec 32 := Scalar.subi v113 1#32
  let v129 : BitVec 32 := Scalar.select v127 v128 v113
  let v130 : BitVec 1 := Scalar.cmpi .eq 4#32 0#32
  let v131 : BitVec 32 := Scalar.select v130 1#32 4#32
  let v132 : BitVec 32 := Scalar.remsi arg29 v131
  let v133 : BitVec 1 := Scalar.cmpi .ne v132 0#32
  let v134 : BitVec 1 := Scalar.cmpi .slt v132 0#32
  let v135 : BitVec 1 := Scalar.cmpi .slt v131 0#32
  let v136 : BitVec 1 := Scalar.xori v134 v135
  let v137 : BitVec 1 := Scalar.andi v136 v133
  let v138 : BitVec 32 := Scalar.addi v132 v131
  let v139 : BitVec 32 := Scalar.select v137 v138 v132
  ifA arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 (ifB arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 (do
    let v147 : BitVec 32 := Scalar.divsi arg29 4#32
    let v148 : BitVec 1 := Scalar.cmpi .sgt arg29 0#32
    let v149 : BitVec 32 := Scalar.extui v148
    pure ⟨arg29, v129, v139, 4#32, v147, v149⟩))) := rfl
def ifC {α : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (k0_h1 : k0_cond1 k0_t1 = 1#1) (kk : Prog (TpuEff nD τ sig (Elt F) Λ₀ .tc) α) : Prog (TpuEff nD τ sig (Elt F) Λ₀ .tc) α :=
  if k0_h2 : k0_cond2 k0_t1 = 1#1 then do
    let v1399 : DmaSems sig S1 := arg25.slice (Rect.unit (s := S5) (k0_off4 k0_t1) S1.size (k0_off4_inb k0_t1 k0_h1 k0_h2))
    let v1400 : DmaSems sig S_ := v1399.squeeze S_ squeezes_S1_S_
    let v1401 : Memref sig .tc .vmem S1x384x32 .f32 := arg17.slice (Rect.unit (s := S5x384x32) (k0_off5 k0_t1) S1x384x32.size (k0_off5_inb k0_t1 k0_h1 k0_h2)) (fun _ => rfl)
    let v1402 : Memref sig .tc .vmem S384x32 .f32 := v1401.squeeze S384x32 squeezes_S1x384x32_S384x32
    let v1403 : Memref sig .tc .hbm S1x384x32 .f32 := arg2.slice (Rect.unit (s := S5x384x32) (k0_off5 k0_t1) S1x384x32.size (k0_off5_inb k0_t1 k0_h1 k0_h2)) (fun _ => rfl)
    let v1404 : Memref sig .tc .hbm S384x32 .f32 := v1403.squeeze S384x32 squeezes_S1x384x32_S384x32
    Prog.lift (.enqueueDma v1404 (.here v1402) (.dma v1400.sem) ((View.wordExact_bits rfl).reshape _ _) ((View.wordExact_bits rfl).reshape _ _) ⟨Or.inl rfl, trivial⟩)
    let v1405 : DmaSems sig S1 := arg26.slice (Rect.unit (s := S5) (k0_off4 k0_t1) S1.size (k0_off4_inb k0_t1 k0_h1 k0_h2))
    let v1406 : DmaSems sig S_ := v1405.squeeze S_ squeezes_S1_S_
    let v1407 : Memref sig .tc .vmem S1x384x4x256 .bf16 := arg15.slice (Rect.unit (s := S5x384x4x256) (k0_off6 k0_t1) S1x384x4x256.size (k0_off6_inb k0_t1 k0_h1 k0_h2)) (fun _ => rfl)
    let v1408 : Memref sig .tc .vmem S384x4x256 .bf16 := v1407.squeeze S384x4x256 squeezes_S1x384x4x256_S384x4x256
    let v1409 : Memref sig .tc .hbm S1x384x4x256 .bf16 := arg1.slice (Rect.unit (s := S5x384x4x256) (k0_off6 k0_t1) S1x384x4x256.size (k0_off6_inb k0_t1 k0_h1 k0_h2)) (fun _ => rfl)
    let v1410 : Memref sig .tc .hbm S384x4x256 .bf16 := v1409.squeeze S384x4x256 squeezes_S1x384x4x256_S384x4x256
    Prog.lift (.enqueueDma v1410 (.here v1408) (.dma v1406.sem) ((q1.wordExact_slice rfl _ (k0_off6_wordsbf16 k0_t1 k0_h1 k0_h2)).reshape _ _) ((q15.wordExact_slice rfl _ (k0_off6_wordsbf16 k0_t1 k0_h1 k0_h2)).reshape _ _) ⟨Or.inl rfl, trivial⟩)
    kk
  else kk

theorem ifC_bind {α β : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (k0_h1 : k0_cond1 k0_t1 = 1#1) (kk : Prog (TpuEff nD τ sig (Elt F) Λ₀ .tc) α) (k2 : α → Prog (TpuEff nD τ sig (Elt F) Λ₀ .tc) β) :
    ifC arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 k0_h1 kk >>= k2 = ifC arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 k0_h1 (kk >>= k2) := by
  unfold ifC
  split <;> simp only [bind_assoc]
theorem part1_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (k0_h1 : k0_cond1 k0_t1 = 1#1) :
    k0_part1 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1 = (do
  let v239 : DmaSems sig S1 := arg25.slice (Rect.unit (s := S5) (k0_off1 k0_t1) S1.size (k0_off1_inb k0_t1 k0_h1))
  let v240 : DmaSems sig S_ := v239.squeeze S_ squeezes_S1_S_
  let v241 : Memref sig .tc .vmem S1x384x32 .f32 := arg17.slice (Rect.unit (s := S5x384x32) (k0_off2 k0_t1) S1x384x32.size (k0_off2_inb k0_t1 k0_h1)) (fun _ => rfl)
  let v242 : Memref sig .tc .vmem S384x32 .f32 := v241.squeeze S384x32 squeezes_S1x384x32_S384x32
  let v243 : Memref sig .tc .hbm S1x384x32 .f32 := arg2.slice (Rect.unit (s := S5x384x32) (k0_off2 k0_t1) S1x384x32.size (k0_off2_inb k0_t1 k0_h1)) (fun _ => rfl)
  let v244 : Memref sig .tc .hbm S384x32 .f32 := v243.squeeze S384x32 squeezes_S1x384x32_S384x32
  Prog.lift (.waitDma2 v240.sem v244 v242 ((View.wordExact_bits rfl).reshape _ _) ((View.wordExact_bits rfl).reshape _ _))
  let v245 : DmaSems sig S1 := arg26.slice (Rect.unit (s := S5) (k0_off1 k0_t1) S1.size (k0_off1_inb k0_t1 k0_h1))
  let v246 : DmaSems sig S_ := v245.squeeze S_ squeezes_S1_S_
  let v247 : Memref sig .tc .vmem S1x384x4x256 .bf16 := arg15.slice (Rect.unit (s := S5x384x4x256) (k0_off3 k0_t1) S1x384x4x256.size (k0_off3_inb k0_t1 k0_h1)) (fun _ => rfl)
  let v248 : Memref sig .tc .vmem S384x4x256 .bf16 := v247.squeeze S384x4x256 squeezes_S1x384x4x256_S384x4x256
  let v249 : Memref sig .tc .hbm S1x384x4x256 .bf16 := arg1.slice (Rect.unit (s := S5x384x4x256) (k0_off3 k0_t1) S1x384x4x256.size (k0_off3_inb k0_t1 k0_h1)) (fun _ => rfl)
  let v250 : Memref sig .tc .hbm S384x4x256 .bf16 := v249.squeeze S384x4x256 squeezes_S1x384x4x256_S384x4x256
  Prog.lift (.waitDma2 v246.sem v250 v248 ((q1.wordExact_slice rfl _ (k0_off3_wordsbf16 k0_t1 k0_h1)).reshape _ _) ((q15.wordExact_slice rfl _ (k0_off3_wordsbf16 k0_t1 k0_h1)).reshape _ _))
  ifC arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 k0_h1 (do
    let v255 : Vec F S1x32 .f32 ← Prog.lift (.load arg20 (Rect.unit (s := S1x32) ![0, 0] S1x32.size inb_S1x32_S1x32_0_0).toLoadRect (View.loadsAt_vmem h_S1x32))
    let v260 : Vec F S1x384x32 .f32 ← Prog.lift (.load arg17 (Rect.unit (s := S5x384x32) (k0_off7 k0_t1) S1x384x32.size (k0_off7_inb k0_t1 k0_h1)).toLoadRect (View.loadsAt_vmem h_S1x384x32))
    have v264 : IVec S8x32 32 := iota .tc S8x32 32 [0] iota_S8x32_d0_w32
    pure ⟨k0_pay4 v255 v260, v264, k0_pay5 (F := F), k0_pay6 v255 v260, 2#32⟩)) := rfl
def ifD {α : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (arg29 : BitVec 32) (kk : Prog (TpuEff nD τ sig (Elt F) Λ₀ .tc) α) : Prog (TpuEff nD τ sig (Elt F) Λ₀ .tc) α :=
  if k0_h4 : k0_cond4 k0_t1 = 1#1 then do
    k0_part30 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 k0_h4
    let v275 : Memref sig .tc .vmem S1x8x128x256 .fp8e4m3 := arg14.slice (Rect.unit (s := S20x8x128x256) (k0_off24 k0_t1) S1x8x128x256.size (k0_off24_inb k0_t1 k0_h4)) (fun _ => rfl)
    let v276 : Memref sig .tc .vmem S8x128x256 .fp8e4m3 := v275.squeeze S8x128x256 squeezes_S1x8x128x256_S8x128x256
    let v273 : Memref sig .tc .hbm S1x8x128x256 .fp8e4m3 := arg9.slice (Rect.unit (s := S5x32x128x256) (k0_off23 k0_t1) S1x8x128x256.size (k0_off23_inb k0_t1 k0_h4)) (fun _ => rfl)
    let v274 : Memref sig .tc .hbm S8x128x256 .fp8e4m3 := v273.squeeze S8x128x256 squeezes_S1x8x128x256_S8x128x256
    Prog.lift (.enqueueDma v276 (.here v274) (.dma arg28.sem) ((q14.wordExact_slice rfl _ (k0_off24_wordsfp8e4m3 k0_t1 k0_h4)).reshape _ _) ((q9.wordExact_slice rfl _ (k0_off23_wordsfp8e4m3 k0_t1 k0_h4)).reshape _ _) ⟨Or.inl rfl, trivial⟩)
    kk
  else kk

theorem ifD_bind {α β : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (arg29 : BitVec 32) (kk : Prog (TpuEff nD τ sig (Elt F) Λ₀ .tc) α) (k2 : α → Prog (TpuEff nD τ sig (Elt F) Λ₀ .tc) β) :
    ifD arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 kk >>= k2 = ifD arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 (kk >>= k2) := by
  unfold ifD
  split <;> simp only [bind_assoc]
theorem part122_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (arg29 : BitVec 32) (v129 : BitVec 32) :
    k0_part122 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 v129 = (do
  let v187 : Memref sig .tc .hbm S1x8x128x256 .f32 := arg6.slice (Rect.unit (s := S5x32x128x256) (k0_off18 k0_t1) S1x8x128x256.size (k0_off18_inb k0_t1)) (fun _ => rfl)
  let v188 : Memref sig .tc .hbm S8x128x256 .f32 := v187.squeeze S8x128x256 squeezes_S1x8x128x256_S8x128x256
  let v183 : DmaSems sig S1 := arg27.slice (Rect.unit (s := S20) (k0_off16 k0_t1) S1.size (k0_off16_inb k0_t1))
  let v184 : DmaSems sig S_ := v183.squeeze S_ squeezes_S1_S_
  let v185 : Memref sig .tc .vmem S1x8x128x256 .f32 := arg12.slice (Rect.unit (s := S20x8x128x256) (k0_off17 k0_t1) S1x8x128x256.size (k0_off17_inb k0_t1)) (fun _ => rfl)
  let v186 : Memref sig .tc .vmem S8x128x256 .f32 := v185.squeeze S8x128x256 squeezes_S1x8x128x256_S8x128x256
  Prog.lift (.waitDma2 v184.sem v188 v186 ((View.wordExact_bits rfl).reshape _ _) ((View.wordExact_bits rfl).reshape _ _))
  let v189 : DmaSems sig S1 := arg27.slice (Rect.unit (s := S20) (k0_off16 k0_t1) S1.size (k0_off16_inb k0_t1))
  let v190 : DmaSems sig S_ := v189.squeeze S_ squeezes_S1_S_
  let v191 : Memref sig .tc .vmem S1x384x1024 .bf16 := arg11.slice (Rect.unit (s := S20x384x1024) (k0_off19 k0_t1) S1x384x1024.size (k0_off19_inb k0_t1)) (fun _ => rfl)
  let v192 : Memref sig .tc .vmem S384x1024 .bf16 := v191.squeeze S384x1024 squeezes_S1x384x1024_S384x1024
  let v193 : Memref sig .tc .hbm S1x384x1024 .bf16 := arg0.slice (Rect.unit (s := S5x384x4096) (k0_off20 k0_t1) S1x384x1024.size (k0_off20_inb k0_t1)) (fun _ => rfl)
  let v194 : Memref sig .tc .hbm S384x1024 .bf16 := v193.squeeze S384x1024 squeezes_S1x384x1024_S384x1024
  Prog.lift (.waitDma2 v190.sem v194 v192 ((q0.wordExact_slice rfl _ (k0_off20_wordsbf16 k0_t1)).reshape _ _) ((q11.wordExact_slice rfl _ (k0_off19_wordsbf16 k0_t1)).reshape _ _))
  ifD arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 (do
    let v199 : Elt F .i32 ← smemLoad arg23 (Rect.unit (s := S5) (k0_off25 k0_t1) S1.size (k0_off25_inb k0_t1)) numel1_S1 rfl
    pure ⟨Scalar.cmpi .eq v199 384#32, blocks (F := F) v199, Scalar.cmpi .ne (Scalar.extui (Scalar.cmpi .eq v199 384#32)) 0#32⟩)) := rfl

def tail3 (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (v96 v97 : IVec S128x128 32) (k0_t1 : Fin k0_t1_loop.trips) (arg29 v129 v139 : BitVec 32) (v200 : BitVec 1) (v221 : BitVec 32) : Prog (TpuEff nD τ sig (Elt F) Λ₀ .tc) Unit :=
  if Scalar.cmpi .ne (Scalar.extui (Scalar.andi (Scalar.xori v200 1#1) (Scalar.cmpi .eq v221 3#32)) : BitVec 32) 0#32 = 1#1 then branch3 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 >>= fun _ => pure ⟨⟩ else pure ⟨⟩
def tail2 (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (v96 v97 : IVec S128x128 32) (k0_t1 : Fin k0_t1_loop.trips) (arg29 v129 v139 : BitVec 32) (v200 : BitVec 1) (v221 : BitVec 32) : Prog (TpuEff nD τ sig (Elt F) Λ₀ .tc) Unit :=
  if Scalar.cmpi .ne (Scalar.extui (Scalar.andi (Scalar.xori v200 1#1) (Scalar.cmpi .eq v221 2#32)) : BitVec 32) 0#32 = 1#1 then branch2 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 >>= fun _ => tail3 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 v200 v221 else tail3 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 v200 v221
def tail1 (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (v96 v97 : IVec S128x128 32) (k0_t1 : Fin k0_t1_loop.trips) (arg29 v129 v139 : BitVec 32) (v200 : BitVec 1) (v221 : BitVec 32) : Prog (TpuEff nD τ sig (Elt F) Λ₀ .tc) Unit :=
  if Scalar.cmpi .ne (Scalar.extui (Scalar.andi (Scalar.xori v200 1#1) (Scalar.cmpi .eq v221 1#32)) : BitVec 32) 0#32 = 1#1 then branch1 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 >>= fun _ => tail2 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 v200 v221 else tail2 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 v200 v221
def tail (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (v96 v97 : IVec S128x128 32) (k0_t1 : Fin k0_t1_loop.trips) (arg29 v129 v139 : BitVec 32) (v200 : BitVec 1) (v221 : BitVec 32) (v223 : BitVec 1) : Prog (TpuEff nD τ sig (Elt F) Λ₀ .tc) Unit :=
  if v223 = 1#1 then branchC arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 >>= fun _ => tail1 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 v200 v221 else tail1 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 arg29 v129 v139 v200 v221
theorem t1_body_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (v96 v97 : IVec S128x128 32) (k0_t1 : Fin k0_t1_loop.trips) (a : Unit) :
    k0_t1_body (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 a = (do
      let r ← k0_part120 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 0#32 1#32 k0_t1
      k0_part121 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 r.1 r.2.2.2.1 r.2.2.2.2.1 r.2.2.2.2.2
      let s ← k0_part122 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 r.1 r.2.1
      tail arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 v96 v97 k0_t1 r.1 r.2.1 r.2.2.1 s.1 s.2.1 s.2.2) := rfl

section Inv
variable (c : Dev nD) (I : Ins F) (J : Junk F)

theorem WP_bind {α β : Type} {p : KProg (F := F) α} {k : α → KProg (F := F) β} {Q : β → sProp 𝕄} : WP c p (fun x => WP c (k x) Q) ⊢ WP c (p >>= k) Q := by
  unfold WP
  rw [wp_bind]
theorem WP_ret {α : Type} {x : α} {Q : α → sProp 𝕄} : Q x ⊢ WP c (pure x) Q := by
  unfold WP
  rw [show (pure x : KProg (F := F) α) = Prog.ret x from rfl, wp_ret]
  exact fupd_intro

/-! ### The waits -/
theorem apos : ∀ t, 0 < AU t := by decide
theorem aposAD : ∀ t, 0 < AD t := by decide
theorem aposAC : ∀ t, 0 < AC t := by decide
theorem waitCo {u : ℕ} (hu : u < 20) {oc : Fin 1 → ℕ} {hc : ∀ a, oc a + S1.size a ≤ S20.size a} (ec : oc = ![u]) {sp sp' : Space} {src : Memref sig .tc sp S8x128x256 .fp8e4m3} {dst : Memref sig .tc sp' S8x128x256 .fp8e4m3} {h1 : src.view.WordExact} {h2 : dst.view.WordExact}
    {α : Type} {k : PUnit → KProg (F := F) α} {Q : α → sProp 𝕄} :
    iprop(MB c (cU u hu) AU (DU c I u) 3 0 ∗ Owes (F := F) c) ⊢ iprop((iprop((MB c (cU u hu) AU (DU c I u) 3 (0 + JQ)) ∗ Owes (F := F) c) -∗ WP c (k ⟨⟩) Q) -∗ WP c (Prog.lift (.waitDma2 ((cc0_scratch16.slice (Rect.unit (s := S20) oc S1.size hc)).squeeze S_ squeezes_S1_S_).sem src dst h1 h2) >>= k) Q) := by
  unfold Owes
  iintro ⟨HB, %W, HO⟩ Hk
  iapply (dwait c (cU u hu) (semU hu ec) (A := AU) (D := (DU c I u)) (n := 3) (u := 0) JQ (crQ _) (show 0 + JQ ≤ Transfers.sumTo AU 3 by decide)) $$ [HB HO]
  · isplitl [HB]; · iexact HB
    iexact HO
  iintro ⟨HB, HO⟩
  iapply Hk
  isplitl [HB]; · iexact HB
  iexists _
  iexact HO
theorem waitH {u : ℕ} (hu : u < 20) {oc : Fin 1 → ℕ} {hc : ∀ a, oc a + S1.size a ≤ S20.size a} (ec : oc = ![u]) {sp sp' : Space} {src : Memref sig .tc sp S8x128x256 .f32} {dst : Memref sig .tc sp' S8x128x256 .f32} {h1 : src.view.WordExact} {h2 : dst.view.WordExact}
    {α : Type} {k : PUnit → KProg (F := F) α} {Q : α → sProp 𝕄} :
    iprop(MB c (cU u hu) AU (DU c I u) 3 (0 + JQ) ∗ Owes (F := F) c) ⊢ iprop((iprop((MB c (cU u hu) AU (DU c I u) 3 ((0 + JQ) + JH)) ∗ Owes (F := F) c) -∗ WP c (k ⟨⟩) Q) -∗ WP c (Prog.lift (.waitDma2 ((cc0_scratch16.slice (Rect.unit (s := S20) oc S1.size hc)).squeeze S_ squeezes_S1_S_).sem src dst h1 h2) >>= k) Q) := by
  unfold Owes
  iintro ⟨HB, %W, HO⟩ Hk
  iapply (dwait c (cU u hu) (semU hu ec) (A := AU) (D := (DU c I u)) (n := 3) (u := (0 + JQ)) JH (crH _) (show (0 + JQ) + JH ≤ Transfers.sumTo AU 3 by decide)) $$ [HB HO]
  · isplitl [HB]; · iexact HB
    iexact HO
  iintro ⟨HB, HO⟩
  iapply Hk
  isplitl [HB]; · iexact HB
  iexists _
  iexact HO
theorem waitY {u : ℕ} (hu : u < 20) {oc : Fin 1 → ℕ} {hc : ∀ a, oc a + S1.size a ≤ S20.size a} (ec : oc = ![u]) {sp sp' : Space} {src : Memref sig .tc sp S384x1024 .bf16} {dst : Memref sig .tc sp' S384x1024 .bf16} {h1 : src.view.WordExact} {h2 : dst.view.WordExact}
    {α : Type} {k : PUnit → KProg (F := F) α} {Q : α → sProp 𝕄} :
    iprop(MB c (cU u hu) AU (DU c I u) 3 (0 + JQ + JH) ∗ Owes (F := F) c) ⊢ iprop((iprop((((pt c bCo (W20 u) (stH I.codes) ∗ pt c mCodes (OH u) I.codes) ∗ (pt c bH (W20 u) (stH I.hl) ∗ pt c mHl (OH u) I.hl) ∗ (pt c bY (WY u) (stY I.y) ∗ pt c mY (OY u) I.y)) ∗ semVal ((c : Thread nD τ), SemLoc.dma (cU u hu)) 0) ∗ Owes (F := F) c) -∗ WP c (k ⟨⟩) Q) -∗ WP c (Prog.lift (.waitDma2 ((cc0_scratch16.slice (Rect.unit (s := S20) oc S1.size hc)).squeeze S_ squeezes_S1_S_).sem src dst h1 h2) >>= k) Q) := by
  unfold Owes
  iintro ⟨HB, %W, HO⟩ Hk
  iapply (dwaitAll c (cU u hu) (semU hu ec) (A := AU) (D := (DU c I u)) (n := 3) (u := (0 + JQ + JH)) JY (crY _) apos (show (0 + JQ + JH) + JY = Transfers.sumTo AU 3 by decide)) $$ [HB HO]
  · isplitl [HB]; · iexact HB
    iexact HO
  rw [show bigSep Finset.univ ((DU c I u)) = iprop(((pt c bCo (W20 u) (stH I.codes) ∗ pt c mCodes (OH u) I.codes) ∗ (pt c bH (W20 u) (stH I.hl) ∗ pt c mHl (OH u) I.hl) ∗ (pt c bY (WY u) (stY I.y) ∗ pt c mY (OY u) I.y))) from (BI.bigSep_eq_bigSepL_of_eq [0, 1, 2] (by decide) (by decide) _).trans rfl]
  iintro ⟨HB, Hs, HO⟩
  iapply Hk
  isplitl [HB Hs]
  · isplitl [HB]; · iexact HB
    iexact Hs
  iexists _
  iexact HO
theorem waitD {b : ℕ} (hb : b < 5) {oc : Fin 1 → ℕ} {hc : ∀ a, oc a + S1.size a ≤ S5.size a} (ec : oc = ![b]) {sp sp' : Space} {src : Memref sig .tc sp S384x32 .f32} {dst : Memref sig .tc sp' S384x32 .f32} {h1 : src.view.WordExact} {h2 : dst.view.WordExact}
    {α : Type} {k : PUnit → KProg (F := F) α} {Q : α → sProp 𝕄} :
    iprop(MB c (cD b hb) AD (DD c I b) 1 0 ∗ Owes (F := F) c) ⊢ iprop((iprop(((pt c bDt (BD b) I.dt ∗ pt c mDt (BD b) I.dt) ∗ semVal ((c : Thread nD τ), SemLoc.dma (cD b hb)) 0) ∗ Owes (F := F) c) -∗ WP c (k ⟨⟩) Q) -∗ WP c (Prog.lift (.waitDma2 ((cc0_scratch14.slice (Rect.unit (s := S5) oc S1.size hc)).squeeze S_ squeezes_S1_S_).sem src dst h1 h2) >>= k) Q) := by
  unfold Owes
  iintro ⟨HB, %W, HO⟩ Hk
  iapply (dwaitAll c (cD b hb) (semD hb ec) (A := AD) (D := (DD c I b)) (n := 1) (u := 0) JD (crD _) aposAD (show 0 + JD = Transfers.sumTo AD 1 by decide)) $$ [HB HO]
  · isplitl [HB]; · iexact HB
    iexact HO
  rw [show bigSep Finset.univ ((DD c I b)) = iprop((pt c bDt (BD b) I.dt ∗ pt c mDt (BD b) I.dt)) from (BI.bigSep_eq_bigSepL_of_eq [0] (by decide) (by decide) _).trans rfl]
  iintro ⟨HB, Hs, HO⟩
  iapply Hk
  isplitl [HB Hs]
  · isplitl [HB]; · iexact HB
    iexact Hs
  iexists _
  iexact HO
theorem waitC {b : ℕ} (hb : b < 5) {oc : Fin 1 → ℕ} {hc : ∀ a, oc a + S1.size a ≤ S5.size a} (ec : oc = ![b]) {sp sp' : Space} {src : Memref sig .tc sp S384x4x256 .bf16} {dst : Memref sig .tc sp' S384x4x256 .bf16} {h1 : src.view.WordExact} {h2 : dst.view.WordExact}
    {α : Type} {k : PUnit → KProg (F := F) α} {Q : α → sProp 𝕄} :
    iprop(MB c (cC b hb) AC (DC c I b) 1 0 ∗ Owes (F := F) c) ⊢ iprop((iprop(((pt c bC (BC b) I.cc ∗ pt c mC (BC b) I.cc) ∗ semVal ((c : Thread nD τ), SemLoc.dma (cC b hb)) 0) ∗ Owes (F := F) c) -∗ WP c (k ⟨⟩) Q) -∗ WP c (Prog.lift (.waitDma2 ((cc0_scratch15.slice (Rect.unit (s := S5) oc S1.size hc)).squeeze S_ squeezes_S1_S_).sem src dst h1 h2) >>= k) Q) := by
  unfold Owes
  iintro ⟨HB, %W, HO⟩ Hk
  iapply (dwaitAll c (cC b hb) (semC hb ec) (A := AC) (D := (DC c I b)) (n := 1) (u := 0) JC (crC _) aposAC (show 0 + JC = Transfers.sumTo AC 1 by decide)) $$ [HB HO]
  · isplitl [HB]; · iexact HB
    iexact HO
  rw [show bigSep Finset.univ ((DC c I b)) = iprop((pt c bC (BC b) I.cc ∗ pt c mC (BC b) I.cc)) from (BI.bigSep_eq_bigSepL_of_eq [0] (by decide) (by decide) _).trans rfl]
  iintro ⟨HB, Hs, HO⟩
  iapply Hk
  isplitl [HB Hs]
  · isplitl [HB]; · iexact HB
    iexact Hs
  iexists _
  iexact HO

end Inv

end Cert.KernelIdeal.Run
-- ==== Proof.PartsIdeal.lean ====
module

public import proofs.«01_k».proof.Proof.RunIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # What each part of a trip does to the units and batches -/

set_option maxRecDepth 65536

theorem oo1 : ∀ t, k0_cond1 t = 1#1 → k0_off1 t = ![t.val / 4] := by decide +kernel
theorem oo2 : ∀ t, k0_cond1 t = 1#1 → k0_off2 t = ![t.val / 4, 0, 0] := by decide +kernel
theorem oo3 : ∀ t, k0_cond1 t = 1#1 → k0_off3 t = ![t.val / 4, 0, 0, 0] := by decide +kernel
theorem oo7 : ∀ t, k0_cond1 t = 1#1 → k0_off7 t = ![t.val / 4, 0, 0] := by decide +kernel
theorem oo11 : ∀ t, k0_cond3 t = 1#1 → k0_off11 t = ![t.val + 4] := by decide +kernel
theorem oo12 : ∀ t, k0_cond3 t = 1#1 → k0_off12 t = ![t.val + 4, 0, 0, 0] := by decide +kernel
theorem oo13 : ∀ t, k0_cond3 t = 1#1 → k0_off13 t = ![(t.val + 4) / 4, 8 * ((t.val + 4) % 4), 0, 0] := by decide +kernel
theorem oo14 : ∀ t, k0_cond3 t = 1#1 → k0_off14 t = ![t.val + 4, 0, 0] := by decide +kernel
theorem oo15 : ∀ t, k0_cond3 t = 1#1 → k0_off15 t = ![(t.val + 4) / 4, 0, 1024 * ((t.val + 4) % 4)] := by decide +kernel
theorem oo16 : ∀ t, k0_off16 t = ![t.val] := by decide +kernel
theorem oo21 : ∀ t, k0_cond4 t = 1#1 → k0_off21 t = ![(t.val - 1) / 4, 0, 1024 * ((t.val - 1) % 4)] := by decide +kernel
theorem oo22 : ∀ t, k0_cond4 t = 1#1 → k0_off22 t = ![t.val - 1, 0, 0] := by decide +kernel
theorem oo23 : ∀ t, k0_cond4 t = 1#1 → k0_off23 t = ![(t.val - 1) / 4, 8 * ((t.val - 1) % 4), 0, 0] := by decide +kernel
theorem oo24 : ∀ t, k0_cond4 t = 1#1 → k0_off24 t = ![t.val - 1, 0, 0, 0] := by decide +kernel
theorem oo25 : ∀ t, k0_off25 t = ![t.val / 4] := by decide +kernel
theorem oo4 : ∀ t, k0_cond1 t = 1#1 → k0_cond2 t = 1#1 → k0_off4 t = ![t.val / 4 + 1] := by decide +kernel
theorem oo5 : ∀ t, k0_cond1 t = 1#1 → k0_cond2 t = 1#1 → k0_off5 t = ![t.val / 4 + 1, 0, 0] := by decide +kernel
theorem oo6 : ∀ t, k0_cond1 t = 1#1 → k0_cond2 t = 1#1 → k0_off6 t = ![t.val / 4 + 1, 0, 0, 0] := by decide +kernel
theorem cond1_iff : ∀ t, k0_cond1 t = 1#1 ↔ t.val % 4 = 0 := by decide +kernel
theorem cond2_iff : ∀ t, k0_cond2 t = 1#1 ↔ t.val / 4 + 1 < 5 := by decide +kernel
theorem cond3_iff : ∀ t, k0_cond3 t = 1#1 ↔ t.val + 4 < 20 := by decide +kernel
theorem cond4_iff : ∀ t, k0_cond4 t = 1#1 ↔ 0 < t.val := by decide +kernel
theorem tlt : ∀ t : Fin k0_t1_loop.trips, t.val < 20 := by decide +kernel

theorem whole32 (j : S1x32.Idx) : (Rect.unit (s := S1x32) ![0, 0] S1x32.size inb_S1x32_S1x32_0_0).emb j = j := by
  refine funext fun a => Fin.ext ?_
  fin_cases a
  · show 0 + 1 * (j 0 : Fin 1).val = (j 0 : Fin 1).val; omega
  · show 0 + 1 * (j 1 : Fin 32).val = (j 1 : Fin 32).val; omega

section Inv
variable (c : Dev nD) (I : Ins F) (J : Junk F)

theorem upd {n : ℕ} (u : Fin n) (Φ Ψ : Fin n → sProp 𝕄) (h : ∀ v, v ≠ u → Φ v = Ψ v) (X Y : sProp 𝕄) (hX : Φ u = X) (hY : Ψ u = Y) :
    bigSep Finset.univ Φ ⊢ iprop(X ∗ (Y -∗ bigSep Finset.univ Ψ)) := by
  subst hX hY; exact bigSep_upd u Φ Ψ h

theorem UIn_congr {s w s' w' : ℕ} {u : Fin 20} (h1 : u.val < w ↔ u.val < w') (h2 : u.val < s ↔ u.val < s') : UIn c I J s w u = UIn c I J s' w' u := by
  unfold UIn; simp only [h1, h2]
theorem UIn_fresh {s w u : ℕ} (hu : u < 20) (h1 : ¬ u < w) (h2 : ¬ u < s) : UIn c I J s w ⟨u, hu⟩ = UFresh c I J u hu := (if_neg h1).trans (if_neg h2)
theorem UIn_flight {s w u : ℕ} (hu : u < 20) (h1 : ¬ u < w) (h2 : u < s) : UIn c I J s w ⟨u, hu⟩ = UFlight c I u hu := (if_neg h1).trans (if_pos h2)
theorem UIn_done {s w u : ℕ} (hu : u < 20) (h1 : u < w) : UIn c I J s w ⟨u, hu⟩ = UDone c I u hu := if_pos h1
theorem UOut_congr {s w s' w' : ℕ} {u : Fin 20} (h1 : u.val < w ↔ u.val < w') (h2 : u.val < s ↔ u.val < s') : UOut c I J s w u = UOut c I J s' w' u := by
  unfold UOut; simp only [h1, h2]
theorem UOut_sent {w o u : ℕ} (hu : u < 20) (h1 : u < o) : UOut c I J w o ⟨u, hu⟩ = iprop(emp) := if_pos h1
theorem UOut_ready {w o u : ℕ} (hu : u < 20) (h1 : ¬ u < o) (h2 : u < w) : UOut c I J w o ⟨u, hu⟩ = UReady c I J u := (if_neg h1).trans (if_pos h2)
theorem UOut_wait {w o u : ℕ} (hu : u < 20) (h1 : ¬ u < o) (h2 : ¬ u < w) : UOut c I J w o ⟨u, hu⟩ = UWait c J u := (if_neg h1).trans (if_neg h2)
theorem BIn_congr {s w s' w' : ℕ} {u : Fin 5} (h1 : u.val < w ↔ u.val < w') (h2 : u.val < s ↔ u.val < s') : BIn c I J s w u = BIn c I J s' w' u := by
  unfold BIn; simp only [h1, h2]
theorem BIn_fresh {s w u : ℕ} (hu : u < 5) (h1 : ¬ u < w) (h2 : ¬ u < s) : BIn c I J s w ⟨u, hu⟩ = BFresh c I J u hu := (if_neg h1).trans (if_neg h2)
theorem BIn_flight {s w u : ℕ} (hu : u < 5) (h1 : ¬ u < w) (h2 : u < s) : BIn c I J s w ⟨u, hu⟩ = BFlight c I u hu := (if_neg h1).trans (if_pos h2)
theorem BIn_done {s w u : ℕ} (hu : u < 5) (h1 : u < w) : BIn c I J s w ⟨u, hu⟩ = BDone c I u hu := if_pos h1

/-- Starting the fourth unit ahead. -/
theorem ifB_spec (t : Fin k0_t1_loop.trips) (arg29 : BitVec 32) {α : Type} {kk : KProg (F := F) α} {Q : α → sProp 𝕄} :
    bigSep Finset.univ (UIn c I J (t.val + 4) t.val) ⊢ iprop((bigSep Finset.univ (UIn c I J (t.val + 5) t.val) -∗ WP c kk Q) -∗ WP c (ifB (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t arg29 kk) Q) := by
  unfold ifB
  by_cases h : k0_cond3 t = 1#1
  · rw [dif_pos h, k0_part29_eq_skeleton]
    unfold k0_part29_skel
    simp only [bind_assoc, pure_bind]
    have hu : t.val + 4 < 20 := (cond3_iff t).mp h
    iintro HU Hk
    ihave H2 := (upd ⟨t.val + 4, hu⟩ (UIn c I J (t.val + 4) t.val) (UIn c I J (t.val + 5) t.val)
      (fun v hv => UIn_congr c I J Iff.rfl (by have := Fin.val_ne_of_ne hv; simp only at this; omega)) _ _
      (UIn_fresh c I J hu (by omega) (by omega)) (UIn_flight c I J hu (by omega) (by omega))) $$ HU
    icases H2 with ⟨HX, Hback⟩
    unfold UFresh
    icases HX with ⟨A1, A2, A3, B1, B2, B3, Hs⟩
    imod (dalloc c (cU (t.val + 4) hu) AU (DU c I (t.val + 4))) $$ Hs with HB
    iapply (startCo c I J hu (oo11 t h) (oo13 t h) (oo12 t h)) $$ [A1 B1 HB]
    · isplitl [A1]; · iexact A1
      isplitl [B1]; · iexact B1
      iexact HB
    iintro HB
    iapply (startH c I J hu (oo11 t h) (oo13 t h) (oo12 t h)) $$ [A2 B2 HB]
    · isplitl [A2]; · iexact A2
      isplitl [B2]; · iexact B2
      iexact HB
    iintro HB
    iapply (startY c I J hu (oo11 t h) (oo15 t h) (oo14 t h)) $$ [A3 B3 HB]
    · isplitl [A3]; · iexact A3
      isplitl [B3]; · iexact B3
      iexact HB
    iintro HB
    iapply Hk
    iapply Hback
    unfold UFlight
    iexact HB
  · rw [dif_neg h]
    have hu : ¬ t.val + 4 < 20 := fun h' => h ((cond3_iff t).mpr h')
    iintro HU Hk
    iapply Hk
    ihave H2 := (bigSep_eqv (UIn c I J (t.val + 4) t.val) (UIn c I J (t.val + 5) t.val) (fun v => UIn_congr c I J Iff.rfl (by have := v.isLt; omega))) $$ HU
    iexact H2

/-- Sending the unit before. -/
theorem ifD_spec (t : Fin k0_t1_loop.trips) (arg29 : BitVec 32) {α : Type} {kk : KProg (F := F) α} {Q : α → sProp 𝕄} :
    iprop(bigSep Finset.univ (UOut c I J t.val (t.val - 1)) ∗ MB c sO AO (DO c I) (2 * (t.val - 1)) 0)
      ⊢ iprop((iprop(bigSep Finset.univ (UOut c I J t.val t.val) ∗ MB c sO AO (DO c I) (2 * t.val) 0) -∗ WP c kk Q) -∗ WP c (ifD (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t arg29 kk) Q) := by
  unfold ifD
  have ht := tlt t
  by_cases h : k0_cond4 t = 1#1
  · rw [dif_pos h, k0_part30_eq_skeleton]
    unfold k0_part30_skel
    simp only [bind_assoc, pure_bind]
    have h0 : 0 < t.val := (cond4_iff t).mp h
    have hu : t.val - 1 < 20 := by omega
    iintro ⟨HU, HB⟩ Hk
    ihave H2 := (upd ⟨t.val - 1, hu⟩ (UOut c I J t.val (t.val - 1)) (UOut c I J t.val t.val)
      (fun v hv => UOut_congr c I J (by have := Fin.val_ne_of_ne hv; simp only at this; omega) Iff.rfl) _ _
      (UOut_ready c I J hu (by omega) (by omega)) (UOut_sent c I J hu (by omega))) $$ HU
    icases H2 with ⟨HX, Hback⟩
    unfold UReady
    icases HX with ⟨A1, A2, B1, B2⟩
    iapply (sendY c I J hu (oo22 t h) (oo21 t h)) $$ [A1 B1 HB]
    · isplitl [A1]; · iexact A1
      isplitl [B1]; · iexact B1
      iexact HB
    iintro HB
    iapply (sendQ c I J hu (oo24 t h) (oo23 t h)) $$ [A2 B2 HB]
    · isplitl [A2]; · iexact A2
      isplitl [B2]; · iexact B2
      iexact HB
    iintro HB
    iapply Hk
    rw [show 2 * (t.val - 1) + 1 + 1 = 2 * t.val by omega]
    isplitl [Hback]
    · iapply Hback
      iempintro
    iexact HB
  · rw [dif_neg h]
    have h0 : t.val = 0 := by
      by_contra h'
      exact h ((cond4_iff t).mpr (by omega))
    iintro ⟨HU, HB⟩ Hk
    iapply Hk
    rw [h0]
    isplitl [HU]; · iexact HU
    iexact HB

/-- Starting the next batch. -/
theorem ifC_spec (t : Fin k0_t1_loop.trips) (h1 : k0_cond1 t = 1#1) {α : Type} {kk : KProg (F := F) α} {Q : α → sProp 𝕄} :
    bigSep Finset.univ (BIn c I J (t.val / 4 + 1) (t.val / 4 + 1)) ⊢ iprop((bigSep Finset.univ (BIn c I J (t.val / 4 + 2) (t.val / 4 + 1)) -∗ WP c kk Q) -∗ WP c (ifC (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t h1 kk) Q) := by
  unfold ifC
  have ht := tlt t
  by_cases h : k0_cond2 t = 1#1
  · rw [dif_pos h]
    have hu : t.val / 4 + 1 < 5 := (cond2_iff t).mp h
    iintro HU Hk
    ihave H2 := (upd ⟨t.val / 4 + 1, hu⟩ (BIn c I J (t.val / 4 + 1) (t.val / 4 + 1)) (BIn c I J (t.val / 4 + 2) (t.val / 4 + 1))
      (fun v hv => BIn_congr c I J Iff.rfl (by have := Fin.val_ne_of_ne hv; simp only at this; omega)) _ _
      (BIn_fresh c I J hu (by omega) (by omega)) (BIn_flight c I J hu (by omega) (by omega))) $$ HU
    icases H2 with ⟨HX, Hback⟩
    unfold BFresh
    icases HX with ⟨A1, A2, B1, B2, Hs1, Hs2⟩
    imod (dalloc c (cD (t.val / 4 + 1) hu) AD (DD c I (t.val / 4 + 1))) $$ Hs1 with HB1
    imod (dalloc c (cC (t.val / 4 + 1) hu) AC (DC c I (t.val / 4 + 1))) $$ Hs2 with HB2
    iapply (startD c I J hu (oo4 t h1 h) (oo5 t h1 h) (oo5 t h1 h)) $$ [A1 B1 HB1]
    · isplitl [A1]; · iexact A1
      isplitl [B1]; · iexact B1
      iexact HB1
    iintro HB1
    iapply (startC c I J hu (oo4 t h1 h) (oo6 t h1 h) (oo6 t h1 h)) $$ [A2 B2 HB2]
    · isplitl [A2]; · iexact A2
      isplitl [B2]; · iexact B2
      iexact HB2
    iintro HB2
    iapply Hk
    iapply Hback
    unfold BFlight
    isplitl [HB1]; · iexact HB1
    iexact HB2
  · rw [dif_neg h]
    have hu : ¬ t.val / 4 + 1 < 5 := fun h' => h ((cond2_iff t).mpr h')
    iintro HU Hk
    iapply Hk
    ihave H2 := (bigSep_eqv (BIn c I J (t.val / 4 + 1) (t.val / 4 + 1)) (BIn c I J (t.val / 4 + 2) (t.val / 4 + 1)) (fun v => BIn_congr c I J Iff.rfl (by have := v.isLt; omega))) $$ HU
    iexact H2

/-- Waiting for a batch, starting the next, and reading what the weights are made of. -/
theorem part1_spec (t : Fin k0_t1_loop.trips) (v129 : BitVec 32) (h1 : k0_cond1 t = 1#1) (b : Fin 5) (hb : b.val = t.val / 4) {α : Type}
    {k : _ → KProg (F := F) α} {Q : α → sProp 𝕄} :
    iprop(bigSep Finset.univ (BIn c I J (t.val / 4 + 1) (t.val / 4)) ∗ pt c bAl Finset.univ I.al ∗ Owes (F := F) c)
      ⊢ iprop((iprop(bigSep Finset.univ (BIn c I J (t.val / 4 + 2) (t.val / 4 + 1)) ∗ pt c bAl Finset.univ I.al ∗ Owes (F := F) c)
          -∗ WP c (k ⟨k0_pay4 I.al (slabD I.dt b), i8c, k0_pay5 (F := F), k0_pay6 I.al (slabD I.dt b), 2#32⟩) Q)
        -∗ WP c (k0_part1 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t v129 h1 >>= k) Q) := by
  rw [part1_eq]
  simp only [bind_assoc, ifC_bind, pure_bind]
  have ht := tlt t
  have hu : t.val / 4 < 5 := by omega
  have e7 := oo7 t h1
  iintro ⟨HU, Ha, HO⟩ Hk
  ihave H2 := (upd ⟨t.val / 4, hu⟩ (BIn c I J (t.val / 4 + 1) (t.val / 4)) (BIn c I J (t.val / 4 + 1) (t.val / 4 + 1))
      (fun v hv => BIn_congr c I J (by have := Fin.val_ne_of_ne hv; simp only at this; omega) Iff.rfl) _ _
      (BIn_flight c I J hu (by omega) (by omega)) (BIn_done c I J hu (by omega))) $$ HU
  icases H2 with ⟨HX, Hback⟩
  unfold BFlight
  icases HX with ⟨HB1, HB2⟩
  iapply (waitD c I hu (oo1 t h1)) $$ [HB1 HO]
  · isplitl [HB1]; · iexact HB1
    iexact HO
  iintro ⟨⟨⟨D1, D2⟩, Hs1⟩, HO⟩
  iapply (waitC c I hu (oo1 t h1)) $$ [HB2 HO]
  · isplitl [HB2]; · iexact HB2
    iexact HO
  iintro ⟨⟨⟨C1, C2⟩, Hs2⟩, HO⟩
  iapply (ifC_spec c I J t h1) $$ [Hback D1 D2 C1 C2 Hs1 Hs2]
  · iapply Hback
    unfold BDone
    isplitl [D2]; · iexact D2
    isplitl [C2]; · iexact C2
    isplitl [D1]; · iexact D1
    isplitl [C1]; · iexact C1
    isplitl [Hs1]; · iexact Hs1
    iexact Hs2
  iintro HU
  ihave H2 := (upd ⟨t.val / 4, hu⟩ (BIn c I J (t.val / 4 + 2) (t.val / 4 + 1)) (BIn c I J (t.val / 4 + 2) (t.val / 4 + 1)) (fun v hv => rfl) _ _
      (BIn_done c I J hu (by omega)) (BIn_done c I J hu (by omega))) $$ HU
  icases H2 with ⟨HX, Hback⟩
  unfold BDone
  icases HX with ⟨D2, C2, D1, C1, Hs1, Hs2⟩
  iapply (ld c (m := bAl) (r := Rect.unit (s := S1x32) ![0, 0] S1x32.size inb_S1x32_S1x32_0_0) (W := Finset.univ) (f := I.al) (Finset.subset_univ _)) $$ Ha; iintro Ha
  iapply (ld c (m := bDt) (r := Rect.unit (s := S5x384x32) (k0_off7 t) S1x384x32.size (k0_off7_inb t h1)) (W := BD (t.val / 4)) (f := I.dt) (by rw [acc_set]; exact subD e7)) $$ D1; iintro D1
  rw [show ((Memref.whole cc0_scratch6 : Memref sig .tc .vmem S5x384x32 .f32).access (Rect.unit (s := S5x384x32) (k0_off7 t) S1x384x32.size (k0_off7_inb t h1))).read (Elt F) I.dt = slabD I.dt b from
      funext fun j => congrArg I.dt (embD (b := b) (hb ▸ e7) j),
    show ((Memref.whole cc0_scratch9 : Memref sig .tc .vmem S1x32 .f32).access (Rect.unit (s := S1x32) ![0, 0] S1x32.size inb_S1x32_S1x32_0_0)).read (Elt F) I.al = I.al from
      funext fun j => congrArg I.al (whole32 j)]
  iapply Hk
  isplitl [Hback D1 D2 C1 C2 Hs1 Hs2]
  · iapply Hback
    isplitl [D2]; · iexact D2
    isplitl [C2]; · iexact C2
    isplitl [D1]; · iexact D1
    isplitl [C1]; · iexact C1
    isplitl [Hs1]; · iexact Hs1
    iexact Hs2
  isplitl [Ha]; · iexact Ha
  iexact HO

end Inv

end Cert.KernelIdeal.Run
-- ==== Proof.WholeIdeal.lean ====
module

public import proofs.«01_k».proof.Proof.PartsIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # A whole trip -/

set_option maxRecDepth 65536

/-- A trip, with its first part (waiting for the batch, preparing it, starting units) left open. -/
def bodyP (p120 : Fin k0_t1_loop.trips → KProg (F := F) (Σ' (arg29 : BitVec 32) (v129 : BitVec 32) (v139 : BitVec 32) (c4_i32_151 : BitVec 32) (v147 : BitVec 32), BitVec 32)) (t : Fin k0_t1_loop.trips) : KProg (F := F) Unit := do
  let r ← p120 t
  k0_part121 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t r.1 r.2.2.2.1 r.2.2.2.2.1 r.2.2.2.2.2
  let s ← k0_part122 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t r.1 r.2.1
  tail (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 v96c v97c t r.1 r.2.1 r.2.2.1 s.1 s.2.1 s.2.2

section Inv
variable (c : Dev nD) (I : Ins F) (J : Junk F)

def Pre120 (k : ℕ) : sProp 𝕄 :=
  iprop(bigSep Finset.univ (UIn c I J (k + 4) k) ∗ bigSep Finset.univ (BIn c I J ((k + 3) / 4 + 1) ((k + 3) / 4)) ∗ Scr c I J k
    ∗ pt c bAl Finset.univ I.al ∗ pt c bFde Finset.univ I.fde ∗ Owes (F := F) c)
def Post120 (k : ℕ) : sProp 𝕄 :=
  iprop(bigSep Finset.univ (UIn c I J (k + 5) k) ∗ bigSep Finset.univ (BIn c I J ((k + 4) / 4 + 1) ((k + 4) / 4)) ∗ ScrB c I (bF (k / 4))
    ∗ pt c bAl Finset.univ I.al ∗ pt c bFde Finset.univ I.fde ∗ Owes (F := F) c)
/-- What a trip's first part must do. -/
def Spec120 (p120 : Fin k0_t1_loop.trips → KProg (F := F) (Σ' (arg29 : BitVec 32) (v129 : BitVec 32) (v139 : BitVec 32) (c4_i32_151 : BitVec 32) (v147 : BitVec 32), BitVec 32)) : Prop :=
  ∀ t : Fin k0_t1_loop.trips, ∃ r, ∀ (α : Type) (k : _ → KProg (F := F) α) (Q : α → sProp 𝕄),
    Pre120 c I J t.val ⊢ iprop((Post120 c I J t.val -∗ WP c (k r) Q) -∗ WP c (p120 t >>= k) Q)

theorem spec120 (hcg : ∀ b, I.cg b = CgV I.cc b) : Spec120 c I J (fun t => k0_part120 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 0#32 1#32 t) := by
  intro t
  simp only [part120_eq]
  refine Exists.intro ?_ (fun α k Q => ?_)
  rotate_left
  simp only [bind_assoc, ifA_bind, ifB_bind, pure_bind]
  unfold ifA
  have ht := tlt t
  by_cases h1 : k0_cond1 t = 1#1
  · rw [dif_pos h1, part28_eq]
    simp only [bind_assoc, pure_bind]
    have hm := (cond1_iff t).mp h1
    have hb5 : t.val / 4 < 5 := by omega
    have hb : (bF (t.val / 4)).val = t.val / 4 := Nat.mod_eq_of_lt hb5
    unfold Pre120 Scr
    rw [show (t.val + 3) / 4 = t.val / 4 by omega]
    iintro ⟨HU, HBt, ⟨Hw, Hd, Hg⟩, Ha, Hf, HO⟩ Hk
    iapply (part1_spec c I J t _ h1 (bF (t.val / 4)) hb) $$ [HBt Ha HO]
    · isplitl [HBt]; · iexact HBt
      isplitl [Ha]; · iexact Ha
      iexact HO
    iintro ⟨HBt, Ha, HO⟩
    ihave H2 := (upd ⟨t.val / 4, hb5⟩ (BIn c I J (t.val / 4 + 2) (t.val / 4 + 1)) (BIn c I J (t.val / 4 + 2) (t.val / 4 + 1)) (fun v hv => rfl) _ _
      (BIn_done c I J hb5 (by omega)) (BIn_done c I J hb5 (by omega))) $$ HBt
    icases H2 with ⟨HX, Hback⟩
    unfold BDone
    icases HX with ⟨D2, C2, D1, C1, Hs1, Hs2⟩
    iapply (prepOps_spec c t h1 (bF (t.val / 4)) hb _ _ _ _ _ I.fde I.cc _ _ _) $$ [Hf C1 Hw Hd Hg]
    · isplitl [Hf]; · iexact Hf
      isplitl [C1]
      · rw [hb]; iexact C1
      isplitl [Hw]; · iexact Hw
      isplitl [Hd]; · iexact Hd
      iexact Hg
    iintro ⟨Hf, C1, Hw, Hd, Hg⟩
    rw [hb]
    iapply (ldG c _) $$ Hg; iintro Hg %_
    iapply (stG c (g := 2) (by decide) rfl 3 rfl (CgV I.cc (bF (t.val / 4))) _ (fun z => (rowsG_at (k0_pay136 (k0_pay134 (slabC I.cc (bF (t.val / 4)) 0))) (k0_pay137 (k0_pay135 (slabC I.cc (bF (t.val / 4)) 0))) (k0_pay465 (k0_pay139 (slabC I.cc (bF (t.val / 4)) 1))) (k0_pay466 (k0_pay138 (slabC I.cc (bF (t.val / 4)) 1))) (2 : Fin 4) z).symm)) $$ Hg; iintro Hg
    iapply (ldG c _) $$ Hg; iintro Hg %_
    iapply (stG c (g := 3) (by decide) rfl 4 rfl (CgV I.cc (bF (t.val / 4))) _ (fun z => (rowsG_at (k0_pay136 (k0_pay134 (slabC I.cc (bF (t.val / 4)) 0))) (k0_pay137 (k0_pay135 (slabC I.cc (bF (t.val / 4)) 0))) (k0_pay465 (k0_pay139 (slabC I.cc (bF (t.val / 4)) 1))) (k0_pay466 (k0_pay138 (slabC I.cc (bF (t.val / 4)) 1))) (3 : Fin 4) z).symm)) $$ Hg; iintro Hg
    rw [updG_four]
    iapply (ifB_spec c I J t _) $$ HU
    iintro HU
    iapply Hk
    unfold Post120
    rw [show (t.val + 4) / 4 = t.val / 4 + 1 by omega]
    isplitl [HU]; · iexact HU
    isplitl [Hback D1 D2 C1 C2 Hs1 Hs2]
    · iapply Hback
      isplitl [D2]; · iexact D2
      isplitl [C2]; · iexact C2
      isplitl [D1]; · iexact D1
      isplitl [C1]; · iexact C1
      isplitl [Hs1]; · iexact Hs1
      iexact Hs2
    isplitl [Hw Hd Hg]
    · unfold ScrB WtI FdI CgI
      rw [hcg]
      isplitl [Hw]; · iexact Hw
      isplitl [Hd]; · iexact Hd
      iexact Hg
    isplitl [Ha]; · iexact Ha
    isplitl [Hf]; · iexact Hf
    iexact HO
  · rw [dif_neg h1]
    have hm : ¬ t.val % 4 = 0 := fun h' => h1 ((cond1_iff t).mpr h')
    unfold Pre120 Post120 Scr ScrB
    rw [show (t.val + 3) / 4 = (t.val + 4) / 4 by omega, if_neg (show ¬ t.val = 0 by omega), if_neg (show ¬ t.val = 0 by omega), if_neg (show ¬ t.val = 0 by omega),
      show (t.val - 1) / 4 = t.val / 4 by omega]
    iintro ⟨HU, HBt, Hs, Ha, Hf, HO⟩ Hk
    iapply (ifB_spec c I J t _) $$ HU
    iintro HU
    iapply Hk
    isplitl [HU]; · iexact HU
    isplitl [HBt]; · iexact HBt
    isplitl [Hs]; · iexact Hs
    isplitl [Ha]; · iexact Ha
    isplitl [Hf]; · iexact Hf
    iexact HO

/-- The branch. -/
theorem tail_spec (t : Fin k0_t1_loop.trips) (b : Fin 5) (hb : b.val = t.val / 4) (f0 : Vec F S20x8x128x256 .fp8e4m3) (g0 : Vec F S5x32x128 .f32) (a v129 v139 : BitVec 32)
    {α : Type} {k : Unit → KProg (F := F) α} {Q : α → sProp 𝕄} :
    TR c (dat I) (tu t) b f0 g0 (ntb I b) 0 0 ⊢ iprop((TR c (dat I) (tu t) b f0 g0 (ntb I b) 8 (4 * ntb I b) -∗ WP c (k ⟨⟩) Q)
      -∗ WP c (tail (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 v96c v97c t a v129 v139 (Scalar.cmpi .eq (I.fde (ix1 b)) 384#32) (blocks (F := F) (I.fde (ix1 b)))
        (Scalar.cmpi .ne (Scalar.extui (Scalar.cmpi .eq (I.fde (ix1 b)) 384#32)) 0#32) >>= k) Q) := by
  unfold tail tail1 tail2 tail3 ntb
  by_cases hc : I.fde (ix1 b) = 384#32
  · rw [if_pos hc]
    rw [hc]
    rw [if_pos (show Scalar.cmpi .ne (Scalar.extui (Scalar.cmpi .eq (384#32 : BitVec 32) 384#32) : BitVec 32) 0#32 = 1#1 by decide)]
    have e : ∀ x : BitVec 1, ¬ Scalar.cmpi .ne (Scalar.extui (Scalar.andi (Scalar.xori (Scalar.cmpi .eq (384#32 : BitVec 32) 384#32) 1#1) x) : BitVec 32) 0#32 = 1#1 := by decide
    rw [if_neg (e _), if_neg (e _), if_neg (e _), branchC_eq]
    simp only [bind_assoc, pure_bind]
    exact stepsC_spec c (dat I) t b hb f0 g0 hc v96c v97c rfl
  · rw [if_neg hc]
    have h0 : Scalar.cmpi .eq (I.fde (ix1 b) : BitVec 32) 384#32 = 0#1 := by
      have hc' : ((I.fde (ix1 b) : BitVec 32) == 384#32) = false := by simpa using hc
      unfold Scalar.cmpi
      simp [IntOp.cmpi, hc']
    rw [h0, if_neg (show ¬ Scalar.cmpi .ne (Scalar.extui (0#1) : BitVec 32) 0#32 = 1#1 by decide)]
    rcases blocks_cases (F := F) (I.fde (ix1 b)) with h | h | h
    · rw [h, if_pos (by decide), if_neg (by decide), if_neg (by decide), branch1_eq]
      simp only [bind_assoc, pure_bind]
      exact steps1_spec c (dat I) t b hb f0 g0 hc v96c v97c rfl
    · rw [h, if_neg (by decide), if_pos (by decide), if_neg (by decide), branch2_eq]
      simp only [bind_assoc, pure_bind]
      exact steps2_spec c (dat I) t b hb f0 g0 hc v96c v97c rfl
    · rw [h, if_neg (by decide), if_neg (by decide), if_pos (by decide), branch3_eq]
      simp only [bind_assoc, pure_bind]
      exact steps3_spec c (dat I) t b hb f0 g0 hc v96c v97c rfl

theorem Yst_zero (nt : ℕ) : Yst (dat I) nt 0 = stY I.y := by
  funext i; unfold Yst; exact if_neg (by omega)
theorem Qst_zero (f0 : Vec F S20x8x128x256 .fp8e4m3) : Qst (dat I) f0 0 = f0 := by
  funext i; unfold Qst; exact if_neg (by omega)
theorem ptYFin {u : ℕ} (hu : u < 20) (hb : (bF (u / 4)).val = u / 4) :
    (pt c bY (WY u) (Yst (dat I) (ntb I (bF (u / 4))) (4 * ntb I (bF (u / 4)))) : sProp 𝕄) = pt c bY (WY u) (YFin I) :=
  pointsTo_congr fun i hi => by
    have h : (i 0 : Fin 20).val = u := (Finset.mem_filter.mp hi).2
    unfold YFin
    rw [h]
theorem ptQF (u : ℕ) : (pt c bQ (W20 u) (Qst (dat I) J.q 8) : sProp 𝕄) = pt c bQ (W20 u) (QF (dat I)) :=
  pointsTo_congr fun i hi => if_pos (i 1 : Fin 8).isLt

theorem WP_eta {p : KProg (F := F) Unit} {Q : Unit → sProp 𝕄} : WP c (p >>= fun x => pure x) Q ⊢ WP c p Q := by
  rw [bind_pure]

/-- A trip takes the invariant one unit on. -/
theorem trip (p120 : Fin k0_t1_loop.trips → KProg (F := F) (Σ' (arg29 : BitVec 32) (v129 : BitVec 32) (v139 : BitVec 32) (c4_i32_151 : BitVec 32) (v147 : BitVec 32), BitVec 32)) (h120 : Spec120 c I J p120) (t : Fin k0_t1_loop.trips) :
    INV c I J t.val ⊢ WP c (bodyP p120 t) (fun _ => INV c I J (t.val + 1)) := by
  obtain ⟨r, hr⟩ := h120 t
  unfold bodyP
  simp only [part122_eq]
  rw [k0_part121_eq_skeleton]
  unfold k0_part121_skel
  simp only [bind_assoc, ifD_bind, pure_bind]
  have ht := tlt t
  have hb5 : t.val / 4 < 5 := by omega
  have hb : (bF (t.val / 4)).val = t.val / 4 := Nat.mod_eq_of_lt hb5
  unfold INV
  iintro ⟨HU, HT, HBt, Hscr, Hso, Hsc, Ha, Hf, HM, HO⟩
  iapply (hr _ _ _) $$ [HU HBt Hscr Ha Hf HO]
  · unfold Pre120
    isplitl [HU]; · iexact HU
    isplitl [HBt]; · iexact HBt
    isplitl [Hscr]; · iexact Hscr
    isplitl [Ha]; · iexact Ha
    isplitl [Hf]; · iexact Hf
    iexact HO
  unfold Post120
  iintro ⟨HU, HBt, Hscr, Ha, Hf, HO⟩
  ihave H2 := (upd ⟨t.val, ht⟩ (UIn c I J (t.val + 5) t.val) (UIn c I J (t.val + 5) (t.val + 1))
      (fun v hv => UIn_congr c I J (by have := Fin.val_ne_of_ne hv; simp only at this; omega) Iff.rfl) _ _
      (UIn_flight c I J ht (by omega) (by omega)) (UIn_done c I J ht (by omega))) $$ HU
  icases H2 with ⟨HB, Hback⟩
  unfold UFlight
  iapply (waitCo c I ht (oo16 t)) $$ [HB HO]
  · isplitl [HB]; · iexact HB
    iexact HO
  iintro ⟨HB, HO⟩
  iapply (waitH c I ht (oo16 t)) $$ [HB HO]
  · isplitl [HB]; · iexact HB
    iexact HO
  iintro ⟨HB, HO⟩
  iapply (waitY c I ht (oo16 t)) $$ [HB HO]
  · isplitl [HB]; · iexact HB
    iexact HO
  iintro ⟨⟨⟨⟨B1, A1⟩, ⟨B2, A2⟩, ⟨B3, A3⟩⟩, Hs⟩, HO⟩
  iapply (ifD_spec c I J t _) $$ [HT HM]
  · isplitl [HT]; · iexact HT
    iexact HM
  iintro ⟨HT, HM⟩
  iapply (ldFde c (b := bF (t.val / 4)) ((oo25 t).trans (by rw [hb])) I.fde) $$ Hf; iintro Hf
  ihave H2 := (upd ⟨t.val, ht⟩ (UOut c I J t.val t.val) (UOut c I J (t.val + 1) t.val)
      (fun v hv => UOut_congr c I J Iff.rfl (by have := Fin.val_ne_of_ne hv; simp only at this; omega)) _ _
      (UOut_wait c I J ht (by omega) (by omega)) (UOut_ready c I J ht (by omega) (by omega))) $$ HT
  icases H2 with ⟨HX, Hout⟩
  unfold UWait
  icases HX with ⟨Q1, O1, O2⟩
  unfold ScrB
  icases Hscr with ⟨Hw, Hd, Hg⟩
  iapply (WP_eta c)
  iapply (tail_spec c I t (bF (t.val / 4)) hb J.q J.so _ _ _) $$ [B1 B2 B3 Q1 Hso Hsc Hd Hg Hw]
  · unfold TR
    isplitl [B2]; · iexact B2
    isplitl [B1]; · iexact B1
    isplitl [B3]; · rw [Yst_zero]; iexact B3
    isplitl [Q1]; · rw [Qst_zero]; iexact Q1
    isplitl [Hso]; · iexact Hso
    isplitl [Hsc]; · iexact Hsc
    isplitl [Hd]; · iexact Hd
    isplitl [Hg]; · iexact Hg
    iexact Hw
  unfold TR
  iintro ⟨B2, B1, B3, Q1, Hso, Hsc, Hd, Hg, Hw⟩
  iapply (WP_ret c)
  rw [show (t.val + 1 - 1) = t.val by omega]
  isplitl [Hback A1 A2 A3 B1 B2 Hs]
  · rw [show t.val + 1 + 4 = t.val + 5 by omega]
    iapply Hback
    unfold UDone
    isplitl [A1]; · iexact A1
    isplitl [A2]; · iexact A2
    isplitl [A3]; · iexact A3
    isplitl [B1]; · iexact B1
    isplitl [B2]; · iexact B2
    iexact Hs
  isplitl [Hout B3 Q1 O1 O2]
  · iapply Hout
    unfold UReady
    isplitl [B3]; · rw [← ptYFin c I ht hb]; iexact B3
    isplitl [Q1]; · rw [← ptQF c I J t.val]; iexact Q1
    isplitl [O1]; · iexact O1
    iexact O2
  isplitl [HBt]; · rw [show t.val + 1 + 3 = t.val + 4 by omega]; iexact HBt
  isplitl [Hw Hd Hg]
  · unfold Scr
    rw [if_neg (Nat.succ_ne_zero _), if_neg (Nat.succ_ne_zero _), if_neg (Nat.succ_ne_zero _), show t.val + 1 - 1 = t.val by omega]
    isplitl [Hw]; · iexact Hw
    isplitl [Hd]; · iexact Hd
    iexact Hg
  isplitl [Hso]; · rw [show 8 * (t.val + 1) = 8 * (tu t).val + 8 from by show _ = 8 * t.val + 8; omega]; iexact Hso
  isplitl [Hsc]; · iexact Hsc
  isplitl [Ha]; · iexact Ha
  isplitl [Hf]; · iexact Hf
  isplitl [HM]; · iexact HM
  iexact HO

end Inv

end Cert.KernelIdeal.Run
-- ==== Proof.SplitIdeal.lean ====
module

public import proofs.«01_k».proof.Proof.WholeIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The arrays, cut into the units' and batches' windows -/

section Cut
variable (c : Dev nD)

/-- An array cut along disjoint windows that cover it. -/
theorem cut {n : ℕ} {sp : Space} {S : Shape} {e : EltTy} (m : Memref sig .tc sp S e) (K : Fin n → Finset (Idx (m.view.loc (c : Thread nD τ))))
    (hd : ∀ u v, u ≠ v → Disjoint (K u) (K v)) (hc : ∀ i, ∃ u, i ∈ K u) (f : Buf (Elt F) (m.view.loc (c : Thread nD τ))) :
    (pt c m Finset.univ f : sProp 𝕄) = bigSep Finset.univ fun u => pt c m (K u) f := by
  have h : (Finset.univ : Finset (Idx (m.view.loc (c : Thread nD τ)))) = Finset.univ.biUnion K := by
    ext i; simpa using hc i
  rw [h]
  exact pointsTo_biUnion _ K (fun u _ v _ => hd u v)
theorem sepB {n : ℕ} (Φ Ψ : Fin n → sProp 𝕄) : bigSep Finset.univ (fun i => iprop(Φ i ∗ Ψ i)) = iprop(bigSep Finset.univ Φ ∗ bigSep Finset.univ Ψ) :=
  BI.bigSep_sep Finset.univ Φ Ψ

theorem dOH (u v : Fin 20) (h : u ≠ v) : Disjoint (OH u.val) (OH v.val) := by
  refine Finset.disjoint_left.mpr fun i h1 h2 => h (Fin.ext ?_)
  have h1 := (Finset.mem_filter.mp h1).2
  have h2 := (Finset.mem_filter.mp h2).2
  omega
theorem cOH (i : S5x32x128x256.Idx) : ∃ u : Fin 20, i ∈ OH u.val := by
  have h0 : (i 0 : Fin 5).val < 5 := (i 0 : Fin 5).isLt
  have h1 : (i 1 : Fin 32).val < 32 := (i 1 : Fin 32).isLt
  refine ⟨⟨4 * (i 0 : Fin 5).val + (i 1 : Fin 32).val / 8, by omega⟩, Finset.mem_filter.mpr ⟨Finset.mem_univ _, ?_⟩⟩
  show (i 0 : Fin 5).val = (4 * (i 0 : Fin 5).val + (i 1 : Fin 32).val / 8) / 4 ∧ (i 1 : Fin 32).val / 8 = (4 * (i 0 : Fin 5).val + (i 1 : Fin 32).val / 8) % 4
  constructor <;> omega
theorem dOY (u v : Fin 20) (h : u ≠ v) : Disjoint (OY u.val) (OY v.val) := by
  refine Finset.disjoint_left.mpr fun i h1 h2 => h (Fin.ext ?_)
  have h1 := (Finset.mem_filter.mp h1).2
  have h2 := (Finset.mem_filter.mp h2).2
  omega
theorem cOY (i : S5x384x4096.Idx) : ∃ u : Fin 20, i ∈ OY u.val := by
  have h0 : (i 0 : Fin 5).val < 5 := (i 0 : Fin 5).isLt
  have h1 : (i 2 : Fin 4096).val < 4096 := (i 2 : Fin 4096).isLt
  refine ⟨⟨4 * (i 0 : Fin 5).val + (i 2 : Fin 4096).val / 1024, by omega⟩, Finset.mem_filter.mpr ⟨Finset.mem_univ _, ?_⟩⟩
  show (i 0 : Fin 5).val = (4 * (i 0 : Fin 5).val + (i 2 : Fin 4096).val / 1024) / 4 ∧ (i 2 : Fin 4096).val / 1024 = (4 * (i 0 : Fin 5).val + (i 2 : Fin 4096).val / 1024) % 4
  constructor <;> omega
theorem dW20 (u v : Fin 20) (h : u ≠ v) : Disjoint (W20 u.val) (W20 v.val) := by
  refine Finset.disjoint_left.mpr fun i h1 h2 => h (Fin.ext ?_)
  have h1 := (Finset.mem_filter.mp h1).2
  have h2 := (Finset.mem_filter.mp h2).2
  exact h1.symm.trans h2
theorem cW20 (i : S20x8x128x256.Idx) : ∃ u : Fin 20, i ∈ W20 u.val :=
  ⟨(i 0 : Fin 20), Finset.mem_filter.mpr ⟨Finset.mem_univ _, rfl⟩⟩
theorem dWY (u v : Fin 20) (h : u ≠ v) : Disjoint (WY u.val) (WY v.val) := by
  refine Finset.disjoint_left.mpr fun i h1 h2 => h (Fin.ext ?_)
  have h1 := (Finset.mem_filter.mp h1).2
  have h2 := (Finset.mem_filter.mp h2).2
  exact h1.symm.trans h2
theorem cWY (i : S20x384x1024.Idx) : ∃ u : Fin 20, i ∈ WY u.val :=
  ⟨(i 0 : Fin 20), Finset.mem_filter.mpr ⟨Finset.mem_univ _, rfl⟩⟩
theorem dBD (u v : Fin 5) (h : u ≠ v) : Disjoint (BD u.val) (BD v.val) := by
  refine Finset.disjoint_left.mpr fun i h1 h2 => h (Fin.ext ?_)
  have h1 := (Finset.mem_filter.mp h1).2
  have h2 := (Finset.mem_filter.mp h2).2
  exact h1.symm.trans h2
theorem cBD (i : S5x384x32.Idx) : ∃ u : Fin 5, i ∈ BD u.val :=
  ⟨(i 0 : Fin 5), Finset.mem_filter.mpr ⟨Finset.mem_univ _, rfl⟩⟩
theorem dBC (u v : Fin 5) (h : u ≠ v) : Disjoint (BC u.val) (BC v.val) := by
  refine Finset.disjoint_left.mpr fun i h1 h2 => h (Fin.ext ?_)
  have h1 := (Finset.mem_filter.mp h1).2
  have h2 := (Finset.mem_filter.mp h2).2
  exact h1.symm.trans h2
theorem cBC (i : S5x384x4x256.Idx) : ∃ u : Fin 5, i ∈ BC u.val :=
  ⟨(i 0 : Fin 5), Finset.mem_filter.mpr ⟨Finset.mem_univ _, rfl⟩⟩

variable (I : Ins F) (J : Junk F)

theorem uFresh : (iprop(pt c mCodes Finset.univ I.codes ∗ pt c mHl Finset.univ I.hl ∗ pt c mY Finset.univ I.y ∗ pt c bCo Finset.univ J.co ∗ pt c bH Finset.univ J.h ∗ pt c bY Finset.univ J.y ∗ bigSep Finset.univ (fun u : Fin 20 => semVal ((c : Thread nD τ), SemLoc.dma (cU u.val u.isLt)) 0)) : sProp 𝕄)
    = bigSep Finset.univ (UIn c I J 0 0) := by
  rw [show UIn c I J 0 0 = fun u : Fin 20 => UFresh c I J u.val u.isLt from funext fun u => UIn_fresh c I J u.isLt (Nat.not_lt_zero _) (Nat.not_lt_zero _), cut c mCodes (fun u : Fin 20 => OH u.val) dOH cOH I.codes, cut c mHl (fun u : Fin 20 => OH u.val) dOH cOH I.hl, cut c mY (fun u : Fin 20 => OY u.val) dOY cOY I.y, cut c bCo (fun u : Fin 20 => W20 u.val) dW20 cW20 J.co, cut c bH (fun u : Fin 20 => W20 u.val) dW20 cW20 J.h, cut c bY (fun u : Fin 20 => WY u.val) dWY cWY J.y]
  unfold UFresh
  rw [sepB, sepB, sepB, sepB, sepB, sepB]
theorem uDone : (iprop(pt c mCodes Finset.univ I.codes ∗ pt c mHl Finset.univ I.hl ∗ pt c mY Finset.univ I.y ∗ pt c bCo Finset.univ (stH I.codes) ∗ pt c bH Finset.univ (stH I.hl) ∗ bigSep Finset.univ (fun u : Fin 20 => semVal ((c : Thread nD τ), SemLoc.dma (cU u.val u.isLt)) 0)) : sProp 𝕄)
    = bigSep Finset.univ (UIn c I J 24 20) := by
  rw [show UIn c I J 24 20 = fun u : Fin 20 => UDone c I u.val u.isLt from funext fun u => UIn_done c I J u.isLt u.isLt, cut c mCodes (fun u : Fin 20 => OH u.val) dOH cOH I.codes, cut c mHl (fun u : Fin 20 => OH u.val) dOH cOH I.hl, cut c mY (fun u : Fin 20 => OY u.val) dOY cOY I.y, cut c bCo (fun u : Fin 20 => W20 u.val) dW20 cW20 (stH I.codes), cut c bH (fun u : Fin 20 => W20 u.val) dW20 cW20 (stH I.hl)]
  unfold UDone
  rw [sepB, sepB, sepB, sepB, sepB]
theorem uWait : (iprop(pt c bQ Finset.univ J.q ∗ pt c oY Finset.univ J.oy ∗ pt c oQ Finset.univ J.oq) : sProp 𝕄)
    = bigSep Finset.univ (UOut c I J 0 0) := by
  rw [show UOut c I J 0 0 = fun u : Fin 20 => UWait c J u.val from funext fun u => UOut_wait c I J u.isLt (Nat.not_lt_zero _) (Nat.not_lt_zero _), cut c bQ (fun u : Fin 20 => W20 u.val) dW20 cW20 J.q, cut c oY (fun u : Fin 20 => OY u.val) dOY cOY J.oy, cut c oQ (fun u : Fin 20 => OH u.val) dOH cOH J.oq]
  unfold UWait
  rw [sepB, sepB]
theorem bFresh : (iprop(pt c mDt Finset.univ I.dt ∗ pt c mC Finset.univ I.cc ∗ pt c bDt Finset.univ J.dt ∗ pt c bC Finset.univ J.cc ∗ bigSep Finset.univ (fun u : Fin 5 => semVal ((c : Thread nD τ), SemLoc.dma (cD u.val u.isLt)) 0) ∗ bigSep Finset.univ (fun u : Fin 5 => semVal ((c : Thread nD τ), SemLoc.dma (cC u.val u.isLt)) 0)) : sProp 𝕄)
    = bigSep Finset.univ (BIn c I J 0 0) := by
  rw [show BIn c I J 0 0 = fun u : Fin 5 => BFresh c I J u.val u.isLt from funext fun u => BIn_fresh c I J u.isLt (Nat.not_lt_zero _) (Nat.not_lt_zero _), cut c mDt (fun u : Fin 5 => BD u.val) dBD cBD I.dt, cut c mC (fun u : Fin 5 => BC u.val) dBC cBC I.cc, cut c bDt (fun u : Fin 5 => BD u.val) dBD cBD J.dt, cut c bC (fun u : Fin 5 => BC u.val) dBC cBC J.cc]
  unfold BFresh
  rw [sepB, sepB, sepB, sepB, sepB]
theorem bDone : (iprop(pt c mDt Finset.univ I.dt ∗ pt c mC Finset.univ I.cc ∗ pt c bDt Finset.univ I.dt ∗ pt c bC Finset.univ I.cc ∗ bigSep Finset.univ (fun u : Fin 5 => semVal ((c : Thread nD τ), SemLoc.dma (cD u.val u.isLt)) 0) ∗ bigSep Finset.univ (fun u : Fin 5 => semVal ((c : Thread nD τ), SemLoc.dma (cC u.val u.isLt)) 0)) : sProp 𝕄)
    = bigSep Finset.univ (BIn c I J 6 5) := by
  rw [show BIn c I J 6 5 = fun u : Fin 5 => BDone c I u.val u.isLt from funext fun u => BIn_done c I J u.isLt u.isLt, cut c mDt (fun u : Fin 5 => BD u.val) dBD cBD I.dt, cut c mC (fun u : Fin 5 => BC u.val) dBC cBC I.cc, cut c bDt (fun u : Fin 5 => BD u.val) dBD cBD I.dt, cut c bC (fun u : Fin 5 => BC u.val) dBC cBC I.cc]
  unfold BDone
  rw [sepB, sepB, sepB, sepB, sepB]

/-- The forty deliveries of the results. -/
theorem oDone : (iprop((pt c oY Finset.univ (YO I) ∗ pt c bY Finset.univ (YFin I)) ∗ (pt c oQ Finset.univ (QO I) ∗ pt c bQ Finset.univ (QF (dat I)))) : sProp 𝕄)
    = bigSep Finset.univ (DO c I) := by
  rw [BI.bigSep_univ_equiv (finProdFinEquiv : Fin 20 × Fin 2 ≃ Fin (20 * 2)) (DO c I), BI.bigSep_univ_prod]
  rw [show (fun a : Fin 20 => bigSep Finset.univ fun b : Fin 2 => DO c I (finProdFinEquiv (a, b)))
      = fun u : Fin 20 => iprop((pt c oY (OY u.val) (YO I) ∗ pt c bY (WY u.val) (YFin I)) ∗ (pt c oQ (OH u.val) (QO I) ∗ pt c bQ (W20 u.val) (QF (dat I)))) from
    funext fun u => by
      rw [BI.bigSep_fin_two]
      have e0 : (finProdFinEquiv (u, (0 : Fin 2)) : Fin (20 * 2)).val = 2 * u.val := by show 0 + 2 * u.val = _; omega
      have e1 : (finProdFinEquiv (u, (1 : Fin 2)) : Fin (20 * 2)).val = 2 * u.val + 1 := by show 1 + 2 * u.val = _; omega
      unfold DO
      rw [e0, e1, if_pos (show (2 * u.val) % 2 = 0 by omega), if_neg (show ¬ (2 * u.val + 1) % 2 = 0 by omega),
        show 2 * u.val / 2 = u.val by omega, show (2 * u.val + 1) / 2 = u.val by omega]
      rfl]
  rw [cut c oY (fun u : Fin 20 => OY u.val) dOY cOY (YO I), cut c bY (fun u : Fin 20 => WY u.val) dWY cWY (YFin I), cut c oQ (fun u : Fin 20 => OH u.val) dOH cOH (QO I), cut c bQ (fun u : Fin 20 => W20 u.val) dW20 cW20 (QF (dat I))]
  rw [sepB, sepB, sepB]

theorem Sst_zero (f0 : Vec F S5x32x128 .f32) : Sst (dat I) f0 (8 * 0) = f0 := by
  funext i; unfold Sst; exact if_neg (by omega)
theorem Sst_full (f0 : Vec F S5x32x128 .f32) : Sst (dat I) f0 (8 * 20) = SO I := by
  funext i; unfold Sst
  have h0 : (i 0 : Fin 5).val < 5 := (i 0 : Fin 5).isLt
  have h1 : (i 1 : Fin 32).val < 32 := (i 1 : Fin 32).isLt
  exact if_pos (by omega)

end Cut

end Cert.KernelIdeal.Run
-- ==== Proof.BodyIdeal.lean ====
module

public import proofs.«01_k».proof.Proof.SplitIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The whole kernel -/

set_option maxRecDepth 65536
set_option maxHeartbeats 0

/-- The kernel's fourth stretch before the loop: the last unit started, the small arrays waited for. -/
def pre127 : KProg (F := F) PUnit := do
  let v72 : DmaSems sig S1 := cc0_scratch16.slice (Rect.unit (s := S20) ![3] S1.size inb_S20_S1_3)
  let v73 : DmaSems sig S_ := v72.squeeze S_ squeezes_S1_S_
  let v74 : Memref sig .tc .vmem S1x8x128x256 .fp8e4m3 := (Memref.whole cc0_scratch2).slice (Rect.unit (s := S20x8x128x256) ![3, 0, 0, 0] S1x8x128x256.size inb_S20x8x128x256_S1x8x128x256_3_0_0_0) (fun _ => rfl)
  let v75 : Memref sig .tc .vmem S8x128x256 .fp8e4m3 := v74.squeeze S8x128x256 squeezes_S1x8x128x256_S8x128x256
  let v76 : Memref sig .tc .hbm S1x8x128x256 .fp8e4m3 := (Memref.whole main_arg4).slice (Rect.unit (s := S5x32x128x256) ![0, 24, 0, 0] S1x8x128x256.size inb_S5x32x128x256_S1x8x128x256_0_24_0_0) (fun _ => rfl)
  let v77 : Memref sig .tc .hbm S8x128x256 .fp8e4m3 := v76.squeeze S8x128x256 squeezes_S1x8x128x256_S8x128x256
  Prog.lift (.enqueueDma v77 (.here v75) (.dma v73.sem) (((Memref.isWhole_whole main_arg4).wordExact_slice rfl _ wordsfp8e4m3_S5x32x128x256_S1x8x128x256_0_24_0_0).reshape _ _) (((Memref.isWhole_whole cc0_scratch2).wordExact_slice rfl _ wordsfp8e4m3_S20x8x128x256_S1x8x128x256_3_0_0_0).reshape _ _) ⟨Or.inl rfl, trivial⟩)
  let v78 : DmaSems sig S1 := cc0_scratch16.slice (Rect.unit (s := S20) ![3] S1.size inb_S20_S1_3)
  let v79 : DmaSems sig S_ := v78.squeeze S_ squeezes_S1_S_
  let v80 : Memref sig .tc .vmem S1x8x128x256 .f32 := (Memref.whole cc0_scratch1).slice (Rect.unit (s := S20x8x128x256) ![3, 0, 0, 0] S1x8x128x256.size inb_S20x8x128x256_S1x8x128x256_3_0_0_0) (fun _ => rfl)
  let v81 : Memref sig .tc .vmem S8x128x256 .f32 := v80.squeeze S8x128x256 squeezes_S1x8x128x256_S8x128x256
  let v82 : Memref sig .tc .hbm S1x8x128x256 .f32 := (Memref.whole main_arg6).slice (Rect.unit (s := S5x32x128x256) ![0, 24, 0, 0] S1x8x128x256.size inb_S5x32x128x256_S1x8x128x256_0_24_0_0) (fun _ => rfl)
  let v83 : Memref sig .tc .hbm S8x128x256 .f32 := v82.squeeze S8x128x256 squeezes_S1x8x128x256_S8x128x256
  Prog.lift (.enqueueDma v83 (.here v81) (.dma v79.sem) ((View.wordExact_bits rfl).reshape _ _) ((View.wordExact_bits rfl).reshape _ _) ⟨Or.inl rfl, trivial⟩)
  let v84 : DmaSems sig S1 := cc0_scratch16.slice (Rect.unit (s := S20) ![3] S1.size inb_S20_S1_3)
  let v85 : DmaSems sig S_ := v84.squeeze S_ squeezes_S1_S_
  let v86 : Memref sig .tc .vmem S1x384x1024 .bf16 := (Memref.whole cc0_scratch0).slice (Rect.unit (s := S20x384x1024) ![3, 0, 0] S1x384x1024.size inb_S20x384x1024_S1x384x1024_3_0_0) (fun _ => rfl)
  let v87 : Memref sig .tc .vmem S384x1024 .bf16 := v86.squeeze S384x1024 squeezes_S1x384x1024_S384x1024
  let v88 : Memref sig .tc .hbm S1x384x1024 .bf16 := (Memref.whole main_arg0).slice (Rect.unit (s := S5x384x4096) ![0, 0, 3072] S1x384x1024.size inb_S5x384x4096_S1x384x1024_0_0_3072) (fun _ => rfl)
  let v89 : Memref sig .tc .hbm S384x1024 .bf16 := v88.squeeze S384x1024 squeezes_S1x384x1024_S384x1024
  Prog.lift (.enqueueDma v89 (.here v87) (.dma v85.sem) (((Memref.isWhole_whole main_arg0).wordExact_slice rfl _ wordsbf16_S5x384x4096_S1x384x1024_0_0_3072).reshape _ _) (((Memref.isWhole_whole cc0_scratch0).wordExact_slice rfl _ wordsbf16_S20x384x1024_S1x384x1024_3_0_0).reshape _ _) ⟨Or.inl rfl, trivial⟩)
  let v90 : DmaSems sig S1 := cc0_scratch13.slice (Rect.unit (s := S3) ![0] S1.size inb_S3_S1_0)
  let v91 : DmaSems sig S_ := v90.squeeze S_ squeezes_S1_S_
  Prog.lift (.waitDma2 v91.sem (Memref.whole main_arg7) (Memref.whole cc0_scratch12) (Memref.isWhole_whole main_arg7).wordExact (Memref.isWhole_whole cc0_scratch12).wordExact)
  let v92 : DmaSems sig S1 := cc0_scratch13.slice (Rect.unit (s := S3) ![2] S1.size inb_S3_S1_2)
  let v93 : DmaSems sig S_ := v92.squeeze S_ squeezes_S1_S_
  Prog.lift (.waitDma2 v93.sem (Memref.whole main_v0) (Memref.whole cc0_scratch9) (Memref.isWhole_whole main_v0).wordExact (Memref.isWhole_whole cc0_scratch9).wordExact)
  let v94 : DmaSems sig S1 := cc0_scratch13.slice (Rect.unit (s := S3) ![1] S1.size inb_S3_S1_1)
  let v95 : DmaSems sig S_ := v94.squeeze S_ squeezes_S1_S_
  Prog.lift (.waitDma2 v95.sem (Memref.whole main_arg5) (Memref.whole cc0_scratch10) (Memref.isWhole_whole main_arg5).wordExact (Memref.isWhole_whole cc0_scratch10).wordExact)
  pure ⟨⟩
/-- What follows the loop. -/
def endP : KProg (F := F) PUnit := do
  let v100 : DmaSems sig S1 := cc0_scratch13.slice (Rect.unit (s := S3) ![1] S1.size inb_S3_S1_1)
  let v101 : DmaSems sig S_ := v100.squeeze S_ squeezes_S1_S_
  Prog.lift (.enqueueDma (Memref.whole cc0_scratch11) (.here (Memref.whole main_v1_2)) (.dma v101.sem) (Memref.isWhole_whole cc0_scratch11).wordExact (Memref.isWhole_whole main_v1_2).wordExact ⟨Or.inl rfl, trivial⟩)
  let v102 : Memref sig .tc .hbm S1x384x1024 .bf16 := (Memref.whole main_v1_0).slice (Rect.unit (s := S5x384x4096) ![4, 0, 3072] S1x384x1024.size inb_S5x384x4096_S1x384x1024_4_0_3072) (fun _ => rfl)
  let v103 : Memref sig .tc .hbm S384x1024 .bf16 := v102.squeeze S384x1024 squeezes_S1x384x1024_S384x1024
  let v104 : Memref sig .tc .vmem S1x384x1024 .bf16 := (Memref.whole cc0_scratch0).slice (Rect.unit (s := S20x384x1024) ![19, 0, 0] S1x384x1024.size inb_S20x384x1024_S1x384x1024_19_0_0) (fun _ => rfl)
  let v105 : Memref sig .tc .vmem S384x1024 .bf16 := v104.squeeze S384x1024 squeezes_S1x384x1024_S384x1024
  Prog.lift (.enqueueDma v105 (.here v103) (.dma cc0_scratch17.sem) (((Memref.isWhole_whole cc0_scratch0).wordExact_slice rfl _ wordsbf16_S20x384x1024_S1x384x1024_19_0_0).reshape _ _) (((Memref.isWhole_whole main_v1_0).wordExact_slice rfl _ wordsbf16_S5x384x4096_S1x384x1024_4_0_3072).reshape _ _) ⟨Or.inl rfl, trivial⟩)
  let v106 : Memref sig .tc .hbm S1x8x128x256 .fp8e4m3 := (Memref.whole main_v1_1).slice (Rect.unit (s := S5x32x128x256) ![4, 24, 0, 0] S1x8x128x256.size inb_S5x32x128x256_S1x8x128x256_4_24_0_0) (fun _ => rfl)
  let v107 : Memref sig .tc .hbm S8x128x256 .fp8e4m3 := v106.squeeze S8x128x256 squeezes_S1x8x128x256_S8x128x256
  let v108 : Memref sig .tc .vmem S1x8x128x256 .fp8e4m3 := (Memref.whole cc0_scratch3).slice (Rect.unit (s := S20x8x128x256) ![19, 0, 0, 0] S1x8x128x256.size inb_S20x8x128x256_S1x8x128x256_19_0_0_0) (fun _ => rfl)
  let v109 : Memref sig .tc .vmem S8x128x256 .fp8e4m3 := v108.squeeze S8x128x256 squeezes_S1x8x128x256_S8x128x256
  Prog.lift (.enqueueDma v109 (.here v107) (.dma cc0_scratch17.sem) (((Memref.isWhole_whole cc0_scratch3).wordExact_slice rfl _ wordsfp8e4m3_S20x8x128x256_S1x8x128x256_19_0_0_0).reshape _ _) (((Memref.isWhole_whole main_v1_1).wordExact_slice rfl _ wordsfp8e4m3_S5x32x128x256_S1x8x128x256_4_24_0_0).reshape _ _) ⟨Or.inl rfl, trivial⟩)
  let v110 : DmaSems sig S1 := cc0_scratch13.slice (Rect.unit (s := S3) ![1] S1.size inb_S3_S1_1)
  let v111 : DmaSems sig S_ := v110.squeeze S_ squeezes_S1_S_
  Prog.lift (.waitDma2 v111.sem (Memref.whole cc0_scratch11) (Memref.whole main_v1_2) (Memref.isWhole_whole cc0_scratch11).wordExact (Memref.isWhole_whole main_v1_2).wordExact)
  Scf.Loop.for k0_t2_loop k0_t2_ok ⟨⟩ (k0_t2_body (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17)
  pure ⟨⟩
/-- The kernel, with a trip's first part left open. -/
def mainP (p120 : Fin k0_t1_loop.trips → KProg (F := F) (Σ' (arg29 : BitVec 32) (v129 : BitVec 32) (v139 : BitVec 32) (c4_i32_151 : BitVec 32) (v147 : BitVec 32), BitVec 32)) : KProg (F := F) PUnit := do
  k0_part124 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17
  k0_part125 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17
  k0_part126 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17
  pre127
  Scf.Loop.for k0_t1_loop k0_t1_ok ⟨⟩ (fun t _ => bodyP p120 t)
  endP
theorem part127_eq : k0_part127 (F := F) (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 = (do
  pre127
  pure ⟨v96c, v97c⟩) := by
  rw [k0_part127_eq_skeleton]
  rfl
theorem carry_eq : cc0_ssd_carry (F := F) (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 = mainP (fun t => k0_part120 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 0#32 1#32 t) := by
  rw [cc0_ssd_carry_eq_skeleton]
  unfold cc0_ssd_carry_skel mainP
  rw [part127_eq]
  simp only [bind_assoc, pure_bind]
  rfl

section Inv
variable (c : Dev nD) (I : Ins F) (J : Junk F)

theorem ofEq {P Q : sProp 𝕄} (h : P = Q) : Q ⊢ P := by subst h; exact .rfl
theorem WP_wand {α : Type} {p : KProg (F := F) α} {Q Q' : α → sProp 𝕄} : iprop(WP c p Q ∗ (∀ a, Q a -∗ Q' a)) ⊢ WP c p Q' := wp_wand_r _ _ _

abbrev sA0 : DmaSem sig := ⟨0, by decide⟩
abbrev sA1 : DmaSem sig := ⟨1, by decide⟩
abbrev sA2 : DmaSem sig := ⟨2, by decide⟩
theorem l5 : 0 < 5 := by decide
theorem l0 : 0 < 20 := by decide
theorem l1 : 1 < 20 := by decide
theorem l2 : 2 < 20 := by decide
theorem l3 : 3 < 20 := by decide

/-! ### The small copies -/

def DFd : Fin 1 → sProp 𝕄 := fun _ => iprop(pt c bFde Finset.univ I.fde ∗ pt c mFde Finset.univ I.fde)
instance (t : Fin 1) : Storable (upEmb : UEmb _ 𝕄) (DFd c I t) := by unfold DFd; infer_instance
theorem startFd {h1 : (mFde).view.WordExact} {h2 : (bFde).view.WordExact} {h3 : DmaTarget.Typed (nD := nD) (p := (c : Thread nD τ).2) _ (SemLoc.dma ((cc0_scratch13.slice (Rect.unit (s := S3) ![0] S1.size inb_S3_S1_0)).squeeze S_ squeezes_S1_S_).sem) (.here bFde)}
    {α : Type} {k : PUnit → KProg (F := F) α} {Q : α → sProp 𝕄} :
    iprop(pt c mFde Finset.univ I.fde ∗ pt c bFde Finset.univ J.fde ∗ semVal ((c : Thread nD τ), SemLoc.dma sA0) 0)
      ⊢ iprop((MB c sA0 (fun _ : Fin 1 => 16) (DFd c I) 1 0 -∗ WP c (k ⟨⟩) Q)
        -∗ WP c (Prog.lift (.enqueueDma mFde (.here bFde) (.dma ((cc0_scratch13.slice (Rect.unit (s := S3) ![0] S1.size inb_S3_S1_0)).squeeze S_ squeezes_S1_S_).sem) h1 h2 h3) >>= k) Q) := by
  iintro ⟨H1, H2, Hs⟩ Hk
  imod (dalloc c sA0 (fun _ : Fin 1 => 16) (DFd c I)) $$ Hs with HB
  iapply (dstart c (src := mFde) (dst := bFde) sA0 (semA 0) (O := Finset.univ) (W := Finset.univ) (fs := I.fde) (fd := J.fde) (G := I.fde) (n := 1) (A := fun _ => 16) (D := DFd c I) (j := 0) (u := 0)
    (View.set_whole _) (View.set_whole _) (by decide) (by show RefSig.tileCredit _ _ = _; decide +kernel) (Nat.zero_le _) (fun x => rfl) (by unfold DFd; exact Entails.rfl)) $$ [H1 H2 HB]
  · isplitl [H1]; · iexact H1
    isplitl [H2]; · iexact H2
    iexact HB
  iexact Hk
theorem waitFd {h1 : (mFde).view.WordExact} {h2 : (bFde).view.WordExact} {α : Type} {k : PUnit → KProg (F := F) α} {Q : α → sProp 𝕄} :
    iprop(MB c sA0 (fun _ : Fin 1 => 16) (DFd c I) 1 0 ∗ Owes (F := F) c)
      ⊢ iprop((iprop((pt c bFde Finset.univ I.fde ∗ pt c mFde Finset.univ I.fde) ∗ semVal ((c : Thread nD τ), SemLoc.dma sA0) 0 ∗ Owes (F := F) c) -∗ WP c (k ⟨⟩) Q)
        -∗ WP c (Prog.lift (.waitDma2 ((cc0_scratch13.slice (Rect.unit (s := S3) ![0] S1.size inb_S3_S1_0)).squeeze S_ squeezes_S1_S_).sem mFde bFde h1 h2) >>= k) Q) := by
  unfold Owes
  iintro ⟨HB, %W, HO⟩ Hk
  iapply (dwaitAll c sA0 (semA 0) (A := fun _ : Fin 1 => 16) (D := DFd c I) (n := 1) (u := 0) 16 (by show RefSig.tileCredit _ _ = _; decide +kernel) (fun _ => by decide) (by decide)) $$ [HB HO]
  · isplitl [HB]; · iexact HB
    iexact HO
  rw [show bigSep Finset.univ (DFd c I) = iprop(pt c bFde Finset.univ I.fde ∗ pt c mFde Finset.univ I.fde) from BI.bigSep_univ_of_subsingleton 0]
  iintro ⟨HB, Hs, HO⟩
  iapply Hk
  isplitl [HB]; · iexact HB
  isplitl [Hs]; · iexact Hs
  iexists _
  iexact HO
def DAl : Fin 1 → sProp 𝕄 := fun _ => iprop(pt c bAl Finset.univ I.al ∗ pt c mAl Finset.univ I.al)
instance (t : Fin 1) : Storable (upEmb : UEmb _ 𝕄) (DAl c I t) := by unfold DAl; infer_instance
theorem startAl {h1 : (mAl).view.WordExact} {h2 : (bAl).view.WordExact} {h3 : DmaTarget.Typed (nD := nD) (p := (c : Thread nD τ).2) _ (SemLoc.dma ((cc0_scratch13.slice (Rect.unit (s := S3) ![2] S1.size inb_S3_S1_2)).squeeze S_ squeezes_S1_S_).sem) (.here bAl)}
    {α : Type} {k : PUnit → KProg (F := F) α} {Q : α → sProp 𝕄} :
    iprop(pt c mAl Finset.univ I.al ∗ pt c bAl Finset.univ J.al ∗ semVal ((c : Thread nD τ), SemLoc.dma sA2) 0)
      ⊢ iprop((MB c sA2 (fun _ : Fin 1 => 16) (DAl c I) 1 0 -∗ WP c (k ⟨⟩) Q)
        -∗ WP c (Prog.lift (.enqueueDma mAl (.here bAl) (.dma ((cc0_scratch13.slice (Rect.unit (s := S3) ![2] S1.size inb_S3_S1_2)).squeeze S_ squeezes_S1_S_).sem) h1 h2 h3) >>= k) Q) := by
  iintro ⟨H1, H2, Hs⟩ Hk
  imod (dalloc c sA2 (fun _ : Fin 1 => 16) (DAl c I)) $$ Hs with HB
  iapply (dstart c (src := mAl) (dst := bAl) sA2 (semA 2) (O := Finset.univ) (W := Finset.univ) (fs := I.al) (fd := J.al) (G := I.al) (n := 1) (A := fun _ => 16) (D := DAl c I) (j := 0) (u := 0)
    (View.set_whole _) (View.set_whole _) (by decide) (by show RefSig.tileCredit _ _ = _; decide +kernel) (Nat.zero_le _) (fun x => rfl) (by unfold DAl; exact Entails.rfl)) $$ [H1 H2 HB]
  · isplitl [H1]; · iexact H1
    isplitl [H2]; · iexact H2
    iexact HB
  iexact Hk
theorem waitAl {h1 : (mAl).view.WordExact} {h2 : (bAl).view.WordExact} {α : Type} {k : PUnit → KProg (F := F) α} {Q : α → sProp 𝕄} :
    iprop(MB c sA2 (fun _ : Fin 1 => 16) (DAl c I) 1 0 ∗ Owes (F := F) c)
      ⊢ iprop((iprop((pt c bAl Finset.univ I.al ∗ pt c mAl Finset.univ I.al) ∗ semVal ((c : Thread nD τ), SemLoc.dma sA2) 0 ∗ Owes (F := F) c) -∗ WP c (k ⟨⟩) Q)
        -∗ WP c (Prog.lift (.waitDma2 ((cc0_scratch13.slice (Rect.unit (s := S3) ![2] S1.size inb_S3_S1_2)).squeeze S_ squeezes_S1_S_).sem mAl bAl h1 h2) >>= k) Q) := by
  unfold Owes
  iintro ⟨HB, %W, HO⟩ Hk
  iapply (dwaitAll c sA2 (semA 2) (A := fun _ : Fin 1 => 16) (D := DAl c I) (n := 1) (u := 0) 16 (by show RefSig.tileCredit _ _ = _; decide +kernel) (fun _ => by decide) (by decide)) $$ [HB HO]
  · isplitl [HB]; · iexact HB
    iexact HO
  rw [show bigSep Finset.univ (DAl c I) = iprop(pt c bAl Finset.univ I.al ∗ pt c mAl Finset.univ I.al) from BI.bigSep_univ_of_subsingleton 0]
  iintro ⟨HB, Hs, HO⟩
  iapply Hk
  isplitl [HB]; · iexact HB
  isplitl [Hs]; · iexact Hs
  iexists _
  iexact HO
def DSc : Fin 1 → sProp 𝕄 := fun _ => iprop(pt c bSc Finset.univ I.scl ∗ pt c mScl Finset.univ I.scl)
instance (t : Fin 1) : Storable (upEmb : UEmb _ 𝕄) (DSc c I t) := by unfold DSc; infer_instance
theorem startSc {h1 : (mScl).view.WordExact} {h2 : (bSc).view.WordExact} {h3 : DmaTarget.Typed (nD := nD) (p := (c : Thread nD τ).2) _ (SemLoc.dma ((cc0_scratch13.slice (Rect.unit (s := S3) ![1] S1.size inb_S3_S1_1)).squeeze S_ squeezes_S1_S_).sem) (.here bSc)}
    {α : Type} {k : PUnit → KProg (F := F) α} {Q : α → sProp 𝕄} :
    iprop(pt c mScl Finset.univ I.scl ∗ pt c bSc Finset.univ J.scl ∗ semVal ((c : Thread nD τ), SemLoc.dma sA1) 0)
      ⊢ iprop((MB c sA1 (fun _ : Fin 1 => 2560) (DSc c I) 1 0 -∗ WP c (k ⟨⟩) Q)
        -∗ WP c (Prog.lift (.enqueueDma mScl (.here bSc) (.dma ((cc0_scratch13.slice (Rect.unit (s := S3) ![1] S1.size inb_S3_S1_1)).squeeze S_ squeezes_S1_S_).sem) h1 h2 h3) >>= k) Q) := by
  iintro ⟨H1, H2, Hs⟩ Hk
  imod (dalloc c sA1 (fun _ : Fin 1 => 2560) (DSc c I)) $$ Hs with HB
  iapply (dstart c (src := mScl) (dst := bSc) sA1 (semA 1) (O := Finset.univ) (W := Finset.univ) (fs := I.scl) (fd := J.scl) (G := I.scl) (n := 1) (A := fun _ => 2560) (D := DSc c I) (j := 0) (u := 0)
    (View.set_whole _) (View.set_whole _) (by decide) (by show RefSig.tileCredit _ _ = _; decide +kernel) (Nat.zero_le _) (fun x => rfl) (by unfold DSc; exact Entails.rfl)) $$ [H1 H2 HB]
  · isplitl [H1]; · iexact H1
    isplitl [H2]; · iexact H2
    iexact HB
  iexact Hk
theorem waitSc {h1 : (mScl).view.WordExact} {h2 : (bSc).view.WordExact} {α : Type} {k : PUnit → KProg (F := F) α} {Q : α → sProp 𝕄} :
    iprop(MB c sA1 (fun _ : Fin 1 => 2560) (DSc c I) 1 0 ∗ Owes (F := F) c)
      ⊢ iprop((iprop((pt c bSc Finset.univ I.scl ∗ pt c mScl Finset.univ I.scl) ∗ semVal ((c : Thread nD τ), SemLoc.dma sA1) 0 ∗ Owes (F := F) c) -∗ WP c (k ⟨⟩) Q)
        -∗ WP c (Prog.lift (.waitDma2 ((cc0_scratch13.slice (Rect.unit (s := S3) ![1] S1.size inb_S3_S1_1)).squeeze S_ squeezes_S1_S_).sem mScl bSc h1 h2) >>= k) Q) := by
  unfold Owes
  iintro ⟨HB, %W, HO⟩ Hk
  iapply (dwaitAll c sA1 (semA 1) (A := fun _ : Fin 1 => 2560) (D := DSc c I) (n := 1) (u := 0) 2560 (by show RefSig.tileCredit _ _ = _; decide +kernel) (fun _ => by decide) (by decide)) $$ [HB HO]
  · isplitl [HB]; · iexact HB
    iexact HO
  rw [show bigSep Finset.univ (DSc c I) = iprop(pt c bSc Finset.univ I.scl ∗ pt c mScl Finset.univ I.scl) from BI.bigSep_univ_of_subsingleton 0]
  iintro ⟨HB, Hs, HO⟩
  iapply Hk
  isplitl [HB]; · iexact HB
  isplitl [Hs]; · iexact Hs
  iexists _
  iexact HO
def DSo : Fin 1 → sProp 𝕄 := fun _ => iprop(pt c oS Finset.univ (SO I) ∗ pt c bSo Finset.univ (SO I))
instance (t : Fin 1) : Storable (upEmb : UEmb _ 𝕄) (DSo c I t) := by unfold DSo; infer_instance
theorem startSo {h1 : (bSo).view.WordExact} {h2 : (oS).view.WordExact} {h3 : DmaTarget.Typed (nD := nD) (p := (c : Thread nD τ).2) _ (SemLoc.dma ((cc0_scratch13.slice (Rect.unit (s := S3) ![1] S1.size inb_S3_S1_1)).squeeze S_ squeezes_S1_S_).sem) (.here oS)}
    {α : Type} {k : PUnit → KProg (F := F) α} {Q : α → sProp 𝕄} :
    iprop(pt c bSo Finset.univ (SO I) ∗ pt c oS Finset.univ J.os ∗ semVal ((c : Thread nD τ), SemLoc.dma sA1) 0)
      ⊢ iprop((MB c sA1 (fun _ : Fin 1 => 2560) (DSo c I) 1 0 -∗ WP c (k ⟨⟩) Q)
        -∗ WP c (Prog.lift (.enqueueDma bSo (.here oS) (.dma ((cc0_scratch13.slice (Rect.unit (s := S3) ![1] S1.size inb_S3_S1_1)).squeeze S_ squeezes_S1_S_).sem) h1 h2 h3) >>= k) Q) := by
  iintro ⟨H1, H2, Hs⟩ Hk
  imod (dalloc c sA1 (fun _ : Fin 1 => 2560) (DSo c I)) $$ Hs with HB
  iapply (dstart c (src := bSo) (dst := oS) sA1 (semA 1) (O := Finset.univ) (W := Finset.univ) (fs := (SO I)) (fd := J.os) (G := (SO I)) (n := 1) (A := fun _ => 2560) (D := DSo c I) (j := 0) (u := 0)
    (View.set_whole _) (View.set_whole _) (by decide) (by show RefSig.tileCredit _ _ = _; decide +kernel) (Nat.zero_le _) (fun x => rfl) (by unfold DSo; exact Entails.rfl)) $$ [H1 H2 HB]
  · isplitl [H1]; · iexact H1
    isplitl [H2]; · iexact H2
    iexact HB
  iexact Hk
theorem waitSo {h1 : (bSo).view.WordExact} {h2 : (oS).view.WordExact} {α : Type} {k : PUnit → KProg (F := F) α} {Q : α → sProp 𝕄} :
    iprop(MB c sA1 (fun _ : Fin 1 => 2560) (DSo c I) 1 0 ∗ Owes (F := F) c)
      ⊢ iprop((iprop((pt c oS Finset.univ (SO I) ∗ pt c bSo Finset.univ (SO I)) ∗ semVal ((c : Thread nD τ), SemLoc.dma sA1) 0 ∗ Owes (F := F) c) -∗ WP c (k ⟨⟩) Q)
        -∗ WP c (Prog.lift (.waitDma2 ((cc0_scratch13.slice (Rect.unit (s := S3) ![1] S1.size inb_S3_S1_1)).squeeze S_ squeezes_S1_S_).sem bSo oS h1 h2) >>= k) Q) := by
  unfold Owes
  iintro ⟨HB, %W, HO⟩ Hk
  iapply (dwaitAll c sA1 (semA 1) (A := fun _ : Fin 1 => 2560) (D := DSo c I) (n := 1) (u := 0) 2560 (by show RefSig.tileCredit _ _ = _; decide +kernel) (fun _ => by decide) (by decide)) $$ [HB HO]
  · isplitl [HB]; · iexact HB
    iexact HO
  rw [show bigSep Finset.univ (DSo c I) = iprop(pt c oS Finset.univ (SO I) ∗ pt c bSo Finset.univ (SO I)) from BI.bigSep_univ_of_subsingleton 0]
  iintro ⟨HB, Hs, HO⟩
  iapply Hk
  isplitl [HB]; · iexact HB
  isplitl [Hs]; · iexact Hs
  iexists _
  iexact HO

/-! ### The results' last transfers -/

theorem AO_pos (t : Fin 40) : 0 < AO t := by unfold AO; split <;> decide
theorem AO_total : Transfers.sumTo AO 40 = 655360 := by decide +kernel
theorem tlt2 : ∀ t : Fin k0_t2_loop.trips, t.val < 20 := by decide +kernel
/-- One pair of results waited for. -/
theorem drain (t : Fin k0_t2_loop.trips) (a : Unit) :
    iprop(MB c sO AO (DO c I) 40 (t.val * 32768) ∗ Owes (F := F) c) ⊢ WP c (k0_t2_body (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t a) (fun _ => iprop(MB c sO AO (DO c I) 40 ((t.val + 1) * 32768) ∗ Owes (F := F) c)) := by
  unfold k0_t2_body
  rw [k0_part123_eq_skeleton]
  unfold k0_part123_skel
  simp only [bind_assoc, pure_bind]
  have ht := tlt2 t
  unfold Owes
  iintro ⟨HB, %W, HO⟩
  iapply (dwait c sO semO (A := AO) (D := DO c I) (n := 40) (j := 40) (u := t.val * 32768) JY (crY _) (by rw [AO_total]; show _ + 24576 ≤ _; omega)) $$ [HB HO]
  · isplitl [HB]; · iexact HB
    iexact HO
  iintro ⟨HB, HO⟩
  iapply (dwait c sO semO (A := AO) (D := DO c I) (n := 40) (j := 40) (u := t.val * 32768 + JY) JQ (crQ _) (by rw [AO_total]; show _ + 24576 + 8192 ≤ _; omega)) $$ [HB HO]
  · isplitl [HB]; · iexact HB
    iexact HO
  iintro ⟨HB, HO⟩
  iapply (WP_ret c)
  isplitl [HB]
  · rw [show t.val * 32768 + JY + JQ = (t.val + 1) * 32768 by show _ + 24576 + 8192 = _; omega]
    iexact HB
  iexists _
  iexact HO

/-- After the loop: the last unit is sent, the scales are sent, and everything is waited for. -/
theorem end_spec : iprop(bigSep Finset.univ (UOut c I J 20 19) ∗ MB c sO AO (DO c I) (2 * 19) 0 ∗ pt c bSo Finset.univ (SO I) ∗ pt c oS Finset.univ J.os
      ∗ semVal ((c : Thread nD τ), SemLoc.dma sA1) 0 ∗ Owes (F := F) c)
    ⊢ WP c endP (fun _ => iprop(((pt c oY Finset.univ (YO I) ∗ pt c bY Finset.univ (YFin I)) ∗ (pt c oQ Finset.univ (QO I) ∗ pt c bQ Finset.univ (QF (dat I)))) ∗ (pt c oS Finset.univ (SO I) ∗ pt c bSo Finset.univ (SO I))
      ∗ semVal ((c : Thread nD τ), SemLoc.dma sA1) 0 ∗ semVal ((c : Thread nD τ), SemLoc.dma sO) 0 ∗ Owes (F := F) c)) := by
  unfold endP
  simp only [bind_assoc, pure_bind]
  iintro ⟨HT, HB, Hso, Hos, Hs1, HO⟩
  iapply (startSo c I J) $$ [Hso Hos Hs1]
  · isplitl [Hso]; · iexact Hso
    isplitl [Hos]; · iexact Hos
    iexact Hs1
  iintro HS
  ihave H2 := (upd (⟨19, by decide⟩ : Fin 20) (UOut c I J 20 19) (UOut c I J 20 20)
    (fun v hv => UOut_congr c I J (by have := Fin.val_ne_of_ne hv; simp only at this; omega) Iff.rfl) _ _
    (UOut_ready c I J (by decide) (by decide) (by decide)) (UOut_sent c I J (by decide) (by decide))) $$ HT
  icases H2 with ⟨HX, Hback⟩
  unfold UReady
  icases HX with ⟨A1, A2, B1, B2⟩
  iapply (sendY c I J (u := 19) (by decide) rfl rfl) $$ [A1 B1 HB]
  · isplitl [A1]; · iexact A1
    isplitl [B1]; · iexact B1
    iexact HB
  iintro HB
  iapply (sendQ c I J (u := 19) (by decide) rfl rfl) $$ [A2 B2 HB]
  · isplitl [A2]; · iexact A2
    isplitl [B2]; · iexact B2
    iexact HB
  iintro HB
  iapply (waitSo c I) $$ [HS HO]
  · isplitl [HS]; · iexact HS
    iexact HO
  iintro ⟨HS, Hs1, HO⟩
  iapply (Scf.wp_for_bind _ _ _ _ _ _ _ _ _ (fun k _ => iprop(MB c sO AO (DO c I) 40 (k * 32768) ∗ Owes (F := F) c)) (fun t a => drain c I t a)) $$ [HB HO]
  · isplitl [HB]
    · rw [show 0 * 32768 = 0 from rfl]
      iexact HB
    iexact HO
  iintro %_ ⟨HB, HO⟩
  rw [show (Scf.trips k0_t2_loop.lb k0_t2_loop.ub k0_t2_loop.st) * 32768 = Transfers.sumTo AO 40 by rw [AO_total]; decide +kernel]
  imod (Transfers.mixedBatch_collect' (EC (F := F)) (c : Thread nD τ) AO_pos) $$ HB with ⟨HD, HsO⟩
  ihave HD := (ofEq (oDone c I)) $$ HD
  iapply (WP_ret c)
  isplitl [HD]; · iexact HD
  isplitl [HS]; · iexact HS
  isplitl [Hs1]; · iexact Hs1
  isplitl [HsO]; · iexact HsO
  iexact HO

/-! ### From the whole arrays to the whole arrays -/

def sems5 : sProp 𝕄 := iprop(bigSep Finset.univ (fun u : Fin 5 => semVal ((c : Thread nD τ), SemLoc.dma (cD u.val u.isLt)) 0) ∗ bigSep Finset.univ (fun u : Fin 5 => semVal ((c : Thread nD τ), SemLoc.dma (cC u.val u.isLt)) 0))
def sems20 : sProp 𝕄 := bigSep Finset.univ (fun u : Fin 20 => semVal ((c : Thread nD τ), SemLoc.dma (cU u.val u.isLt)) 0)
def sems : sProp 𝕄 := iprop((semVal ((c : Thread nD τ), SemLoc.dma sA0) 0 ∗ semVal ((c : Thread nD τ), SemLoc.dma sA1) 0 ∗ semVal ((c : Thread nD τ), SemLoc.dma sA2) 0)
  ∗ sems5 c ∗ sems20 c ∗ semVal ((c : Thread nD τ), SemLoc.dma sO) 0)
/-- The operands. -/
def ArgsH : sProp 𝕄 := iprop(pt c mY Finset.univ I.y ∗ pt c mC Finset.univ I.cc ∗ pt c mDt Finset.univ I.dt ∗ pt c mAl Finset.univ I.al ∗ pt c mCodes Finset.univ I.codes ∗ pt c mScl Finset.univ I.scl ∗ pt c mHl Finset.univ I.hl ∗ pt c mFde Finset.univ I.fde)
/-- The results, before and after. -/
def Out0 : sProp 𝕄 := iprop(pt c oY Finset.univ J.oy ∗ pt c oQ Finset.univ J.oq ∗ pt c oS Finset.univ J.os)
def Out1 : sProp 𝕄 := iprop(pt c oY Finset.univ (YO I) ∗ pt c oQ Finset.univ (QO I) ∗ pt c oS Finset.univ (SO I))
/-- The scratch, before and after. -/
def Scratch0 : sProp 𝕄 := iprop(pt c bY Finset.univ J.y ∗ pt c bH Finset.univ J.h ∗ pt c bCo Finset.univ J.co ∗ pt c bQ Finset.univ J.q ∗ pt c bC Finset.univ J.cc ∗ pt c bCg Finset.univ J.cg ∗ pt c bDt Finset.univ J.dt ∗ pt c bW Finset.univ J.w ∗ pt c bFd Finset.univ J.fd ∗ pt c bAl Finset.univ J.al ∗ pt c bSc Finset.univ J.scl ∗ pt c bSo Finset.univ J.so ∗ pt c bFde Finset.univ J.fde)
def Scratch1 : sProp 𝕄 := iprop(pt c bY Finset.univ (YFin I) ∗ pt c bH Finset.univ (stH I.hl) ∗ pt c bCo Finset.univ (stH I.codes) ∗ pt c bQ Finset.univ (QF (dat I)) ∗ pt c bC Finset.univ I.cc ∗ pt c bCg Finset.univ (CgI I (bF 4)) ∗ pt c bDt Finset.univ I.dt ∗ pt c bW Finset.univ (WtI I (bF 4)) ∗ pt c bFd Finset.univ (FdI I (bF 4)) ∗ pt c bAl Finset.univ I.al ∗ pt c bSc Finset.univ I.scl ∗ pt c bSo Finset.univ (SO I) ∗ pt c bFde Finset.univ I.fde)

/-- The kernel leaves the results at the values the invariant speaks of. -/
theorem run_spec (p120 : Fin k0_t1_loop.trips → KProg (F := F) (Σ' (arg29 : BitVec 32) (v129 : BitVec 32) (v139 : BitVec 32) (c4_i32_151 : BitVec 32) (v147 : BitVec 32), BitVec 32)) (h120 : Spec120 c I J p120) :
    iprop(ArgsH c I ∗ Out0 c J ∗ Scratch0 c J ∗ sems (F := F) c ∗ Owes (F := F) c)
      ⊢ WP c (mainP p120) (fun _ => iprop(ArgsH c I ∗ Out1 c I ∗ Scratch1 c I ∗ sems (F := F) c ∗ Owes (F := F) c)) := by
  unfold mainP ArgsH Out0 Out1 Scratch0 Scratch1 sems sems5 sems20
  rw [k0_part124_eq_skeleton, k0_part125_eq_skeleton, k0_part126_eq_skeleton]
  unfold k0_part124_skel k0_part125_skel k0_part126_skel pre127
  simp only [bind_assoc, pure_bind]
  iintro ⟨⟨HmY, HmC, HmDt, HmAl, HmCodes, HmScl, HmHl, HmFde⟩, ⟨HoY, HoQ, HoS⟩, ⟨HbY, HbH, HbCo, HbQ, HbC, HbCg, HbDt, HbW, HbFd, HbAl, HbSc, HbSo, HbFde⟩, ⟨⟨S0, S1, S2⟩, ⟨SD, SC⟩, SU, SO⟩, HO⟩
  ihave HU := (Entails.of_eq (uFresh c I J)) $$ [HmCodes HmHl HmY HbCo HbH HbY SU]
  · isplitl [HmCodes]; · iexact HmCodes
    isplitl [HmHl]; · iexact HmHl
    isplitl [HmY]; · iexact HmY
    isplitl [HbCo]; · iexact HbCo
    isplitl [HbH]; · iexact HbH
    isplitl [HbY]; · iexact HbY
    iexact SU
  ihave HT := (Entails.of_eq (uWait c I J)) $$ [HbQ HoY HoQ]
  · isplitl [HbQ]; · iexact HbQ
    isplitl [HoY]; · iexact HoY
    iexact HoQ
  ihave HBt := (Entails.of_eq (bFresh c I J)) $$ [HmDt HmC HbDt HbC SD SC]
  · isplitl [HmDt]; · iexact HmDt
    isplitl [HmC]; · iexact HmC
    isplitl [HbDt]; · iexact HbDt
    isplitl [HbC]; · iexact HbC
    isplitl [SD]; · iexact SD
    iexact SC
  iapply (startFd c I J) $$ [HmFde HbFde S0]
  · isplitl [HmFde]; · iexact HmFde
    isplitl [HbFde]; · iexact HbFde
    iexact S0
  iintro M0
  iapply (startAl c I J) $$ [HmAl HbAl S2]
  · isplitl [HmAl]; · iexact HmAl
    isplitl [HbAl]; · iexact HbAl
    iexact S2
  iintro M2
  iapply (startSc c I J) $$ [HmScl HbSc S1]
  · isplitl [HmScl]; · iexact HmScl
    isplitl [HbSc]; · iexact HbSc
    iexact S1
  iintro M1
  ihave H2 := (upd (⟨0, by decide⟩ : Fin 5) (BIn c I J 0 0) (BIn c I J 1 0)
    (fun v hv => BIn_congr c I J Iff.rfl (by have := Fin.val_ne_of_ne hv; simp only at this; omega)) _ _
    (BIn_fresh c I J (by decide) (by decide) (by decide)) (BIn_flight c I J (by decide) (by decide) (by decide))) $$ HBt
  icases H2 with ⟨HX, Hback⟩
  unfold BFresh
  icases HX with ⟨A1, A2, B1, B2, Hs1, Hs2⟩
  imod (dalloc c (cD 0 l5) AD (DD c I 0)) $$ Hs1 with HB1
  imod (dalloc c (cC 0 l5) AC (DC c I 0)) $$ Hs2 with HB2
  iapply (startD c I J (b := 0) (by decide) rfl rfl rfl) $$ [A1 B1 HB1]
  · isplitl [A1]; · iexact A1
    isplitl [B1]; · iexact B1
    iexact HB1
  iintro HB1
  iapply (startC c I J (b := 0) (by decide) rfl rfl rfl) $$ [A2 B2 HB2]
  · isplitl [A2]; · iexact A2
    isplitl [B2]; · iexact B2
    iexact HB2
  iintro HB2
  ihave HBt := Hback $$ [HB1 HB2]
  · unfold BFlight
    isplitl [HB1]; · iexact HB1
    iexact HB2
  ihave H2 := (upd (⟨0, by decide⟩ : Fin 20) (UIn c I J 0 0) (UIn c I J 1 0)
    (fun v hv => UIn_congr c I J Iff.rfl (by have := Fin.val_ne_of_ne hv; simp only at this; omega)) _ _
    (UIn_fresh c I J (by decide) (by decide) (by decide)) (UIn_flight c I J (by decide) (by decide) (by decide))) $$ HU
  icases H2 with ⟨HX, Hback⟩
  unfold UFresh
  icases HX with ⟨A1, A2, A3, B1, B2, B3, Hs⟩
  imod (dalloc c (cU 0 l0) AU (DU c I 0)) $$ Hs with HB
  iapply (startCo c I J (u := 0) (by decide) rfl rfl rfl) $$ [A1 B1 HB]
  · isplitl [A1]; · iexact A1
    isplitl [B1]; · iexact B1
    iexact HB
  iintro HB
  iapply (startH c I J (u := 0) (by decide) rfl rfl rfl) $$ [A2 B2 HB]
  · isplitl [A2]; · iexact A2
    isplitl [B2]; · iexact B2
    iexact HB
  iintro HB
  iapply (startY c I J (u := 0) (by decide) rfl rfl rfl) $$ [A3 B3 HB]
  · isplitl [A3]; · iexact A3
    isplitl [B3]; · iexact B3
    iexact HB
  iintro HB
  ihave HU := Hback $$ [HB]
  · unfold UFlight
    iexact HB
  ihave H2 := (upd (⟨1, by decide⟩ : Fin 20) (UIn c I J 1 0) (UIn c I J 2 0)
    (fun v hv => UIn_congr c I J Iff.rfl (by have := Fin.val_ne_of_ne hv; simp only at this; omega)) _ _
    (UIn_fresh c I J (by decide) (by decide) (by decide)) (UIn_flight c I J (by decide) (by decide) (by decide))) $$ HU
  icases H2 with ⟨HX, Hback⟩
  unfold UFresh
  icases HX with ⟨A1, A2, A3, B1, B2, B3, Hs⟩
  imod (dalloc c (cU 1 l1) AU (DU c I 1)) $$ Hs with HB
  iapply (startCo c I J (u := 1) (by decide) rfl rfl rfl) $$ [A1 B1 HB]
  · isplitl [A1]; · iexact A1
    isplitl [B1]; · iexact B1
    iexact HB
  iintro HB
  iapply (startH c I J (u := 1) (by decide) rfl rfl rfl) $$ [A2 B2 HB]
  · isplitl [A2]; · iexact A2
    isplitl [B2]; · iexact B2
    iexact HB
  iintro HB
  iapply (startY c I J (u := 1) (by decide) rfl rfl rfl) $$ [A3 B3 HB]
  · isplitl [A3]; · iexact A3
    isplitl [B3]; · iexact B3
    iexact HB
  iintro HB
  ihave HU := Hback $$ [HB]
  · unfold UFlight
    iexact HB
  ihave H2 := (upd (⟨2, by decide⟩ : Fin 20) (UIn c I J 2 0) (UIn c I J 3 0)
    (fun v hv => UIn_congr c I J Iff.rfl (by have := Fin.val_ne_of_ne hv; simp only at this; omega)) _ _
    (UIn_fresh c I J (by decide) (by decide) (by decide)) (UIn_flight c I J (by decide) (by decide) (by decide))) $$ HU
  icases H2 with ⟨HX, Hback⟩
  unfold UFresh
  icases HX with ⟨A1, A2, A3, B1, B2, B3, Hs⟩
  imod (dalloc c (cU 2 l2) AU (DU c I 2)) $$ Hs with HB
  iapply (startCo c I J (u := 2) (by decide) rfl rfl rfl) $$ [A1 B1 HB]
  · isplitl [A1]; · iexact A1
    isplitl [B1]; · iexact B1
    iexact HB
  iintro HB
  iapply (startH c I J (u := 2) (by decide) rfl rfl rfl) $$ [A2 B2 HB]
  · isplitl [A2]; · iexact A2
    isplitl [B2]; · iexact B2
    iexact HB
  iintro HB
  iapply (startY c I J (u := 2) (by decide) rfl rfl rfl) $$ [A3 B3 HB]
  · isplitl [A3]; · iexact A3
    isplitl [B3]; · iexact B3
    iexact HB
  iintro HB
  ihave HU := Hback $$ [HB]
  · unfold UFlight
    iexact HB
  ihave H2 := (upd (⟨3, by decide⟩ : Fin 20) (UIn c I J 3 0) (UIn c I J 4 0)
    (fun v hv => UIn_congr c I J Iff.rfl (by have := Fin.val_ne_of_ne hv; simp only at this; omega)) _ _
    (UIn_fresh c I J (by decide) (by decide) (by decide)) (UIn_flight c I J (by decide) (by decide) (by decide))) $$ HU
  icases H2 with ⟨HX, Hback⟩
  unfold UFresh
  icases HX with ⟨A1, A2, A3, B1, B2, B3, Hs⟩
  imod (dalloc c (cU 3 l3) AU (DU c I 3)) $$ Hs with HB
  iapply (startCo c I J (u := 3) (by decide) rfl rfl rfl) $$ [A1 B1 HB]
  · isplitl [A1]; · iexact A1
    isplitl [B1]; · iexact B1
    iexact HB
  iintro HB
  iapply (startH c I J (u := 3) (by decide) rfl rfl rfl) $$ [A2 B2 HB]
  · isplitl [A2]; · iexact A2
    isplitl [B2]; · iexact B2
    iexact HB
  iintro HB
  iapply (startY c I J (u := 3) (by decide) rfl rfl rfl) $$ [A3 B3 HB]
  · isplitl [A3]; · iexact A3
    isplitl [B3]; · iexact B3
    iexact HB
  iintro HB
  ihave HU := Hback $$ [HB]
  · unfold UFlight
    iexact HB
  iapply (waitFd c I) $$ [M0 HO]
  · isplitl [M0]; · iexact M0
    iexact HO
  iintro ⟨⟨HbFde, HmFde⟩, S0, HO⟩
  iapply (waitAl c I) $$ [M2 HO]
  · isplitl [M2]; · iexact M2
    iexact HO
  iintro ⟨⟨HbAl, HmAl⟩, S2, HO⟩
  iapply (waitSc c I) $$ [M1 HO]
  · isplitl [M1]; · iexact M1
    iexact HO
  iintro ⟨⟨HbSc, HmScl⟩, S1, HO⟩
  imod (dalloc c sO AO (DO c I)) $$ SO with HM
  iapply (Scf.wp_for_bind _ _ _ _ _ _ _ _ _ (fun k _ => INV c I J k) (fun t a => trip c I J p120 h120 t)) $$ [HU HT HBt HbW HbFd HbCg HbSo HbSc HbAl HbFde HM HO]
  · unfold INV Scr
    isplitl [HU]; · iexact HU
    isplitl [HT]; · iexact HT
    isplitl [HBt]; · iexact HBt
    isplitl [HbW HbFd HbCg]
    · isplitl [HbW]; · iexact HbW
      isplitl [HbFd]; · iexact HbFd
      iexact HbCg
    isplitl [HbSo]; · rw [Sst_zero]; iexact HbSo
    isplitl [HbSc]; · iexact HbSc
    isplitl [HbAl]; · iexact HbAl
    isplitl [HbFde]; · iexact HbFde
    isplitl [HM]; · iexact HM
    iexact HO
  iintro %_ HI
  rw [show Scf.trips k0_t1_loop.lb k0_t1_loop.ub k0_t1_loop.st = 20 by decide +kernel]
  unfold INV Scr
  rw [Sst_full]
  icases HI with ⟨HU, HT, HBt, ⟨HbW, HbFd, HbCg⟩, HbSo, HbSc, HbAl, HbFde, HM, HO⟩
  iapply (WP_wand c (Q := fun _ => iprop(((pt c oY Finset.univ (YO I) ∗ pt c bY Finset.univ (YFin I)) ∗ (pt c oQ Finset.univ (QO I) ∗ pt c bQ Finset.univ (QF (dat I)))) ∗ (pt c oS Finset.univ (SO I) ∗ pt c bSo Finset.univ (SO I))
      ∗ semVal ((c : Thread nD τ), SemLoc.dma sA1) 0 ∗ semVal ((c : Thread nD τ), SemLoc.dma sO) 0 ∗ Owes (F := F) c)))
  isplitl [HT HM HbSo HoS S1 HO]
  · iapply (end_spec c I J)
    isplitl [HT]; · iexact HT
    isplitl [HM]; · iexact HM
    isplitl [HbSo]; · iexact HbSo
    isplitl [HoS]; · iexact HoS
    isplitl [S1]; · iexact S1
    iexact HO
  iintro %_ ⟨⟨⟨HoY, HbY⟩, ⟨HoQ, HbQ⟩⟩, ⟨HoS, HbSo⟩, S1, SO, HO⟩
  ihave HU := (Entails.of_eq (uDone c I J).symm) $$ HU
  icases HU with ⟨HmCodes, HmHl, HmY, HbCo, HbH, SU⟩
  ihave HBt := (Entails.of_eq (bDone c I J).symm) $$ HBt
  icases HBt with ⟨HmDt, HmC, HbDt, HbC, SD, SC⟩
  isplitl [HmY HmC HmDt HmAl HmCodes HmScl HmHl HmFde]
  · isplitl [HmY]; · iexact HmY
    isplitl [HmC]; · iexact HmC
    isplitl [HmDt]; · iexact HmDt
    isplitl [HmAl]; · iexact HmAl
    isplitl [HmCodes]; · iexact HmCodes
    isplitl [HmScl]; · iexact HmScl
    isplitl [HmHl]; · iexact HmHl
    iexact HmFde
  isplitl [HoY HoQ HoS]
  · isplitl [HoY]; · iexact HoY
    isplitl [HoQ]; · iexact HoQ
    iexact HoS
  isplitl [HbY HbH HbCo HbQ HbC HbCg HbDt HbW HbFd HbAl HbSc HbSo HbFde]
  · isplitl [HbY]; · iexact HbY
    isplitl [HbH]; · iexact HbH
    isplitl [HbCo]; · iexact HbCo
    isplitl [HbQ]; · iexact HbQ
    isplitl [HbC]; · iexact HbC
    isplitl [HbCg]; · iexact HbCg
    isplitl [HbDt]; · iexact HbDt
    isplitl [HbW]; · iexact HbW
    isplitl [HbFd]; · iexact HbFd
    isplitl [HbAl]; · iexact HbAl
    isplitl [HbSc]; · iexact HbSc
    isplitl [HbSo]; · iexact HbSo
    iexact HbFde
  isplitl [S0 S1 S2 SD SC SU SO]
  · isplitl [S0 S1 S2]
    · isplitl [S0]; · iexact S0
      isplitl [S1]; · iexact S1
      iexact S2
    isplitl [SD SC]
    · isplitl [SD]; · iexact SD
      iexact SC
    isplitl [SU]; · iexact SU
    iexact SO
  iexact HO

end Inv

end Cert.KernelIdeal.Run
-- ==== Proof.EndsIdeal.lean ====
module

public import proofs.«01_k».proof.Proof.BodyIdeal
public import Idealize.ShloMosaic.Lib.Pipeline.FrameValue

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Rows F]

local notation "𝕄" => MT nD τ sig Unit (Elt F) ℕ (Pipeline.UD sig nD τ) ℕ

/-! # The whole run, between the resources a launch lends and takes back -/

/-- The kernel's cells. -/
abbrev osem0 : Fin 34 → SemLoc sig := fun j => SemLoc.dma j
theorem ownSemFacts0 : Pipeline.OwnSemFacts (cfg0.spec) osem0 := by decide
/-- The operands, which the kernel reads. -/
def H0 : Finset (Ref sig .tc) := {main_arg0, main_arg1, main_arg2, main_v0, main_arg4, main_arg5, main_arg6, main_arg7}
/-- The results, which it writes. -/
def R0 : Finset (Ref sig .tc) := {main_v1_0, main_v1_1, main_v1_2}
theorem H0_sub : H0 ⊆ Pipeline.restRefs sig (cfg0.spec) := by decide
theorem R0_sub : R0 ⊆ Pipeline.restRefs sig (cfg0.spec) \ H0 := by decide

section Ends
variable (c : Dev nD)

theorem sep_assoc_eq (P Q R : sProp 𝕄) : (iprop((P ∗ Q) ∗ R) : sProp 𝕄) = iprop(P ∗ Q ∗ R) := equiv_iff.mp ⟨BI.sep_assoc, BI.sep_assoc'⟩
set_option maxRecDepth 65536 in
theorem sems_eq : (Pipeline.ownSems0 (Ix := Unit) (Name := ℕ) (U := Pipeline.UD sig nD τ) (Lvl := ℕ) (Val := Elt F) (τ := τ) osem0 c : sProp 𝕄) = sems (F := F) c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33] (by decide) (by decide)]
  unfold sems sems5 sems20
  rw [BI.bigSep_eq_bigSepL_of_eq [0, 1, 2, 3, 4] (by decide) (by decide) (fun u : Fin 5 => (semVal ((c : Thread nD τ), SemLoc.dma (cD u.val u.isLt)) 0 : sProp 𝕄)),
    BI.bigSep_eq_bigSepL_of_eq [0, 1, 2, 3, 4] (by decide) (by decide) (fun u : Fin 5 => (semVal ((c : Thread nD τ), SemLoc.dma (cC u.val u.isLt)) 0 : sProp 𝕄)),
    BI.bigSep_eq_bigSepL_of_eq [0, 1, 2, 3, 4, 5, 6, 7, 8, 9, 10, 11, 12, 13, 14, 15, 16, 17, 18, 19] (by decide) (by decide) (fun u : Fin 20 => (semVal ((c : Thread nD τ), SemLoc.dma (cU u.val u.isLt)) 0 : sProp 𝕄))]
  simp only [BI.bigSepL_cons_cons, BI.bigSepL_singleton]
  have e : ∀ s : Fin 34 → sProp 𝕄, (iprop(s 0 ∗ s 1 ∗ s 2 ∗ s 3 ∗ s 4 ∗ s 5 ∗ s 6 ∗ s 7 ∗ s 8 ∗ s 9 ∗ s 10 ∗ s 11 ∗ s 12 ∗ s 13 ∗ s 14 ∗ s 15 ∗ s 16 ∗ s 17 ∗ s 18 ∗ s 19 ∗ s 20 ∗ s 21 ∗ s 22 ∗ s 23 ∗ s 24 ∗ s 25 ∗ s 26 ∗ s 27 ∗ s 28 ∗ s 29 ∗ s 30 ∗ s 31 ∗ s 32 ∗ s 33) : sProp 𝕄) = iprop((s 0 ∗ s 1 ∗ s 2) ∗ ((s 3 ∗ s 4 ∗ s 5 ∗ s 6 ∗ s 7) ∗ (s 8 ∗ s 9 ∗ s 10 ∗ s 11 ∗ s 12)) ∗ (s 13 ∗ s 14 ∗ s 15 ∗ s 16 ∗ s 17 ∗ s 18 ∗ s 19 ∗ s 20 ∗ s 21 ∗ s 22 ∗ s 23 ∗ s 24 ∗ s 25 ∗ s 26 ∗ s 27 ∗ s 28 ∗ s 29 ∗ s 30 ∗ s 31 ∗ s 32) ∗ s 33) := fun s => by simp only [sep_assoc_eq]
  exact e (fun j => semVal ((c : Thread nD τ), SemLoc.dma j) 0)

variable (V : (c : Dev nD) → (b : Ref sig .tc) → Buf (Elt F) ((c : Thread nD τ).loc b)) (cg : Dev nD → Fin 5 → Vec F S4x384x256 .bf16)
/-- The operands of a launch. -/
def insOf : Ins F := ⟨V c main_arg0, V c main_arg1, V c main_arg2, V c main_v0, V c main_arg4, V c main_arg5, V c main_arg6, V c main_arg7, cg c⟩
/-- What the kernel leaves in the arrays. -/
def GG (b : Ref sig .tc) : Buf (Elt F) ((c : Thread nD τ).loc b) :=
  Function.update (Function.update (Function.update (V c) main_v1_0 (YO (insOf c V cg))) main_v1_1 (QO (insOf c V cg))) main_v1_2 (SO (insOf c V cg)) b
theorem GG_0 : GG c V cg main_v1_0 = YO (insOf c V cg) := by
  unfold GG
  rw [Function.update_of_ne (by decide), Function.update_of_ne (by decide), Function.update_self]
theorem GG_1 : GG c V cg main_v1_1 = QO (insOf c V cg) := by
  unfold GG
  rw [Function.update_of_ne (by decide), Function.update_self]
theorem GG_2 : GG c V cg main_v1_2 = SO (insOf c V cg) := by
  unfold GG
  rw [Function.update_self]

/-- The scratch, at any contents. -/
def ScrA : sProp 𝕄 := iprop((∃ f, pt (F := F) c bY Finset.univ f) ∗ (∃ f, pt (F := F) c bH Finset.univ f) ∗ (∃ f, pt (F := F) c bCo Finset.univ f) ∗ (∃ f, pt (F := F) c bQ Finset.univ f) ∗ (∃ f, pt (F := F) c bC Finset.univ f) ∗ (∃ f, pt (F := F) c bCg Finset.univ f) ∗ (∃ f, pt (F := F) c bDt Finset.univ f) ∗ (∃ f, pt (F := F) c bW Finset.univ f) ∗ (∃ f, pt (F := F) c bFd Finset.univ f) ∗ (∃ f, pt (F := F) c bAl Finset.univ f) ∗ (∃ f, pt (F := F) c bSc Finset.univ f) ∗ (∃ f, pt (F := F) c bSo Finset.univ f) ∗ (∃ f, pt (F := F) c bFde Finset.univ f))
theorem args_eq : (bigSep H0 (fun b => ((c : Thread nD τ).loc b) ↦{fullShare} V c b) : sProp 𝕄) = ArgsH c (insOf c V cg) := by
  rw [BI.bigSep_eq_bigSepL_of_eq [main_arg0, main_arg1, main_arg2, main_v0, main_arg4, main_arg5, main_arg6, main_arg7] (by decide) (by decide)]; rfl
theorem outs_eq (W : (b : Ref sig .tc) → Buf (Elt F) ((c : Thread nD τ).loc b)) : (Pipeline.routed R0 c W : sProp 𝕄)
    = iprop(pt c oY Finset.univ (W main_v1_0) ∗ pt c oQ Finset.univ (W main_v1_1) ∗ pt c oS Finset.univ (W main_v1_2)) := by
  unfold Pipeline.routed
  rw [BI.bigSep_eq_bigSepL_of_eq [main_v1_0, main_v1_1, main_v1_2] (by decide) (by decide)]; rfl
theorem scr_eq : (Pipeline.scopedRest (Ix := Unit) (Name := ℕ) (U := Pipeline.UD sig nD τ) (Lvl := ℕ) (Val := Elt F) (cfg0.spec) c : sProp 𝕄) = ScrA (F := F) c := by
  rw [scopedRest0_eq]; rfl

theorem ends_eq (W : (c : Dev nD) → (b : Ref sig .tc) → Buf (Elt F) ((c : Thread nD τ).loc b)) :
    (Pipeline.ΦDRG osem0 (cfg0.spec) H0 R0 V W c : sProp 𝕄)
      = iprop(ScrA (F := F) c ∗ (∃ r, prngReg c r) ∗ sems (F := F) c ∗ ArgsH c (insOf c V cg)
          ∗ (pt c oY Finset.univ (W c main_v1_0) ∗ pt c oQ Finset.univ (W c main_v1_1) ∗ pt c oS Finset.univ (W c main_v1_2))) := by
  rw [Pipeline.ΦDRG_eq, scr_eq, sems_eq, args_eq c V cg, outs_eq]

/-- The body takes the operands' launch contents to the results'. -/
theorem run_ends (p120 : Fin k0_t1_loop.trips → KProg (F := F) (Σ' (arg29 : BitVec 32) (v129 : BitVec 32) (v139 : BitVec 32) (c4_i32_151 : BitVec 32) (v147 : BitVec 32), BitVec 32)) (h : ∀ J : Junk F, Spec120 c (insOf c V cg) J p120) :
    iprop((Pipeline.ΦDRG osem0 (cfg0.spec) H0 R0 V V c : sProp 𝕄) ∗ Owes (F := F) c)
      ⊢ WP c (mainP p120) (fun _ => iprop((Pipeline.ΦDRG osem0 (cfg0.spec) H0 R0 V (fun c => GG c V cg) c : sProp 𝕄) ∗ Owes (F := F) c)) := by
  rw [ends_eq c V cg, ends_eq c V cg]
  simp only [GG_0, GG_1, GG_2]
  unfold ScrA
  iintro ⟨⟨⟨⟨%f0, HbY⟩, ⟨%f1, HbH⟩, ⟨%f2, HbCo⟩, ⟨%f3, HbQ⟩, ⟨%f4, HbC⟩, ⟨%f5, HbCg⟩, ⟨%f6, HbDt⟩, ⟨%f7, HbW⟩, ⟨%f8, HbFd⟩, ⟨%f9, HbAl⟩, ⟨%f10, HbSc⟩, ⟨%f11, HbSo⟩, ⟨%f12, HbFde⟩⟩, Hg, HS, HA, HR⟩, HO⟩
  iapply (WP_wand c (Q := fun _ => iprop(ArgsH c (insOf c V cg) ∗ Out1 c (insOf c V cg) ∗ Scratch1 c (insOf c V cg) ∗ sems (F := F) c ∗ Owes (F := F) c)))
  isplitl [HbY HbH HbCo HbQ HbC HbCg HbDt HbW HbFd HbAl HbSc HbSo HbFde HS HA HR HO]
  · iapply (run_spec c (insOf c V cg) ({ y := f0, h := f1, co := f2, q := f3, cc := f4, cg := f5, dt := f6, w := f7, fd := f8, al := f9, scl := f10, so := f11, fde := f12, oy := V c main_v1_0, oq := V c main_v1_1, os := V c main_v1_2 } : Junk F) p120 (h _))
    unfold Out0 Scratch0
    isplitl [HA]; · iexact HA
    isplitl [HR]; · iexact HR
    isplitl [HbY HbH HbCo HbQ HbC HbCg HbDt HbW HbFd HbAl HbSc HbSo HbFde]
    · isplitl [HbY]; · iexact HbY
      isplitl [HbH]; · iexact HbH
      isplitl [HbCo]; · iexact HbCo
      isplitl [HbQ]; · iexact HbQ
      isplitl [HbC]; · iexact HbC
      isplitl [HbCg]; · iexact HbCg
      isplitl [HbDt]; · iexact HbDt
      isplitl [HbW]; · iexact HbW
      isplitl [HbFd]; · iexact HbFd
      isplitl [HbAl]; · iexact HbAl
      isplitl [HbSc]; · iexact HbSc
      isplitl [HbSo]; · iexact HbSo
      iexact HbFde
    isplitl [HS]; · iexact HS
    iexact HO
  iintro %a ⟨HA, HR, HX, HS, HO⟩
  unfold Out1 Scratch1
  icases HX with ⟨HbY, HbH, HbCo, HbQ, HbC, HbCg, HbDt, HbW, HbFd, HbAl, HbSc, HbSo, HbFde⟩
  isplitr [HO]
  · isplitl [HbY HbH HbCo HbQ HbC HbCg HbDt HbW HbFd HbAl HbSc HbSo HbFde]
    · isplitl [HbY]; · iexists _; iexact HbY
      isplitl [HbH]; · iexists _; iexact HbH
      isplitl [HbCo]; · iexists _; iexact HbCo
      isplitl [HbQ]; · iexists _; iexact HbQ
      isplitl [HbC]; · iexists _; iexact HbC
      isplitl [HbCg]; · iexists _; iexact HbCg
      isplitl [HbDt]; · iexists _; iexact HbDt
      isplitl [HbW]; · iexists _; iexact HbW
      isplitl [HbFd]; · iexists _; iexact HbFd
      isplitl [HbAl]; · iexists _; iexact HbAl
      isplitl [HbSc]; · iexists _; iexact HbSc
      isplitl [HbSo]; · iexists _; iexact HbSo
      iexists _; iexact HbFde
    isplitl [Hg]; · iexact Hg
    isplitl [HS]; · iexact HS
    isplitl [HA]; · iexact HA
    iexact HR
  iexact HO
end Ends

end Cert.KernelIdeal.Run

end
-- ==== Proof.LaunchIdeal.lean ====
module

public import proofs.«01_k».proof.Proof.EndsIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (BodyObligation)

variable {F : FTy → Type} [FloatOps F]

local notation "𝕄" => MT nD τ sig Unit (Elt F) ℕ (Pipeline.UD sig nD τ) ℕ

/-! # The kernel's launch -/

instance rowsIdeal : Rows F := ⟨defs₀ (F := F)⟩

variable (m : (ℓ : Loc nD τ sig) → Buf (Elt F) ℓ) (ρ : Dev nD → PrngReg)

/-- The rows of `c`, as the kernel stages a batch of them. -/
def cgL (c : Dev nD) : Fin 5 → Vec F S4x384x256 .bf16 := fun b => CgV (V m c main_arg1) b
/-- The launch's operands. -/
abbrev insL (c : Dev nD) : Ins F := insOf c (V m) (cgL m)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data of the one region: no window; what the body holds before it runs, and after. -/
def dats (_ : Fin 1) (c : Dev nD) : Pipeline.Dat τ (Elt F) Unit ℕ (Pipeline.UD sig nD τ) ℕ cfg0 c where
  A w := V m c (Pipeline.arrRef (cfg0.spec) w)
  after w t := Fin.elim0 w
  Φ t := Pipeline.ΦDRG osem0 (cfg0.spec) H0 R0 (V m) (if t.val = 0 then V m else fun c => GG c (V m) (cgL m)) c
  q _ := fullShare
  owed _ := 0

theorem body_run (c : Dev nD) (X : sProp 𝕄) :
    iprop((dats m 0 c).Φ (t0_0 : Fin cfg0.N).castSucc ∗ (dats m 0 c).owesAt () (t0_0 : Fin cfg0.N).castSucc ∗ X)
      ⊢ wp frame (wpE (defs₀ (F := F)) Variants.none c none) Set.univ (bodyAt0 t0_0)
          (fun _ => iprop((dats m 0 c).Φ (t0_0 : Fin cfg0.N).succ ∗ (dats m 0 c).owesAt () (t0_0 : Fin cfg0.N).succ ∗ X)) := by
  rw [show (dats m 0 c).Φ (t0_0 : Fin cfg0.N).castSucc = Pipeline.ΦDRG osem0 (cfg0.spec) H0 R0 (V m) (V m) c from rfl,
    show (dats m 0 c).Φ (t0_0 : Fin cfg0.N).succ = Pipeline.ΦDRG osem0 (cfg0.spec) H0 R0 (V m) (fun c => GG c (V m) (cgL m)) c from rfl]
  unfold Pipeline.Dat.owesAt Pipeline.owesWithin
  rw [show (dats m 0 c).owed (t0_0 : Fin cfg0.N).castSucc = 0 from rfl, show (dats m 0 c).owed (t0_0 : Fin cfg0.N).succ = 0 from rfl]
  rw [show bodyAt0 (F := F) t0_0 = _ from carry_eq]
  iintro ⟨HP, ⟨%W, -, HW⟩, HX⟩
  iapply (WP_wand c (Q := fun _ => iprop((Pipeline.ΦDRG osem0 (cfg0.spec) H0 R0 (V m) (fun c => GG c (V m) (cgL m)) c : sProp 𝕄) ∗ Owes (F := F) c)))
  isplitl [HP HW]
  · iapply (run_ends c (V m) (cgL m) (fun t => k0_part120 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 0#32 1#32 t) (fun J => spec120 c _ J (fun _ => rfl)))
    isplitl [HP]; · iexact HP
    unfold Owes
    iexists W; iexact HW
  unfold Owes
  iintro %a ⟨HP, ⟨%W', HW'⟩⟩
  isplitl [HP]; · iexact HP
  isplitl [HW']
  · iexists W'; isplitr; · ipureintro; exact fun _ _ => Or.inl trivial
    iexact HW'
  iexact HX

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have e : ∀ Φ Ψ : Fin cfg0.W → sProp 𝕄, bigSep Finset.univ Φ = bigSep Finset.univ Ψ := fun Φ Ψ => congrArg _ (funext fun w => Fin.elim0 w)
  obtain rfl : t = t0_0 := fin_N0 t
  rw [defs₀_row]
  exact triple_restated (body_run m c _) rfl .rfl fun _ => BI.sep_mono (ofEq rfl) (BI.sep_mono (ofEq rfl) (ofEq (e _ _)))

set_option backward.isDefEq.respectTransparency.types false in
theorem run_main : θ_run defs (onTc (τ := τ) (main (F := F))) (s₀ m ρ)
    (fun r => Pipeline.FramePostRG cfgs (dats m) 0 R0 (V m) (fun c => GG c (V m) (cgL m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ _ => rfl) (G := fun c => GG c (V m) (cgL m))
    (hin := fun _ => .rfl) (hout := fun _ => .rfl)

/-- The run: the operands are left as they were, every counter at zero, and the results hold what the invariant says. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
      ∧ ∀ c : Dev nD, r.2.mem ((c.tc : Thread nD τ).loc main_v1_0) = YO (insL m c) ∧ r.2.mem ((c.tc : Thread nD τ).loc main_v1_1) = QO (insL m c)
        ∧ r.2.mem ((c.tc : Thread nD τ).loc main_v1_2) = SO (insL m c)) :=
  (θ_run defs _ _).mono (fun _ h => ⟨⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c)⟩, h.2⟩,
    fun c => ⟨(h.1.written c (by decide)).trans (GG_0 c (V m) (cgL m)), (h.1.written c (by decide)).trans (GG_1 c (V m) (cgL m)), (h.1.written c (by decide)).trans (GG_2 c (V m) (cgL m))⟩⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => h.1) (run m ρ)

end Cert.KernelIdeal.Run

end
-- ==== Proof.PartsKernel.lean ====
module

public import proofs.«01_k».proof.Proof.EndsIdeal
public import proofs.«01_k».proof.Proof.Gen.Kernel.Skeleton
public import proofs.«01_k».proof.Proof.Gen.Kernel.Loops

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [BitOps F] [Rows F]

local notation "𝕄" => MT nD τ sig Unit (Elt F) ℕ (Pipeline.UD sig nD τ) ℕ

/-! # The kernel itself: its preparation of the rows of `c` and its first part of a trip -/

set_option maxRecDepth 65536
set_option maxHeartbeats 0

section Ops
/-- What preparing a batch does once its running sums are started. -/
def prepOpsK (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (k0_h1 : k0_cond1 k0_t1 = 1#1) (v263 : FVec F S384x32 .f32) (v264 : IVec S8x32 32) (v265 : FVec F S1x32 .f32) (v272 : FVec F S8x32 .f32) (c2 : BitVec 32) :
    KProg (F := F) (Σ' (v1383 : IVec S384x256 32), FVec F S384x256 .bf16) := do
  let w : Elt F .i32 ← smemLoad arg23 (Rect.unit (s := S5) (k0_off8 k0_t1) S1.size (k0_off8_inb k0_t1 k0_h1)) numel1_S1 rfl
  let _ : Vec F S1x384x8 .f32 ← Prog.lift (.load arg18 (Rect.unit (s := S4x384x8) ![0, 0, 0] S1x384x8.size inb_S4x384x8_S1x384x8_0_0_0).toLoadRect (View.loadsAt_vmem h_S1x384x8))
  Prog.lift (.store arg18 (Rect.unit (s := S4x384x8) ![0, 0, 0] S1x384x8.size inb_S4x384x8_S1x384x8_0_0_0) (wts0 v263 v264 v265 v272 c2 w) Finset.univ (View.stores_vmem_bits_univ h_S1x384x8 rfl) (.inl rfl))
  let _ : Vec F S1x1x8 .f32 ← Prog.lift (.load arg19 (Rect.unit (s := S4x1x8) ![0, 0, 0] S1x1x8.size inb_S4x1x8_S1x1x8_0_0_0).toLoadRect (View.loadsAt_vmem h_S1x1x8))
  Prog.lift (.store arg19 (Rect.unit (s := S4x1x8) ![0, 0, 0] S1x1x8.size inb_S4x1x8_S1x1x8_0_0_0) (k0_pay127 (fin0 v263 v264 v265 v272 c2)) Finset.univ (View.stores_vmem_bits_univ h_S1x1x8 rfl) (.inl rfl))
  let _ : Vec F S1x384x8 .f32 ← Prog.lift (.load arg18 (Rect.unit (s := S4x384x8) ![1, 0, 0] S1x384x8.size inb_S4x384x8_S1x384x8_1_0_0).toLoadRect (View.loadsAt_vmem h_S1x384x8))
  Prog.lift (.store arg18 (Rect.unit (s := S4x384x8) ![1, 0, 0] S1x384x8.size inb_S4x384x8_S1x384x8_1_0_0) (k0_pay128 (wts v263 v264 v265 v272 c2 w)) Finset.univ (View.stores_vmem_bits_univ h_S1x384x8 rfl) (.inl rfl))
  let _ : Vec F S1x1x8 .f32 ← Prog.lift (.load arg19 (Rect.unit (s := S4x1x8) ![1, 0, 0] S1x1x8.size inb_S4x1x8_S1x1x8_1_0_0).toLoadRect (View.loadsAt_vmem h_S1x1x8))
  Prog.lift (.store arg19 (Rect.unit (s := S4x1x8) ![1, 0, 0] S1x1x8.size inb_S4x1x8_S1x1x8_1_0_0) (k0_pay129 (decay v263 v264 v265 v272 c2)) Finset.univ (View.stores_vmem_bits_univ h_S1x1x8 rfl) (.inl rfl))
  let _ : Vec F S1x384x8 .f32 ← Prog.lift (.load arg18 (Rect.unit (s := S4x384x8) ![2, 0, 0] S1x384x8.size inb_S4x384x8_S1x384x8_2_0_0).toLoadRect (View.loadsAt_vmem h_S1x384x8))
  Prog.lift (.store arg18 (Rect.unit (s := S4x384x8) ![2, 0, 0] S1x384x8.size inb_S4x384x8_S1x384x8_2_0_0) (k0_pay130 (wts v263 v264 v265 v272 c2 w)) Finset.univ (View.stores_vmem_bits_univ h_S1x384x8 rfl) (.inl rfl))
  let _ : Vec F S1x1x8 .f32 ← Prog.lift (.load arg19 (Rect.unit (s := S4x1x8) ![2, 0, 0] S1x1x8.size inb_S4x1x8_S1x1x8_2_0_0).toLoadRect (View.loadsAt_vmem h_S1x1x8))
  Prog.lift (.store arg19 (Rect.unit (s := S4x1x8) ![2, 0, 0] S1x1x8.size inb_S4x1x8_S1x1x8_2_0_0) (k0_pay131 (decay v263 v264 v265 v272 c2)) Finset.univ (View.stores_vmem_bits_univ h_S1x1x8 rfl) (.inl rfl))
  let _ : Vec F S1x384x8 .f32 ← Prog.lift (.load arg18 (Rect.unit (s := S4x384x8) ![3, 0, 0] S1x384x8.size inb_S4x384x8_S1x384x8_3_0_0).toLoadRect (View.loadsAt_vmem h_S1x384x8))
  Prog.lift (.store arg18 (Rect.unit (s := S4x384x8) ![3, 0, 0] S1x384x8.size inb_S4x384x8_S1x384x8_3_0_0) (k0_pay132 (wts v263 v264 v265 v272 c2 w)) Finset.univ (View.stores_vmem_bits_univ h_S1x384x8 rfl) (.inl rfl))
  let _ : Vec F S1x1x8 .f32 ← Prog.lift (.load arg19 (Rect.unit (s := S4x1x8) ![3, 0, 0] S1x1x8.size inb_S4x1x8_S1x1x8_3_0_0).toLoadRect (View.loadsAt_vmem h_S1x1x8))
  Prog.lift (.store arg19 (Rect.unit (s := S4x1x8) ![3, 0, 0] S1x1x8.size inb_S4x1x8_S1x1x8_3_0_0) (k0_pay133 (decay v263 v264 v265 v272 c2)) Finset.univ (View.stores_vmem_bits_univ h_S1x1x8 rfl) (.inl rfl))
  let r0 : Vec F S1x384x2x256 .bf16 ← Prog.lift (.load arg15 (Rect.unit (s := S5x384x4x256) (k0_off9 k0_t1) S1x384x2x256.size (k0_off9_inb k0_t1 k0_h1)).toLoadRect (View.loadsAt_vmem h_S1x384x2x256))
  let _ : Vec F S1x384x256 .bf16 ← Prog.lift (.load arg16 (Rect.unit (s := S4x384x256) ![0, 0, 0] S1x384x256.size inb_S4x384x256_S1x384x256_0_0_0).toLoadRect (View.loadsAt_vmem h_S1x384x256))
  Prog.lift (.store arg16 (Rect.unit (s := S4x384x256) ![0, 0, 0] S1x384x256.size inb_S4x384x256_S1x384x256_0_0_0) (Cert.Kernel.Gen.k0_pay136 (F := F) (Cert.Kernel.Gen.k0_pay135 (F := F) r0)) Finset.univ (View.stores_vmem h_S1x384x256 (q16.storeExact_slice rfl _ packedbf16_S4x384x256_S1x384x256_0_0_0) (fun _ => rfl)) (.inl rfl))
  let _ : Vec F S1x384x256 .bf16 ← Prog.lift (.load arg16 (Rect.unit (s := S4x384x256) ![1, 0, 0] S1x384x256.size inb_S4x384x256_S1x384x256_1_0_0).toLoadRect (View.loadsAt_vmem h_S1x384x256))
  Prog.lift (.store arg16 (Rect.unit (s := S4x384x256) ![1, 0, 0] S1x384x256.size inb_S4x384x256_S1x384x256_1_0_0) (Cert.Kernel.Gen.k0_pay137 (F := F) (Cert.Kernel.Gen.k0_pay134 (F := F) r0)) Finset.univ (View.stores_vmem h_S1x384x256 (q16.storeExact_slice rfl _ packedbf16_S4x384x256_S1x384x256_1_0_0) (fun _ => rfl)) (.inl rfl))
  let r1 : Vec F S1x384x2x256 .bf16 ← Prog.lift (.load arg15 (Rect.unit (s := S5x384x4x256) (k0_off10 k0_t1) S1x384x2x256.size (k0_off10_inb k0_t1 k0_h1)).toLoadRect (View.loadsAt_vmem h_S1x384x2x256))
  pure ⟨Cert.Kernel.Gen.k0_pay138 (F := F) r1, Cert.Kernel.Gen.k0_pay139 (F := F) r1⟩
set_option maxRecDepth 65536 in
theorem part28K_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (k0_h1 : k0_cond1 k0_t1 = 1#1) :
    Cert.Kernel.k0_part28 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1
      = k0_part1 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1 >>= fun r => prepOpsK arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 k0_h1 r.1 r.2.1 r.2.2.1 r.2.2.2.1 r.2.2.2.2 := rfl
end Ops

variable (c : Dev nD)
/-- A batch's rows of `c`, group by group. -/
def CgK (cc : Vec F S5x384x4x256 .bf16) (b : Fin 5) : Vec F S4x384x256 .bf16 :=
  rowsG (Cert.Kernel.Gen.k0_pay136 (F := F) (Cert.Kernel.Gen.k0_pay135 (F := F) (slabC cc b 0))) (Cert.Kernel.Gen.k0_pay137 (F := F) (Cert.Kernel.Gen.k0_pay134 (F := F) (slabC cc b 0))) (Cert.Kernel.Gen.k0_pay465 (F := F) (Cert.Kernel.Gen.k0_pay139 (F := F) (slabC cc b 1))) (Cert.Kernel.Gen.k0_pay466 (F := F) (Cert.Kernel.Gen.k0_pay138 (F := F) (slabC cc b 1)))

theorem prepOpsK_spec (t : Fin k0_t1_loop.trips) (h1 : k0_cond1 t = 1#1) (b : Fin 5) (hb : b.val = t.val / 4) (v263 : FVec F S384x32 .f32) (v264 : IVec S8x32 32) (v265 : FVec F S1x32 .f32) (v272 : FVec F S8x32 .f32) (c2 : BitVec 32)
    (fde : Vec F S5 .i32) (cc : Vec F S5x384x4x256 .bf16) (w0 : Vec F S4x384x8 .f32) (d0 : Vec F S4x1x8 .f32) (g0 : Vec F S4x384x256 .bf16)
    {α : Type} {k : (Σ' (v1383 : IVec S384x256 32), FVec F S384x256 .bf16) → KProg (F := F) α} {Q : α → sProp 𝕄} :
    iprop(pt c bFde Finset.univ fde ∗ pt c bC (BC b.val) cc ∗ pt c bW Finset.univ w0 ∗ pt c bFd Finset.univ d0 ∗ pt c bCg Finset.univ g0)
      ⊢ iprop((iprop(pt c bFde Finset.univ fde ∗ pt c bC (BC b.val) cc ∗ pt c bW Finset.univ (WtV v263 v264 v265 v272 c2 (fde (ix1 b))) ∗ pt c bFd Finset.univ (FdV v263 v264 v265 v272 c2)
            ∗ pt c bCg Finset.univ (updG 2 (CgK cc b) g0)) -∗ WP c (k ⟨Cert.Kernel.Gen.k0_pay138 (F := F) (slabC cc b 1), Cert.Kernel.Gen.k0_pay139 (F := F) (slabC cc b 1)⟩) Q)
        -∗ WP c (prepOpsK (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 t h1 v263 v264 v265 v272 c2 >>= k) Q) := by
  unfold prepOpsK
  simp only [bind_assoc, pure_bind]
  have e8 := o8 t h1
  have e9 := o9 t h1
  have e10 := o10 t h1
  rw [← hb] at e8 e9 e10
  have c0 : ((Memref.whole cc0_scratch4 : Memref sig .tc .vmem S5x384x4x256 .bf16).access (Rect.unit (s := S5x384x4x256) (k0_off9 t) S1x384x2x256.size (k0_off9_inb t h1))).read (Elt F) cc = slabC cc b 0 :=
    funext fun j => congrArg cc (embC (b := b) (p := 0) e9 j)
  have c1 : ((Memref.whole cc0_scratch4 : Memref sig .tc .vmem S5x384x4x256 .bf16).access (Rect.unit (s := S5x384x4x256) (k0_off10 t) S1x384x2x256.size (k0_off10_inb t h1))).read (Elt F) cc = slabC cc b 1 :=
    funext fun j => congrArg cc (embC (b := b) (p := 1) e10 j)
  rw [← updW_zero (WtV v263 v264 v265 v272 c2 (fde (ix1 b))) w0, ← updD_zero (FdV v263 v264 v265 v272 c2) d0, ← updG_zero (CgK cc b) g0]
  iintro ⟨Hf, Hc, Hw, Hd, Hg⟩ Hk
  iapply (ldFde c (b := b) e8 fde) $$ Hf; iintro Hf
  iapply (ldW c _) $$ Hw; iintro Hw %_
  iapply (stW c (g := 0) (by decide) rfl 1 rfl (WtV v263 v264 v265 v272 c2 (fde (ix1 b))) w0 (fun z => (rowsW_at _ _ _ _ (0 : Fin 4) z).symm)) $$ Hw; iintro Hw
  iapply (ldD c _) $$ Hd; iintro Hd %_
  iapply (stD c (g := 0) (by decide) rfl 1 rfl (FdV v263 v264 v265 v272 c2) d0 (fun z => (rowsD_at _ _ _ _ (0 : Fin 4) z).symm)) $$ Hd; iintro Hd
  iapply (ldW c _) $$ Hw; iintro Hw %_
  iapply (stW c (g := 1) (by decide) rfl 2 rfl (WtV v263 v264 v265 v272 c2 (fde (ix1 b))) w0 (fun z => (rowsW_at _ _ _ _ (1 : Fin 4) z).symm)) $$ Hw; iintro Hw
  iapply (ldD c _) $$ Hd; iintro Hd %_
  iapply (stD c (g := 1) (by decide) rfl 2 rfl (FdV v263 v264 v265 v272 c2) d0 (fun z => (rowsD_at _ _ _ _ (1 : Fin 4) z).symm)) $$ Hd; iintro Hd
  iapply (ldW c _) $$ Hw; iintro Hw %_
  iapply (stW c (g := 2) (by decide) rfl 3 rfl (WtV v263 v264 v265 v272 c2 (fde (ix1 b))) w0 (fun z => (rowsW_at _ _ _ _ (2 : Fin 4) z).symm)) $$ Hw; iintro Hw
  iapply (ldD c _) $$ Hd; iintro Hd %_
  iapply (stD c (g := 2) (by decide) rfl 3 rfl (FdV v263 v264 v265 v272 c2) d0 (fun z => (rowsD_at _ _ _ _ (2 : Fin 4) z).symm)) $$ Hd; iintro Hd
  iapply (ldW c _) $$ Hw; iintro Hw %_
  iapply (stW c (g := 3) (by decide) rfl 4 rfl (WtV v263 v264 v265 v272 c2 (fde (ix1 b))) w0 (fun z => (rowsW_at _ _ _ _ (3 : Fin 4) z).symm)) $$ Hw; iintro Hw
  iapply (ldD c _) $$ Hd; iintro Hd %_
  iapply (stD c (g := 3) (by decide) rfl 4 rfl (FdV v263 v264 v265 v272 c2) d0 (fun z => (rowsD_at _ _ _ _ (3 : Fin 4) z).symm)) $$ Hd; iintro Hd
  iapply (ld c (m := bC) (r := Rect.unit (s := S5x384x4x256) (k0_off9 t) S1x384x2x256.size (k0_off9_inb t h1)) (W := BC b.val) (f := cc) (by rw [acc_set]; exact subC e9)) $$ Hc; iintro Hc
  iapply (ldG c _) $$ Hg; iintro Hg %_
  iapply (stG c (g := 0) (by decide) rfl 1 rfl (CgK cc b) g0 (fun z => by rw [c0]; exact (rowsG_at (Cert.Kernel.Gen.k0_pay136 (F := F) (Cert.Kernel.Gen.k0_pay135 (F := F) (slabC cc b 0))) (Cert.Kernel.Gen.k0_pay137 (F := F) (Cert.Kernel.Gen.k0_pay134 (F := F) (slabC cc b 0))) (Cert.Kernel.Gen.k0_pay465 (F := F) (Cert.Kernel.Gen.k0_pay139 (F := F) (slabC cc b 1))) (Cert.Kernel.Gen.k0_pay466 (F := F) (Cert.Kernel.Gen.k0_pay138 (F := F) (slabC cc b 1))) (0 : Fin 4) z).symm)) $$ Hg; iintro Hg
  iapply (ldG c _) $$ Hg; iintro Hg %_
  iapply (stG c (g := 1) (by decide) rfl 2 rfl (CgK cc b) g0 (fun z => by rw [c0]; exact (rowsG_at (Cert.Kernel.Gen.k0_pay136 (F := F) (Cert.Kernel.Gen.k0_pay135 (F := F) (slabC cc b 0))) (Cert.Kernel.Gen.k0_pay137 (F := F) (Cert.Kernel.Gen.k0_pay134 (F := F) (slabC cc b 0))) (Cert.Kernel.Gen.k0_pay465 (F := F) (Cert.Kernel.Gen.k0_pay139 (F := F) (slabC cc b 1))) (Cert.Kernel.Gen.k0_pay466 (F := F) (Cert.Kernel.Gen.k0_pay138 (F := F) (slabC cc b 1))) (1 : Fin 4) z).symm)) $$ Hg; iintro Hg
  iapply (ld c (m := bC) (r := Rect.unit (s := S5x384x4x256) (k0_off10 t) S1x384x2x256.size (k0_off10_inb t h1)) (W := BC b.val) (f := cc) (by rw [acc_set]; exact subC e10)) $$ Hc; iintro Hc
  rw [updW_four, updD_four]
  rw [show ((Memref.whole cc0_scratch4 : Memref sig .tc .vmem S5x384x4x256 .bf16).access (Rect.unit (s := S5x384x4x256) (k0_off10 t) S1x384x2x256.size (k0_off10_inb t h1))).read (Elt F) cc = slabC cc b 1 from c1]
  iapply Hk
  isplitl [Hf]; · iexact Hf
  isplitl [Hc]; · iexact Hc
  isplitl [Hw]; · iexact Hw
  isplitl [Hd]; · iexact Hd
  iexact Hg

section Parts
def ifAK {α : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (kk : Prog (TpuEff nD τ sig (Elt F) Λ₀ .tc) α) : Prog (TpuEff nD τ sig (Elt F) Λ₀ .tc) α :=
  if k0_h1 : k0_cond1 k0_t1 = 1#1 then do
    let ⟨v1383, v1387⟩ : Σ' (v1383 : IVec S384x256 32), FVec F S384x256 .bf16 ← Cert.Kernel.k0_part28 arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 k0_h1
    let v1388 : Vec F S1x384x256 .bf16 ← Prog.lift (.load arg16 (Rect.unit (s := S4x384x256) ![2, 0, 0] S1x384x256.size inb_S4x384x256_S1x384x256_2_0_0).toLoadRect (View.loadsAt_vmem h_S1x384x256))
    Prog.lift (.store arg16 (Rect.unit (s := S4x384x256) ![2, 0, 0] S1x384x256.size inb_S4x384x256_S1x384x256_2_0_0) (Cert.Kernel.Gen.k0_pay465 (F := F) v1387) Finset.univ (View.stores_vmem h_S1x384x256 (q16.storeExact_slice rfl _ packedbf16_S4x384x256_S1x384x256_2_0_0) (fun _ => rfl)) (.inl rfl))
    let v1395 : Vec F S1x384x256 .bf16 ← Prog.lift (.load arg16 (Rect.unit (s := S4x384x256) ![3, 0, 0] S1x384x256.size inb_S4x384x256_S1x384x256_3_0_0).toLoadRect (View.loadsAt_vmem h_S1x384x256))
    Prog.lift (.store arg16 (Rect.unit (s := S4x384x256) ![3, 0, 0] S1x384x256.size inb_S4x384x256_S1x384x256_3_0_0) (Cert.Kernel.Gen.k0_pay466 (F := F) v1383) Finset.univ (View.stores_vmem h_S1x384x256 (q16.storeExact_slice rfl _ packedbf16_S4x384x256_S1x384x256_3_0_0) (fun _ => rfl)) (.inl rfl))
    kk
  else kk

theorem ifAK_bind {α β : Type} (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (k0_t1 : Fin k0_t1_loop.trips) (v129 : BitVec 32) (kk : Prog (TpuEff nD τ sig (Elt F) Λ₀ .tc) α) (k2 : α → Prog (TpuEff nD τ sig (Elt F) Λ₀ .tc) β) :
    ifAK arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 kk >>= k2 = ifAK arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 (kk >>= k2) := by
  unfold ifAK
  split <;> simp only [bind_assoc]
theorem part120K_eq (arg0 : MH S5x384x4096 .bf16) (q0 : arg0.IsWhole) (arg1 : MH S5x384x4x256 .bf16) (q1 : arg1.IsWhole) (arg2 : MH S5x384x32 .f32) (q2 : arg2.IsWhole) (arg3 : MH S1x32 .f32) (q3 : arg3.IsWhole) (arg4 : MH S5x32x128x256 .fp8e4m3) (q4 : arg4.IsWhole) (arg5 : MH S5x32x128 .f32) (q5 : arg5.IsWhole) (arg6 : MH S5x32x128x256 .f32) (q6 : arg6.IsWhole) (arg7 : MH S5 .i32) (q7 : arg7.IsWhole) (arg8 : MH S5x384x4096 .bf16) (q8 : arg8.IsWhole) (arg9 : MH S5x32x128x256 .fp8e4m3) (q9 : arg9.IsWhole) (arg10 : MH S5x32x128 .f32) (q10 : arg10.IsWhole) (arg11 : MV S20x384x1024 .bf16) (q11 : arg11.IsWhole) (arg12 : MV S20x8x128x256 .f32) (q12 : arg12.IsWhole) (arg13 : MV S20x8x128x256 .fp8e4m3) (q13 : arg13.IsWhole) (arg14 : MV S20x8x128x256 .fp8e4m3) (q14 : arg14.IsWhole) (arg15 : MV S5x384x4x256 .bf16) (q15 : arg15.IsWhole) (arg16 : MV S4x384x256 .bf16) (q16 : arg16.IsWhole) (arg17 : MV S5x384x32 .f32) (q17 : arg17.IsWhole) (arg18 : MV S4x384x8 .f32) (q18 : arg18.IsWhole) (arg19 : MV S4x1x8 .f32) (q19 : arg19.IsWhole) (arg20 : MV S1x32 .f32) (q20 : arg20.IsWhole) (arg21 : MV S5x32x128 .f32) (q21 : arg21.IsWhole) (arg22 : MV S5x32x128 .f32) (q22 : arg22.IsWhole) (arg23 : Memref sig .tc .smem S5 .i32) (q23 : arg23.IsWhole) (arg24 : DmaSems sig S3) (arg25 : DmaSems sig S5) (arg26 : DmaSems sig S5) (arg27 : DmaSems sig S20) (arg28 : DmaSems sig S_) (c0_i32_112 : BitVec 32) (c1_i32_113 : BitVec 32) (k0_t1 : Fin k0_t1_loop.trips) :
    Cert.Kernel.k0_part120 (F := F) arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 c0_i32_112 c1_i32_113 k0_t1 = (do
  let arg29 : BitVec 32 := Scf.iv c0_i32_112 c1_i32_113 k0_t1
  let v113 : BitVec 32 := Scalar.divsi arg29 4#32
  let v114 : BitVec 1 := Scalar.cmpi .sgt arg29 0#32
  let v115 : BitVec 32 := Scalar.extui v114
  let v116 : BitVec 1 := Scalar.cmpi .slt arg29 0#32
  let v117 : BitVec 32 := Scalar.extui v116
  let v118 : BitVec 32 := Scalar.subi v115 v117
  let v119 : BitVec 1 := Scalar.cmpi .sgt 4#32 0#32
  let v120 : BitVec 32 := Scalar.extui v119
  let v121 : BitVec 1 := Scalar.cmpi .slt 4#32 0#32
  let v122 : BitVec 32 := Scalar.extui v121
  let v123 : BitVec 32 := Scalar.subi v120 v122
  let v124 : BitVec 1 := Scalar.cmpi .ne v118 v123
  let v125 : BitVec 32 := Scalar.remsi arg29 4#32
  let v126 : BitVec 1 := Scalar.cmpi .ne v125 0#32
  let v127 : BitVec 1 := Scalar.andi v124 v126
  let v128 : BitVec 32 := Scalar.subi v113 1#32
  let v129 : BitVec 32 := Scalar.select v127 v128 v113
  let v130 : BitVec 1 := Scalar.cmpi .eq 4#32 0#32
  let v131 : BitVec 32 := Scalar.select v130 1#32 4#32
  let v132 : BitVec 32 := Scalar.remsi arg29 v131
  let v133 : BitVec 1 := Scalar.cmpi .ne v132 0#32
  let v134 : BitVec 1 := Scalar.cmpi .slt v132 0#32
  let v135 : BitVec 1 := Scalar.cmpi .slt v131 0#32
  let v136 : BitVec 1 := Scalar.xori v134 v135
  let v137 : BitVec 1 := Scalar.andi v136 v133
  let v138 : BitVec 32 := Scalar.addi v132 v131
  let v139 : BitVec 32 := Scalar.select v137 v138 v132
  ifAK arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 v129 (ifB arg0 q0 arg1 q1 arg2 q2 arg3 q3 arg4 q4 arg5 q5 arg6 q6 arg7 q7 arg8 q8 arg9 q9 arg10 q10 arg11 q11 arg12 q12 arg13 q13 arg14 q14 arg15 q15 arg16 q16 arg17 q17 arg18 q18 arg19 q19 arg20 q20 arg21 q21 arg22 q22 arg23 q23 arg24 arg25 arg26 arg27 arg28 k0_t1 arg29 (do
    let v147 : BitVec 32 := Scalar.divsi arg29 4#32
    let v148 : BitVec 1 := Scalar.cmpi .sgt arg29 0#32
    let v149 : BitVec 32 := Scalar.extui v148
    pure ⟨arg29, v129, v139, 4#32, v147, v149⟩))) := rfl
end Parts

section Inv
variable (I : Ins F) (J : Junk F)
theorem spec120K (hcg : ∀ b, I.cg b = CgK I.cc b) : Spec120 c I J (fun t => Cert.Kernel.k0_part120 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 0#32 1#32 t) := by
  intro t
  simp only [part120K_eq]
  refine Exists.intro ?_ (fun α k Q => ?_)
  rotate_left
  simp only [bind_assoc, ifAK_bind, ifB_bind, pure_bind]
  unfold ifAK
  have ht := tlt t
  by_cases h1 : k0_cond1 t = 1#1
  · rw [dif_pos h1, part28K_eq]
    simp only [bind_assoc, pure_bind]
    have hm := (cond1_iff t).mp h1
    have hb5 : t.val / 4 < 5 := by omega
    have hb : (bF (t.val / 4)).val = t.val / 4 := Nat.mod_eq_of_lt hb5
    unfold Pre120 Scr
    rw [show (t.val + 3) / 4 = t.val / 4 by omega]
    iintro ⟨HU, HBt, ⟨Hw, Hd, Hg⟩, Ha, Hf, HO⟩ Hk
    iapply (part1_spec c I J t _ h1 (bF (t.val / 4)) hb) $$ [HBt Ha HO]
    · isplitl [HBt]; · iexact HBt
      isplitl [Ha]; · iexact Ha
      iexact HO
    iintro ⟨HBt, Ha, HO⟩
    ihave H2 := (upd ⟨t.val / 4, hb5⟩ (BIn c I J (t.val / 4 + 2) (t.val / 4 + 1)) (BIn c I J (t.val / 4 + 2) (t.val / 4 + 1)) (fun v hv => rfl) _ _
      (BIn_done c I J hb5 (by omega)) (BIn_done c I J hb5 (by omega))) $$ HBt
    icases H2 with ⟨HX, Hback⟩
    unfold BDone
    icases HX with ⟨D2, C2, D1, C1, Hs1, Hs2⟩
    iapply (prepOpsK_spec c t h1 (bF (t.val / 4)) hb _ _ _ _ _ I.fde I.cc _ _ _) $$ [Hf C1 Hw Hd Hg]
    · isplitl [Hf]; · iexact Hf
      isplitl [C1]
      · rw [hb]; iexact C1
      isplitl [Hw]; · iexact Hw
      isplitl [Hd]; · iexact Hd
      iexact Hg
    iintro ⟨Hf, C1, Hw, Hd, Hg⟩
    rw [hb]
    iapply (ldG c _) $$ Hg; iintro Hg %_
    iapply (stG c (g := 2) (by decide) rfl 3 rfl (CgK I.cc (bF (t.val / 4))) _ (fun z => (rowsG_at (Cert.Kernel.Gen.k0_pay136 (F := F) (Cert.Kernel.Gen.k0_pay135 (F := F) (slabC I.cc (bF (t.val / 4)) 0))) (Cert.Kernel.Gen.k0_pay137 (F := F) (Cert.Kernel.Gen.k0_pay134 (F := F) (slabC I.cc (bF (t.val / 4)) 0))) (Cert.Kernel.Gen.k0_pay465 (F := F) (Cert.Kernel.Gen.k0_pay139 (F := F) (slabC I.cc (bF (t.val / 4)) 1))) (Cert.Kernel.Gen.k0_pay466 (F := F) (Cert.Kernel.Gen.k0_pay138 (F := F) (slabC I.cc (bF (t.val / 4)) 1))) (2 : Fin 4) z).symm)) $$ Hg; iintro Hg
    iapply (ldG c _) $$ Hg; iintro Hg %_
    iapply (stG c (g := 3) (by decide) rfl 4 rfl (CgK I.cc (bF (t.val / 4))) _ (fun z => (rowsG_at (Cert.Kernel.Gen.k0_pay136 (F := F) (Cert.Kernel.Gen.k0_pay135 (F := F) (slabC I.cc (bF (t.val / 4)) 0))) (Cert.Kernel.Gen.k0_pay137 (F := F) (Cert.Kernel.Gen.k0_pay134 (F := F) (slabC I.cc (bF (t.val / 4)) 0))) (Cert.Kernel.Gen.k0_pay465 (F := F) (Cert.Kernel.Gen.k0_pay139 (F := F) (slabC I.cc (bF (t.val / 4)) 1))) (Cert.Kernel.Gen.k0_pay466 (F := F) (Cert.Kernel.Gen.k0_pay138 (F := F) (slabC I.cc (bF (t.val / 4)) 1))) (3 : Fin 4) z).symm)) $$ Hg; iintro Hg
    rw [updG_four]
    iapply (ifB_spec c I J t _) $$ HU
    iintro HU
    iapply Hk
    unfold Post120
    rw [show (t.val + 4) / 4 = t.val / 4 + 1 by omega]
    isplitl [HU]; · iexact HU
    isplitl [Hback D1 D2 C1 C2 Hs1 Hs2]
    · iapply Hback
      isplitl [D2]; · iexact D2
      isplitl [C2]; · iexact C2
      isplitl [D1]; · iexact D1
      isplitl [C1]; · iexact C1
      isplitl [Hs1]; · iexact Hs1
      iexact Hs2
    isplitl [Hw Hd Hg]
    · unfold ScrB WtI FdI CgI
      rw [hcg]
      isplitl [Hw]; · iexact Hw
      isplitl [Hd]; · iexact Hd
      iexact Hg
    isplitl [Ha]; · iexact Ha
    isplitl [Hf]; · iexact Hf
    iexact HO
  · rw [dif_neg h1]
    have hm : ¬ t.val % 4 = 0 := fun h' => h1 ((cond1_iff t).mpr h')
    unfold Pre120 Post120 Scr ScrB
    rw [show (t.val + 3) / 4 = (t.val + 4) / 4 by omega, if_neg (show ¬ t.val = 0 by omega), if_neg (show ¬ t.val = 0 by omega), if_neg (show ¬ t.val = 0 by omega),
      show (t.val - 1) / 4 = t.val / 4 by omega]
    iintro ⟨HU, HBt, Hs, Ha, Hf, HO⟩ Hk
    iapply (ifB_spec c I J t _) $$ HU
    iintro HU
    iapply Hk
    isplitl [HU]; · iexact HU
    isplitl [HBt]; · iexact HBt
    isplitl [Hs]; · iexact Hs
    isplitl [Ha]; · iexact Ha
    isplitl [Hf]; · iexact Hf
    iexact HO

end Inv

set_option maxRecDepth 65536 in
theorem carryK_eq : Cert.Kernel.cc0_ssd_carry (F := F) (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 = mainP (fun t => Cert.Kernel.k0_part120 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 0#32 1#32 t) := by
  rw [Cert.Kernel.Gen.cc0_ssd_carry_eq_skeleton]
  unfold Cert.Kernel.Gen.cc0_ssd_carry_skel mainP
  rw [show Cert.Kernel.k0_part127 (F := F) (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 = _ from part127_eq]
  simp only [bind_assoc, pure_bind]
  rfl

end Cert.KernelIdeal.Run
-- ==== Proof.LaunchKernel.lean ====
module

public import proofs.«01_k».proof.Proof.PartsKernel
public import proofs.«01_k».proof.Proof.Gen.Kernel.Launch
public import proofs.«01_k».proof.Proof.Gen.Kernel.Points
public import proofs.«01_k».proof.Proof.Gen.Kernel.Frame

@[expose] public section

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.KernelIdeal.Run (CgK carryK_eq spec120K Rows Ins WP WP_wand ofEq GG GG_0 GG_1 GG_2 YO QO SO insOf run_ends osem0 ownSemFacts0 H0 R0 H0_sub R0_sub)
open Idealize.ShloMosaic.Pipeline (BodyObligation)

variable {F : FTy → Type} [BitOps F]

local notation "𝕄" => MT nD τ sig Unit (Elt F) ℕ (Pipeline.UD sig nD τ) ℕ

/-! # The kernel's launch -/

instance rowsKernel : Rows F := ⟨defs₀ (F := F)⟩

variable (m : (ℓ : Loc nD τ sig) → Buf (Elt F) ℓ) (ρ : Dev nD → PrngReg)

/-- The rows of `c`, as the kernel stages a batch of them. -/
def cgL (c : Dev nD) : Fin 5 → Vec F S4x384x256 .bf16 := fun b => CgK (V m c main_arg1) b
/-- The launch's operands. -/
abbrev insL (c : Dev nD) : Ins F := insOf c (V m) (cgL m)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data of the one region: no window; what the body holds before it runs, and after. -/
def dats (_ : Fin 1) (c : Dev nD) : Pipeline.Dat τ (Elt F) Unit ℕ (Pipeline.UD sig nD τ) ℕ cfg0 c where
  A w := V m c (Pipeline.arrRef (cfg0.spec) w)
  after w t := Fin.elim0 w
  Φ t := Pipeline.ΦDRG osem0 (cfg0.spec) H0 R0 (V m) (if t.val = 0 then V m else fun c => GG c (V m) (cgL m)) c
  q _ := fullShare
  owed _ := 0

set_option maxRecDepth 65536 in
set_option maxHeartbeats 0 in
theorem body_run (c : Dev nD) (X : sProp 𝕄) :
    iprop((dats m 0 c).Φ (t0_0 : Fin cfg0.N).castSucc ∗ (dats m 0 c).owesAt () (t0_0 : Fin cfg0.N).castSucc ∗ X)
      ⊢ wp frame (wpE (defs₀ (F := F)) Variants.none c none) Set.univ (bodyAt0 t0_0)
          (fun _ => iprop((dats m 0 c).Φ (t0_0 : Fin cfg0.N).succ ∗ (dats m 0 c).owesAt () (t0_0 : Fin cfg0.N).succ ∗ X)) := by
  rw [show (dats m 0 c).Φ (t0_0 : Fin cfg0.N).castSucc = Pipeline.ΦDRG osem0 (cfg0.spec) H0 R0 (V m) (V m) c from rfl,
    show (dats m 0 c).Φ (t0_0 : Fin cfg0.N).succ = Pipeline.ΦDRG osem0 (cfg0.spec) H0 R0 (V m) (fun c => GG c (V m) (cgL m)) c from rfl]
  unfold Pipeline.Dat.owesAt Pipeline.owesWithin
  rw [show (dats m 0 c).owed (t0_0 : Fin cfg0.N).castSucc = 0 from rfl, show (dats m 0 c).owed (t0_0 : Fin cfg0.N).succ = 0 from rfl]
  rw [show bodyAt0 (F := F) t0_0 = _ from carryK_eq]
  iintro ⟨HP, ⟨%W, -, HW⟩, HX⟩
  iapply (WP_wand c (Q := fun _ => iprop((Pipeline.ΦDRG osem0 (cfg0.spec) H0 R0 (V m) (fun c => GG c (V m) (cgL m)) c : sProp 𝕄) ∗ Cert.KernelIdeal.Run.Owes (F := F) c)))
  isplitl [HP HW]
  · iapply (run_ends c (V m) (cgL m) (fun t => k0_part120 (Memref.whole main_arg0) (wh _) (Memref.whole main_arg1) (wh _) (Memref.whole main_arg2) (wh _) (Memref.whole main_v0) (wh _) (Memref.whole main_arg4) (wh _) (Memref.whole main_arg5) (wh _) (Memref.whole main_arg6) (wh _) (Memref.whole main_arg7) (wh _) (Memref.whole main_v1_0) (wh _) (Memref.whole main_v1_1) (wh _) (Memref.whole main_v1_2) (wh _) (Memref.whole cc0_scratch0) (wh _) (Memref.whole cc0_scratch1) (wh _) (Memref.whole cc0_scratch2) (wh _) (Memref.whole cc0_scratch3) (wh _) (Memref.whole cc0_scratch4) (wh _) (Memref.whole cc0_scratch5) (wh _) (Memref.whole cc0_scratch6) (wh _) (Memref.whole cc0_scratch7) (wh _) (Memref.whole cc0_scratch8) (wh _) (Memref.whole cc0_scratch9) (wh _) (Memref.whole cc0_scratch10) (wh _) (Memref.whole cc0_scratch11) (wh _) (Memref.whole cc0_scratch12) (wh _) cc0_scratch13 cc0_scratch14 cc0_scratch15 cc0_scratch16 cc0_scratch17 0#32 1#32 t) (fun J => spec120K c _ J (fun _ => rfl)))
    isplitl [HP]; · iexact HP
    unfold Cert.KernelIdeal.Run.Owes
    iexists W; iexact HW
  unfold Cert.KernelIdeal.Run.Owes
  iintro %a ⟨HP, ⟨%W', HW'⟩⟩
  isplitl [HP]; · iexact HP
  isplitl [HW']
  · iexists W'; isplitr; · ipureintro; exact fun _ _ => Or.inl trivial
    iexact HW'
  iexact HX

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have e : ∀ Φ Ψ : Fin cfg0.W → sProp 𝕄, bigSep Finset.univ Φ = bigSep Finset.univ Ψ := fun Φ Ψ => congrArg _ (funext fun w => Fin.elim0 w)
  obtain rfl : t = t0_0 := fin_N0 t
  rw [defs₀_row]
  exact triple_restated (body_run m c _) rfl .rfl fun _ => BI.sep_mono (ofEq rfl) (BI.sep_mono (ofEq rfl) (ofEq (e _ _)))

set_option backward.isDefEq.respectTransparency.types false in
theorem run_main : θ_run defs (onTc (τ := τ) (main (F := F))) (s₀ m ρ)
    (fun r => Pipeline.FramePostRG cfgs (dats m) 0 R0 (V m) (fun c => GG c (V m) (cgL m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ _ => rfl) (G := fun c => GG c (V m) (cgL m))
    (hin := fun _ => .rfl) (hout := fun _ => .rfl)

/-- The run: the operands are left as they were, every counter at zero, and the results hold what the invariant says. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
      ∧ ∀ c : Dev nD, r.2.mem ((c.tc : Thread nD τ).loc main_v1_0) = YO (insL m c) ∧ r.2.mem ((c.tc : Thread nD τ).loc main_v1_1) = QO (insL m c)
        ∧ r.2.mem ((c.tc : Thread nD τ).loc main_v1_2) = SO (insL m c)) :=
  (θ_run defs _ _).mono (fun _ h => ⟨⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c)⟩, h.2⟩,
    fun c => ⟨(h.1.written c (by decide)).trans (GG_0 c (V m) (cgL m)), (h.1.written c (by decide)).trans (GG_1 c (V m) (cgL m)), (h.1.written c (by decide)).trans (GG_2 c (V m) (cgL m))⟩⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => h.1) (run m ρ)

end Cert.Kernel.Run

end
-- ==== Proof.Sums.lean ====
module

public import Idealize.ShloMosaic.Lib.Pipeline.Value
public import Idealize.ShloMosaic.Lib.StableHlo.Run
public import Idealize.ShloMosaic.Lib.MatmulPlain
public import Idealize.ShloMosaic.Lib.KernelVsHost
public import Idealize.ShloMosaic.Lib.ValueIdx
public import Idealize.ShloMosaic.Lib.ValueLayout

@[expose] public section

noncomputable section

namespace Cert.Sums

open Idealize.ShloMosaic Idealize.ShloMosaic.ValueIdx

/-! # Running sums of a column, in chunks of eight rows and as one windowed sum -/

abbrev R8 : Shape := ⟨2, ![8, 32]⟩
abbrev R1 : Shape := ⟨2, ![1, 32]⟩
abbrev R384 : Shape := ⟨2, ![384, 32]⟩
abbrev R5 : Shape := ⟨3, ![5, 384, 32]⟩

/-- The sum of a sequence's first `n` entries. -/
def P (X : ℕ → EReal) (n : ℕ) : EReal := ∑ s ∈ Finset.range n, X s

/-- Column `h` of an array of 384 rows, zero beyond them. -/
def col (A : FVec Ideal R384 .f32) (h : Fin 32) (s : ℕ) : EReal := if hs : s < 384 then A (ix2 ⟨s, hs⟩ h) else 0

/-- One step of a chunk's running sum: each row `n` or later adds the row `n` before it. -/
def step (i8 : IVec R8 32) (n : BitVec 32) (x : FVec Ideal R8 .f32) (hr : R8.Rotates 0 none) : FVec Ideal R8 .f32 :=
  addf x (select (cmpi .sge i8 (broadcast R8 n)) (dynamicRotate 0 n none x hr) (broadcast R8 (Scalar.ofBits (F := Ideal) .f32 0x00000000#32)))

/-- A chunk's running sum, from the sum before it. -/
def chunk (i8 : IVec R8 32) (x : FVec Ideal R8 .f32) (v : FVec Ideal R1 .f32) (hr : R8.Rotates 0 none) (hb : R1.Broadcasts R8) : FVec Ideal R8 .f32 :=
  addf (step i8 4#32 (step i8 2#32 (step i8 1#32 x hr) hr) hr) (broadcastTo R8 v hb)

theorem step_at (i8 : IVec R8 32) (hi8 : ∀ (j : Fin 8) (h : Fin 32), i8 (ix2 j h) = BitVec.ofNat 32 j.val) (n : ℕ) (hn : n = 1 ∨ n = 2 ∨ n = 4) (x : FVec Ideal R8 .f32) (hr : R8.Rotates 0 none) (j : Fin 8) (h : Fin 32) :
    step i8 (BitVec.ofNat 32 n) x hr (ix2 j h) = x (ix2 j h) + if n ≤ j.val then x (ix2 ⟨j.val - n, by omega⟩ h) else 0 := by
  show x (ix2 j h) + Scalar.select (IntOp.cmpi .sge (i8 (ix2 j h)) (BitVec.ofNat 32 n)) (dynamicRotate 0 (BitVec.ofNat 32 n) none x hr (ix2 j h)) (Ideal.ofBits .f32 0x00000000#32) = _
  rw [hi8 j h, Ideal.ofBits_zero_f32]
  refine congrArg (x (ix2 j h) + ·) ?_
  by_cases hj : n ≤ j.val
  · have e : IntOp.cmpi .sge (BitVec.ofNat 32 j.val) (BitVec.ofNat 32 n) = 1#1 := by
      rcases hn with rfl | rfl | rfl <;> revert hj <;> fin_cases j <;> decide
    rw [e, select_one, if_pos hj]
    refine dynamicRotate_apply 0 _ x hr (ix2 j h) (ix2 ⟨j.val - n, by omega⟩ h) fun b => ?_
    have hjl := j.isLt
    match b with
    | ⟨0, _⟩ =>
      show j.val - n = (j.val + 8 - (BitVec.ofNat 32 n).toNat % 8) % 8
      have : (BitVec.ofNat 32 n).toNat % 8 = n := by rcases hn with rfl | rfl | rfl <;> rfl
      omega
    | ⟨1, _⟩ => rfl
  · have e : IntOp.cmpi .sge (BitVec.ofNat 32 j.val) (BitVec.ofNat 32 n) = 0#1 := by
      rcases hn with rfl | rfl | rfl <;> revert hj <;> fin_cases j <;> decide
    rw [e, select_zero, if_neg hj]

theorem chunk_at (i8 : IVec R8 32) (hi8 : ∀ (j : Fin 8) (h : Fin 32), i8 (ix2 j h) = BitVec.ofNat 32 j.val) (x : FVec Ideal R8 .f32) (v : FVec Ideal R1 .f32) (hr : R8.Rotates 0 none) (hb : R1.Broadcasts R8) (X : ℕ → EReal) (h : Fin 32)
    (hx : ∀ j : Fin 8, x (ix2 j h) = X j.val) (j : Fin 8) :
    chunk i8 x v hr hb (ix2 j h) = v (ix2 0 h) + P X (j.val + 1) := by
  have hv : broadcastTo R8 v hb (ix2 j h) = v (ix2 0 h) := broadcastTo_1b_ab_apply v hb _ _
  show step i8 (BitVec.ofNat 32 4) (step i8 (BitVec.ofNat 32 2) (step i8 (BitVec.ofNat 32 1) x hr) hr) hr (ix2 j h) + broadcastTo R8 v hb (ix2 j h) = _
  rw [hv, add_comm]
  refine congrArg (v (ix2 0 h) + ·) ?_
  unfold P
  rw [step_at i8 hi8 4 (by omega)]
  simp only [step_at i8 hi8 2 (by omega), step_at i8 hi8 1 (by omega), hx]
  fin_cases j <;> simp [Finset.sum_range_succ] <;> abel

/-- What chunk `n` of the running sums holds. -/
def IsCh (A : FVec Ideal R384 .f32) (n : ℕ) (x : FVec Ideal R8 .f32) : Prop :=
  ∀ (j : Fin 8) (h : Fin 32), x (ix2 j h) = P (col A h) (8 * n + j.val + 1)

theorem ofSlice (A : FVec Ideal R384 .f32) (i8 : IVec R8 32) (hi8 : ∀ (j : Fin 8) (h : Fin 32), i8 (ix2 j h) = BitVec.ofNat 32 j.val)
    (n o : ℕ) (ho : o = 8 * n) (hn : n < 48) (v : FVec Ideal R1 .f32) (hs : R384.Slices ![o, 0] R8) (hr : R8.Rotates 0 none) (hb : R1.Broadcasts R8)
    (hv : ∀ h, v (ix2 0 h) = P (col A h) (8 * n)) : IsCh A n (chunk i8 (extractStridedSlice R8 ![o, 0] A hs) v hr hb) := by
  subst ho
  intro j h
  rw [chunk_at i8 hi8 _ v hr hb (fun s => col A h (8 * n + s)) h fun j => ?_, hv, add_assoc (8 * n)]
  · exact (Finset.sum_range_add _ _ _).symm
  · have hj := j.isLt
    have hlt : 8 * n + j.val < 384 := by omega
    show _ = col A h (8 * n + j.val)
    rw [col, dif_pos hlt]
    exact slice2_axis0_apply (8 * n) A hs j h _ rfl

/-- The first chunk: nothing before it. -/
theorem ch0 {A : FVec Ideal R384 .f32} (i8 : IVec R8 32) (hi8 : ∀ (j : Fin 8) (h : Fin 32), i8 (ix2 j h) = BitVec.ofNat 32 j.val)
    {v : FVec Ideal R1 .f32} (hv : ∀ h, v (ix2 0 h) = 0) (hs : R384.Slices ![0, 0] R8) (hr : R8.Rotates 0 none) (hb : R1.Broadcasts R8) {y : FVec Ideal R8 .f32}
    (e : y = chunk i8 (extractStridedSlice R8 ![0, 0] A hs) v hr hb) : IsCh A 0 y := by
  rw [e]
  exact ofSlice A i8 hi8 0 0 rfl (by decide) v hs hr hb fun h => (hv h).trans (by simp [P])

/-- The next chunk: from the last row of the one before. -/
theorem chS {A : FVec Ideal R384 .f32} (i8 : IVec R8 32) (hi8 : ∀ (j : Fin 8) (h : Fin 32), i8 (ix2 j h) = BitVec.ofNat 32 j.val)
    {n : ℕ} {x : FVec Ideal R8 .f32} (hx : IsCh A n x) (o : ℕ) (ho : o = 8 * (n + 1)) (hn : n + 1 < 48) (hs : R384.Slices ![o, 0] R8) (h7 : R8.Slices ![7, 0] R1) (hr : R8.Rotates 0 none) (hb : R1.Broadcasts R8) {y : FVec Ideal R8 .f32}
    (e : y = chunk i8 (extractStridedSlice R8 ![o, 0] A hs) (extractStridedSlice R1 ![7, 0] x h7) hr hb) : IsCh A (n + 1) y := by
  rw [e]
  refine ofSlice A i8 hi8 (n + 1) o ho hn _ hs hr hb fun h => ?_
  exact (slice2_axis0_apply 7 x h7 0 h 7 rfl).trans ((hx 7 h).trans (congrArg (P (col A h)) (by show 8 * n + 7 + 1 = _; omega)))

/-- Chunk `n` as an array. -/
def chv (A : FVec Ideal R384 .f32) (n : Fin 48) : FVec Ideal R8 .f32 := fun i => P (col A (i 1 : Fin 32)) (8 * n.val + (i 0 : Fin 8).val + 1)
theorem IsCh.eq {A : FVec Ideal R384 .f32} {n : ℕ} {x : FVec Ideal R8 .f32} (h : IsCh A n x) (hn : n < 48) : x = chv A ⟨n, hn⟩ :=
  funext fun i => (congrArg x (eq_ix2 i)).trans (h (i 0 : Fin 8) (i 1 : Fin 32))

theorem cat_at (A : FVec Ideal R384 .f32) (xs : List ((s : Shape) × (s.Idx → Ideal .f32))) (hxs : xs = List.ofFn fun n : Fin 48 => ⟨R8, chv A n⟩) (hc : Shape.Concatenates (xs.map (·.1)) R384 0)
    (t : Fin 384) (h : Fin 32) : concatenate R384 0 xs hc (ix2 t h) = P (col A h) (t.val + 1) := by
  subst hxs
  have ht := t.isLt
  refine (concatenate_ofFn_apply (0 : Fin R384.rank) (chv A) hc rfl 8 rfl (ix2 t h) ⟨t.val / 8, by omega⟩ rfl (ix2 ⟨t.val % 8, by omega⟩ h) rfl fun b hb => ?_).trans ?_
  · match b with
    | ⟨0, _⟩ => exact absurd rfl hb
    | ⟨1, _⟩ => rfl
  · exact congrArg (P (col A h)) (by show 8 * (t.val / 8) + t.val % 8 + 1 = _; omega)

/-! ## The windowed sum -/

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem window_sum (X : ℕ → EReal) (t : ℕ) (ht : t < 384) :
    ∑ n ∈ Finset.range 384, (if 383 ≤ t + n then X (t + n - 383) else 0) = P X (t + 1) := by
  rw [show 384 = (383 - t) + (t + 1) by omega, Finset.sum_range_add, Finset.sum_eq_zero, zero_add, P]
  · exact Finset.sum_congr rfl fun s hs => by
      rw [Finset.mem_range] at hs
      rw [if_pos (by omega)]; congr 1; omega
  · intro n hn
    rw [Finset.mem_range] at hn
    exact if_neg (by omega)

theorem cumsum_at (A : FVec Ideal R5 .f32) (z : (⟨0, ![]⟩ : Shape).Idx → Ideal .f32) (hz : ∀ i, z i = 0)
    (hw : R5.ReduceWindows ![1, 384, 1] ![1, 1, 1] ![0, 383, 0] ![0, 0, 0] R5) (h0 : 0 < (⟨0, ![]⟩ : Shape).numel) (b : Fin 5) (t : Fin 384) (h : Fin 32) :
    Host.reduceWindowAdd ![1, 384, 1] ![1, 1, 1] ![0, 383, 0] ![0, 0, 0] A z hw h0 (ix3 b t h)
      = P (fun s => if hs : s < 384 then A (ix3 b ⟨s, hs⟩ h) else 0) (t.val + 1) := by
  rw [← window_sum _ t.val t.isLt]
  show Host.reduceWindow (· + ·) ![1, 384, 1] ![1, 1, 1] ![0, 383, 0] ![0, 0, 0] A (fun _ : (⟨0, ![]⟩ : Shape).Idx => z (Shape.Idx.first h0)) hw (by decide) (ix3 b t h) = _
  unfold Host.reduceWindow
  dsimp only
  rw [hz]
  refine (foldl_add _ _ _).trans ?_
  rw [zero_add, ← List.ofFn_eq_map, List.sum_ofFn]
  refine (Finset.sum_congr rfl fun n _ => ?_).trans (Fin.sum_univ_eq_sum_range (fun n => if 383 ≤ t.val + n then (if hs : t.val + n - 383 < 384 then A (ix3 b ⟨t.val + n - 383, hs⟩ h) else 0) else 0) 384)
  have key : ∀ k : (⟨3, ![1, 384, 1]⟩ : Shape).Idx, ((⟨3, ![1, 384, 1]⟩ : Shape).rowMajor k).val = n.val → (k 0).val = 0 ∧ (k 1).val = n.val ∧ (k 2).val = 0 := by
    intro k hk
    rw [Shape.rowMajor_val_three] at hk
    have k0 : (k 0).val < 1 := (k 0).isLt
    have k1 : (k 1).val < 384 := (k 1).isLt
    have k2 : (k 2).val < 1 := (k 2).isLt
    simp at hk
    omega
  obtain ⟨k0, k1, k2⟩ := key ((⟨3, ![1, 384, 1]⟩ : Shape).rowMajor.symm n) (by rw [Equiv.apply_symm_apply])
  have hb := b.isLt; have hh := h.isLt; have ht := t.isLt
  have hn384 : n.val < 384 := n.isLt
  by_cases hin : 383 ≤ t.val + n.val
  · rw [if_pos hin]
    refine Eq.trans ?_ (dif_pos (show t.val + n.val - 383 < 384 by omega)).symm
    refine (dif_pos (fun a => ?_)).trans (congrArg A (?_ : (fun a => _) = _))
    rotate_left
    · refine funext fun a => Fin.ext ?_
      match a with
      | ⟨0, _⟩ => show b.val * 1 + (((⟨3, ![1, 384, 1]⟩ : Shape).rowMajor.symm n) 0).val - 0 = b.val; omega
      | ⟨1, _⟩ => show t.val * 1 + (((⟨3, ![1, 384, 1]⟩ : Shape).rowMajor.symm n) 1).val - 383 = t.val + n.val - 383; omega
      | ⟨2, _⟩ => show h.val * 1 + (((⟨3, ![1, 384, 1]⟩ : Shape).rowMajor.symm n) 2).val - 0 = h.val; omega
    · match a with
      | ⟨0, _⟩ => show 0 ≤ b.val * 1 + (((⟨3, ![1, 384, 1]⟩ : Shape).rowMajor.symm n) 0).val ∧ b.val * 1 + (((⟨3, ![1, 384, 1]⟩ : Shape).rowMajor.symm n) 0).val - 0 < 5; omega
      | ⟨1, _⟩ => show 383 ≤ t.val * 1 + (((⟨3, ![1, 384, 1]⟩ : Shape).rowMajor.symm n) 1).val ∧ t.val * 1 + (((⟨3, ![1, 384, 1]⟩ : Shape).rowMajor.symm n) 1).val - 383 < 384; omega
      | ⟨2, _⟩ => show 0 ≤ h.val * 1 + (((⟨3, ![1, 384, 1]⟩ : Shape).rowMajor.symm n) 2).val ∧ h.val * 1 + (((⟨3, ![1, 384, 1]⟩ : Shape).rowMajor.symm n) 2).val - 0 < 32; omega
  · rw [if_neg hin]
    refine dif_neg fun hall => hin ?_
    have h1 : 383 ≤ t.val * 1 + (((⟨3, ![1, 384, 1]⟩ : Shape).rowMajor.symm n) 1).val := (hall 1).1
    omega

end Cert.Sums

end

end
-- ==== Proof.Scan.lean ====
module

public import proofs.«01_k».proof.Proof.PrepIdeal
public import proofs.«01_k».proof.Proof.Sums

@[expose] public section

noncomputable section

namespace Cert.KernelIdeal.Run

open Idealize.ShloMosaic hiding ix1 ix2 ix3 ix4
open Idealize.ShloMosaic.TcCoe Idealize.ShloMosaic.ValueIdx
open Cert.KernelIdeal Cert.KernelIdeal.Gen Cert.Sums

/-! # The chunked running sums are the running sums -/

/-- A chunk's row numbers. -/
abbrev i8v : IVec S8x32 32 := iota .tc S8x32 32 [0] iota_S8x32_d0_w32
theorem i8v_at : ∀ (j : Fin 8) (h : Fin 32), i8v (ix2 j h) = BitVec.ofNat 32 j.val := fun j h => by fin_cases j <;> rfl

/-- The steps of the decay and the chunk index, as the kernel holds them. -/
abbrev sA (al : Vec Ideal S1x32 .f32) (d : Vec Ideal S1x384x32 .f32) := k0_pay4 (F := Ideal) al d
abbrev sp (al : Vec Ideal S1x32 .f32) (d : Vec Ideal S1x384x32 .f32) := k0_pay6 (F := Ideal) al d
variable (al : Vec Ideal S1x32 .f32) (d : Vec Ideal S1x384x32 .f32)

theorem zrow (h : Fin 32) : k0_pay5 (F := Ideal) (ix2 0 h) = 0 := Ideal.ofBits_zero_f32
theorem w286 : IsCh (sA al d) 0 (c286 (sA al d) i8v (k0_pay5 (F := Ideal)) (sp al d) 2#32) :=
  ch0 i8v i8v_at zrow slices_S384x32_o0_0_S8x32 rotates_S8x32_d0 broadcasts_S1x32_S8x32 rfl
theorem w308 : IsCh (sA al d) 1 (c308 (sA al d) i8v (k0_pay5 (F := Ideal)) (sp al d) 2#32) :=
  chS i8v i8v_at (w286 al d) 8 rfl (by decide) slices_S384x32_o8_0_S8x32 slices_S8x32_o7_0_S1x32 rotates_S8x32_d0 broadcasts_S1x32_S8x32 rfl
theorem w330 : IsCh (sA al d) 2 (c330 (sA al d) i8v (k0_pay5 (F := Ideal)) (sp al d) 2#32) :=
  chS i8v i8v_at (w308 al d) 16 rfl (by decide) slices_S384x32_o16_0_S8x32 slices_S8x32_o7_0_S1x32 rotates_S8x32_d0 broadcasts_S1x32_S8x32 rfl
theorem w352 : IsCh (sA al d) 3 (c352 (sA al d) i8v (k0_pay5 (F := Ideal)) (sp al d) 2#32) :=
  chS i8v i8v_at (w330 al d) 24 rfl (by decide) slices_S384x32_o24_0_S8x32 slices_S8x32_o7_0_S1x32 rotates_S8x32_d0 broadcasts_S1x32_S8x32 rfl
theorem w374 : IsCh (sA al d) 4 (c374 (sA al d) i8v (k0_pay5 (F := Ideal)) (sp al d) 2#32) :=
  chS i8v i8v_at (w352 al d) 32 rfl (by decide) slices_S384x32_o32_0_S8x32 slices_S8x32_o7_0_S1x32 rotates_S8x32_d0 broadcasts_S1x32_S8x32 rfl
theorem w396 : IsCh (sA al d) 5 (c396 (sA al d) i8v (k0_pay5 (F := Ideal)) (sp al d) 2#32) :=
  chS i8v i8v_at (w374 al d) 40 rfl (by decide) slices_S384x32_o40_0_S8x32 slices_S8x32_o7_0_S1x32 rotates_S8x32_d0 broadcasts_S1x32_S8x32 rfl
theorem w418 : IsCh (sA al d) 6 (c418 (sA al d) i8v (k0_pay5 (F := Ideal)) (sp al d) 2#32) :=
  chS i8v i8v_at (w396 al d) 48 rfl (by decide) slices_S384x32_o48_0_S8x32 slices_S8x32_o7_0_S1x32 rotates_S8x32_d0 broadcasts_S1x32_S8x32 rfl
theorem w440 : IsCh (sA al d) 7 (c440 (sA al d) i8v (k0_pay5 (F := Ideal)) (sp al d) 2#32) :=
  chS i8v i8v_at (w418 al d) 56 rfl (by decide) slices_S384x32_o56_0_S8x32 slices_S8x32_o7_0_S1x32 rotates_S8x32_d0 broadcasts_S1x32_S8x32 rfl
theorem w462 : IsCh (sA al d) 8 (c462 (sA al d) i8v (k0_pay5 (F := Ideal)) (sp al d) 2#32) :=
  chS i8v i8v_at (w440 al d) 64 rfl (by decide) slices_S384x32_o64_0_S8x32 slices_S8x32_o7_0_S1x32 rotates_S8x32_d0 broadcasts_S1x32_S8x32 rfl
theorem w484 : IsCh (sA al d) 9 (c484 (sA al d) i8v (k0_pay5 (F := Ideal)) (sp al d) 2#32) :=
  chS i8v i8v_at (w462 al d) 72 rfl (by decide) slices_S384x32_o72_0_S8x32 slices_S8x32_o7_0_S1x32 rotates_S8x32_d0 broadcasts_S1x32_S8x32 rfl
theorem w506 : IsCh (sA al d) 10 (c506 (sA al d) i8v (k0_pay5 (F := Ideal)) (sp al d) 2#32) :=
  chS i8v i8v_at (w484 al d) 80 rfl (by decide) slices_S384x32_o80_0_S8x32 slices_S8x32_o7_0_S1x32 rotates_S8x32_d0 broadcasts_S1x32_S8x32 rfl
theorem w528 : IsCh (sA al d) 11 (c528 (sA al d) i8v (k0_pay5 (F := Ideal)) (sp al d) 2#32) :=
  chS i8v i8v_at (w506 al d) 88 rfl (by decide) slices_S384x32_o88_0_S8x32 slices_S8x32_o7_0_S1x32 rotates_S8x32_d0 broadcasts_S1x32_S8x32 rfl
theorem w550 : IsCh (sA al d) 12 (c550 (sA al d) i8v (k0_pay5 (F := Ideal)) (sp al d) 2#32) :=
  chS i8v i8v_at (w528 al d) 96 rfl (by decide) slices_S384x32_o96_0_S8x32 slices_S8x32_o7_0_S1x32 rotates_S8x32_d0 broadcasts_S1x32_S8x32 rfl
theorem w572 : IsCh (sA al d) 13 (c572 (sA al d) i8v (k0_pay5 (F := Ideal)) (sp al d) 2#32) :=
  chS i8v i8v_at (w550 al d) 104 rfl (by decide) slices_S384x32_o104_0_S8x32 slices_S8x32_o7_0_S1x32 rotates_S8x32_d0 broadcasts_S1x32_S8x32 rfl
theorem w594 : IsCh (sA al d) 14 (c594 (sA al d) i8v (k0_pay5 (F := Ideal)) (sp al d) 2#32) :=
  chS i8v i8v_at (w572 al d) 112 rfl (by decide) slices_S384x32_o112_0_S8x32 slices_S8x32_o7_0_S1x32 rotates_S8x32_d0 broadcasts_S1x32_S8x32 rfl
theorem w616 : IsCh (sA al d) 15 (c616 (sA al d) i8v (k0_pay5 (F := Ideal)) (sp al d) 2#32) :=
  chS i8v i8v_at (w594 al d) 120 rfl (by decide) slices_S384x32_o120_0_S8x32 slices_S8x32_o7_0_S1x32 rotates_S8x32_d0 broadcasts_S1x32_S8x32 rfl
theorem w638 : IsCh (sA al d) 16 (c638 (sA al d) i8v (k0_pay5 (F := Ideal)) (sp al d) 2#32) :=
  chS i8v i8v_at (w616 al d) 128 rfl (by decide) slices_S384x32_o128_0_S8x32 slices_S8x32_o7_0_S1x32 rotates_S8x32_d0 broadcasts_S1x32_S8x32 rfl
theorem w660 : IsCh (sA al d) 17 (c660 (sA al d) i8v (k0_pay5 (F := Ideal)) (sp al d) 2#32) :=
  chS i8v i8v_at (w638 al d) 136 rfl (by decide) slices_S384x32_o136_0_S8x32 slices_S8x32_o7_0_S1x32 rotates_S8x32_d0 broadcasts_S1x32_S8x32 rfl
theorem w682 : IsCh (sA al d) 18 (c682 (sA al d) i8v (k0_pay5 (F := Ideal)) (sp al d) 2#32) :=
  chS i8v i8v_at (w660 al d) 144 rfl (by decide) slices_S384x32_o144_0_S8x32 slices_S8x32_o7_0_S1x32 rotates_S8x32_d0 broadcasts_S1x32_S8x32 rfl
theorem w704 : IsCh (sA al d) 19 (c704 (sA al d) i8v (k0_pay5 (F := Ideal)) (sp al d) 2#32) :=
  chS i8v i8v_at (w682 al d) 152 rfl (by decide) slices_S384x32_o152_0_S8x32 slices_S8x32_o7_0_S1x32 rotates_S8x32_d0 broadcasts_S1x32_S8x32 rfl
theorem w726 : IsCh (sA al d) 20 (c726 (sA al d) i8v (k0_pay5 (F := Ideal)) (sp al d) 2#32) :=
  chS i8v i8v_at (w704 al d) 160 rfl (by decide) slices_S384x32_o160_0_S8x32 slices_S8x32_o7_0_S1x32 rotates_S8x32_d0 broadcasts_S1x32_S8x32 rfl
theorem w748 : IsCh (sA al d) 21 (c748 (sA al d) i8v (k0_pay5 (F := Ideal)) (sp al d) 2#32) :=
  chS i8v i8v_at (w726 al d) 168 rfl (by decide) slices_S384x32_o168_0_S8x32 slices_S8x32_o7_0_S1x32 rotates_S8x32_d0 broadcasts_S1x32_S8x32 rfl
theorem w770 : IsCh (sA al d) 22 (c770 (sA al d) i8v (k0_pay5 (F := Ideal)) (sp al d) 2#32) :=
  chS i8v i8v_at (w748 al d) 176 rfl (by decide) slices_S384x32_o176_0_S8x32 slices_S8x32_o7_0_S1x32 rotates_S8x32_d0 broadcasts_S1x32_S8x32 rfl
theorem w792 : IsCh (sA al d) 23 (c792 (sA al d) i8v (k0_pay5 (F := Ideal)) (sp al d) 2#32) :=
  chS i8v i8v_at (w770 al d) 184 rfl (by decide) slices_S384x32_o184_0_S8x32 slices_S8x32_o7_0_S1x32 rotates_S8x32_d0 broadcasts_S1x32_S8x32 rfl
theorem w814 : IsCh (sA al d) 24 (c814 (sA al d) i8v (k0_pay5 (F := Ideal)) (sp al d) 2#32) :=
  chS i8v i8v_at (w792 al d) 192 rfl (by decide) slices_S384x32_o192_0_S8x32 slices_S8x32_o7_0_S1x32 rotates_S8x32_d0 broadcasts_S1x32_S8x32 rfl
theorem w836 : IsCh (sA al d) 25 (c836 (sA al d) i8v (k0_pay5 (F := Ideal)) (sp al d) 2#32) :=
  chS i8v i8v_at (w814 al d) 200 rfl (by decide) slices_S384x32_o200_0_S8x32 slices_S8x32_o7_0_S1x32 rotates_S8x32_d0 broadcasts_S1x32_S8x32 rfl
theorem w858 : IsCh (sA al d) 26 (c858 (sA al d) i8v (k0_pay5 (F := Ideal)) (sp al d) 2#32) :=
  chS i8v i8v_at (w836 al d) 208 rfl (by decide) slices_S384x32_o208_0_S8x32 slices_S8x32_o7_0_S1x32 rotates_S8x32_d0 broadcasts_S1x32_S8x32 rfl
theorem w880 : IsCh (sA al d) 27 (c880 (sA al d) i8v (k0_pay5 (F := Ideal)) (sp al d) 2#32) :=
  chS i8v i8v_at (w858 al d) 216 rfl (by decide) slices_S384x32_o216_0_S8x32 slices_S8x32_o7_0_S1x32 rotates_S8x32_d0 broadcasts_S1x32_S8x32 rfl
theorem w902 : IsCh (sA al d) 28 (c902 (sA al d) i8v (k0_pay5 (F := Ideal)) (sp al d) 2#32) :=
  chS i8v i8v_at (w880 al d) 224 rfl (by decide) slices_S384x32_o224_0_S8x32 slices_S8x32_o7_0_S1x32 rotates_S8x32_d0 broadcasts_S1x32_S8x32 rfl
theorem w924 : IsCh (sA al d) 29 (c924 (sA al d) i8v (k0_pay5 (F := Ideal)) (sp al d) 2#32) :=
  chS i8v i8v_at (w902 al d) 232 rfl (by decide) slices_S384x32_o232_0_S8x32 slices_S8x32_o7_0_S1x32 rotates_S8x32_d0 broadcasts_S1x32_S8x32 rfl
theorem w946 : IsCh (sA al d) 30 (c946 (sA al d) i8v (k0_pay5 (F := Ideal)) (sp al d) 2#32) :=
  chS i8v i8v_at (w924 al d) 240 rfl (by decide) slices_S384x32_o240_0_S8x32 slices_S8x32_o7_0_S1x32 rotates_S8x32_d0 broadcasts_S1x32_S8x32 rfl
theorem w968 : IsCh (sA al d) 31 (c968 (sA al d) i8v (k0_pay5 (F := Ideal)) (sp al d) 2#32) :=
  chS i8v i8v_at (w946 al d) 248 rfl (by decide) slices_S384x32_o248_0_S8x32 slices_S8x32_o7_0_S1x32 rotates_S8x32_d0 broadcasts_S1x32_S8x32 rfl
theorem w990 : IsCh (sA al d) 32 (c990 (sA al d) i8v (k0_pay5 (F := Ideal)) (sp al d) 2#32) :=
  chS i8v i8v_at (w968 al d) 256 rfl (by decide) slices_S384x32_o256_0_S8x32 slices_S8x32_o7_0_S1x32 rotates_S8x32_d0 broadcasts_S1x32_S8x32 rfl
theorem w1012 : IsCh (sA al d) 33 (c1012 (sA al d) i8v (k0_pay5 (F := Ideal)) (sp al d) 2#32) :=
  chS i8v i8v_at (w990 al d) 264 rfl (by decide) slices_S384x32_o264_0_S8x32 slices_S8x32_o7_0_S1x32 rotates_S8x32_d0 broadcasts_S1x32_S8x32 rfl
theorem w1034 : IsCh (sA al d) 34 (c1034 (sA al d) i8v (k0_pay5 (F := Ideal)) (sp al d) 2#32) :=
  chS i8v i8v_at (w1012 al d) 272 rfl (by decide) slices_S384x32_o272_0_S8x32 slices_S8x32_o7_0_S1x32 rotates_S8x32_d0 broadcasts_S1x32_S8x32 rfl
theorem w1056 : IsCh (sA al d) 35 (c1056 (sA al d) i8v (k0_pay5 (F := Ideal)) (sp al d) 2#32) :=
  chS i8v i8v_at (w1034 al d) 280 rfl (by decide) slices_S384x32_o280_0_S8x32 slices_S8x32_o7_0_S1x32 rotates_S8x32_d0 broadcasts_S1x32_S8x32 rfl
theorem w1078 : IsCh (sA al d) 36 (c1078 (sA al d) i8v (k0_pay5 (F := Ideal)) (sp al d) 2#32) :=
  chS i8v i8v_at (w1056 al d) 288 rfl (by decide) slices_S384x32_o288_0_S8x32 slices_S8x32_o7_0_S1x32 rotates_S8x32_d0 broadcasts_S1x32_S8x32 rfl
theorem w1100 : IsCh (sA al d) 37 (c1100 (sA al d) i8v (k0_pay5 (F := Ideal)) (sp al d) 2#32) :=
  chS i8v i8v_at (w1078 al d) 296 rfl (by decide) slices_S384x32_o296_0_S8x32 slices_S8x32_o7_0_S1x32 rotates_S8x32_d0 broadcasts_S1x32_S8x32 rfl
theorem w1122 : IsCh (sA al d) 38 (c1122 (sA al d) i8v (k0_pay5 (F := Ideal)) (sp al d) 2#32) :=
  chS i8v i8v_at (w1100 al d) 304 rfl (by decide) slices_S384x32_o304_0_S8x32 slices_S8x32_o7_0_S1x32 rotates_S8x32_d0 broadcasts_S1x32_S8x32 rfl
theorem w1144 : IsCh (sA al d) 39 (c1144 (sA al d) i8v (k0_pay5 (F := Ideal)) (sp al d) 2#32) :=
  chS i8v i8v_at (w1122 al d) 312 rfl (by decide) slices_S384x32_o312_0_S8x32 slices_S8x32_o7_0_S1x32 rotates_S8x32_d0 broadcasts_S1x32_S8x32 rfl
theorem w1166 : IsCh (sA al d) 40 (c1166 (sA al d) i8v (k0_pay5 (F := Ideal)) (sp al d) 2#32) :=
  chS i8v i8v_at (w1144 al d) 320 rfl (by decide) slices_S384x32_o320_0_S8x32 slices_S8x32_o7_0_S1x32 rotates_S8x32_d0 broadcasts_S1x32_S8x32 rfl
theorem w1188 : IsCh (sA al d) 41 (c1188 (sA al d) i8v (k0_pay5 (F := Ideal)) (sp al d) 2#32) :=
  chS i8v i8v_at (w1166 al d) 328 rfl (by decide) slices_S384x32_o328_0_S8x32 slices_S8x32_o7_0_S1x32 rotates_S8x32_d0 broadcasts_S1x32_S8x32 rfl
theorem w1210 : IsCh (sA al d) 42 (c1210 (sA al d) i8v (k0_pay5 (F := Ideal)) (sp al d) 2#32) :=
  chS i8v i8v_at (w1188 al d) 336 rfl (by decide) slices_S384x32_o336_0_S8x32 slices_S8x32_o7_0_S1x32 rotates_S8x32_d0 broadcasts_S1x32_S8x32 rfl
theorem w1232 : IsCh (sA al d) 43 (c1232 (sA al d) i8v (k0_pay5 (F := Ideal)) (sp al d) 2#32) :=
  chS i8v i8v_at (w1210 al d) 344 rfl (by decide) slices_S384x32_o344_0_S8x32 slices_S8x32_o7_0_S1x32 rotates_S8x32_d0 broadcasts_S1x32_S8x32 rfl
theorem w1254 : IsCh (sA al d) 44 (c1254 (sA al d) i8v (k0_pay5 (F := Ideal)) (sp al d) 2#32) :=
  chS i8v i8v_at (w1232 al d) 352 rfl (by decide) slices_S384x32_o352_0_S8x32 slices_S8x32_o7_0_S1x32 rotates_S8x32_d0 broadcasts_S1x32_S8x32 rfl
theorem w1276 : IsCh (sA al d) 45 (c1276 (sA al d) i8v (k0_pay5 (F := Ideal)) (sp al d) 2#32) :=
  chS i8v i8v_at (w1254 al d) 360 rfl (by decide) slices_S384x32_o360_0_S8x32 slices_S8x32_o7_0_S1x32 rotates_S8x32_d0 broadcasts_S1x32_S8x32 rfl
/-- The last two chunks. -/
def x46 : FVec Ideal S8x32 .f32 := (chunk i8v (extractStridedSlice R8 ![368, 0] (sA al d) slices_S384x32_o368_0_S8x32) (extractStridedSlice R1 ![7, 0] (c1276 (sA al d) i8v (k0_pay5 (F := Ideal)) (sp al d) 2#32) slices_S8x32_o7_0_S1x32) rotates_S8x32_d0 broadcasts_S1x32_S8x32)
def x47 : FVec Ideal S8x32 .f32 := (chunk i8v (extractStridedSlice R8 ![376, 0] (sA al d) slices_S384x32_o376_0_S8x32) (extractStridedSlice R1 ![7, 0] (x46 al d) slices_S8x32_o7_0_S1x32) rotates_S8x32_d0 broadcasts_S1x32_S8x32)
theorem w46 : IsCh (sA al d) 46 (x46 al d) :=
  chS i8v i8v_at (w1276 al d) 368 rfl (by decide) slices_S384x32_o368_0_S8x32 slices_S8x32_o7_0_S1x32 rotates_S8x32_d0 broadcasts_S1x32_S8x32 rfl
theorem w47 : IsCh (sA al d) 47 (x47 al d) :=
  chS i8v i8v_at (w46 al d) 376 rfl (by decide) slices_S384x32_o376_0_S8x32 slices_S8x32_o7_0_S1x32 rotates_S8x32_d0 broadcasts_S1x32_S8x32 rfl
/-- The chunks, in order. -/
def pieces : List ((s : Shape) × (s.Idx → Ideal .f32)) := ⟨S8x32, c286 (sA al d) i8v (k0_pay5 (F := Ideal)) (sp al d) 2#32⟩ :: ⟨S8x32, c308 (sA al d) i8v (k0_pay5 (F := Ideal)) (sp al d) 2#32⟩ :: ⟨S8x32, c330 (sA al d) i8v (k0_pay5 (F := Ideal)) (sp al d) 2#32⟩ :: ⟨S8x32, c352 (sA al d) i8v (k0_pay5 (F := Ideal)) (sp al d) 2#32⟩ :: ⟨S8x32, c374 (sA al d) i8v (k0_pay5 (F := Ideal)) (sp al d) 2#32⟩ :: ⟨S8x32, c396 (sA al d) i8v (k0_pay5 (F := Ideal)) (sp al d) 2#32⟩ :: ⟨S8x32, c418 (sA al d) i8v (k0_pay5 (F := Ideal)) (sp al d) 2#32⟩ :: ⟨S8x32, c440 (sA al d) i8v (k0_pay5 (F := Ideal)) (sp al d) 2#32⟩ :: ⟨S8x32, c462 (sA al d) i8v (k0_pay5 (F := Ideal)) (sp al d) 2#32⟩ :: ⟨S8x32, c484 (sA al d) i8v (k0_pay5 (F := Ideal)) (sp al d) 2#32⟩ :: ⟨S8x32, c506 (sA al d) i8v (k0_pay5 (F := Ideal)) (sp al d) 2#32⟩ :: ⟨S8x32, c528 (sA al d) i8v (k0_pay5 (F := Ideal)) (sp al d) 2#32⟩ :: ⟨S8x32, c550 (sA al d) i8v (k0_pay5 (F := Ideal)) (sp al d) 2#32⟩ :: ⟨S8x32, c572 (sA al d) i8v (k0_pay5 (F := Ideal)) (sp al d) 2#32⟩ :: ⟨S8x32, c594 (sA al d) i8v (k0_pay5 (F := Ideal)) (sp al d) 2#32⟩ :: ⟨S8x32, c616 (sA al d) i8v (k0_pay5 (F := Ideal)) (sp al d) 2#32⟩ :: ⟨S8x32, c638 (sA al d) i8v (k0_pay5 (F := Ideal)) (sp al d) 2#32⟩ :: ⟨S8x32, c660 (sA al d) i8v (k0_pay5 (F := Ideal)) (sp al d) 2#32⟩ :: ⟨S8x32, c682 (sA al d) i8v (k0_pay5 (F := Ideal)) (sp al d) 2#32⟩ :: ⟨S8x32, c704 (sA al d) i8v (k0_pay5 (F := Ideal)) (sp al d) 2#32⟩ :: ⟨S8x32, c726 (sA al d) i8v (k0_pay5 (F := Ideal)) (sp al d) 2#32⟩ :: ⟨S8x32, c748 (sA al d) i8v (k0_pay5 (F := Ideal)) (sp al d) 2#32⟩ :: ⟨S8x32, c770 (sA al d) i8v (k0_pay5 (F := Ideal)) (sp al d) 2#32⟩ :: ⟨S8x32, c792 (sA al d) i8v (k0_pay5 (F := Ideal)) (sp al d) 2#32⟩ :: ⟨S8x32, c814 (sA al d) i8v (k0_pay5 (F := Ideal)) (sp al d) 2#32⟩ :: ⟨S8x32, c836 (sA al d) i8v (k0_pay5 (F := Ideal)) (sp al d) 2#32⟩ :: ⟨S8x32, c858 (sA al d) i8v (k0_pay5 (F := Ideal)) (sp al d) 2#32⟩ :: ⟨S8x32, c880 (sA al d) i8v (k0_pay5 (F := Ideal)) (sp al d) 2#32⟩ :: ⟨S8x32, c902 (sA al d) i8v (k0_pay5 (F := Ideal)) (sp al d) 2#32⟩ :: ⟨S8x32, c924 (sA al d) i8v (k0_pay5 (F := Ideal)) (sp al d) 2#32⟩ :: ⟨S8x32, c946 (sA al d) i8v (k0_pay5 (F := Ideal)) (sp al d) 2#32⟩ :: ⟨S8x32, c968 (sA al d) i8v (k0_pay5 (F := Ideal)) (sp al d) 2#32⟩ :: ⟨S8x32, c990 (sA al d) i8v (k0_pay5 (F := Ideal)) (sp al d) 2#32⟩ :: ⟨S8x32, c1012 (sA al d) i8v (k0_pay5 (F := Ideal)) (sp al d) 2#32⟩ :: ⟨S8x32, c1034 (sA al d) i8v (k0_pay5 (F := Ideal)) (sp al d) 2#32⟩ :: ⟨S8x32, c1056 (sA al d) i8v (k0_pay5 (F := Ideal)) (sp al d) 2#32⟩ :: ⟨S8x32, c1078 (sA al d) i8v (k0_pay5 (F := Ideal)) (sp al d) 2#32⟩ :: ⟨S8x32, c1100 (sA al d) i8v (k0_pay5 (F := Ideal)) (sp al d) 2#32⟩ :: ⟨S8x32, c1122 (sA al d) i8v (k0_pay5 (F := Ideal)) (sp al d) 2#32⟩ :: ⟨S8x32, c1144 (sA al d) i8v (k0_pay5 (F := Ideal)) (sp al d) 2#32⟩ :: ⟨S8x32, c1166 (sA al d) i8v (k0_pay5 (F := Ideal)) (sp al d) 2#32⟩ :: ⟨S8x32, c1188 (sA al d) i8v (k0_pay5 (F := Ideal)) (sp al d) 2#32⟩ :: ⟨S8x32, c1210 (sA al d) i8v (k0_pay5 (F := Ideal)) (sp al d) 2#32⟩ :: ⟨S8x32, c1232 (sA al d) i8v (k0_pay5 (F := Ideal)) (sp al d) 2#32⟩ :: ⟨S8x32, c1254 (sA al d) i8v (k0_pay5 (F := Ideal)) (sp al d) 2#32⟩ :: ⟨S8x32, c1276 (sA al d) i8v (k0_pay5 (F := Ideal)) (sp al d) 2#32⟩ :: ⟨S8x32, x46 al d⟩ :: ⟨S8x32, x47 al d⟩ :: []
theorem pieces_eq : pieces al d = List.ofFn fun n : Fin 48 => (⟨R8, chv (sA al d) n⟩ : (s : Shape) × (s.Idx → Ideal .f32)) := by
  unfold pieces
  rw [(w286 al d).eq (by decide), (w308 al d).eq (by decide), (w330 al d).eq (by decide), (w352 al d).eq (by decide), (w374 al d).eq (by decide), (w396 al d).eq (by decide), (w418 al d).eq (by decide), (w440 al d).eq (by decide), (w462 al d).eq (by decide), (w484 al d).eq (by decide), (w506 al d).eq (by decide), (w528 al d).eq (by decide), (w550 al d).eq (by decide), (w572 al d).eq (by decide), (w594 al d).eq (by decide), (w616 al d).eq (by decide), (w638 al d).eq (by decide), (w660 al d).eq (by decide), (w682 al d).eq (by decide), (w704 al d).eq (by decide), (w726 al d).eq (by decide), (w748 al d).eq (by decide), (w770 al d).eq (by decide), (w792 al d).eq (by decide), (w814 al d).eq (by decide), (w836 al d).eq (by decide), (w858 al d).eq (by decide), (w880 al d).eq (by decide), (w902 al d).eq (by decide), (w924 al d).eq (by decide), (w946 al d).eq (by decide), (w968 al d).eq (by decide), (w990 al d).eq (by decide), (w1012 al d).eq (by decide), (w1034 al d).eq (by decide), (w1056 al d).eq (by decide), (w1078 al d).eq (by decide), (w1100 al d).eq (by decide), (w1122 al d).eq (by decide), (w1144 al d).eq (by decide), (w1166 al d).eq (by decide), (w1188 al d).eq (by decide), (w1210 al d).eq (by decide), (w1232 al d).eq (by decide), (w1254 al d).eq (by decide), (w1276 al d).eq (by decide), (w46 al d).eq (by decide), (w47 al d).eq (by decide)]
  rfl
theorem decay_eq : decay (sA al d) i8v (k0_pay5 (F := Ideal)) (sp al d) 2#32 = exp (F := Ideal) (φ := .f32) (concatenate S384x32 0 (pieces al d) concatenates_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S8x32_S384x32_d0) := rfl
/-- The decays: the exponentials of the running sums. -/
theorem decay_at (i : S384x32.Idx) : decay (sA al d) i8v (k0_pay5 (F := Ideal)) (sp al d) 2#32 i = Ideal.exp (P (col (sA al d) (i 1 : Fin 32)) ((i 0 : Fin 384).val + 1)) := by
  obtain ⟨t, h, rfl⟩ : ∃ (t : Fin 384) (h : Fin 32), i = ix2 t h := ⟨i 0, i 1, ValueIdx.eq_ix2 i⟩
  rw [decay_eq]
  exact congrArg Ideal.exp (cat_at (sA al d) (pieces al d) (pieces_eq al d) _ t h)

end Cert.KernelIdeal.Run

end

end
-- ==== Proof.Spec.lean ====
module

public import proofs.«01_k».proof.Proof.Sums
public import Idealize.ShloMosaic.PureOps.IdealRules

@[expose] public section

noncomputable section

namespace Cert.Spec

open Idealize.ShloMosaic Cert.Sums

/-! # The results, element by element, over the extended reals -/

/-- The decay from the start through token `t`: the exponential of the running sum of `-(exp a) * dt`. -/
def dec (a : EReal) (dt : Fin 384 → EReal) (t : Fin 384) : EReal :=
  Ideal.exp (P (fun s => if hs : s < 384 then -(Ideal.exp a) * dt ⟨s, hs⟩ else 0) (t.val + 1))
/-- The weight of token `t`: its decay inside the first document, zero after it. -/
def wt (a : EReal) (dt : Fin 384 → EReal) (w : BitVec 32) (t : Fin 384) : EReal :=
  Scalar.select (IntOp.cmpi .slt (BitVec.ofNat 32 t.val) w) (dec a dt t) 0
/-- What is left of the carried state at the end: the last decay if the first document fills the chunk, else zero. -/
def fin (a : EReal) (dt : Fin 384 → EReal) (w : BitVec 32) : EReal :=
  Scalar.select (IntOp.cmpi .eq w 384#32) (dec a dt ⟨383, by decide⟩) 0
/-- The largest magnitude of a row. -/
def amax (v : Fin 256 → EReal) : EReal :=
  Finset.univ.fold max (Ideal.ofBits .f32 0xFF800000#32) fun n => max (v n) (-(v n))
/-- The exponent of a row's scale. -/
def ex (v : Fin 256 → EReal) : EReal :=
  Scalar.select (FloatOps.cmpf (F := Ideal) (φ := .f32) .oeq (amax v) 0) 0
    (Ideal.liftRound Int.floor (Ideal.log (amax v * Ideal.ofBits .f32 0x3B124925#32) * Ideal.ofBits .f32 0x3FB8AA3B#32) + 1)
/-- A row's scale. -/
def sc (v : Fin 256 → EReal) : EReal := Ideal.exp2 (ex v)
/-- A row's codes. -/
def cd (v : Fin 256 → EReal) (n : Fin 256) : EReal :=
  min (Ideal.ofBits .f32 0x43E00000#32) (max (Ideal.ofBits .f32 0xC3E00000#32) (v n * Ideal.exp2 (0 - ex v)))
/-- A row of the state at the end: what is left of the carried row, and the local row. -/
def row (f : EReal) (co : Fin 256 → EReal) (s : EReal) (h : Fin 256 → EReal) (n : Fin 256) : EReal := f * (co n * s) + h n
/-- An element of the corrected `y`. -/
def yv (y : EReal) (c co : Fin 256 → EReal) (s w : EReal) : EReal := y + (∑ n, c n * co n) * s * w

theorem exp2_nonneg (x : EReal) : 0 ≤ Ideal.exp2 x := by
  induction x with
  | bot => exact le_refl _
  | top => exact le_top
  | coe r => rw [Ideal.exp2_coe]; exact EReal.coe_nonneg.mpr (Real.rpow_nonneg (by norm_num) r)

theorem eq_sel {α : Type} (p k : Fin 128) (a b : α) :
    Scalar.select (IntOp.cmpi .eq (BitVec.ofNat 32 p.val) (BitVec.ofNat 32 k.val)) a b = if p = k then a else b := by
  have e : (BitVec.ofNat 32 p.val == BitVec.ofNat 32 k.val) = decide (p = k) := by
    rw [Bool.eq_iff_iff, beq_iff_eq, decide_eq_true_iff]
    refine ⟨fun h => Fin.ext ?_, fun h => by rw [h]⟩
    have h' := congrArg BitVec.toNat h
    simp only [BitVec.toNat_ofNat] at h'
    omega
  by_cases h : p = k
  · subst h; simp [Scalar.select, IntOp.cmpi]
  · simp [Scalar.select, IntOp.cmpi, e, h]

/-- A diagonal picks one element of a sum. -/
theorem sum_pick (p : Fin 128) (x : Fin 128 → EReal) :
    ∑ k, Scalar.select (IntOp.cmpi .eq (BitVec.ofNat 32 p.val) (BitVec.ofNat 32 k.val)) (x k) 0 = x p := by
  simp only [eq_sel, Finset.sum_ite_eq, Finset.mem_univ, if_true]
/-- A diagonal picks one element, not negative, of a maximum. -/
theorem max_pick (p : Fin 128) (b : EReal) (hb : b = ⊥) (x : Fin 128 → EReal) (h : 0 ≤ x p) :
    Finset.univ.fold max b (fun k => Scalar.select (IntOp.cmpi .eq (BitVec.ofNat 32 k.val) (BitVec.ofNat 32 p.val)) (x k) 0) = x p := by
  simp only [eq_sel]
  refine le_antisymm (Finset.fold_max_le _ |>.mpr ⟨hb ▸ bot_le, fun k _ => ?_⟩) (Finset.le_fold_max _ |>.mpr (Or.inr ⟨p, Finset.mem_univ _, ?_⟩))
  · split
    · rename_i e; rw [e]
    · exact h
  · rw [if_pos rfl]

theorem neg_inf : Ideal.ofBits .f32 0xFF800000#32 = ⊥ := by
  simp [Ideal.ofBits, Ideal.ieee]

end Cert.Spec

end
-- ==== Proof.ValK.lean ====
module

public import proofs.«01_k».proof.Proof.Scan
public import proofs.«01_k».proof.Proof.Spec
public import proofs.«01_k».proof.Proof.InvIdeal
public import Idealize.ShloMosaic.Lib.Pointwise.Tactic
public import Idealize.ShloMosaic.Lib.Pointwise.Reshape
public import Idealize.ShloMosaic.Lib.MatmulPlain

@[expose] public section

set_option backward.isDefEq.respectTransparency.types false

noncomputable section

namespace Cert.KernelIdeal.Run

open Idealize.ShloMosaic
open Idealize.ShloMosaic.TcCoe
open Cert.KernelIdeal Cert.KernelIdeal.Gen Cert.Sums

/-! # What the kernel computes, element by element -/

theorem row_max (X : FVec Ideal S128x256 .f32) (h : S128x256.Reduces [1] S128) (hφ) (hacc) (p : Fin 128) :
    multiReduction (F := Ideal) .maximumf [1] S128 X 0xFF800000#32 h hφ hacc (ix1 p)
      = Finset.univ.fold max (Ideal.ofBits .f32 0xFF800000#32) fun n : Fin 256 => X (ix2 p n) := by
  rw [Ideal.multiReduction_maximumf_single]
  exact congrArg (Finset.univ.fold max _) (funext fun n : Fin 256 => congrArg X (funext fun a => by fin_cases a <;> rfl))
theorem col_max (X : FVec Ideal S128x128 .f32) (h : S128x128.Reduces [0] S128) (hφ) (hacc) (p : Fin 128) :
    multiReduction (F := Ideal) .maximumf [0] S128 X 0xFF800000#32 h hφ hacc (ix1 p)
      = Finset.univ.fold max (Ideal.ofBits .f32 0xFF800000#32) fun n : Fin 128 => X (ix2 n p) := by
  rw [Ideal.multiReduction_maximumf_single]
  exact congrArg (Finset.univ.fold max _) (funext fun n : Fin 128 => congrArg X (funext fun a => by fin_cases a <;> rfl))
theorem row_sum (X : FVec Ideal S128x128 .f32) (h : S128x128.Reduces [1] S128) (hφ) (hacc) (p : Fin 128) :
    multiReduction (F := Ideal) .add [1] S128 X 0x00000000#32 h hφ hacc (ix1 p) = ∑ n : Fin 128, X (ix2 p n) := by
  rw [Ideal.multiReduction_add_single]
  exact Finset.sum_congr rfl fun (n : Fin 128) _ => congrArg X (funext fun a => by fin_cases a <;> rfl)

section
variable (h : Vec Ideal S1x1x128x256 .f32) (sc : Vec Ideal S1x1x128 .f32) (fd : Vec Ideal S1x1x1 .f32)
    (co : Vec Ideal S1x1x128x256 .fp8e4m3) (p : Fin 128) (n : Fin 256)

theorem carry_at : k0_pay140 (F := Ideal) (k0_pay1 v96c v97c) h sc fd co (ix2 p n)
    = Spec.row (fd (ix3 0 0 0)) (fun n => co (ix4 0 0 p n)) (sc (ix3 0 0 p)) (fun n => h (ix4 0 0 p n)) n := by
  pointwise [k0_pay140, k0_pay1]
  erw [row_sum]
  pointwise
  exact congrArg (fun z => fd (ix3 0 0 0) * (co (ix4 0 0 p n) * z) + h (ix4 0 0 p n)) (Spec.sum_pick p fun k => sc (ix3 0 0 k))

theorem codesN_at : qPay (F := Ideal) h (ix4 0 0 p n) = Spec.cd (fun n => h (ix4 0 0 p n)) n := by
  unfold qPay
  unfold_payloads
  pointwise
  erw [row_max]
  pointwise
  rfl
theorem scaleN_at : sPay (F := Ideal) (k0_pay1 v96c v97c) h (ix3 0 0 p) = Spec.sc (fun n => h (ix4 0 0 p n)) := by
  unfold sPay
  unfold_payloads
  pointwise
  erw [col_max]
  refine (congrArg (Finset.univ.fold max _) (funext fun k => ?_)).trans
    (Spec.max_pick p _ Spec.neg_inf (fun k => Spec.sc fun n => h (ix4 0 0 k n)) (Spec.exp2_nonneg _))
  pointwise
  erw [row_max]
  pointwise
  rfl

theorem codesC_at : qPayC (F := Ideal) (k0_pay1 v96c v97c) h sc fd co (ix4 0 0 p n)
    = Spec.cd (Spec.row (fd (ix3 0 0 0)) (fun n => co (ix4 0 0 p n)) (sc (ix3 0 0 p)) (fun n => h (ix4 0 0 p n))) n := by
  pointwise [qPayC, k0_pay146, k0_pay145, k0_pay142, k0_pay143, k0_pay141, k0_pay144]
  erw [row_max]
  pointwise
  simp only [carry_at]
  rfl
theorem scaleC_at : sPayC (F := Ideal) (k0_pay1 v96c v97c) h sc fd co (ix3 0 0 p)
    = Spec.sc (Spec.row (fd (ix3 0 0 0)) (fun n => co (ix4 0 0 p n)) (sc (ix3 0 0 p)) (fun n => h (ix4 0 0 p n))) := by
  pointwise [sPayC, k0_pay147]
  erw [col_max]
  refine (congrArg (Finset.univ.fold max _) (funext fun k => ?_)).trans
    (Spec.max_pick p _ Spec.neg_inf (fun k => Spec.sc (Spec.row (fd (ix3 0 0 0)) (fun n => co (ix4 0 0 k n)) (sc (ix3 0 0 k)) (fun n => h (ix4 0 0 k n)))) (Spec.exp2_nonneg _))
  pointwise [k0_pay145, k0_pay142, k0_pay143, k0_pay141, k0_pay144]
  erw [row_max]
  pointwise
  simp only [carry_at]
  rw [show k0_pay1 v96c v97c (ix2 k p) = IntOp.cmpi .eq (BitVec.ofNat 32 k.val) (BitVec.ofNat 32 p.val) by pointwise [k0_pay1]]
  rfl
end

section
variable (co : Vec Ideal S1x2x128x256 .fp8e4m3) (cg : Vec Ideal S1x128x256 .bf16) (sc : Vec Ideal S1x1x128 .f32)
    (w : Vec Ideal S1x128x1 .f32) (y : Vec Ideal S1x128x128 .bf16) (t k : Fin 128)

theorem dot_at (A : FVec Ideal S128x256 .bf16) (B : FVec Ideal S256x256 .fp8e4m3) (i : Fin 128) (j : Fin 256) :
    matmul (F := Ideal) dot_S128x256_S256x256_S128x256_1_1_0_0_n_n none A B (constant S128x256 .f32 0x00000000#32) (ix2 i j)
      = ∑ n : Fin 256, A (ix2 i n) * B (ix2 j n) := by
  show FloatOps.matmul (F := Ideal) _ _ A B _ _ = _
  refine (Ideal.matmul_transposedRhs_apply none A B (constant S128x256 .f32 0x00000000#32) i j).trans ?_
  rw [show (constant (F := Ideal) S128x256 .f32 0x00000000#32) (ValueIdx.ix2 i j) = 0 from Ideal.ofBits_zero_f32, zero_add]
  rfl
theorem yA_at : yPayA (F := Ideal) co cg sc w y (ix3 0 t k)
    = Spec.yv (y (ix3 0 t k)) (fun n => cg (ix3 0 t n)) (fun n => co (ix4 0 0 k n)) (sc (ix3 0 0 k)) (w (ix3 0 t 0)) := by
  pointwise [yPayA, k0_pay258, k0_pay257]
  rw [show k0_pay256 (F := Ideal) co cg _ = _ from dot_at _ _ _ _]
  pointwise
  simp only [Nat.div_eq_of_lt k.isLt, Nat.mod_eq_of_lt k.isLt]
  rfl
theorem yB_at : yPayB (F := Ideal) co cg sc w y (ix3 0 t k)
    = Spec.yv (y (ix3 0 t k)) (fun n => cg (ix3 0 t n)) (fun n => co (ix4 0 1 k n)) (sc (ix3 0 0 k)) (w (ix3 0 t 0)) := by
  pointwise [yPayB, k0_pay259]
  rw [show k0_pay256 (F := Ideal) co cg _ = _ from dot_at _ _ _ _]
  pointwise
  simp only [show (128 + k.val) / 128 = 1 by have := k.isLt; omega]
  rfl
end

theorem rowsC_at (cc : Vec Ideal S5x384x4x256 .bf16) (b : Fin 5) (g : Fin 4) (t : Fin 384) (n : Fin 256) :
    CgV cc b (ix3 g t n) = cc (ix4 b t g n) := by
  fin_cases g
  · pointwise [CgV, rowsG, pick, k0_pay134, k0_pay136, slabC]
  · pointwise [CgV, rowsG, pick, k0_pay135, k0_pay137, slabC]
  · pointwise [CgV, rowsG, pick, k0_pay465, k0_pay139, slabC]
  · pointwise [CgV, rowsG, pick, k0_pay466, k0_pay138, slabC]

/-! ### Weights and decays -/

section
variable (I : Ins Ideal) (b : Fin 5) (g : Fin 4) (t : Fin 384) (r : Fin 8)

/-- A batch's `dt` of one head. -/
abbrev dtc (h : Fin 32) : Fin 384 → EReal := fun t => I.dt (ix3 b t h)

theorem lga_at (h : Fin 32) : col (k0_pay4 (F := Ideal) I.al (slabD I.dt b)) h
    = fun s => if hs : s < 384 then -(Ideal.exp (I.al (ix2 0 h))) * I.dt (ix3 b ⟨s, hs⟩ h) else 0 := by
  funext s
  unfold col
  split
  · pointwise [k0_pay4, slabD]
    rw [zero_sub]
  · rfl
theorem decay_dec (i : S384x32.Idx) :
    decay (k0_pay4 (F := Ideal) I.al (slabD I.dt b)) i8c (k0_pay5 (F := Ideal)) (k0_pay6 I.al (slabD I.dt b)) 2#32 i
      = Spec.dec (I.al (ix2 0 (i 1 : Fin 32))) (dtc I b (i 1 : Fin 32)) (i 0 : Fin 384) := by
  rw [decay_at, lga_at]; rfl
theorem wts_at (v263 v264 v265 v272 c2 w) (i : S384x32.Idx) : wts (F := Ideal) v263 v264 v265 v272 c2 w i
    = Scalar.select (IntOp.cmpi .slt (BitVec.ofNat 32 (i 0 : Fin 384).val) w) (decay v263 v264 v265 v272 c2 i) 0 := by
  pointwise [wts, k0_pay124]
  rfl
theorem wts0_eq (v263 v264 v265 v272 c2 w) : wts0 (F := Ideal) v263 v264 v265 v272 c2 w
    = shapeCast S1x384x8 (extractStridedSlice S384x8 ![0, 0] (wts (F := Ideal) v263 v264 v265 v272 c2 w) slices_S384x32_o0_0_S384x8) shapeCasts_S384x8_S1x384x8 := rfl
theorem fin0_eq (v263 v264 v265 v272 c2) : fin0 (F := Ideal) v263 v264 v265 v272 c2
    = extractStridedSlice S1x8 ![383, 0] (decay (F := Ideal) v263 v264 v265 v272 c2) slices_S384x32_o383_0_S1x8 := rfl
theorem wt_at : WtI I b (ix3 g t r) = Spec.wt (I.al (ix2 0 ⟨8 * g.val + r.val, by omega⟩)) (dtc I b ⟨8 * g.val + r.val, by omega⟩) (I.fde (ix1 b)) t := by
  fin_cases g <;> (pointwise [WtI, WtV, rowsW, pick, wts0_eq, k0_pay128, k0_pay130, k0_pay132]; rw [wts_at, decay_dec]; rfl)
theorem fd_at : FdI I b (ix3 g 0 r) = Spec.dec (I.al (ix2 0 ⟨8 * g.val + r.val, by omega⟩)) (dtc I b ⟨8 * g.val + r.val, by omega⟩) ⟨383, by decide⟩ := by
  fin_cases g <;> (pointwise [FdI, FdV, rowsD, pick, fin0_eq, k0_pay127, k0_pay129, k0_pay131, k0_pay133]; rw [decay_dec]; rfl)

/-! ### The results -/

/-- A row of the state at the end. -/
def vrow (b : Fin 5) (h : Fin 32) (p : Fin 128) : Fin 256 → EReal :=
  Spec.row (Spec.fin (I.al (ix2 0 h)) (dtc I b h) (I.fde (ix1 b))) (fun n => I.codes (ix4 b h p n)) (I.scl (ix3 b h p)) (fun n => I.hl (ix4 b h p n))
theorem fin_yes {a : EReal} {dt : Fin 384 → EReal} {w : BitVec 32} (h : w = 384#32) : Spec.fin a dt w = Spec.dec a dt ⟨383, by decide⟩ := by
  subst h; rfl
theorem fin_no {a : EReal} {dt : Fin 384 → EReal} {w : BitVec 32} (h : w ≠ 384#32) : Spec.fin a dt w = 0 := by
  unfold Spec.fin Scalar.select IntOp.cmpi
  rw [beq_false_of_ne h]; rfl
theorem row_zero (co : Fin 256 → EReal) (s : EReal) (h : Fin 256 → EReal) : Spec.row 0 co s h = h := by
  funext n; unfold Spec.row; rw [zero_mul, zero_add]

theorem codesF_at (u : Fin 20) (p : Fin 128) (n : Fin 256) : QF (dat I) (ix4 u r p n)
    = Spec.cd (vrow I ⟨u.val / 4, by omega⟩ ⟨8 * (u.val % 4) + r.val, by omega⟩ p) n := by
  by_cases hc : I.fde (ix1 ⟨u.val / 4, by omega⟩) = 384#32
  · have e : QF (dat I) (ix4 u r p n) = qPayC (k0_pay1 v96c v97c) (slabH (stH I.hl) u r) (slabS I.scl ⟨u.val / 4, by omega⟩ ⟨8 * (u.val % 4) + r.val, by omega⟩)
      (slabF (FdI I ⟨u.val / 4, by omega⟩) ⟨u.val % 4, by omega⟩ r) (slabH (stH I.codes) u r) (ix4 0 0 p n) := if_pos hc
    rw [e, codesC_at]; unfold slabF; rw [fd_at, vrow, fin_yes hc]; rfl
  · have e : QF (dat I) (ix4 u r p n) = qPay (slabH (stH I.hl) u r) (ix4 0 0 p n) := if_neg hc
    rw [e, codesN_at, vrow, fin_no hc, row_zero]; rfl
theorem codes_at (h : Fin 32) (p : Fin 128) (n : Fin 256) : QO I (ix4 b h p n) = Spec.cd (vrow I b h p) n := by
  refine (codesF_at I ⟨h.val % 8, by omega⟩ ⟨4 * b.val + h.val / 8, by omega⟩ p n).trans ?_
  have e1 : (⟨(4 * b.val + h.val / 8) / 4, by omega⟩ : Fin 5) = b := Fin.ext (by show (4 * b.val + h.val / 8) / 4 = b.val; omega)
  have e2 : (⟨8 * ((4 * b.val + h.val / 8) % 4) + h.val % 8, by omega⟩ : Fin 32) = h :=
    Fin.ext (by show 8 * ((4 * b.val + h.val / 8) % 4) + h.val % 8 = h.val; omega)
  exact congrArg₂ (fun b h => Spec.cd (vrow I b h p) n) e1 e2
theorem unit_at {e : EltTy} (f : Vec Ideal S5x32x128x256 e) (h : Fin 32) (p : Fin 128) (n : Fin 256) :
    stH f (ix4 ⟨4 * b.val + h.val / 8, by omega⟩ ⟨h.val % 8, by omega⟩ p n) = f (ix4 b h p n) := by
  have e1 : (⟨(4 * b.val + h.val / 8) / 4, by omega⟩ : Fin 5) = b := Fin.ext (by show (4 * b.val + h.val / 8) / 4 = b.val; omega)
  have e2 : (⟨8 * ((4 * b.val + h.val / 8) % 4) + h.val % 8, by omega⟩ : Fin 32) = h :=
    Fin.ext (by show 8 * ((4 * b.val + h.val / 8) % 4) + h.val % 8 = h.val; omega)
  exact congrArg₂ (fun b h => f (ix4 b h p n)) e1 e2
theorem fdh_at (h : Fin 32) : FdI I b (ix3 ⟨h.val / 8, by omega⟩ 0 ⟨h.val % 8, by omega⟩) = Spec.dec (I.al (ix2 0 h)) (dtc I b h) ⟨383, by decide⟩ := by
  rw [fd_at]
  have e2 : (⟨8 * (h.val / 8) + h.val % 8, by omega⟩ : Fin 32) = h := Fin.ext (by show 8 * (h.val / 8) + h.val % 8 = h.val; omega)
  exact congrArg (fun h => Spec.dec (I.al (ix2 0 h)) (dtc I b h) ⟨383, by decide⟩) e2
theorem scales_at (h : Fin 32) (p : Fin 128) : SO I (ix3 b h p) = Spec.sc (vrow I b h p) := by
  have u1 : ∀ n : Fin 256, slabH (stH I.hl) ⟨4 * b.val + h.val / 8, by omega⟩ ⟨h.val % 8, by omega⟩ (ix4 0 0 p n) = I.hl (ix4 b h p n) := fun n => unit_at b I.hl h p n
  have u2 : ∀ n : Fin 256, slabH (stH I.codes) ⟨4 * b.val + h.val / 8, by omega⟩ ⟨h.val % 8, by omega⟩ (ix4 0 0 p n) = I.codes (ix4 b h p n) := fun n => unit_at b I.codes h p n
  by_cases hc : I.fde (ix1 b) = 384#32
  · have e : SO I (ix3 b h p) = sPayC (k0_pay1 v96c v97c) (slabH (stH I.hl) ⟨4 * b.val + h.val / 8, by omega⟩ ⟨h.val % 8, by omega⟩) (slabS I.scl b h)
      (slabF (FdI I b) ⟨h.val / 8, by omega⟩ ⟨h.val % 8, by omega⟩) (slabH (stH I.codes) ⟨4 * b.val + h.val / 8, by omega⟩ ⟨h.val % 8, by omega⟩) (ix3 0 0 p) := if_pos hc
    rw [e, scaleC_at]; unfold slabF; rw [fdh_at, vrow, fin_yes hc]; simp only [u1, u2]; rfl
  · have e : SO I (ix3 b h p) = sPay (k0_pay1 v96c v97c) (slabH (stH I.hl) ⟨4 * b.val + h.val / 8, by omega⟩ ⟨h.val % 8, by omega⟩) (ix3 0 0 p) := if_neg hc
    rw [e, scaleN_at, vrow, fin_no hc, row_zero]; simp only [u1]
end

end Cert.KernelIdeal.Run
-- ==== Proof.ValY.lean ====
module

public import proofs.«01_k».proof.Proof.ValK
public import Idealize.ShloMosaic.Lib.Affine

@[expose] public section

set_option backward.isDefEq.respectTransparency.types false

noncomputable section

namespace Cert.KernelIdeal.Run

open Idealize.ShloMosaic
open Idealize.ShloMosaic.TcCoe
open Cert.KernelIdeal Cert.KernelIdeal.Gen Cert.Sums

/-! # The corrected `y`, element by element -/

theorem isInt_toInt {x : BitVec 32} {e : Int} (h : Affine.IsInt x e) : x.toInt = e := by
  unfold Affine.IsInt at h; exact h
theorem toInt_isInt (x : BitVec 32) : Affine.IsInt x x.toInt := by
  unfold Affine.IsInt; rfl

/-- The token blocks to correct reach past every token of the first document. -/
theorem blocks_reach (w : BitVec 32) (hw : w.toInt ≤ 2 ^ 31 - 128) (n : ℕ) (hn : n < 3) (h : 128 * (n : Int) < w.toInt) :
    n < (blocks (F := Ideal) w).toNat := by
  have i2 : Affine.IsInt (Scalar.subi (Scalar.addi w 128#32) 1#32) (w.toInt + 127) := by
    rw [show Scalar.subi (Scalar.addi w 128#32) 1#32 = Scalar.addi w 127#32 by
      unfold Scalar.subi Scalar.addi IntOp.subi IntOp.addi; bv_omega]
    exact Affine.addi (toInt_isInt w) (toInt_isInt 127#32) ⟨by rw [show (127#32 : BitVec 32).toInt = 127 by decide], by omega, by omega⟩
  have i3 : Affine.IsInt (Scalar.divsi (Scalar.subi (Scalar.addi w 128#32) 1#32) 128#32) ((w.toInt + 127) / 128) :=
    Affine.divsi i2 (toInt_isInt 128#32) ⟨by rw [show (128#32 : BitVec 32).toInt = 128 by decide], by omega, by decide⟩
  have g : Scalar.cmpi .sgt (Scalar.subi (Scalar.addi w 128#32) 1#32) 0#32 = 1#1 := by
    unfold Scalar.cmpi IntOp.cmpi
    simp only [BitVec.slt_eq_decide, isInt_toInt i2, show (0#32).toInt = 0 by decide]
    rw [decide_eq_true (by omega)]; rfl
  have l : Scalar.cmpi .slt (Scalar.subi (Scalar.addi w 128#32) 1#32) 0#32 = 0#1 := by
    unfold Scalar.cmpi IntOp.cmpi
    simp only [BitVec.slt_eq_decide, isInt_toInt i2, show (0#32).toInt = 0 by decide]
    rw [decide_eq_false (by omega)]; rfl
  have e : blocks (F := Ideal) w = Scalar.minsi 3#32 (Scalar.maxsi 1#32 (Scalar.divsi (Scalar.subi (Scalar.addi w 128#32) 1#32) 128#32)) := by
    unfold blocks
    simp only [g, l]
    rw [show Scalar.cmpi .ne (Scalar.subi (Scalar.extui 1#1) (Scalar.extui 0#1) : BitVec 32)
      (Scalar.subi (Scalar.extui (Scalar.cmpi .sgt 128#32 0#32)) (Scalar.extui (Scalar.cmpi .slt 128#32 0#32))) = 0#1 by decide]
    rw [show ∀ x : BitVec 1, Scalar.andi 0#1 x = 0#1 by decide]
    rfl
  have d := isInt_toInt i3
  generalize Scalar.divsi (Scalar.subi (Scalar.addi w 128#32) 1#32) 128#32 = X at d e
  rw [e]
  have hx : X.toInt ≥ n + 1 := by omega
  unfold Scalar.minsi Scalar.maxsi IntOp.minsi IntOp.maxsi
  simp only [BitVec.slt_eq_decide, decide_eq_true_eq]
  have e1 : (1#32).toInt = 1 := by decide
  have e3 : (3#32).toInt = 3 := by decide
  have hn' : (X.toNat : Int) = X.toInt := by
    have := BitVec.toInt_eq_toNat_cond X; split at this <;> omega
  rw [e1, e3, if_neg (show ¬ X.toInt < 1 by omega)]
  split
  · show n < 3; omega
  · omega

section
variable (I : Ins Ideal) (b : Fin 5)

theorem past (w : BitVec 32) (t : Fin 384) (h : w.toInt ≤ t.val) (a : EReal) (dt : Fin 384 → EReal) : Spec.wt a dt w t = 0 := by
  have e : (BitVec.ofNat 32 t.val).toInt = t.val := by
    rw [BitVec.toInt_ofNat', Int.bmod_def]; have := t.isLt; split <;> omega
  unfold Spec.wt Scalar.select IntOp.cmpi
  simp only [BitVec.slt_eq_decide, e]
  rw [decide_eq_false (by omega)]; rfl

/-- A token past the corrected blocks lies outside the first document. -/
theorem untouched (hb : (I.fde (ix1 b)).toInt ≤ 2 ^ 31 - 128) (t : Fin 384) (h : ¬ t.val / 128 < ntb I b) : (I.fde (ix1 b)).toInt ≤ t.val := by
  by_contra hc
  apply h
  unfold ntb
  split
  · omega
  · exact blocks_reach _ hb _ (by omega) (by omega)

theorem yv_at (u : Fin 20) (t : Fin 384) (k : Fin 1024) : YV (dat I) (ix3 u t k)
    = Spec.yv (stY I.y (ix3 u t k)) (fun n => I.cg ⟨u.val / 4, by omega⟩ (ix3 ⟨u.val % 4, by omega⟩ t n))
        (fun n => stH I.codes (ix4 u ⟨k.val / 128, by omega⟩ ⟨k.val % 128, by omega⟩ n))
        (I.scl (ix3 ⟨u.val / 4, by omega⟩ ⟨8 * (u.val % 4) + k.val / 128, by omega⟩ ⟨k.val % 128, by omega⟩))
        (WtI I ⟨u.val / 4, by omega⟩ (ix3 ⟨u.val % 4, by omega⟩ t ⟨k.val / 128, by omega⟩)) := by
  have et : (⟨128 * (t.val / 128) + t.val % 128, by omega⟩ : Fin 384) = t := Fin.ext (by show 128 * (t.val / 128) + t.val % 128 = t.val; omega)
  have ek : (⟨128 * (k.val / 128) + k.val % 128, by omega⟩ : Fin 1024) = k := Fin.ext (by show 128 * (k.val / 128) + k.val % 128 = k.val; omega)
  have a1 : slabY (stY I.y) u ⟨t.val / 128, by omega⟩ ⟨k.val / 128, by omega⟩ (ix3 0 ⟨t.val % 128, by omega⟩ ⟨k.val % 128, by omega⟩) = stY I.y (ix3 u t k) :=
    congrArg₂ (fun t k => stY I.y (ix3 u t k)) et ek
  have a2 : ∀ n : Fin 256, slabG (I.cg ⟨u.val / 4, by omega⟩) ⟨u.val % 4, by omega⟩ ⟨t.val / 128, by omega⟩ (ix3 0 ⟨t.val % 128, by omega⟩ n)
      = I.cg ⟨u.val / 4, by omega⟩ (ix3 ⟨u.val % 4, by omega⟩ t n) :=
    fun n => congrArg (fun t => I.cg ⟨u.val / 4, by omega⟩ (ix3 ⟨u.val % 4, by omega⟩ t n)) et
  have a3 : slabW (WtI I ⟨u.val / 4, by omega⟩) ⟨u.val % 4, by omega⟩ ⟨t.val / 128, by omega⟩ ⟨k.val / 128, by omega⟩ (ix3 0 ⟨t.val % 128, by omega⟩ 0)
      = WtI I ⟨u.val / 4, by omega⟩ (ix3 ⟨u.val % 4, by omega⟩ t ⟨k.val / 128, by omega⟩) :=
    congrArg (fun t => WtI I ⟨u.val / 4, by omega⟩ (ix3 ⟨u.val % 4, by omega⟩ t ⟨k.val / 128, by omega⟩)) et
  by_cases hp : k.val / 128 % 2 = 0
  · have e : YV (dat I) (ix3 u t k) = yPayA (slabP (stH I.codes) u ⟨k.val / 256, by omega⟩) (slabG (I.cg ⟨u.val / 4, by omega⟩) ⟨u.val % 4, by omega⟩ ⟨t.val / 128, by omega⟩)
      (slabS I.scl ⟨u.val / 4, by omega⟩ ⟨8 * (u.val % 4) + k.val / 128, by omega⟩) (slabW (WtI I ⟨u.val / 4, by omega⟩) ⟨u.val % 4, by omega⟩ ⟨t.val / 128, by omega⟩ ⟨k.val / 128, by omega⟩)
      (slabY (stY I.y) u ⟨t.val / 128, by omega⟩ ⟨k.val / 128, by omega⟩) (ix3 0 ⟨t.val % 128, by omega⟩ ⟨k.val % 128, by omega⟩) := if_pos hp
    rw [e, yA_at, a1, a3]; simp only [a2]
    have ep : (⟨2 * (k.val / 256) + 0, by omega⟩ : Fin 8) = ⟨k.val / 128, by omega⟩ := Fin.ext (by show 2 * (k.val / 256) + 0 = k.val / 128; omega)
    exact congrArg (fun r => Spec.yv _ _ (fun n => stH I.codes (ix4 u r ⟨k.val % 128, by omega⟩ n)) _ _) ep
  · have e : YV (dat I) (ix3 u t k) = yPayB (slabP (stH I.codes) u ⟨k.val / 256, by omega⟩) (slabG (I.cg ⟨u.val / 4, by omega⟩) ⟨u.val % 4, by omega⟩ ⟨t.val / 128, by omega⟩)
      (slabS I.scl ⟨u.val / 4, by omega⟩ ⟨8 * (u.val % 4) + k.val / 128, by omega⟩) (slabW (WtI I ⟨u.val / 4, by omega⟩) ⟨u.val % 4, by omega⟩ ⟨t.val / 128, by omega⟩ ⟨k.val / 128, by omega⟩)
      (slabY (stY I.y) u ⟨t.val / 128, by omega⟩ ⟨k.val / 128, by omega⟩) (ix3 0 ⟨t.val % 128, by omega⟩ ⟨k.val % 128, by omega⟩) := if_neg hp
    rw [e, yB_at, a1, a3]; simp only [a2]
    have ep : (⟨2 * (k.val / 256) + 1, by omega⟩ : Fin 8) = ⟨k.val / 128, by omega⟩ := Fin.ext (by show 2 * (k.val / 256) + 1 = k.val / 128; omega)
    exact congrArg (fun r => Spec.yv _ _ (fun n => stH I.codes (ix4 u r ⟨k.val % 128, by omega⟩ n)) _ _) ep

/-- `y` at a batch, a token, a head and a row of it. -/
theorem y_at (hcg : ∀ b, I.cg b = CgV I.cc b) (hb : (I.fde (ix1 b)).toInt ≤ 2 ^ 31 - 128) (t : Fin 384) (k : Fin 4096) : YO I (ix3 b t k)
    = Spec.yv (I.y (ix3 b t k)) (fun n => I.cc (ix4 b t ⟨k.val / 1024, by omega⟩ n))
        (fun n => I.codes (ix4 b ⟨k.val / 128, by omega⟩ ⟨k.val % 128, by omega⟩ n)) (I.scl (ix3 b ⟨k.val / 128, by omega⟩ ⟨k.val % 128, by omega⟩))
        (Spec.wt (I.al (ix2 0 ⟨k.val / 128, by omega⟩)) (dtc I b ⟨k.val / 128, by omega⟩) (I.fde (ix1 b)) t) := by
  have eb : (⟨(4 * b.val + k.val / 1024) / 4, by omega⟩ : Fin 5) = b := Fin.ext (by show (4 * b.val + k.val / 1024) / 4 = b.val; omega)
  have eb' : bF ((4 * b.val + k.val / 1024) / 4) = b := Fin.ext (by show (4 * b.val + k.val / 1024) / 4 % 5 = b.val; omega)
  have eg : (⟨(4 * b.val + k.val / 1024) % 4, by omega⟩ : Fin 4) = ⟨k.val / 1024, by omega⟩ := Fin.ext (by show (4 * b.val + k.val / 1024) % 4 = k.val / 1024; omega)
  have ey : stY I.y (ix3 ⟨4 * b.val + k.val / 1024, by omega⟩ t ⟨k.val % 1024, by omega⟩) = I.y (ix3 b t k) :=
    congrArg₂ (fun b k => I.y (ix3 b t k)) eb (Fin.ext (by show 1024 * ((4 * b.val + k.val / 1024) % 4) + k.val % 1024 = k.val; omega))
  have e0 : YO I (ix3 b t k) = Yst (dat I) (ntb I b) (4 * ntb I b) (ix3 ⟨4 * b.val + k.val / 1024, by omega⟩ t ⟨k.val % 1024, by omega⟩) :=
    congrArg (fun b' => Yst (dat I) (ntb I b') (4 * ntb I b') (ix3 ⟨4 * b.val + k.val / 1024, by omega⟩ t ⟨k.val % 1024, by omega⟩)) eb'
  rw [e0]
  by_cases hn : t.val / 128 < ntb I b
  · have e1 : Yst (dat I) (ntb I b) (4 * ntb I b) (ix3 ⟨4 * b.val + k.val / 1024, by omega⟩ t ⟨k.val % 1024, by omega⟩)
        = YV (dat I) (ix3 ⟨4 * b.val + k.val / 1024, by omega⟩ t ⟨k.val % 1024, by omega⟩) :=
      if_pos ⟨hn, by
        show k.val % 1024 / 256 * ntb I b + t.val / 128 < 4 * ntb I b
        have : k.val % 1024 / 256 ≤ 3 := by omega
        have := Nat.mul_le_mul_right (ntb I b) this
        omega⟩
    rw [e1, yv_at, ey]
    simp only [hcg, rowsC_at, wt_at]
    have eh : (⟨8 * ((4 * b.val + k.val / 1024) % 4) + k.val % 1024 / 128, by omega⟩ : Fin 32) = ⟨k.val / 128, by omega⟩ :=
      Fin.ext (by show 8 * ((4 * b.val + k.val / 1024) % 4) + k.val % 1024 / 128 = k.val / 128; omega)
    have ep : (⟨k.val % 1024 % 128, by omega⟩ : Fin 128) = ⟨k.val % 128, by omega⟩ := Fin.ext (by show k.val % 1024 % 128 = k.val % 128; omega)
    have key : ∀ (b' : Fin 5) (g' : Fin 4) (h' : Fin 32) (p' : Fin 128), b' = b → g' = ⟨k.val / 1024, by omega⟩ → h' = ⟨k.val / 128, by omega⟩ → p' = ⟨k.val % 128, by omega⟩ →
        Spec.yv (I.y (ix3 b t k)) (fun n => I.cc (ix4 b' t g' n)) (fun n => I.codes (ix4 b' h' p' n)) (I.scl (ix3 b' h' p'))
          (Spec.wt (I.al (ix2 0 h')) (dtc I b' h') (I.fde (ix1 b')) t)
        = Spec.yv (I.y (ix3 b t k)) (fun n => I.cc (ix4 b t ⟨k.val / 1024, by omega⟩ n))
          (fun n => I.codes (ix4 b ⟨k.val / 128, by omega⟩ ⟨k.val % 128, by omega⟩ n)) (I.scl (ix3 b ⟨k.val / 128, by omega⟩ ⟨k.val % 128, by omega⟩))
          (Spec.wt (I.al (ix2 0 ⟨k.val / 128, by omega⟩)) (dtc I b ⟨k.val / 128, by omega⟩) (I.fde (ix1 b)) t) := by
      rintro _ _ _ _ rfl rfl rfl rfl; rfl
    exact key _ _ _ _ eb eg eh ep
  · have e1 : Yst (dat I) (ntb I b) (4 * ntb I b) (ix3 ⟨4 * b.val + k.val / 1024, by omega⟩ t ⟨k.val % 1024, by omega⟩)
        = stY I.y (ix3 ⟨4 * b.val + k.val / 1024, by omega⟩ t ⟨k.val % 1024, by omega⟩) := if_neg fun h => hn h.1
    rw [e1, ey, past _ t (untouched I b hb t hn)]
    unfold Spec.yv
    rw [mul_zero, add_zero]
end

end Cert.KernelIdeal.Run
end
-- ==== Proof.ValR.lean ====
module

public import proofs.«01_k».proof.Proof.Spec
public import proofs.«01_k».proof.Proof.Gen.ReferenceIdeal.Frame
public import Idealize.ShloMosaic.Lib.StableHlo.ReadAt
public import Idealize.ShloMosaic.Lib.Pointwise.Tactic
public import Idealize.ShloMosaic.Lib.Pointwise.Reshape

@[expose] public section

set_option backward.isDefEq.respectTransparency.types false

noncomputable section

namespace Cert.ReferenceIdeal.Run

open Idealize.ShloMosaic
open Idealize.ShloMosaic.TcCoe
open Cert.ReferenceIdeal Cert.ReferenceIdeal.Gen Cert.Sums

/-! # What the reference computes, element by element -/

variable (m : (ℓ : Loc nD τ sig) → Buf (Elt Ideal) ℓ) (c : Dev nD)

/-- The arguments. -/
abbrev aY : Vec Ideal S5x384x4096 .bf16 := m ((c : Thread nD τ).loc main_arg0)
abbrev aC : Vec Ideal S5x384x4x256 .bf16 := m ((c : Thread nD τ).loc main_arg1)
abbrev aD : Vec Ideal S5x384x32 .f32 := m ((c : Thread nD τ).loc main_arg2)
abbrev aL : Vec Ideal S32 .f32 := m ((c : Thread nD τ).loc main_arg3)
abbrev aK : Vec Ideal S5x32x128x256 .fp8e4m3 := m ((c : Thread nD τ).loc main_arg4)
abbrev aS : Vec Ideal S5x32x128 .f32 := m ((c : Thread nD τ).loc main_arg5)
abbrev aH : Vec Ideal S5x32x128x256 .f32 := m ((c : Thread nD τ).loc main_arg6)
abbrev aE : Vec Ideal S5 .i32 := m ((c : Thread nD τ).loc main_arg7)

theorem run_at (b : Fin 5) (t : Fin 384) (h : Fin 32) :
    Host.reduceWindowAdd (F := Ideal) ![1, 384, 1] ![1, 1, 1] ![0, 383, 0] ![0, 0, 0]
        (mulf (broadcastInDim S5x384x32 ![0, 1, 2] bcast_S1x1x32_S5x384x32_0_1_2
          (broadcastInDim S1x1x32 ![2] bcast_S32_S1x1x32_2 (Host.negf (Host.exp (aL m c))))) (aD m c))
        (broadcastInDim S_ ![] bcast_S_S_ (constant S_ FTy.f32 0#32))
        reduceWindows_S5x384x32_S5x384x32_w1s1p0_0_w384s1p383_0_w1s1p0_0 h_S_ (ix3 b t h)
      = P (fun s => if hs : s < 384 then -(Ideal.exp (aL m c (ix1 h))) * aD m c (ix3 b ⟨s, hs⟩ h) else 0) (t.val + 1) := by
  refine (cumsum_at _ _ (fun _ => Ideal.ofBits_zero_f32) _ _ b t h).trans ?_
  refine congrArg (fun f => P f (t.val + 1)) (funext fun s => ?_)
  split
  · pointwise
    rfl
  · rfl

theorem w_at (b : Fin 5) (t : Fin 384) (h : Fin 32) : (V m c main_v14 : Vec Ideal S5x384x32 .f32) (ix3 b t h)
    = Spec.wt (aL m c (ix1 h)) (fun t => aD m c (ix3 b t h)) (aE m c (ix1 b)) t := by
  unfold V V0
  simp only [hostOps0, hostOps0_1, hostOps0_2, hostOps0_3, hostOps0_4, hostOps0_5, List.flatten_cons, List.flatten_nil, List.append_nil, List.cons_append, List.nil_append]
  after_reads_at
  exact congrArg₂ (fun x z => Scalar.select (IntOp.cmpi .slt (BitVec.ofNat 32 t.val) (aE m c (ix1 b))) (Ideal.exp x) z) (run_at m c b t h) Ideal.ofBits_zero_f32
theorem f_at (b : Fin 5) (h : Fin 32) : (V m c main_v20 : Vec Ideal S5x32 .f32) (ix2 b h)
    = Spec.fin (aL m c (ix1 h)) (fun t => aD m c (ix3 b t h)) (aE m c (ix1 b)) := by
  unfold V V0
  simp only [hostOps0, hostOps0_1, hostOps0_2, hostOps0_3, hostOps0_4, hostOps0_5, List.flatten_cons, List.flatten_nil, List.append_nil, List.cons_append, List.nil_append]
  after_reads_at
  exact congrArg₂ (fun x z => Scalar.select (IntOp.cmpi .eq (aE m c (ix1 b)) 384#32) (Ideal.exp x) z) (run_at m c b ⟨383, by decide⟩ h) Ideal.ofBits_zero_f32

theorem dot_at (A : S5x4x8x128x256.Idx → EReal) (B : S5x384x4x256.Idx → EReal) (b : Fin 5) (g : Fin 4) (r : Fin 8) (p : Fin 128) (t : Fin 384) :
    Ideal.matmul dot_S5x4x8x128x256_S5x384x4x256_S5x4x8x128x384_4_3_23_1_01_02 A B (fun _ => 0) (ix5 b g r p t)
      = ∑ n : Fin 256, B (ix4 b t g n) * A (ix5 b g r p n) := by
  unfold Ideal.matmul
  rw [zero_add, ← Equiv.sum_comp (ValueIdx.contrEquiv1 dot_S5x4x8x128x256_S5x384x4x256_S5x4x8x128x384_4_3_23_1_01_02 256 rfl rfl).symm]
  refine Finset.sum_congr rfl fun n _ => ?_
  have hk := ValueIdx.contrEquiv1_symm_val dot_S5x4x8x128x256_S5x384x4x256_S5x4x8x128x384_4_3_23_1_01_02 256 rfl rfl n
  rw [mul_comm]
  congr 1
  · refine congrArg B (funext fun a => ?_)
    fin_cases a
    · rfl
    · rfl
    · rfl
    · exact Fin.ext hk
  · refine congrArg A (funext fun a => ?_)
    fin_cases a
    · rfl
    · rfl
    · rfl
    · rfl
    · exact Fin.ext hk

theorem row4_max (X : FVec Ideal S5x32x128x256 .f32) (h : S5x32x128x256.Reduces [3] S5x32x128) (hφ) (hacc) (b : Fin 5) (k : Fin 32) (p : Fin 128) :
    multiReduction (F := Ideal) .maximumf [3] S5x32x128 X 0xFF800000#32 h hφ hacc (ix3 b k p)
      = Finset.univ.fold max (Ideal.ofBits .f32 0xFF800000#32) fun n : Fin 256 => X (ix4 b k p n) := by
  rw [Ideal.multiReduction_maximumf_single]
  exact congrArg (Finset.univ.fold max _) (funext fun n : Fin 256 => congrArg X (funext fun a => by fin_cases a <;> rfl))

section
variable (co : Vec Ideal S5x32x128x256 .fp8e4m3) (f : Vec Ideal S5x32 .f32) (s : Vec Ideal S5x32x128 .f32) (hl : Vec Ideal S5x32x128x256 .f32)
    (b : Fin 5) (h : Fin 32) (p : Fin 128) (n : Fin 256)

/-- A row of the state at the end. -/
abbrev srow : Fin 256 → EReal := Spec.row (f (ix2 b h)) (fun n => co (ix4 b h p n)) (s (ix3 b h p)) (fun n => hl (ix4 b h p n))

theorem state_at : k0_pay5 (F := Ideal) co f s hl (ix4 b h p n) = srow co f s hl b h p n := by
  pointwise [k0_pay5, k0_pay3]
  rfl
/-- The exponents of rows whose largest magnitudes are `M`. -/
def exs (M : FVec Ideal S5x32x128 .f32) : FVec Ideal S5x32x128x1 .f32 :=
  select (cmpf .oeq (shapeCast S5x32x128x1 M shapeCasts_S5x32x128_S5x32x128x1) (broadcast S5x32x128x1 (Scalar.ofBits .f32 0x00000000#32)))
    (broadcast S5x32x128x1 (Scalar.ofBits .f32 0x00000000#32))
    (addf (floor (mulf (log (mulf (shapeCast S5x32x128x1 M shapeCasts_S5x32x128_S5x32x128x1) (broadcast S5x32x128x1 (Scalar.ofBits .f32 0x3B124925#32))))
      (broadcast S5x32x128x1 (Scalar.ofBits .f32 0x3FB8AA3B#32)))) (broadcast S5x32x128x1 (Scalar.ofBits .f32 0x3F800000#32)))
theorem exs_at (M : FVec Ideal S5x32x128 .f32) (n : Fin 1) : exs M (ix4 b h p n)
    = Scalar.select (FloatOps.cmpf (F := Ideal) (φ := .f32) .oeq (M (ix3 b h p)) 0) 0
        (Ideal.liftRound Int.floor (Ideal.log (M (ix3 b h p) * Ideal.ofBits .f32 0x3B124925#32) * Ideal.ofBits .f32 0x3FB8AA3B#32) + 1) := by
  pointwise [exs]
theorem pay6_eq : k0_pay6 (F := Ideal) co f s hl
    = exs (multiReduction .maximumf [3] S5x32x128 (absf (k0_pay5 co f s hl)) 0xFF800000#32 reduces_S5x32x128x256_S5x32x128 (.inl rfl) rfl) := rfl
theorem max_at : multiReduction (F := Ideal) .maximumf [3] S5x32x128 (absf (k0_pay5 co f s hl)) 0xFF800000#32 reduces_S5x32x128x256_S5x32x128 (.inl rfl) rfl (ix3 b h p)
    = Spec.amax (srow co f s hl b h p) := by
  refine (row4_max _ _ _ _ b h p).trans ?_
  unfold Spec.amax
  refine congrArg (Finset.univ.fold max _) (funext fun n => ?_)
  show max (k0_pay5 (F := Ideal) co f s hl (ix4 b h p n)) (-(k0_pay5 (F := Ideal) co f s hl (ix4 b h p n))) = _
  rw [state_at]
theorem ex_at (n : Fin 1) : k0_pay6 (F := Ideal) co f s hl (ix4 b h p n) = Spec.ex (srow co f s hl b h p) := by
  rw [pay6_eq, exs_at, max_at]
  rfl
theorem pay2_at (E : FVec Ideal S5x32x128x1 .f32) : k0_pay2 (F := Ideal) E (ix3 b h p) = Ideal.exp2 (E (ix4 b h p 0)) := by
  pointwise [k0_pay2]
  rfl
theorem scaled_at (A : FVec Ideal S5x32x128x256 .f32) (E : FVec Ideal S5x32x128x1 .f32) :
    mulf A (broadcastTo S5x32x128x256 (exp2 (subf (broadcast S5x32x128x1 (Scalar.ofBits .f32 0x00000000#32)) E)) broadcasts_S5x32x128x1_S5x32x128x256) (ix4 b h p n)
      = A (ix4 b h p n) * Ideal.exp2 (0 - E (ix4 b h p 0)) := by
  pointwise
  rfl
theorem pay1_at (X : FVec Ideal S5x32x128x256 .f32) : k0_pay1 (F := Ideal) X (ix4 b h p n)
    = min (Ideal.ofBits .f32 0x43E00000#32) (max (Ideal.ofBits .f32 0xC3E00000#32) (X (ix4 b h p n))) := by
  pointwise [k0_pay1]
theorem cd_at : k0_pay1 (F := Ideal) (k0_pay7 co f s hl) (ix4 b h p n) = Spec.cd (srow co f s hl b h p) n := by
  rw [pay1_at]
  unfold k0_pay7
  rw [scaled_at, state_at, ex_at]
  rfl
theorem sc_at : k0_pay2 (F := Ideal) (k0_pay6 co f s hl) (ix3 b h p) = Spec.sc (srow co f s hl b h p) := by
  rw [pay2_at, ex_at]
  rfl
theorem cb_at : k0_pay4 (F := Ideal) co = co := rfl
end

end Cert.ReferenceIdeal.Run
end
-- ==== Proof.ValRun.lean ====
module

public import proofs.«01_k».proof.Proof.ValR
public import Idealize.ShloMosaic.Lib.Pipeline.Value

@[expose] public section

set_option backward.isDefEq.respectTransparency.types false

noncomputable section

namespace Cert.ReferenceIdeal.Run

open Idealize.ShloMosaic Idealize.ShloMosaic.TcCoe Idealize.SL.Sem
open Cert.ReferenceIdeal Cert.ReferenceIdeal.Gen Cert.Sums

/-! # The reference's result arrays after the run -/

variable (m : (ℓ : Loc nD τ sig) → Buf (Elt Ideal) ℓ) (ρ : Dev nD → PrngReg) (c : Dev nD)

theorem hz4 : (![0, 0, 0, 0] : Fin 4 → Nat) = fun _ => 0 := by funext a; fin_cases a <;> rfl
theorem hz3 : (![0, 0, 0] : Fin 3 → Nat) = fun _ => 0 := by funext a; fin_cases a <;> rfl
theorem hz2 : (![0, 0] : Fin 2 → Nat) = fun _ => 0 := by funext a; fin_cases a <;> rfl

theorem emb0 (t : Fin cfg0.N) (j : S5x32x128x256.Idx) : ((cfg0.win 0).blk t).view.emb j = j := by
  have e : ∀ t : Fin cfg0.N, ∀ a : Fin 4, win0_0.index t a = 0 := by decide +kernel
  funext a; apply Fin.ext
  match a with
  | ⟨0, _⟩ => show win0_0.index t (0 : Fin 4) * 5 + 1 * (j 0).val = (j 0).val; rw [e]; omega
  | ⟨1, _⟩ => show win0_0.index t (1 : Fin 4) * 32 + 1 * (j 1).val = (j 1).val; rw [e]; omega
  | ⟨2, _⟩ => show win0_0.index t (2 : Fin 4) * 128 + 1 * (j 2).val = (j 2).val; rw [e]; omega
  | ⟨3, _⟩ => show win0_0.index t (3 : Fin 4) * 256 + 1 * (j 3).val = (j 3).val; rw [e]; omega
theorem emb2 (t : Fin cfg0.N) (j : S5x32x128x256.Idx) : ((cfg0.win 2).blk t).view.emb j = j := by
  have e : ∀ t : Fin cfg0.N, ∀ a : Fin 4, win0_2.index t a = 0 := by decide +kernel
  funext a; apply Fin.ext
  match a with
  | ⟨0, _⟩ => show win0_2.index t (0 : Fin 4) * 5 + 1 * (j 0).val = (j 0).val; rw [e]; omega
  | ⟨1, _⟩ => show win0_2.index t (1 : Fin 4) * 32 + 1 * (j 1).val = (j 1).val; rw [e]; omega
  | ⟨2, _⟩ => show win0_2.index t (2 : Fin 4) * 128 + 1 * (j 2).val = (j 2).val; rw [e]; omega
  | ⟨3, _⟩ => show win0_2.index t (3 : Fin 4) * 256 + 1 * (j 3).val = (j 3).val; rw [e]; omega
theorem emb4 (t : Fin cfg0.N) (j : S5x32x128x256.Idx) : ((cfg0.win 4).blk t).view.emb j = j := by
  have e : ∀ t : Fin cfg0.N, ∀ a : Fin 4, win0_4.index t a = 0 := by decide +kernel
  funext a; apply Fin.ext
  match a with
  | ⟨0, _⟩ => show win0_4.index t (0 : Fin 4) * 5 + 1 * (j 0).val = (j 0).val; rw [e]; omega
  | ⟨1, _⟩ => show win0_4.index t (1 : Fin 4) * 32 + 1 * (j 1).val = (j 1).val; rw [e]; omega
  | ⟨2, _⟩ => show win0_4.index t (2 : Fin 4) * 128 + 1 * (j 2).val = (j 2).val; rw [e]; omega
  | ⟨3, _⟩ => show win0_4.index t (3 : Fin 4) * 256 + 1 * (j 3).val = (j 3).val; rw [e]; omega
theorem emb5 (t : Fin cfg0.N) (j : S5x32x128x256.Idx) : ((cfg0.win 5).blk t).view.emb j = j := by
  have e : ∀ t : Fin cfg0.N, ∀ a : Fin 4, win0_5.index t a = 0 := by decide +kernel
  funext a; apply Fin.ext
  match a with
  | ⟨0, _⟩ => show win0_5.index t (0 : Fin 4) * 5 + 1 * (j 0).val = (j 0).val; rw [e]; omega
  | ⟨1, _⟩ => show win0_5.index t (1 : Fin 4) * 32 + 1 * (j 1).val = (j 1).val; rw [e]; omega
  | ⟨2, _⟩ => show win0_5.index t (2 : Fin 4) * 128 + 1 * (j 2).val = (j 2).val; rw [e]; omega
  | ⟨3, _⟩ => show win0_5.index t (3 : Fin 4) * 256 + 1 * (j 3).val = (j 3).val; rw [e]; omega
theorem emb1 (t : Fin cfg0.N) (j : S5x32x128.Idx) : ((cfg0.win 1).blk t).view.emb j = j := by
  have e : ∀ t : Fin cfg0.N, ∀ a : Fin 3, win0_1.index t a = 0 := by decide +kernel
  funext a; apply Fin.ext
  match a with
  | ⟨0, _⟩ => show win0_1.index t (0 : Fin 3) * 5 + 1 * (j 0).val = (j 0).val; rw [e]; omega
  | ⟨1, _⟩ => show win0_1.index t (1 : Fin 3) * 32 + 1 * (j 1).val = (j 1).val; rw [e]; omega
  | ⟨2, _⟩ => show win0_1.index t (2 : Fin 3) * 128 + 1 * (j 2).val = (j 2).val; rw [e]; omega
theorem emb6 (t : Fin cfg0.N) (j : S5x32x128.Idx) : ((cfg0.win 6).blk t).view.emb j = j := by
  have e : ∀ t : Fin cfg0.N, ∀ a : Fin 3, win0_6.index t a = 0 := by decide +kernel
  funext a; apply Fin.ext
  match a with
  | ⟨0, _⟩ => show win0_6.index t (0 : Fin 3) * 5 + 1 * (j 0).val = (j 0).val; rw [e]; omega
  | ⟨1, _⟩ => show win0_6.index t (1 : Fin 3) * 32 + 1 * (j 1).val = (j 1).val; rw [e]; omega
  | ⟨2, _⟩ => show win0_6.index t (2 : Fin 3) * 128 + 1 * (j 2).val = (j 2).val; rw [e]; omega
theorem emb3 (t : Fin cfg0.N) (j : S5x32.Idx) : ((cfg0.win 3).blk t).view.emb j = j := by
  have e : ∀ t : Fin cfg0.N, ∀ a : Fin 2, win0_3.index t a = 0 := by decide +kernel
  funext a; apply Fin.ext
  match a with
  | ⟨0, _⟩ => show win0_3.index t (0 : Fin 2) * 5 + 1 * (j 0).val = (j 0).val; rw [e]; omega
  | ⟨1, _⟩ => show win0_3.index t (1 : Fin 2) * 32 + 1 * (j 1).val = (j 1).val; rw [e]; omega

/-- So a window's block is its array as the region finds it. -/
theorem iblk0_eq (t : Fin cfg0.N) : iblk m c 0 t = aK m c := by
  funext j; show V m c main_arg4 (((cfg0.win 0).blk t).view.emb j) = _; rw [emb0, V_main_arg4]
theorem iblk1_eq (t : Fin cfg0.N) : iblk m c 1 t = aS m c := by
  funext j; show V m c main_arg5 (((cfg0.win 1).blk t).view.emb j) = _; rw [emb1, V_main_arg5]
theorem iblk2_eq (t : Fin cfg0.N) : iblk m c 2 t = aH m c := by
  funext j; show V m c main_arg6 (((cfg0.win 2).blk t).view.emb j) = _; rw [emb2, V_main_arg6]
theorem iblk3_eq (t : Fin cfg0.N) : iblk m c 3 t = V m c main_v20 := by
  funext j; show V m c main_v20 (((cfg0.win 3).blk t).view.emb j) = _; rw [emb3]

/-- What the state kernel leaves: the codes as they are, the new codes, the new scales. -/
def valQ : Vec Ideal S5x32x128x256 .fp8e4m3 := k0_pay1 (k0_pay7 (aK m c) (V m c main_v20) (aS m c) (aH m c))
def valS : Vec Ideal S5x32x128 .f32 := k0_pay2 (k0_pay6 (aK m c) (V m c main_v20) (aS m c) (aH m c))

theorem ld0 (x : Vec Ideal S5x32x128x256 .fp8e4m3) : View.ld x r0_0 = x := View.ld_unit_zero hz4 _ x
theorem ld0' (x : Vec Ideal S5x32x128x256 .f32) : View.ld x r0_0 = x := View.ld_unit_zero hz4 _ x
theorem ld1 (x : Vec Ideal S5x32 .f32) : View.ld x r0_1 = x := View.ld_unit_zero hz2 _ x
theorem ld2 (x : Vec Ideal S5x32x128 .f32) : View.ld x r0_2 = x := View.ld_unit_zero hz3 _ x

theorem out4_eq (t : Fin cfg0.N) : (dats m 0 c).after 4 t = (aK m c : Vec Ideal S5x32x128x256 .bf16) := by
  rw [after0_4, iblk0_eq, iblk1_eq, iblk2_eq, iblk3_eq]
  unfold out0_4
  rw [View.canon_cons_unit_zero hz4, ld0]
  rfl
theorem out5_eq (t : Fin cfg0.N) : (dats m 0 c).after 5 t = valQ m c := by
  rw [after0_5, iblk0_eq, iblk1_eq, iblk2_eq, iblk3_eq]
  unfold out0_5 valQ
  rw [View.canon_cons_unit_zero hz4, ld0, ld1, ld2, ld0']
theorem out6_eq (t : Fin cfg0.N) : (dats m 0 c).after 6 t = valS m c := by
  rw [after0_6, iblk0_eq, iblk1_eq, iblk2_eq, iblk3_eq]
  unfold out0_6 valS
  rw [View.canon_cons_unit_zero hz3, ld0, ld1, ld2, ld0']

/-- Cutting the one block out of an array and reading the array through it give the same. -/
theorem cut4 (t : Fin cfg0.N) (X : Vec Ideal S5x32x128x256 .bf16) : (cfg0.win 4).cut (grid0.coords t) X = ((cfg0.win 4).blk t).view.read (Elt Ideal) X := by
  funext j
  show X j = X (((cfg0.win 4).blk t).view.emb j)
  rw [emb4]
theorem cut5 (t : Fin cfg0.N) (X : Vec Ideal S5x32x128x256 .fp8e4m3) : (cfg0.win 5).cut (grid0.coords t) X = ((cfg0.win 5).blk t).view.read (Elt Ideal) X := by
  funext j
  show X j = X (((cfg0.win 5).blk t).view.emb j)
  rw [emb5]
theorem cut6 (t : Fin cfg0.N) (X : Vec Ideal S5x32x128 .f32) : (cfg0.win 6).cut (grid0.coords t) X = ((cfg0.win 6).blk t).view.read (Elt Ideal) X := by
  funext j
  show X j = X (((cfg0.win 6).blk t).view.emb j)
  rw [emb6]
theorem fl4 (t : Fin cfg0.N) : (dats m 0 c).flushed 4 t = ((cfg0.win 4).blk t).view.read (Elt Ideal) (aK m c : Vec Ideal S5x32x128x256 .bf16) :=
  (congrArg ((cfg0.win 4).cut (grid0.coords t)) (out4_eq m c t)).trans (cut4 t _)
theorem fl5 (t : Fin cfg0.N) : (dats m 0 c).flushed 5 t = ((cfg0.win 5).blk t).view.read (Elt Ideal) (valQ m c) :=
  (congrArg ((cfg0.win 5).cut (grid0.coords t)) (out5_eq m c t)).trans (cut5 t _)
theorem fl6 (t : Fin cfg0.N) : (dats m 0 c).flushed 6 t = ((cfg0.win 6).blk t).view.read (Elt Ideal) (valS m c) :=
  (congrArg ((cfg0.win 6).cut (grid0.coords t)) (out6_eq m c t)).trans (cut6 t _)

/-- The arrays after the run. -/
theorem arr4 : (dats m 0 c).arrAt 4 cfg0.N = (aK m c : Vec Ideal S5x32x128x256 .bf16) :=
  (dats m 0 c).arrAt_eq_of_cover 4 _ (fun t _ => fl4 m c t) fun i => ⟨(⟨0, by decide⟩ : Fin cfg0.N), flush0_4 _, by
    have h := ((cfg0.win 4).blk (⟨0, by decide⟩ : Fin cfg0.N)).view.emb_mem_set i; rwa [emb4] at h⟩
theorem arr5 : (dats m 0 c).arrAt 5 cfg0.N = valQ m c :=
  (dats m 0 c).arrAt_eq_of_cover 5 _ (fun t _ => fl5 m c t) fun i => ⟨(⟨0, by decide⟩ : Fin cfg0.N), flush0_5 _, by
    have h := ((cfg0.win 5).blk (⟨0, by decide⟩ : Fin cfg0.N)).view.emb_mem_set i; rwa [emb5] at h⟩
theorem arr6 : (dats m 0 c).arrAt 6 cfg0.N = valS m c :=
  (dats m 0 c).arrAt_eq_of_cover 6 _ (fun t _ => fl6 m c t) fun i => ⟨(⟨0, by decide⟩ : Fin cfg0.N), flush0_6 _, by
    have h := ((cfg0.win 6).blk (⟨0, by decide⟩ : Fin cfg0.N)).view.emb_mem_set i; rwa [emb6] at h⟩

/-- The corrected `y`. -/
def valY : Vec Ideal S5x384x4096 .bf16 := Pipeline.afterTail₀ cfgs (dats m) 0 (V0 m) [hostOps1] c main_v34

/-- An array as the lines after the state kernel find it. -/
abbrev wA (r : Ref sig .tc) := Pipeline.withArrays spec0 c (V0 m c) (fun w => (dats m 0 c).arrAt w cfg0.N) (Proc.tc.devRef r)

/-- The lines after the state kernel, at an index. -/
def yo (Y : Vec Ideal S5x384x4096 .bf16) (K : Vec Ideal S5x32x128x256 .bf16) (C : Vec Ideal S5x384x4x256 .bf16) (S : Vec Ideal S5x32x128 .f32)
    (W : Vec Ideal S5x384x32 .f32) (b : Fin 5) (t : Fin 384) (k : Fin 4096) : EReal :=
  (Y (ix3 b t k) : EReal) + Ideal.matmul dot_S5x4x8x128x256_S5x384x4x256_S5x4x8x128x384_4_3_23_1_01_02
      (fun i => K (ix4 (i 0) ⟨(i 1).val * 8 + (i 2).val, by have h1 : (i 1).val < 4 := (i 1).isLt; have h2 : (i 2).val < 8 := (i 2).isLt; omega⟩ (i 3) (i 4)))
      C (fun _ => 0) (ix5 b ⟨k.val / 1024, by omega⟩ ⟨k.val / 128 % 8, by omega⟩ ⟨k.val % 128, by omega⟩ t)
    * S (ix3 b ⟨k.val / 1024 * 8 + k.val / 128 % 8, by omega⟩ ⟨k.val % 128, by omega⟩) * W (ix3 b t ⟨k.val / 1024 * 8 + k.val / 128 % 8, by omega⟩)
theorem yo_eq (Y : Vec Ideal S5x384x4096 .bf16) (K : Vec Ideal S5x32x128x256 .bf16) (C : Vec Ideal S5x384x4x256 .bf16) (S : Vec Ideal S5x32x128 .f32)
    (W : Vec Ideal S5x384x32 .f32) (b : Fin 5) (t : Fin 384) (k : Fin 4096) : yo Y K C S W b t k
      = Spec.yv (Y (ix3 b t k)) (fun n => C (ix4 b t ⟨k.val / 1024, by omega⟩ n)) (fun n => K (ix4 b ⟨k.val / 128, by omega⟩ ⟨k.val % 128, by omega⟩ n))
          (S (ix3 b ⟨k.val / 128, by omega⟩ ⟨k.val % 128, by omega⟩)) (W (ix3 b t ⟨k.val / 128, by omega⟩)) := by
  have eh : (⟨k.val / 1024 * 8 + k.val / 128 % 8, by omega⟩ : Fin 32) = ⟨k.val / 128, by omega⟩ := Fin.ext (by show k.val / 1024 * 8 + k.val / 128 % 8 = k.val / 128; omega)
  unfold yo Spec.yv
  rw [dot_at, eh]
  refine congrArg (fun x => (Y (ix3 b t k) : EReal) + x * _ * _) (Finset.sum_congr rfl fun n _ => ?_)
  exact congrArg (fun h => C (ix4 b t ⟨k.val / 1024, by omega⟩ n) * K (ix4 b h ⟨k.val % 128, by omega⟩ n)) eh

theorem y_at (b : Fin 5) (t : Fin 384) (k : Fin 4096) : valY m c (ix3 b t k)
    = Spec.yv (aY m c (ix3 b t k)) (fun n => aC m c (ix4 b t ⟨k.val / 1024, by omega⟩ n))
        (fun n => aK m c (ix4 b ⟨k.val / 128, by omega⟩ ⟨k.val % 128, by omega⟩ n)) (aS m c (ix3 b ⟨k.val / 128, by omega⟩ ⟨k.val % 128, by omega⟩))
        (Spec.wt (aL m c (ix1 ⟨k.val / 128, by omega⟩)) (fun t => aD m c (ix3 b t ⟨k.val / 128, by omega⟩)) (aE m c (ix1 b)) t) := by
  have hinj : Function.Injective (Pipeline.arrRef spec0) := by decide
  have hY : valY m c (ix3 b t k) = yo (wA m c main_arg0) (wA m c main_v21_0) (wA m c main_arg1) (wA m c main_arg5) (wA m c main_v14) b t k := by
    unfold valY Pipeline.afterTail₀
    simp only [List.flatten_cons, List.flatten_nil, List.append_nil]
    unfold hostOps1
    after_reads_at
    rfl
  have e0 : wA m c main_arg0 = aY m c := (Pipeline.withArrays_of_ne spec0 c (V0 m c) _ main_arg0 (by decide)).trans (V_main_arg0 m c)
  have e1 : wA m c main_arg1 = aC m c := (Pipeline.withArrays_of_ne spec0 c (V0 m c) _ main_arg1 (by decide)).trans (V_main_arg1 m c)
  have e14 : wA m c main_v14 = V m c main_v14 := Pipeline.withArrays_of_ne spec0 c (V0 m c) _ main_v14 (by decide)
  have e21 : wA m c main_v21_0 = aK m c := (Pipeline.withArrays_arr spec0 hinj c (V0 m c) _ 4).trans (arr4 m c)
  have e5 : wA m c main_arg5 = aS m c := (Pipeline.withArrays_arr spec0 hinj c (V0 m c) _ 1).trans
    (((dats m 0 c).arrAt_in 1 rfl _).trans ((A_eq m c 1).trans (V_main_arg5 m c)))
  rw [hY, e0, e1, e21, e5, e14, yo_eq, w_at]

/-- The run: results and arguments. -/
theorem run : θ_run defs (onTc (τ := τ) (main (F := Ideal))) ⟨m, fun _ => 0, ρ⟩ fun r => ∀ c : Dev nD,
    (r.2.mem ((c : Thread nD τ).loc main_v34) = valY m c
      ∧ r.2.mem ((c : Thread nD τ).loc main_v21_1) = valQ m c
      ∧ r.2.mem ((c : Thread nD τ).loc main_v21_2) = valS m c)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨⟨(h.1 c).2 main_v34 (Pipeline.mem_restRefs_of main_v34 (by decide) (by decide)),
    ((h.1 c).1 5).trans (arr5 m c), ((h.1 c).1 6).trans (arr6 m c)⟩, h.2 c⟩)
    (θ_run_and (run_main m ρ) (unchanged m ρ))

end Cert.ReferenceIdeal.Run
end
-- ==== Proof.Alg.lean ====
module

public import proofs.«01_k».proof.Defs
public import proofs.«01_k».proof.Proof.ValY
public import proofs.«01_k».proof.Proof.ValRun
public import proofs.«01_k».proof.Proof.LaunchIdeal

@[expose] public section

noncomputable section

namespace Cert.Alg

open Idealize.ShloMosaic Idealize.ShloMosaic.TcCoe Idealize.SL.Sem

/-! # The kernel and the reference give equal results -/

theorem pre_facts : Cert.Pre_ends_fit.Facts := ⟨by decide⟩

section
open Cert.KernelIdeal Cert.KernelIdeal.Gen Cert.KernelIdeal.Run

variable (m : (ℓ : Loc nD τ sig) → Buf (Elt Ideal) ℓ) (c : Dev nD)

/-- `a_log` as the kernel finds it: one row. -/
theorem al_at (h : Fin 32) : (insL m c).al (ix2 0 h) = (m ((c : Thread nD τ).loc main_arg3) : Vec Ideal S32 .f32) (ix1 h) := by
  show (V m c main_v0 : Vec Ideal S1x32 .f32) (ix2 0 h) = _
  unfold V
  simp only [hostOps0, List.flatten_cons, List.flatten_nil, List.append_nil, List.cons_append, List.nil_append]
  after_reads_at

/-- No document end is so large that adding 127 to it wraps. -/
theorem ends_le (hpre : @Cert.Pre_KernelIdeal_ends_fit pre_facts m) (b : Fin 5) :
    ((m ((c : Thread nD τ).loc main_arg7) : Vec Ideal S5 .i32) (ix1 b)).toInt ≤ 2 ^ 31 - 128 := by
  have h := congrFun (hpre c) (ix1 b)
  have h' : IntOp.cmpi .sle ((m ((c : Thread nD τ).loc main_arg7) : Vec Ideal S5 .i32) (ix1 b)) 2147483520#32 = 1#1 := h
  have h2 : BitVec.sle ((m ((c : Thread nD τ).loc main_arg7) : Vec Ideal S5 .i32) (ix1 b)) 2147483520#32 = true := by
    by_contra hn
    rw [Bool.not_eq_true] at hn
    simp [IntOp.cmpi, hn] at h'
  rw [BitVec.sle_eq_decide, decide_eq_true_iff] at h2
  have e : (2147483520#32).toInt = 2147483520 := by decide
  omega
end

open Cert.KernelIdeal.Run (insL dtc vrow)
open Cert.ReferenceIdeal.Run (aY aC aD aL aK aS aH aE srow)

/-- With every document end below the wrap, the kernel and the reference leave equal `y`, codes and scales. -/
theorem algebraic : @Cert.algebraic_KernelIdeal_ReferenceIdeal_pre_ends_fit KernelIdeal.Gen.facts ReferenceIdeal.Gen.facts pre_facts := by
  intro m g m' g' hpre hagree
  refine ⟨fun c => KernelIdeal.Run.YO (insL m c), fun c => KernelIdeal.Run.QO (insL m c),
    fun c => KernelIdeal.Run.SO (insL m c),
    (θ_run _ _ _).mono (fun r h c => ⟨(h.2 c).1, (h.2 c).2.1, (h.2 c).2.2, h.1.1 c⟩) (KernelIdeal.Run.run m g),
    (θ_run _ _ _).mono (fun r h c => ?_) (ReferenceIdeal.Run.run m' g')⟩
  obtain ⟨⟨hy, hq, hs⟩, ha⟩ := h c
  obtain ⟨a0, a1, a2, a3, a4, a5, a6, a7⟩ := hagree c
  have f0 : (insL m c).y = aY m' c := (KernelIdeal.Gen.V_main_arg0 m c).trans a0.symm
  have f1 : (insL m c).cc = aC m' c := (KernelIdeal.Gen.V_main_arg1 m c).trans a1.symm
  have f2 : (insL m c).dt = aD m' c := (KernelIdeal.Gen.V_main_arg2 m c).trans a2.symm
  have f3 : ∀ h : Fin 32, (insL m c).al (ix2 0 h) = aL m' c (ix1 h) := fun h => (al_at m c h).trans (congrFun a3.symm _)
  have f4 : (insL m c).codes = aK m' c := (KernelIdeal.Gen.V_main_arg4 m c).trans a4.symm
  have f5 : (insL m c).scl = aS m' c := (KernelIdeal.Gen.V_main_arg5 m c).trans a5.symm
  have f6 : (insL m c).hl = aH m' c := (KernelIdeal.Gen.V_main_arg6 m c).trans a6.symm
  have e7 : (insL m c).fde = m ((c.tc : Thread KernelIdeal.nD KernelIdeal.τ).loc KernelIdeal.main_arg7) := KernelIdeal.Gen.V_main_arg7 m c
  have f7 : (insL m c).fde = aE m' c := e7.trans a7.symm
  have fd : ∀ b h, dtc (insL m c) b h = fun t => aD m' c (ix3 b t h) := fun b h => by unfold dtc; rw [f2]
  have fr : ∀ b h p, vrow (insL m c) b h p = srow (aK m' c) (ReferenceIdeal.Gen.V m' c ReferenceIdeal.main_v20) (aS m' c) (aH m' c) b h p :=
    fun b h p => by
      unfold vrow srow
      rw [f4, f5, f6, f7, fd, f3, ReferenceIdeal.Run.f_at]
  refine ⟨hy.trans (funext fun i => ?_), hq.trans (funext fun i => ?_), hs.trans (funext fun i => ?_), ha⟩
  · obtain ⟨b, t, k, rfl⟩ : ∃ (b : Fin 5) (t : Fin 384) (k : Fin 4096), i = ix3 b t k := ⟨i 0, i 1, i 2, eq_ix3 i⟩
    refine (ReferenceIdeal.Run.y_at m' c b t k).trans ((KernelIdeal.Run.y_at (insL m c) b (fun _ => rfl) (by rw [e7]; exact ends_le m c hpre b) t k).trans ?_).symm
    rw [f0, f1, f4, f5, f7, fd, f3]
  · obtain ⟨b, h, p, n, rfl⟩ : ∃ (b : Fin 5) (h : Fin 32) (p : Fin 128) (n : Fin 256), i = ix4 b h p n := ⟨i 0, i 1, i 2, i 3, eq_ix4 i⟩
    refine (ReferenceIdeal.Run.cd_at _ _ _ _ b h p n).trans ((KernelIdeal.Run.codes_at (insL m c) b h p n).trans ?_).symm
    rw [fr]
  · obtain ⟨b, h, p, rfl⟩ : ∃ (b : Fin 5) (h : Fin 32) (p : Fin 128), i = ix3 b h p := ⟨i 0, i 1, i 2, eq_ix3 i⟩
    refine (ReferenceIdeal.Run.sc_at _ _ _ _ b h p).trans ((KernelIdeal.Run.scales_at (insL m c) b h p).trans ?_).symm
    rw [fr]

end Cert.Alg
end
-- ==== Proof.lean ====
/- The claims of `Cert.Claim`: the frames from the launches of Proof/LaunchKernel.lean and
   Proof/LaunchIdeal.lean, the paired-word rule's statement at the two shapes it is used at, and the
   equality of the kernel's results and the reference's from Proof/Alg.lean. -/
module

public import proofs.«01_k».proof.Defs
public import proofs.«01_k».proof.Proof.Gen.ReferenceIdeal.Frame
public import proofs.«01_k».proof.Proof.LaunchIdeal
public import proofs.«01_k».proof.Proof.LaunchKernel
public import proofs.«01_k».proof.Proof.Alg
public import Idealize.ShloMosaic.Lib.Bf16Pair

@[expose] public section

noncomputable section

namespace Cert.Proof

open Idealize.ShloMosaic Idealize.SL.Sem

/-- The rule that reads the paired rows of `c` from its words, at the two shapes it is used at. -/
theorem preserves : Cert.preserves_Kernel_KernelIdeal :=
  have h := IdealRules.bf16_pair.statement Cert.KernelIdeal.S1x384x2x256 Cert.KernelIdeal.S1x384x1x256
  have h' := IdealRules.bf16_pair.statement Cert.KernelIdeal.S768x256 Cert.KernelIdeal.S384x256
  ⟨h, h'⟩

theorem claim : Cert.Claim := ⟨Cert.Kernel.Gen.facts, Cert.KernelIdeal.Gen.facts, Cert.ReferenceIdeal.Gen.facts, Cert.Alg.pre_facts,
  fun m g _ => Cert.Kernel.Run.frame m g, fun m g _ => Cert.KernelIdeal.Run.frame m g, fun m g _ => Cert.KernelIdeal.Run.frame m g,
  fun m g _ => Cert.ReferenceIdeal.Gen.frame m g, fun m g _ => Cert.ReferenceIdeal.Gen.frame m g,
  preserves, Cert.Alg.algebraic⟩

end Cert.Proof

end
